-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v17)) (v1 : (c : Dev Cert.KernelIdeal.nD) → Buf (Elt Ideal) ((c.tc : Thread Cert.KernelIdeal.nD Cert.KernelIdeal.τ).loc Cert.KernelIdeal.main_v18)) (v2 : (c : Dev Cert.KernelIdeal.nD) → Buf (Elt Ideal) ((c.tc : Thread Cert.KernelIdeal.nD Cert.KernelIdeal.τ).loc Cert.KernelIdeal.main_v19)) (v3 : (c : Dev Cert.KernelIdeal.nD) → Buf (Elt Ideal) ((c.tc : Thread Cert.KernelIdeal.nD Cert.KernelIdeal.τ).loc Cert.KernelIdeal.main_v20)) (v4 : (c : Dev Cert.KernelIdeal.nD) → Buf (Elt Ideal) ((c.tc : Thread Cert.KernelIdeal.nD Cert.KernelIdeal.τ).loc Cert.KernelIdeal.main_v21)) (v5 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_v18) = v1 c
          ∧ r.2.mem ((c.tc : Thread Cert.KernelIdeal.nD Cert.KernelIdeal.τ).loc Cert.KernelIdeal.main_v19) = v2 c
          ∧ r.2.mem ((c.tc : Thread Cert.KernelIdeal.nD Cert.KernelIdeal.τ).loc Cert.KernelIdeal.main_v20) = v3 c
          ∧ r.2.mem ((c.tc : Thread Cert.KernelIdeal.nD Cert.KernelIdeal.τ).loc Cert.KernelIdeal.main_v21) = v4 c
          ∧ r.2.mem ((c.tc : Thread Cert.KernelIdeal.nD Cert.KernelIdeal.τ).loc Cert.KernelIdeal.main_v22) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v7) = v2 c
          ∧ r.2.mem ((c.tc : Thread Cert.ReferenceIdeal.nD Cert.ReferenceIdeal.τ).loc Cert.ReferenceIdeal.main_v6) = v3 c
          ∧ r.2.mem ((c.tc : Thread Cert.ReferenceIdeal.nD Cert.ReferenceIdeal.τ).loc Cert.ReferenceIdeal.main_v8) = v4 c
          ∧ r.2.mem ((c.tc : Thread Cert.ReferenceIdeal.nD Cert.ReferenceIdeal.τ).loc Cert.ReferenceIdeal.main_v61) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x1x32x64 : Shape := ⟨4, ![2, 1, 32, 64]⟩
abbrev S2x1x8x64 : Shape := ⟨4, ![2, 1, 8, 64]⟩
abbrev S2x131072x8x64 : Shape := ⟨4, ![2, 131072, 8, 64]⟩
abbrev S2x131072x8 : Shape := ⟨3, ![2, 131072, 8]⟩
abbrev S2x8x131072 : Shape := ⟨3, ![2, 8, 131072]⟩
abbrev S_ : Shape := ⟨0, ![]⟩
abbrev S2x8x192 : Shape := ⟨3, ![2, 8, 192]⟩
abbrev S2x8x192x1 : Shape := ⟨4, ![2, 8, 192, 1]⟩
abbrev S1 : Shape := ⟨1, ![1]⟩
abbrev S1x1x1x1 : Shape := ⟨4, ![1, 1, 1, 1]⟩
abbrev S2x8x64x131072 : Shape := ⟨4, ![2, 8, 64, 131072]⟩
abbrev S16x192 : Shape := ⟨2, ![16, 192]⟩
abbrev S16x4x64 : Shape := ⟨3, ![16, 4, 64]⟩
abbrev S16x1x64 : Shape := ⟨3, ![16, 1, 64]⟩
abbrev S16x1x192 : Shape := ⟨3, ![16, 1, 192]⟩
abbrev S2x8x64x192 : Shape := ⟨4, ![2, 8, 64, 192]⟩
abbrev S2x192x64x128 : Shape := ⟨4, ![2, 192, 64, 128]⟩
abbrev S2 : Shape := ⟨1, ![2]⟩
abbrev S16x128 : Shape := ⟨2, ![16, 128]⟩
abbrev S1x1 : Shape := ⟨2, ![1, 1]⟩
abbrev S1x1x64x128 : Shape := ⟨4, ![1, 1, 64, 128]⟩
abbrev S64x128 : Shape := ⟨2, ![64, 128]⟩
abbrev S1x192x64x128 : Shape := ⟨4, ![1, 192, 64, 128]⟩
abbrev S192x64x128 : Shape := ⟨3, ![192, 64, 128]⟩
abbrev S64x64 : Shape := ⟨2, ![64, 64]⟩
abbrev S1x1x64x64 : Shape := ⟨4, ![1, 1, 64, 64]⟩
abbrev S1x1x64x192 : Shape := ⟨4, ![1, 1, 64, 192]⟩
abbrev S64x192 : Shape := ⟨2, ![64, 192]⟩
abbrev S1x4x64 : Shape := ⟨3, ![1, 4, 64]⟩
abbrev S4x64 : Shape := ⟨2, ![4, 64]⟩
abbrev S4x192 : Shape := ⟨2, ![4, 192]⟩
abbrev S1x1x192 : Shape := ⟨3, ![1, 1, 192]⟩
abbrev S1x192 : Shape := ⟨2, ![1, 192]⟩
abbrev S1x1x64 : Shape := ⟨3, ![1, 1, 64]⟩
abbrev S1x64 : Shape := ⟨2, ![1, 64]⟩
abbrev S4 : Shape := ⟨1, ![4]⟩
abbrev S4x1 : Shape := ⟨2, ![4, 1]⟩
abbrev S192 : Shape := ⟨1, ![192]⟩
abbrev S2x1x2048 : Shape := ⟨3, ![2, 1, 2048]⟩
abbrev S2x192x8x64 : Shape := ⟨4, ![2, 192, 8, 64]⟩
abbrev S2x192x8 : Shape := ⟨3, ![2, 192, 8]⟩

abbrev nBuf : Space → Nat
  | .hbm => 100
  | .vmem => 12
  | .smem => 1
  | _ => 0

abbrev bufTy : (tb : Table) → Fin (tcTables nBuf tb) → BufTy
  | .hbm, ⟨0, _⟩ => ⟨S2x1x32x64, .bf16⟩
  | .hbm, ⟨1, _⟩ => ⟨S2x1x8x64, .bf16⟩
  | .hbm, ⟨2, _⟩ => ⟨S2x1x8x64, .bf16⟩
  | .hbm, ⟨3, _⟩ => ⟨S2x131072x8x64, .i8⟩
  | .hbm, ⟨4, _⟩ => ⟨S2x131072x8, .f32⟩
  | .hbm, ⟨5, _⟩ => ⟨S2x131072x8x64, .i8⟩
  | .hbm, ⟨6, _⟩ => ⟨S2x131072x8, .f32⟩
  | .hbm, ⟨7, _⟩ => ⟨S2x8x131072, .f32⟩
  | .hbm, ⟨8, _⟩ => ⟨S_, .f32⟩
  | .hbm, ⟨9, _⟩ => ⟨S2x8x131072, .f32⟩
  | .hbm, ⟨10, _⟩ => ⟨S2x8x192, .f32⟩
  | .hbm, ⟨11, _⟩ => ⟨S2x8x192, .i32⟩
  | .hbm, ⟨12, _⟩ => ⟨S2x8x192, .i32⟩
  | .hbm, ⟨13, _⟩ => ⟨S2x8x131072, .f32⟩
  | .hbm, ⟨14, _⟩ => ⟨S_, .i32⟩
  | .hbm, ⟨15, _⟩ => ⟨S2x8x192, .i32⟩
  | .hbm, ⟨16, _⟩ => ⟨S2x8x192, .i1⟩
  | .hbm, ⟨17, _⟩ => ⟨S_, .i32⟩
  | .hbm, ⟨18, _⟩ => ⟨S2x8x192, .i32⟩
  | .hbm, ⟨19, _⟩ => ⟨S2x8x192, .i32⟩
  | .hbm, ⟨20, _⟩ => ⟨S2x8x192, .i32⟩
  | .hbm, ⟨21, _⟩ => ⟨S2x8x192x1, .i32⟩
  | .hbm, ⟨22, _⟩ => ⟨S1, .i32⟩
  | .hbm, ⟨23, _⟩ => ⟨S_, .i32⟩
  | .hbm, ⟨24, _⟩ => ⟨S2x8x192x1, .i32⟩
  | .hbm, ⟨25, _⟩ => ⟨S2x8x192x1, .i1⟩
  | .hbm, ⟨26, _⟩ => ⟨S1x1x1x1, .i32⟩
  | .hbm, ⟨27, _⟩ => ⟨S2x8x192x1, .i32⟩
  | .hbm, ⟨28, _⟩ => ⟨S2x8x192x1, .i1⟩
  | .hbm, ⟨29, _⟩ => ⟨S2x8x192x1, .i1⟩
  | .hbm, ⟨30, _⟩ => ⟨S_, .i1⟩
  | .hbm, ⟨31, _⟩ => ⟨S2x8x192, .i1⟩
  | .hbm, ⟨32, _⟩ => ⟨S2x8x192, .f32⟩
  | .hbm, ⟨33, _⟩ => ⟨S_, .f32⟩
  | .hbm, ⟨34, _⟩ => ⟨S2x8x192, .f32⟩
  | .hbm, ⟨35, _⟩ => ⟨S2x8x192, .f32⟩
  | .hbm, ⟨36, _⟩ => ⟨S2x8x131072, .f32⟩
  | .hbm, ⟨37, _⟩ => ⟨S_, .i32⟩
  | .hbm, ⟨38, _⟩ => ⟨S2x8x192, .i32⟩
  | .hbm, ⟨39, _⟩ => ⟨S2x8x192, .i1⟩
  | .hbm, ⟨40, _⟩ => ⟨S_, .i32⟩
  | .hbm, ⟨41, _⟩ => ⟨S2x8x192, .i32⟩
  | .hbm, ⟨42, _⟩ => ⟨S2x8x192, .i32⟩
  | .hbm, ⟨43, _⟩ => ⟨S2x8x192, .i32⟩
  | .hbm, ⟨44, _⟩ => ⟨S2x8x192x1, .i32⟩
  | .hbm, ⟨45, _⟩ => ⟨S1, .i32⟩
  | .hbm, ⟨46, _⟩ => ⟨S_, .i32⟩
  | .hbm, ⟨47, _⟩ => ⟨S2x8x192x1, .i32⟩
  | .hbm, ⟨48, _⟩ => ⟨S2x8x192x1, .i1⟩
  | .hbm, ⟨49, _⟩ => ⟨S1x1x1x1, .i32⟩
  | .hbm, ⟨50, _⟩ => ⟨S2x8x192x1, .i32⟩
  | .hbm, ⟨51, _⟩ => ⟨S2x8x192x1, .i1⟩
  | .hbm, ⟨52, _⟩ => ⟨S2x8x192x1, .i1⟩
  | .hbm, ⟨53, _⟩ => ⟨S_, .i1⟩
  | .hbm, ⟨54, _⟩ => ⟨S2x8x192, .i1⟩
  | .hbm, ⟨55, _⟩ => ⟨S2x8x192, .f32⟩
  | .hbm, ⟨56, _⟩ => ⟨S_, .f32⟩
  | .hbm, ⟨57, _⟩ => ⟨S2x8x192, .f32⟩
  | .hbm, ⟨58, _⟩ => ⟨S2x8x192, .f32⟩
  | .hbm, ⟨59, _⟩ => ⟨S_, .i32⟩
  | .hbm, ⟨60, _⟩ => ⟨S2x8x192, .i32⟩
  | .hbm, ⟨61, _⟩ => ⟨S2x8x192, .i1⟩
  | .hbm, ⟨62, _⟩ => ⟨S_, .i32⟩
  | .hbm, ⟨63, _⟩ => ⟨S2x8x192, .i32⟩
  | .hbm, ⟨64, _⟩ => ⟨S2x8x192, .i32⟩
  | .hbm, ⟨65, _⟩ => ⟨S2x8x192, .i32⟩
  | .hbm, ⟨66, _⟩ => ⟨S2x8x192x1, .i32⟩
  | .hbm, ⟨67, _⟩ => ⟨S1, .i32⟩
  | .hbm, ⟨68, _⟩ => ⟨S_, .i32⟩
  | .hbm, ⟨69, _⟩ => ⟨S2x8x192x1, .i32⟩
  | .hbm, ⟨70, _⟩ => ⟨S2x8x192x1, .i1⟩
  | .hbm, ⟨71, _⟩ => ⟨S1x1x1x1, .i32⟩
  | .hbm, ⟨72, _⟩ => ⟨S2x8x192x1, .i32⟩
  | .hbm, ⟨73, _⟩ => ⟨S2x8x192x1, .i1⟩
  | .hbm, ⟨74, _⟩ => ⟨S2x8x192x1, .i1⟩
  | .hbm, ⟨75, _⟩ => ⟨S_, .i1⟩
  | .hbm, ⟨76, _⟩ => ⟨S2x8x192, .i1⟩
  | .hbm, ⟨77, _⟩ => ⟨S2x8x192, .f32⟩
  | .hbm, ⟨78, _⟩ => ⟨S_, .f32⟩
  | .hbm, ⟨79, _⟩ => ⟨S2x8x192, .f32⟩
  | .hbm, ⟨80, _⟩ => ⟨S2x8x192, .f32⟩
  | .hbm, ⟨81, _⟩ => ⟨S2x8x64x131072, .i8⟩
  | .hbm, ⟨82, _⟩ => ⟨S2x8x64x131072, .i8⟩
  | .hbm, ⟨83, _⟩ => ⟨S16x192, .i32⟩
  | .hbm, ⟨84, _⟩ => ⟨S16x4x64, .bf16⟩
  | .hbm, ⟨85, _⟩ => ⟨S16x1x64, .bf16⟩
  | .hbm, ⟨86, _⟩ => ⟨S16x1x64, .bf16⟩
  | .hbm, ⟨87, _⟩ => ⟨S16x1x192, .f32⟩
  | .hbm, ⟨88, _⟩ => ⟨S16x1x192, .f32⟩
  | .hbm, ⟨89, _⟩ => ⟨S16x1x192, .f32⟩
  | .hbm, ⟨90, _⟩ => ⟨S16x4x64, .bf16⟩
  | .hbm, ⟨91, _⟩ => ⟨S2x8x64x192, .i8⟩
  | .hbm, ⟨92, _⟩ => ⟨S2x8x64x192, .i8⟩
  | .hbm, ⟨93, _⟩ => ⟨S16x1x192, .f32⟩
  | .hbm, ⟨94, _⟩ => ⟨S2x1x2048, .bf16⟩
  | .hbm, ⟨95, _⟩ => ⟨S2x192x8x64, .i8⟩
  | .hbm, ⟨96, _⟩ => ⟨S2x192x8, .f32⟩
  | .hbm, ⟨97, _⟩ => ⟨S2x192x8x64, .i8⟩
  | .hbm, ⟨98, _⟩ => ⟨S2x192x8, .f32⟩
  | .hbm, ⟨99, _⟩ => ⟨S2x8x192, .f32⟩
  | .local _ .vmem, ⟨0, _⟩ => ⟨S16x4x64, .bf16⟩
  | .local _ .vmem, ⟨1, _⟩ => ⟨S16x1x64, .bf16⟩
  | .local _ .vmem, ⟨2, _⟩ => ⟨S16x1x64, .bf16⟩
  | .local _ .vmem, ⟨3, _⟩ => ⟨S16x1x192, .f32⟩
  | .local _ .vmem, ⟨4, _⟩ => ⟨S16x1x192, .f32⟩
  | .local _ .vmem, ⟨5, _⟩ => ⟨S16x1x192, .f32⟩
  | .local _ .vmem, ⟨6, _⟩ => ⟨S16x4x64, .bf16⟩
  | .local _ .vmem, ⟨7, _⟩ => ⟨S2x8x64x192, .i8⟩
  | .local _ .vmem, ⟨8, _⟩ => ⟨S2x8x64x192, .i8⟩
  | .local _ .vmem, ⟨9, _⟩ => ⟨S16x1x192, .f32⟩
  | .local _ .vmem, ⟨10, _⟩ => ⟨S2x192x64x128, .i8⟩
  | .local _ .vmem, ⟨11, _⟩ => ⟨S2x192x64x128, .i8⟩
  | .local _ .smem, ⟨0, _⟩ => ⟨S16x192, .i32⟩
  | _, _ => ⟨S2x1x32x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_values : Ref sig .tc := ⟨.hbm, 10, rfl⟩
abbrev main_indices : Ref sig .tc := ⟨.hbm, 11, rfl⟩
abbrev main_v1 : Ref sig .tc := ⟨.hbm, 12, rfl⟩
abbrev main_v2 : Ref sig .tc := ⟨.hbm, 13, rfl⟩
abbrev main_call1_c : Ref sig .tc := ⟨.hbm, 14, rfl⟩
abbrev main_call1_v0 : Ref sig .tc := ⟨.hbm, 15, rfl⟩
abbrev main_call1_v1 : Ref sig .tc := ⟨.hbm, 16, rfl⟩
abbrev main_call1_c_0 : Ref sig .tc := ⟨.hbm, 17, rfl⟩
abbrev main_call1_v2 : Ref sig .tc := ⟨.hbm, 18, rfl⟩
abbrev main_call1_v3 : Ref sig .tc := ⟨.hbm, 19, rfl⟩
abbrev main_call1_v4 : Ref sig .tc := ⟨.hbm, 20, rfl⟩
abbrev main_call1_v5 : Ref sig .tc := ⟨.hbm, 21, rfl⟩
abbrev main_call1_c_1 : Ref sig .tc := ⟨.hbm, 22, rfl⟩
abbrev main_call1_c_2 : Ref sig .tc := ⟨.hbm, 23, rfl⟩
abbrev main_call1_v6 : Ref sig .tc := ⟨.hbm, 24, rfl⟩
abbrev main_call1_v7 : Ref sig .tc := ⟨.hbm, 25, rfl⟩
abbrev main_call1_v8 : Ref sig .tc := ⟨.hbm, 26, rfl⟩
abbrev main_call1_v9 : Ref sig .tc := ⟨.hbm, 27, rfl⟩
abbrev main_call1_v10 : Ref sig .tc := ⟨.hbm, 28, rfl⟩
abbrev main_call1_v11 : Ref sig .tc := ⟨.hbm, 29, rfl⟩
abbrev main_call1_c_3 : Ref sig .tc := ⟨.hbm, 30, rfl⟩
abbrev main_call1_v12 : Ref sig .tc := ⟨.hbm, 31, rfl⟩
abbrev main_call1_v13 : Ref sig .tc := ⟨.hbm, 32, rfl⟩
abbrev main_call1_cst : Ref sig .tc := ⟨.hbm, 33, rfl⟩
abbrev main_call1_v14 : Ref sig .tc := ⟨.hbm, 34, rfl⟩
abbrev main_v3 : Ref sig .tc := ⟨.hbm, 35, rfl⟩
abbrev main_v4 : Ref sig .tc := ⟨.hbm, 36, rfl⟩
abbrev main_call2_c : Ref sig .tc := ⟨.hbm, 37, rfl⟩
abbrev main_call2_v0 : Ref sig .tc := ⟨.hbm, 38, rfl⟩
abbrev main_call2_v1 : Ref sig .tc := ⟨.hbm, 39, rfl⟩
abbrev main_call2_c_0 : Ref sig .tc := ⟨.hbm, 40, rfl⟩
abbrev main_call2_v2 : Ref sig .tc := ⟨.hbm, 41, rfl⟩
abbrev main_call2_v3 : Ref sig .tc := ⟨.hbm, 42, rfl⟩
abbrev main_call2_v4 : Ref sig .tc := ⟨.hbm, 43, rfl⟩
abbrev main_call2_v5 : Ref sig .tc := ⟨.hbm, 44, rfl⟩
abbrev main_call2_c_1 : Ref sig .tc := ⟨.hbm, 45, rfl⟩
abbrev main_call2_c_2 : Ref sig .tc := ⟨.hbm, 46, rfl⟩
abbrev main_call2_v6 : Ref sig .tc := ⟨.hbm, 47, rfl⟩
abbrev main_call2_v7 : Ref sig .tc := ⟨.hbm, 48, rfl⟩
abbrev main_call2_v8 : Ref sig .tc := ⟨.hbm, 49, rfl⟩
abbrev main_call2_v9 : Ref sig .tc := ⟨.hbm, 50, rfl⟩
abbrev main_call2_v10 : Ref sig .tc := ⟨.hbm, 51, rfl⟩
abbrev main_call2_v11 : Ref sig .tc := ⟨.hbm, 52, rfl⟩
abbrev main_call2_c_3 : Ref sig .tc := ⟨.hbm, 53, rfl⟩
abbrev main_call2_v12 : Ref sig .tc := ⟨.hbm, 54, rfl⟩
abbrev main_call2_v13 : Ref sig .tc := ⟨.hbm, 55, rfl⟩
abbrev main_call2_cst : Ref sig .tc := ⟨.hbm, 56, rfl⟩
abbrev main_call2_v14 : Ref sig .tc := ⟨.hbm, 57, rfl⟩
abbrev main_v5 : Ref sig .tc := ⟨.hbm, 58, rfl⟩
abbrev main_call3_c : Ref sig .tc := ⟨.hbm, 59, rfl⟩
abbrev main_call3_v0 : Ref sig .tc := ⟨.hbm, 60, rfl⟩
abbrev main_call3_v1 : Ref sig .tc := ⟨.hbm, 61, rfl⟩
abbrev main_call3_c_0 : Ref sig .tc := ⟨.hbm, 62, rfl⟩
abbrev main_call3_v2 : Ref sig .tc := ⟨.hbm, 63, rfl⟩
abbrev main_call3_v3 : Ref sig .tc := ⟨.hbm, 64, rfl⟩
abbrev main_call3_v4 : Ref sig .tc := ⟨.hbm, 65, rfl⟩
abbrev main_call3_v5 : Ref sig .tc := ⟨.hbm, 66, rfl⟩
abbrev main_call3_c_1 : Ref sig .tc := ⟨.hbm, 67, rfl⟩
abbrev main_call3_c_2 : Ref sig .tc := ⟨.hbm, 68, rfl⟩
abbrev main_call3_v6 : Ref sig .tc := ⟨.hbm, 69, rfl⟩
abbrev main_call3_v7 : Ref sig .tc := ⟨.hbm, 70, rfl⟩
abbrev main_call3_v8 : Ref sig .tc := ⟨.hbm, 71, rfl⟩
abbrev main_call3_v9 : Ref sig .tc := ⟨.hbm, 72, rfl⟩
abbrev main_call3_v10 : Ref sig .tc := ⟨.hbm, 73, rfl⟩
abbrev main_call3_v11 : Ref sig .tc := ⟨.hbm, 74, rfl⟩
abbrev main_call3_c_3 : Ref sig .tc := ⟨.hbm, 75, rfl⟩
abbrev main_call3_v12 : Ref sig .tc := ⟨.hbm, 76, rfl⟩
abbrev main_call3_v13 : Ref sig .tc := ⟨.hbm, 77, rfl⟩
abbrev main_call3_cst : Ref sig .tc := ⟨.hbm, 78, rfl⟩
abbrev main_call3_v14 : Ref sig .tc := ⟨.hbm, 79, rfl⟩
abbrev main_v6 : Ref sig .tc := ⟨.hbm, 80, rfl⟩
abbrev main_v7 : Ref sig .tc := ⟨.hbm, 81, rfl⟩
abbrev main_v8 : Ref sig .tc := ⟨.hbm, 82, rfl⟩
abbrev main_v9 : Ref sig .tc := ⟨.hbm, 83, rfl⟩
abbrev main_v10 : Ref sig .tc := ⟨.hbm, 84, rfl⟩
abbrev main_v11 : Ref sig .tc := ⟨.hbm, 85, rfl⟩
abbrev main_v12 : Ref sig .tc := ⟨.hbm, 86, rfl⟩
abbrev main_v13 : Ref sig .tc := ⟨.hbm, 87, rfl⟩
abbrev main_v14 : Ref sig .tc := ⟨.hbm, 88, rfl⟩
abbrev main_v15 : Ref sig .tc := ⟨.hbm, 89, rfl⟩
abbrev main_v16_0 : Ref sig .tc := ⟨.hbm, 90, rfl⟩
abbrev main_v16_1 : Ref sig .tc := ⟨.hbm, 91, rfl⟩
abbrev main_v16_2 : Ref sig .tc := ⟨.hbm, 92, rfl⟩
abbrev main_v16_3 : Ref sig .tc := ⟨.hbm, 93, rfl⟩
abbrev main_v17 : Ref sig .tc := ⟨.hbm, 94, rfl⟩
abbrev main_v18 : Ref sig .tc := ⟨.hbm, 95, rfl⟩
abbrev main_v19 : Ref sig .tc := ⟨.hbm, 96, rfl⟩
abbrev main_v20 : Ref sig .tc := ⟨.hbm, 97, rfl⟩
abbrev main_v21 : Ref sig .tc := ⟨.hbm, 98, rfl⟩
abbrev main_v22 : Ref sig .tc := ⟨.hbm, 99, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg10_0 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

@[reducible] def k0_t1_loop : Scf.Loop 32 :=
  let c0_i32 : BitVec 32 := 0#32
  let c24_i32 : BitVec 32 := 24#32
  let v1 : BitVec 32 := Scalar.addi c0_i32 c24_i32
  let c1_i32 : BitVec 32 := 1#32
  ⟨c0_i32, v1, c1_i32⟩
def k0_off1 (k0_t1 : Fin k0_t1_loop.trips) : Fin 2 → Nat :=
  let c0 : Index := 0#32
  let c0_i32 : BitVec 32 := 0#32
  let c1_i32 : BitVec 32 := 1#32
  let arg16 : BitVec 32 := Scf.iv c0_i32 c1_i32 k0_t1
  let c8_i32 : BitVec 32 := 8#32
  let v3 : BitVec 32 := Scalar.muli arg16 c8_i32
  let c0_i32_4 : BitVec 32 := 0#32
  let v4 : BitVec 32 := Scalar.addi v3 c0_i32_4
  let v5 : Index := Scalar.indexCast v4
  ![0, v5.toNat]
def k0_mult1 (v6 : BitVec 32) : BitVec 32 :=
  let c7_i32 : BitVec 32 := 7#32
  let v7 : BitVec 32 := Scalar.shrsi v6 c7_i32
  let c128_i32 : BitVec 32 := 128#32
  let v8 : BitVec 32 := Scalar.muli v7 c128_i32
  v8

def k0_off2 (k0_t1 : Fin k0_t1_loop.trips) : Fin 4 → Nat :=
  let c0_i32_7 : BitVec 32 := 0#32
  let c0_i32 : BitVec 32 := 0#32
  let c1_i32 : BitVec 32 := 1#32
  let arg16 : BitVec 32 := Scf.iv c0_i32 c1_i32 k0_t1
  let c8_i32 : BitVec 32 := 8#32
  let v3 : BitVec 32 := Scalar.muli arg16 c8_i32
  let c0_i32_4 : BitVec 32 := 0#32
  let v4 : BitVec 32 := Scalar.addi v3 c0_i32_4
  let c0_i32_9 : BitVec 32 := 0#32
  let c0_i32_10 : BitVec 32 := 0#32
  ![0, v4.toNat, 0, 0]
def k0_off3 (v6 : BitVec 32) : Fin 4 → Nat :=
  let c0_i32_5 : BitVec 32 := 0#32
  let c0_i32_6 : BitVec 32 := 0#32
  let c0_i32_11 : BitVec 32 := 0#32
  let c7_i32 : BitVec 32 := 7#32
  let v7 : BitVec 32 := Scalar.shrsi v6 c7_i32
  let c128_i32 : BitVec 32 := 128#32
  let v8 : BitVec 32 := Scalar.muli v7 c128_i32
  let v9 : BitVec 32 := v8
  ![0, 0, 0, v9.toNat]

def k0_chk1 (v6 : BitVec 32) : Prop :=
  (128 ∣ (k0_mult1 v6).toNat) ∧
  (∀ a, (k0_off3 v6) a + S1x1x64x128.size a ≤ S2x8x64x131072.size a) ∧
  (∀ (hinb : ∀ a, (k0_off3 v6) a + S1x1x64x128.size a ≤ S2x8x64x131072.size a), (Rect.unit (s := S2x8x64x131072) (k0_off3 v6) S1x1x64x128.size hinb).WholeWords (EltTy.packing .i8))
theorem k0_mult1_dvd : ∀ (v6 : BitVec 32) (k0_hw1 : k0_chk1 v6), 128 ∣ (k0_mult1 v6).toNat := fun v6 k0_hw1 => k0_hw1.1
theorem k0_off3_inb : ∀ (v6 : BitVec 32) (k0_hw1 : k0_chk1 v6), ∀ a, (k0_off3 v6) a + S1x1x64x128.size a ≤ S2x8x64x131072.size a := fun v6 k0_hw1 => k0_hw1.2.1
theorem k0_off3_wordsi8 : ∀ (v6 : BitVec 32) (k0_hw1 : k0_chk1 v6), (Rect.unit (s := S2x8x64x131072) (k0_off3 v6) S1x1x64x128.size (k0_off3_inb v6 k0_hw1)).WholeWords (EltTy.packing .i8) := fun v6 k0_hw1 => k0_hw1.2.2 (k0_off3_inb v6 k0_hw1)

def k0_off4 (k0_t1 : Fin k0_t1_loop.trips) : Fin 2 → Nat :=
  let c0_21 : Index := 0#32
  let c0_i32 : BitVec 32 := 0#32
  let c1_i32 : BitVec 32 := 1#32
  let arg16 : BitVec 32 := Scf.iv c0_i32 c1_i32 k0_t1
  let c8_i32_19 : BitVec 32 := 8#32
  let v22 : BitVec 32 := Scalar.muli arg16 c8_i32_19
  let c1_i32_20 : BitVec 32 := 1#32
  let v23 : BitVec 32 := Scalar.addi v22 c1_i32_20
  let v24 : Index := Scalar.indexCast v23
  ![0, v24.toNat]
def k0_mult2 (v25 : BitVec 32) : BitVec 32 :=
  let c7_i32_22 : BitVec 32 := 7#32
  let v26 : BitVec 32 := Scalar.shrsi v25 c7_i32_22
  let c128_i32_23 : BitVec 32 := 128#32
  let v27 : BitVec 32 := Scalar.muli v26 c128_i32_23
  v27

def k0_off5 (k0_t1 : Fin k0_t1_loop.trips) : Fin 4 → Nat :=
  let c0_i32_26 : BitVec 32 := 0#32
  let c0_i32 : BitVec 32 := 0#32
  let c1_i32 : BitVec 32 := 1#32
  let arg16 : BitVec 32 := Scf.iv c0_i32 c1_i32 k0_t1
  let c8_i32_19 : BitVec 32 := 8#32
  let v22 : BitVec 32 := Scalar.muli arg16 c8_i32_19
  let c1_i32_20 : BitVec 32 := 1#32
  let v23 : BitVec 32 := Scalar.addi v22 c1_i32_20
  let c0_i32_28 : BitVec 32 := 0#32
  let c0_i32_29 : BitVec 32 := 0#32
  ![0, v23.toNat, 0, 0]
def k0_off6 (v25 : BitVec 32) : Fin 4 → Nat :=
  let c0_i32_24 : BitVec 32 := 0#32
  let c0_i32_25 : BitVec 32 := 0#32
  let c0_i32_30 : BitVec 32 := 0#32
  let c7_i32_22 : BitVec 32 := 7#32
  let v26 : BitVec 32 := Scalar.shrsi v25 c7_i32_22
  let c128_i32_23 : BitVec 32 := 128#32
  let v27 : BitVec 32 := Scalar.muli v26 c128_i32_23
  let v28 : BitVec 32 := v27
  ![0, 0, 0, v28.toNat]

def k0_chk2 (v25 : BitVec 32) : Prop :=
  (128 ∣ (k0_mult2 v25).toNat) ∧
  (∀ a, (k0_off6 v25) a + S1x1x64x128.size a ≤ S2x8x64x131072.size a) ∧
  (∀ (hinb : ∀ a, (k0_off6 v25) a + S1x1x64x128.size a ≤ S2x8x64x131072.size a), (Rect.unit (s := S2x8x64x131072) (k0_off6 v25) S1x1x64x128.size hinb).WholeWords (EltTy.packing .i8))
theorem k0_mult2_dvd : ∀ (v25 : BitVec 32) (k0_hw2 : k0_chk2 v25), 128 ∣ (k0_mult2 v25).toNat := fun v25 k0_hw2 => k0_hw2.1
theorem k0_off6_inb : ∀ (v25 : BitVec 32) (k0_hw2 : k0_chk2 v25), ∀ a, (k0_off6 v25) a + S1x1x64x128.size a ≤ S2x8x64x131072.size a := fun v25 k0_hw2 => k0_hw2.2.1
theorem k0_off6_wordsi8 : ∀ (v25 : BitVec 32) (k0_hw2 : k0_chk2 v25), (Rect.unit (s := S2x8x64x131072) (k0_off6 v25) S1x1x64x128.size (k0_off6_inb v25 k0_hw2)).WholeWords (EltTy.packing .i8) := fun v25 k0_hw2 => k0_hw2.2.2 (k0_off6_inb v25 k0_hw2)

def k0_off7 (k0_t1 : Fin k0_t1_loop.trips) : Fin 2 → Nat :=
  let c0_39 : Index := 0#32
  let c0_i32 : BitVec 32 := 0#32
  let c1_i32 : BitVec 32 := 1#32
  let arg16 : BitVec 32 := Scf.iv c0_i32 c1_i32 k0_t1
  let c8_i32_38 : BitVec 32 := 8#32
  let v41 : BitVec 32 := Scalar.muli arg16 c8_i32_38
  let c2_i32 : BitVec 32 := 2#32
  let v42 : BitVec 32 := Scalar.addi v41 c2_i32
  let v43 : Index := Scalar.indexCast v42
  ![0, v43.toNat]
def k0_mult3 (v44 : BitVec 32) : BitVec 32 :=
  let c7_i32_40 : BitVec 32 := 7#32
  let v45 : BitVec 32 := Scalar.shrsi v44 c7_i32_40
  let c128_i32_41 : BitVec 32 := 128#32
  let v46 : BitVec 32 := Scalar.muli v45 c128_i32_41
  v46

def k0_off8 (k0_t1 : Fin k0_t1_loop.trips) : Fin 4 → Nat :=
  let c0_i32_44 : BitVec 32 := 0#32
  let c0_i32 : BitVec 32 := 0#32
  let c1_i32 : BitVec 32 := 1#32
  let arg16 : BitVec 32 := Scf.iv c0_i32 c1_i32 k0_t1
  let c8_i32_38 : BitVec 32 := 8#32
  let v41 : BitVec 32 := Scalar.muli arg16 c8_i32_38
  let c2_i32 : BitVec 32 := 2#32
  let v42 : BitVec 32 := Scalar.addi v41 c2_i32
  let c0_i32_46 : BitVec 32 := 0#32
  let c0_i32_47 : BitVec 32 := 0#32
  ![0, v42.toNat, 0, 0]
def k0_off9 (v44 : BitVec 32) : Fin 4 → Nat :=
  let c0_i32_42 : BitVec 32 := 0#32
  let c0_i32_43 : BitVec 32 := 0#32
  let c0_i32_48 : BitVec 32 := 0#32
  let c7_i32_40 : BitVec 32 := 7#32
  let v45 : BitVec 32 := Scalar.shrsi v44 c7_i32_40
  let c128_i32_41 : BitVec 32 := 128#32
  let v46 : BitVec 32 := Scalar.muli v45 c128_i32_41
  let v47 : BitVec 32 := v46
  ![0, 0, 0, v47.toNat]

def k0_chk3 (v44 : BitVec 32) : Prop :=
  (128 ∣ (k0_mult3 v44).toNat) ∧
  (∀ a, (k0_off9 v44) a + S1x1x64x128.size a ≤ S2x8x64x131072.size a) ∧
  (∀ (hinb : ∀ a, (k0_off9 v44) a + S1x1x64x128.size a ≤ S2x8x64x131072.size a), (Rect.unit (s := S2x8x64x131072) (k0_off9 v44) S1x1x64x128.size hinb).WholeWords (EltTy.packing .i8))
theorem k0_mult3_dvd : ∀ (v44 : BitVec 32) (k0_hw3 : k0_chk3 v44), 128 ∣ (k0_mult3 v44).toNat := fun v44 k0_hw3 => k0_hw3.1
theorem k0_off9_inb : ∀ (v44 : BitVec 32) (k0_hw3 : k0_chk3 v44), ∀ a, (k0_off9 v44) a + S1x1x64x128.size a ≤ S2x8x64x131072.size a := fun v44 k0_hw3 => k0_hw3.2.1
theorem k0_off9_wordsi8 : ∀ (v44 : BitVec 32) (k0_hw3 : k0_chk3 v44), (Rect.unit (s := S2x8x64x131072) (k0_off9 v44) S1x1x64x128.size (k0_off9_inb v44 k0_hw3)).WholeWords (EltTy.packing .i8) := fun v44 k0_hw3 => k0_hw3.2.2 (k0_off9_inb v44 k0_hw3)

def k0_off10 (k0_t1 : Fin k0_t1_loop.trips) : Fin 2 → Nat :=
  let c0_57 : Index := 0#32
  let c0_i32 : BitVec 32 := 0#32
  let c1_i32 : BitVec 32 := 1#32
  let arg16 : BitVec 32 := Scf.iv c0_i32 c1_i32 k0_t1
  let c8_i32_56 : BitVec 32 := 8#32
  let v60 : BitVec 32 := Scalar.muli arg16 c8_i32_56
  let c3_i32 : BitVec 32 := 3#32
  let v61 : BitVec 32 := Scalar.addi v60 c3_i32
  let v62 : Index := Scalar.indexCast v61
  ![0, v62.toNat]
def k0_mult4 (v63 : BitVec 32) : BitVec 32 :=
  let c7_i32_58 : BitVec 32 := 7#32
  let v64 : BitVec 32 := Scalar.shrsi v63 c7_i32_58
  let c128_i32_59 : BitVec 32 := 128#32
  let v65 : BitVec 32 := Scalar.muli v64 c128_i32_59
  v65

def k0_off11 (k0_t1 : Fin k0_t1_loop.trips) : Fin 4 → Nat :=
  let c0_i32_62 : BitVec 32 := 0#32
  let c0_i32 : BitVec 32 := 0#32
  let c1_i32 : BitVec 32 := 1#32
  let arg16 : BitVec 32 := Scf.iv c0_i32 c1_i32 k0_t1
  let c8_i32_56 : BitVec 32 := 8#32
  let v60 : BitVec 32 := Scalar.muli arg16 c8_i32_56
  let c3_i32 : BitVec 32 := 3#32
  let v61 : BitVec 32 := Scalar.addi v60 c3_i32
  let c0_i32_64 : BitVec 32 := 0#32
  let c0_i32_65 : BitVec 32 := 0#32
  ![0, v61.toNat, 0, 0]
def k0_off12 (v63 : BitVec 32) : Fin 4 → Nat :=
  let c0_i32_60 : BitVec 32 := 0#32
  let c0_i32_61 : BitVec 32 := 0#32
  let c0_i32_66 : BitVec 32 := 0#32
  let c7_i32_58 : BitVec 32 := 7#32
  let v64 : BitVec 32 := Scalar.shrsi v63 c7_i32_58
  let c128_i32_59 : BitVec 32 := 128#32
  let v65 : BitVec 32 := Scalar.muli v64 c128_i32_59
  let v66 : BitVec 32 := v65
  ![0, 0, 0, v66.toNat]

def k0_chk4 (v63 : BitVec 32) : Prop :=
  (128 ∣ (k0_mult4 v63).toNat) ∧
  (∀ a, (k0_off12 v63) a + S1x1x64x128.size a ≤ S2x8x64x131072.size a) ∧
  (∀ (hinb : ∀ a, (k0_off12 v63) a + S1x1x64x128.size a ≤ S2x8x64x131072.size a), (Rect.unit (s := S2x8x64x131072) (k0_off12 v63) S1x1x64x128.size hinb).WholeWords (EltTy.packing .i8))
theorem k0_mult4_dvd : ∀ (v63 : BitVec 32) (k0_hw4 : k0_chk4 v63), 128 ∣ (k0_mult4 v63).toNat := fun v63 k0_hw4 => k0_hw4.1
theorem k0_off12_inb : ∀ (v63 : BitVec 32) (k0_hw4 : k0_chk4 v63), ∀ a, (k0_off12 v63) a + S1x1x64x128.size a ≤ S2x8x64x131072.size a := fun v63 k0_hw4 => k0_hw4.2.1
theorem k0_off12_wordsi8 : ∀ (v63 : BitVec 32) (k0_hw4 : k0_chk4 v63), (Rect.unit (s := S2x8x64x131072) (k0_off12 v63) S1x1x64x128.size (k0_off12_inb v63 k0_hw4)).WholeWords (EltTy.packing .i8) := fun v63 k0_hw4 => k0_hw4.2.2 (k0_off12_inb v63 k0_hw4)

def k0_off13 (k0_t1 : Fin k0_t1_loop.trips) : Fin 2 → Nat :=
  let c0_75 : Index := 0#32
  let c0_i32 : BitVec 32 := 0#32
  let c1_i32 : BitVec 32 := 1#32
  let arg16 : BitVec 32 := Scf.iv c0_i32 c1_i32 k0_t1
  let c8_i32_74 : BitVec 32 := 8#32
  let v79 : BitVec 32 := Scalar.muli arg16 c8_i32_74
  let c4_i32 : BitVec 32 := 4#32
  let v80 : BitVec 32 := Scalar.addi v79 c4_i32
  let v81 : Index := Scalar.indexCast v80
  ![0, v81.toNat]
def k0_mult5 (v82 : BitVec 32) : BitVec 32 :=
  let c7_i32_76 : BitVec 32 := 7#32
  let v83 : BitVec 32 := Scalar.shrsi v82 c7_i32_76
  let c128_i32_77 : BitVec 32 := 128#32
  let v84 : BitVec 32 := Scalar.muli v83 c128_i32_77
  v84

def k0_off14 (k0_t1 : Fin k0_t1_loop.trips) : Fin 4 → Nat :=
  let c0_i32_80 : BitVec 32 := 0#32
  let c0_i32 : BitVec 32 := 0#32
  let c1_i32 : BitVec 32 := 1#32
  let arg16 : BitVec 32 := Scf.iv c0_i32 c1_i32 k0_t1
  let c8_i32_74 : BitVec 32 := 8#32
  let v79 : BitVec 32 := Scalar.muli arg16 c8_i32_74
  let c4_i32 : BitVec 32 := 4#32
  let v80 : BitVec 32 := Scalar.addi v79 c4_i32
  let c0_i32_82 : BitVec 32 := 0#32
  let c0_i32_83 : BitVec 32 := 0#32
  ![0, v80.toNat, 0, 0]
def k0_off15 (v82 : BitVec 32) : Fin 4 → Nat :=
  let c0_i32_78 : BitVec 32 := 0#32
  let c0_i32_79 : BitVec 32 := 0#32
  let c0_i32_84 : BitVec 32 := 0#32
  let c7_i32_76 : BitVec 32 := 7#32
  let v83 : BitVec 32 := Scalar.shrsi v82 c7_i32_76
  let c128_i32_77 : BitVec 32 := 128#32
  let v84 : BitVec 32 := Scalar.muli v83 c128_i32_77
  let v85 : BitVec 32 := v84
  ![0, 0, 0, v85.toNat]

def k0_chk5 (v82 : BitVec 32) : Prop :=
  (128 ∣ (k0_mult5 v82).toNat) ∧
  (∀ a, (k0_off15 v82) a + S1x1x64x128.size a ≤ S2x8x64x131072.size a) ∧
  (∀ (hinb : ∀ a, (k0_off15 v82) a + S1x1x64x128.size a ≤ S2x8x64x131072.size a), (Rect.unit (s := S2x8x64x131072) (k0_off15 v82) S1x1x64x128.size hinb).WholeWords (EltTy.packing .i8))
theorem k0_mult5_dvd : ∀ (v82 : BitVec 32) (k0_hw5 : k0_chk5 v82), 128 ∣ (k0_mult5 v82).toNat := fun v82 k0_hw5 => k0_hw5.1
theorem k0_off15_inb : ∀ (v82 : BitVec 32) (k0_hw5 : k0_chk5 v82), ∀ a, (k0_off15 v82) a + S1x1x64x128.size a ≤ S2x8x64x131072.size a := fun v82 k0_hw5 => k0_hw5.2.1
theorem k0_off15_wordsi8 : ∀ (v82 : BitVec 32) (k0_hw5 : k0_chk5 v82), (Rect.unit (s := S2x8x64x131072) (k0_off15 v82) S1x1x64x128.size (k0_off15_inb v82 k0_hw5)).WholeWords (EltTy.packing .i8) := fun v82 k0_hw5 => k0_hw5.2.2 (k0_off15_inb v82 k0_hw5)

def k0_off16 (k0_t1 : Fin k0_t1_loop.trips) : Fin 2 → Nat :=
  let c0_93 : Index := 0#32
  let c0_i32 : BitVec 32 := 0#32
  let c1_i32 : BitVec 32 := 1#32
  let arg16 : BitVec 32 := Scf.iv c0_i32 c1_i32 k0_t1
  let c8_i32_92 : BitVec 32 := 8#32
  let v98 : BitVec 32 := Scalar.muli arg16 c8_i32_92
  let c5_i32 : BitVec 32 := 5#32
  let v99 : BitVec 32 := Scalar.addi v98 c5_i32
  let v100 : Index := Scalar.indexCast v99
  ![0, v100.toNat]
def k0_mult6 (v101 : BitVec 32) : BitVec 32 :=
  let c7_i32_94 : BitVec 32 := 7#32
  let v102 : BitVec 32 := Scalar.shrsi v101 c7_i32_94
  let c128_i32_95 : BitVec 32 := 128#32
  let v103 : BitVec 32 := Scalar.muli v102 c128_i32_95
  v103

def k0_off17 (k0_t1 : Fin k0_t1_loop.trips) : Fin 4 → Nat :=
  let c0_i32_98 : BitVec 32 := 0#32
  let c0_i32 : BitVec 32 := 0#32
  let c1_i32 : BitVec 32 := 1#32
  let arg16 : BitVec 32 := Scf.iv c0_i32 c1_i32 k0_t1
  let c8_i32_92 : BitVec 32 := 8#32
  let v98 : BitVec 32 := Scalar.muli arg16 c8_i32_92
  let c5_i32 : BitVec 32 := 5#32
  let v99 : BitVec 32 := Scalar.addi v98 c5_i32
  let c0_i32_100 : BitVec 32 := 0#32
  let c0_i32_101 : BitVec 32 := 0#32
  ![0, v99.toNat, 0, 0]
def k0_off18 (v101 : BitVec 32) : Fin 4 → Nat :=
  let c0_i32_96 : BitVec 32 := 0#32
  let c0_i32_97 : BitVec 32 := 0#32
  let c0_i32_102 : BitVec 32 := 0#32
  let c7_i32_94 : BitVec 32 := 7#32
  let v102 : BitVec 32 := Scalar.shrsi v101 c7_i32_94
  let c128_i32_95 : BitVec 32 := 128#32
  let v103 : BitVec 32 := Scalar.muli v102 c128_i32_95
  let v104 : BitVec 32 := v103
  ![0, 0, 0, v104.toNat]

def k0_chk6 (v101 : BitVec 32) : Prop :=
  (128 ∣ (k0_mult6 v101).toNat) ∧
  (∀ a, (k0_off18 v101) a + S1x1x64x128.size a ≤ S2x8x64x131072.size a) ∧
  (∀ (hinb : ∀ a, (k0_off18 v101) a + S1x1x64x128.size a ≤ S2x8x64x131072.size a), (Rect.unit (s := S2x8x64x131072) (k0_off18 v101) S1x1x64x128.size hinb).WholeWords (EltTy.packing .i8))
theorem k0_mult6_dvd : ∀ (v101 : BitVec 32) (k0_hw6 : k0_chk6 v101), 128 ∣ (k0_mult6 v101).toNat := fun v101 k0_hw6 => k0_hw6.1
theorem k0_off18_inb : ∀ (v101 : BitVec 32) (k0_hw6 : k0_chk6 v101), ∀ a, (k0_off18 v101) a + S1x1x64x128.size a ≤ S2x8x64x131072.size a := fun v101 k0_hw6 => k0_hw6.2.1
theorem k0_off18_wordsi8 : ∀ (v101 : BitVec 32) (k0_hw6 : k0_chk6 v101), (Rect.unit (s := S2x8x64x131072) (k0_off18 v101) S1x1x64x128.size (k0_off18_inb v101 k0_hw6)).WholeWords (EltTy.packing .i8) := fun v101 k0_hw6 => k0_hw6.2.2 (k0_off18_inb v101 k0_hw6)

def k0_off19 (k0_t1 : Fin k0_t1_loop.trips) : Fin 2 → Nat :=
  let c0_111 : Index := 0#32
  let c0_i32 : BitVec 32 := 0#32
  let c1_i32 : BitVec 32 := 1#32
  let arg16 : BitVec 32 := Scf.iv c0_i32 c1_i32 k0_t1
  let c8_i32_110 : BitVec 32 := 8#32
  let v117 : BitVec 32 := Scalar.muli arg16 c8_i32_110
  let c6_i32 : BitVec 32 := 6#32
  let v118 : BitVec 32 := Scalar.addi v117 c6_i32
  let v119 : Index := Scalar.indexCast v118
  ![0, v119.toNat]
def k0_mult7 (v120 : BitVec 32) : BitVec 32 :=
  let c7_i32_112 : BitVec 32 := 7#32
  let v121 : BitVec 32 := Scalar.shrsi v120 c7_i32_112
  let c128_i32_113 : BitVec 32 := 128#32
  let v122 : BitVec 32 := Scalar.muli v121 c128_i32_113
  v122

def k0_off20 (k0_t1 : Fin k0_t1_loop.trips) : Fin 4 → Nat :=
  let c0_i32_116 : BitVec 32 := 0#32
  let c0_i32 : BitVec 32 := 0#32
  let c1_i32 : BitVec 32 := 1#32
  let arg16 : BitVec 32 := Scf.iv c0_i32 c1_i32 k0_t1
  let c8_i32_110 : BitVec 32 := 8#32
  let v117 : BitVec 32 := Scalar.muli arg16 c8_i32_110
  let c6_i32 : BitVec 32 := 6#32
  let v118 : BitVec 32 := Scalar.addi v117 c6_i32
  let c0_i32_118 : BitVec 32 := 0#32
  let c0_i32_119 : BitVec 32 := 0#32
  ![0, v118.toNat, 0, 0]
def k0_off21 (v120 : BitVec 32) : Fin 4 → Nat :=
  let c0_i32_114 : BitVec 32 := 0#32
  let c0_i32_115 : BitVec 32 := 0#32
  let c0_i32_120 : BitVec 32 := 0#32
  let c7_i32_112 : BitVec 32 := 7#32
  let v121 : BitVec 32 := Scalar.shrsi v120 c7_i32_112
  let c128_i32_113 : BitVec 32 := 128#32
  let v122 : BitVec 32 := Scalar.muli v121 c128_i32_113
  let v123 : BitVec 32 := v122
  ![0, 0, 0, v123.toNat]

def k0_chk7 (v120 : BitVec 32) : Prop :=
  (128 ∣ (k0_mult7 v120).toNat) ∧
  (∀ a, (k0_off21 v120) a + S1x1x64x128.size a ≤ S2x8x64x131072.size a) ∧
  (∀ (hinb : ∀ a, (k0_off21 v120) a + S1x1x64x128.size a ≤ S2x8x64x131072.size a), (Rect.unit (s := S2x8x64x131072) (k0_off21 v120) S1x1x64x128.size hinb).WholeWords (EltTy.packing .i8))
theorem k0_mult7_dvd : ∀ (v120 : BitVec 32) (k0_hw7 : k0_chk7 v120), 128 ∣ (k0_mult7 v120).toNat := fun v120 k0_hw7 => k0_hw7.1
theorem k0_off21_inb : ∀ (v120 : BitVec 32) (k0_hw7 : k0_chk7 v120), ∀ a, (k0_off21 v120) a + S1x1x64x128.size a ≤ S2x8x64x131072.size a := fun v120 k0_hw7 => k0_hw7.2.1
theorem k0_off21_wordsi8 : ∀ (v120 : BitVec 32) (k0_hw7 : k0_chk7 v120), (Rect.unit (s := S2x8x64x131072) (k0_off21 v120) S1x1x64x128.size (k0_off21_inb v120 k0_hw7)).WholeWords (EltTy.packing .i8) := fun v120 k0_hw7 => k0_hw7.2.2 (k0_off21_inb v120 k0_hw7)

def k0_off22 (k0_t1 : Fin k0_t1_loop.trips) : Fin 2 → Nat :=
  let c0_130 : Index := 0#32
  let c0_i32 : BitVec 32 := 0#32
  let c1_i32 : BitVec 32 := 1#32
  let arg16 : BitVec 32 := Scf.iv c0_i32 c1_i32 k0_t1
  let c8_i32_128 : BitVec 32 := 8#32
  let v136 : BitVec 32 := Scalar.muli arg16 c8_i32_128
  let c7_i32_129 : BitVec 32 := 7#32
  let v137 : BitVec 32 := Scalar.addi v136 c7_i32_129
  let v138 : Index := Scalar.indexCast v137
  ![0, v138.toNat]
def k0_mult8 (v139 : BitVec 32) : BitVec 32 :=
  let c7_i32_131 : BitVec 32 := 7#32
  let v140 : BitVec 32 := Scalar.shrsi v139 c7_i32_131
  let c128_i32_132 : BitVec 32 := 128#32
  let v141 : BitVec 32 := Scalar.muli v140 c128_i32_132
  v141

def k0_off23 (k0_t1 : Fin k0_t1_loop.trips) : Fin 4 → Nat :=
  let c0_i32_135 : BitVec 32 := 0#32
  let c0_i32 : BitVec 32 := 0#32
  let c1_i32 : BitVec 32 := 1#32
  let arg16 : BitVec 32 := Scf.iv c0_i32 c1_i32 k0_t1
  let c8_i32_128 : BitVec 32 := 8#32
  let v136 : BitVec 32 := Scalar.muli arg16 c8_i32_128
  let c7_i32_129 : BitVec 32 := 7#32
  let v137 : BitVec 32 := Scalar.addi v136 c7_i32_129
  let c0_i32_137 : BitVec 32 := 0#32
  let c0_i32_138 : BitVec 32 := 0#32
  ![0, v137.toNat, 0, 0]
def k0_off24 (v139 : BitVec 32) : Fin 4 → Nat :=
  let c0_i32_133 : BitVec 32 := 0#32
  let c0_i32_134 : BitVec 32 := 0#32
  let c0_i32_139 : BitVec 32 := 0#32
  let c7_i32_131 : BitVec 32 := 7#32
  let v140 : BitVec 32 := Scalar.shrsi v139 c7_i32_131
  let c128_i32_132 : BitVec 32 := 128#32
  let v141 : BitVec 32 := Scalar.muli v140 c128_i32_132
  let v142 : BitVec 32 := v141
  ![0, 0, 0, v142.toNat]

def k0_chk8 (v139 : BitVec 32) : Prop :=
  (128 ∣ (k0_mult8 v139).toNat) ∧
  (∀ a, (k0_off24 v139) a + S1x1x64x128.size a ≤ S2x8x64x131072.size a) ∧
  (∀ (hinb : ∀ a, (k0_off24 v139) a + S1x1x64x128.size a ≤ S2x8x64x131072.size a), (Rect.unit (s := S2x8x64x131072) (k0_off24 v139) S1x1x64x128.size hinb).WholeWords (EltTy.packing .i8))
theorem k0_mult8_dvd : ∀ (v139 : BitVec 32) (k0_hw8 : k0_chk8 v139), 128 ∣ (k0_mult8 v139).toNat := fun v139 k0_hw8 => k0_hw8.1
theorem k0_off24_inb : ∀ (v139 : BitVec 32) (k0_hw8 : k0_chk8 v139), ∀ a, (k0_off24 v139) a + S1x1x64x128.size a ≤ S2x8x64x131072.size a := fun v139 k0_hw8 => k0_hw8.2.1
theorem k0_off24_wordsi8 : ∀ (v139 : BitVec 32) (k0_hw8 : k0_chk8 v139), (Rect.unit (s := S2x8x64x131072) (k0_off24 v139) S1x1x64x128.size (k0_off24_inb v139 k0_hw8)).WholeWords (EltTy.packing .i8) := fun v139 k0_hw8 => k0_hw8.2.2 (k0_off24_inb v139 k0_hw8)

@[reducible] def k0_t2_loop : Scf.Loop 32 :=
  let c0_i32_1 : BitVec 32 := 0#32
  let c16_i32 : BitVec 32 := 16#32
  let v2 : BitVec 32 := Scalar.addi c0_i32_1 c16_i32
  let c1_i32_2 : BitVec 32 := 1#32
  ⟨c0_i32_1, v2, c1_i32_2⟩
def k0_cond1 (k0_t2 : Fin k0_t2_loop.trips) : BitVec 1 :=
  let c0_i32_1 : BitVec 32 := 0#32
  let c1_i32_2 : BitVec 32 := 1#32
  let arg16 : BitVec 32 := Scf.iv c0_i32_1 c1_i32_2 k0_t2
  let c1_i32_9 : BitVec 32 := 1#32
  let v13 : BitVec 32 := Scalar.addi arg16 c1_i32_9
  let c16_i32_10 : BitVec 32 := 16#32
  let v14 : BitVec 1 := Scalar.cmpi .slt v13 c16_i32_10
  let v15 : BitVec 32 := Scalar.extui v14
  let c0_i32_11 : BitVec 32 := 0#32
  let v16 : BitVec 1 := Scalar.cmpi .ne v15 c0_i32_11
  v16

@[reducible] def k0_t3_loop : Scf.Loop 32 :=
  let c0_i32_93 : BitVec 32 := 0#32
  let c24_i32_94 : BitVec 32 := 24#32
  let v195 : BitVec 32 := Scalar.addi c0_i32_93 c24_i32_94
  let c1_i32_95 : BitVec 32 := 1#32
  ⟨c0_i32_93, v195, c1_i32_95⟩
def k0_off25 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v198 : Index := Scalar.indexCast v166
  let c0_i32_93 : BitVec 32 := 0#32
  let c1_i32_95 : BitVec 32 := 1#32
  let arg17 : BitVec 32 := Scf.iv c0_i32_93 c1_i32_95 k0_t3
  let c8_i32_97 : BitVec 32 := 8#32
  let v196 : BitVec 32 := Scalar.muli arg17 c8_i32_97
  let c0_i32_98 : BitVec 32 := 0#32
  let v197 : BitVec 32 := Scalar.addi v196 c0_i32_98
  let v199 : Index := Scalar.indexCast v197
  ![v198.toNat, v199.toNat]
def k0_mult9 (v200 : BitVec 32) : BitVec 32 :=
  let c7_i32 : BitVec 32 := 7#32
  let v201 : BitVec 32 := Scalar.shrsi v200 c7_i32
  let c128_i32 : BitVec 32 := 128#32
  let v202 : BitVec 32 := Scalar.muli v201 c128_i32
  v202

def k0_off26 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off27 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_97 : BitVec 32 := 8#32
  let v196 : BitVec 32 := Scalar.muli arg17 c8_i32_97
  let c0_i32_98 : BitVec 32 := 0#32
  let v197 : BitVec 32 := Scalar.addi v196 c0_i32_98
  let c0_i32_99 : BitVec 32 := 0#32
  let c0_i32_100 : BitVec 32 := 0#32
  ![v167.toNat, v197.toNat, 0, 0]
def k0_off28 (k0_t2 : Fin k0_t2_loop.trips) (v200 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_101 : BitVec 32 := 0#32
  let c7_i32 : BitVec 32 := 7#32
  let v201 : BitVec 32 := Scalar.shrsi v200 c7_i32
  let c128_i32 : BitVec 32 := 128#32
  let v202 : BitVec 32 := Scalar.muli v201 c128_i32
  let v203 : BitVec 32 := v202
  ![v184.toNat, v194.toNat, 0, v203.toNat]

def k0_chk9 (k0_t2 : Fin k0_t2_loop.trips) (v200 : BitVec 32) : Prop :=
  (∀ (k0_h1 : k0_cond1 k0_t2 = 1#1), 128 ∣ (k0_mult9 v200).toNat) ∧
  (∀ (k0_h1 : k0_cond1 k0_t2 = 1#1), ∀ a, (k0_off28 k0_t2 v200) a + S1x1x64x128.size a ≤ S2x8x64x131072.size a) ∧
  (∀ (k0_h1 : k0_cond1 k0_t2 = 1#1), ∀ (hinb : ∀ a, (k0_off28 k0_t2 v200) a + S1x1x64x128.size a ≤ S2x8x64x131072.size a), (Rect.unit (s := S2x8x64x131072) (k0_off28 k0_t2 v200) S1x1x64x128.size hinb).WholeWords (EltTy.packing .i8))
theorem k0_mult9_dvd : ∀ (k0_t2 : Fin k0_t2_loop.trips) (v200 : BitVec 32) (k0_hw9 : k0_chk9 k0_t2 v200), ∀ (k0_h1 : k0_cond1 k0_t2 = 1#1), 128 ∣ (k0_mult9 v200).toNat := fun k0_t2 v200 k0_hw9 k0_h1 => k0_hw9.1 k0_h1
theorem k0_off28_inb : ∀ (k0_t2 : Fin k0_t2_loop.trips) (v200 : BitVec 32) (k0_hw9 : k0_chk9 k0_t2 v200), ∀ (k0_h1 : k0_cond1 k0_t2 = 1#1), ∀ a, (k0_off28 k0_t2 v200) a + S1x1x64x128.size a ≤ S2x8x64x131072.size a := fun k0_t2 v200 k0_hw9 k0_h1 => k0_hw9.2.1 k0_h1
theorem k0_off28_wordsi8 : ∀ (k0_t2 : Fin k0_t2_loop.trips) (v200 : BitVec 32) (k0_hw9 : k0_chk9 k0_t2 v200), ∀ (k0_h1 : k0_cond1 k0_t2 = 1#1), (Rect.unit (s := S2x8x64x131072) (k0_off28 k0_t2 v200) S1x1x64x128.size (k0_off28_inb k0_t2 v200 k0_hw9 k0_h1)).WholeWords (EltTy.packing .i8) := fun k0_t2 v200 k0_hw9 k0_h1 => k0_hw9.2.2 k0_h1 (k0_off28_inb k0_t2 v200 k0_hw9 k0_h1)

def k0_off29 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v218 : Index := Scalar.indexCast v166
  let c0_i32_93 : BitVec 32 := 0#32
  let c1_i32_95 : BitVec 32 := 1#32
  let arg17 : BitVec 32 := Scf.iv c0_i32_93 c1_i32_95 k0_t3
  let c8_i32_105 : BitVec 32 := 8#32
  let v216 : BitVec 32 := Scalar.muli arg17 c8_i32_105
  let c1_i32_106 : BitVec 32 := 1#32
  let v217 : BitVec 32 := Scalar.addi v216 c1_i32_106
  let v219 : Index := Scalar.indexCast v217
  ![v218.toNat, v219.toNat]
def k0_mult10 (v220 : BitVec 32) : BitVec 32 :=
  let c7_i32_107 : BitVec 32 := 7#32
  let v221 : BitVec 32 := Scalar.shrsi v220 c7_i32_107
  let c128_i32_108 : BitVec 32 := 128#32
  let v222 : BitVec 32 := Scalar.muli v221 c128_i32_108
  v222

def k0_off30 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off31 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_105 : BitVec 32 := 8#32
  let v216 : BitVec 32 := Scalar.muli arg17 c8_i32_105
  let c1_i32_106 : BitVec 32 := 1#32
  let v217 : BitVec 32 := Scalar.addi v216 c1_i32_106
  let c0_i32_109 : BitVec 32 := 0#32
  let c0_i32_110 : BitVec 32 := 0#32
  ![v167.toNat, v217.toNat, 0, 0]
def k0_off32 (k0_t2 : Fin k0_t2_loop.trips) (v220 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_111 : BitVec 32 := 0#32
  let c7_i32_107 : BitVec 32 := 7#32
  let v221 : BitVec 32 := Scalar.shrsi v220 c7_i32_107
  let c128_i32_108 : BitVec 32 := 128#32
  let v222 : BitVec 32 := Scalar.muli v221 c128_i32_108
  let v223 : BitVec 32 := v222
  ![v184.toNat, v194.toNat, 0, v223.toNat]

def k0_chk10 (k0_t2 : Fin k0_t2_loop.trips) (v220 : BitVec 32) : Prop :=
  (∀ (k0_h1 : k0_cond1 k0_t2 = 1#1), 128 ∣ (k0_mult10 v220).toNat) ∧
  (∀ (k0_h1 : k0_cond1 k0_t2 = 1#1), ∀ a, (k0_off32 k0_t2 v220) a + S1x1x64x128.size a ≤ S2x8x64x131072.size a) ∧
  (∀ (k0_h1 : k0_cond1 k0_t2 = 1#1), ∀ (hinb : ∀ a, (k0_off32 k0_t2 v220) a + S1x1x64x128.size a ≤ S2x8x64x131072.size a), (Rect.unit (s := S2x8x64x131072) (k0_off32 k0_t2 v220) S1x1x64x128.size hinb).WholeWords (EltTy.packing .i8))
theorem k0_mult10_dvd : ∀ (k0_t2 : Fin k0_t2_loop.trips) (v220 : BitVec 32) (k0_hw10 : k0_chk10 k0_t2 v220), ∀ (k0_h1 : k0_cond1 k0_t2 = 1#1), 128 ∣ (k0_mult10 v220).toNat := fun k0_t2 v220 k0_hw10 k0_h1 => k0_hw10.1 k0_h1
theorem k0_off32_inb : ∀ (k0_t2 : Fin k0_t2_loop.trips) (v220 : BitVec 32) (k0_hw10 : k0_chk10 k0_t2 v220), ∀ (k0_h1 : k0_cond1 k0_t2 = 1#1), ∀ a, (k0_off32 k0_t2 v220) a + S1x1x64x128.size a ≤ S2x8x64x131072.size a := fun k0_t2 v220 k0_hw10 k0_h1 => k0_hw10.2.1 k0_h1
theorem k0_off32_wordsi8 : ∀ (k0_t2 : Fin k0_t2_loop.trips) (v220 : BitVec 32) (k0_hw10 : k0_chk10 k0_t2 v220), ∀ (k0_h1 : k0_cond1 k0_t2 = 1#1), (Rect.unit (s := S2x8x64x131072) (k0_off32 k0_t2 v220) S1x1x64x128.size (k0_off32_inb k0_t2 v220 k0_hw10 k0_h1)).WholeWords (EltTy.packing .i8) := fun k0_t2 v220 k0_hw10 k0_h1 => k0_hw10.2.2 k0_h1 (k0_off32_inb k0_t2 v220 k0_hw10 k0_h1)

def k0_off33 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v238 : Index := Scalar.indexCast v166
  let c0_i32_93 : BitVec 32 := 0#32
  let c1_i32_95 : BitVec 32 := 1#32
  let arg17 : BitVec 32 := Scf.iv c0_i32_93 c1_i32_95 k0_t3
  let c8_i32_115 : BitVec 32 := 8#32
  let v236 : BitVec 32 := Scalar.muli arg17 c8_i32_115
  let c2_i32_116 : BitVec 32 := 2#32
  let v237 : BitVec 32 := Scalar.addi v236 c2_i32_116
  let v239 : Index := Scalar.indexCast v237
  ![v238.toNat, v239.toNat]
def k0_mult11 (v240 : BitVec 32) : BitVec 32 :=
  let c7_i32_117 : BitVec 32 := 7#32
  let v241 : BitVec 32 := Scalar.shrsi v240 c7_i32_117
  let c128_i32_118 : BitVec 32 := 128#32
  let v242 : BitVec 32 := Scalar.muli v241 c128_i32_118
  v242

def k0_off34 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off35 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_115 : BitVec 32 := 8#32
  let v236 : BitVec 32 := Scalar.muli arg17 c8_i32_115
  let c2_i32_116 : BitVec 32 := 2#32
  let v237 : BitVec 32 := Scalar.addi v236 c2_i32_116
  let c0_i32_119 : BitVec 32 := 0#32
  let c0_i32_120 : BitVec 32 := 0#32
  ![v167.toNat, v237.toNat, 0, 0]
def k0_off36 (k0_t2 : Fin k0_t2_loop.trips) (v240 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_121 : BitVec 32 := 0#32
  let c7_i32_117 : BitVec 32 := 7#32
  let v241 : BitVec 32 := Scalar.shrsi v240 c7_i32_117
  let c128_i32_118 : BitVec 32 := 128#32
  let v242 : BitVec 32 := Scalar.muli v241 c128_i32_118
  let v243 : BitVec 32 := v242
  ![v184.toNat, v194.toNat, 0, v243.toNat]

def k0_chk11 (k0_t2 : Fin k0_t2_loop.trips) (v240 : BitVec 32) : Prop :=
  (∀ (k0_h1 : k0_cond1 k0_t2 = 1#1), 128 ∣ (k0_mult11 v240).toNat) ∧
  (∀ (k0_h1 : k0_cond1 k0_t2 = 1#1), ∀ a, (k0_off36 k0_t2 v240) a + S1x1x64x128.size a ≤ S2x8x64x131072.size a) ∧
  (∀ (k0_h1 : k0_cond1 k0_t2 = 1#1), ∀ (hinb : ∀ a, (k0_off36 k0_t2 v240) a + S1x1x64x128.size a ≤ S2x8x64x131072.size a), (Rect.unit (s := S2x8x64x131072) (k0_off36 k0_t2 v240) S1x1x64x128.size hinb).WholeWords (EltTy.packing .i8))
theorem k0_mult11_dvd : ∀ (k0_t2 : Fin k0_t2_loop.trips) (v240 : BitVec 32) (k0_hw11 : k0_chk11 k0_t2 v240), ∀ (k0_h1 : k0_cond1 k0_t2 = 1#1), 128 ∣ (k0_mult11 v240).toNat := fun k0_t2 v240 k0_hw11 k0_h1 => k0_hw11.1 k0_h1
theorem k0_off36_inb : ∀ (k0_t2 : Fin k0_t2_loop.trips) (v240 : BitVec 32) (k0_hw11 : k0_chk11 k0_t2 v240), ∀ (k0_h1 : k0_cond1 k0_t2 = 1#1), ∀ a, (k0_off36 k0_t2 v240) a + S1x1x64x128.size a ≤ S2x8x64x131072.size a := fun k0_t2 v240 k0_hw11 k0_h1 => k0_hw11.2.1 k0_h1
theorem k0_off36_wordsi8 : ∀ (k0_t2 : Fin k0_t2_loop.trips) (v240 : BitVec 32) (k0_hw11 : k0_chk11 k0_t2 v240), ∀ (k0_h1 : k0_cond1 k0_t2 = 1#1), (Rect.unit (s := S2x8x64x131072) (k0_off36 k0_t2 v240) S1x1x64x128.size (k0_off36_inb k0_t2 v240 k0_hw11 k0_h1)).WholeWords (EltTy.packing .i8) := fun k0_t2 v240 k0_hw11 k0_h1 => k0_hw11.2.2 k0_h1 (k0_off36_inb k0_t2 v240 k0_hw11 k0_h1)

def k0_off37 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v258 : Index := Scalar.indexCast v166
  let c0_i32_93 : BitVec 32 := 0#32
  let c1_i32_95 : BitVec 32 := 1#32
  let arg17 : BitVec 32 := Scf.iv c0_i32_93 c1_i32_95 k0_t3
  let c8_i32_125 : BitVec 32 := 8#32
  let v256 : BitVec 32 := Scalar.muli arg17 c8_i32_125
  let c3_i32 : BitVec 32 := 3#32
  let v257 : BitVec 32 := Scalar.addi v256 c3_i32
  let v259 : Index := Scalar.indexCast v257
  ![v258.toNat, v259.toNat]
def k0_mult12 (v260 : BitVec 32) : BitVec 32 :=
  let c7_i32_126 : BitVec 32 := 7#32
  let v261 : BitVec 32 := Scalar.shrsi v260 c7_i32_126
  let c128_i32_127 : BitVec 32 := 128#32
  let v262 : BitVec 32 := Scalar.muli v261 c128_i32_127
  v262

def k0_off38 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off39 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_125 : BitVec 32 := 8#32
  let v256 : BitVec 32 := Scalar.muli arg17 c8_i32_125
  let c3_i32 : BitVec 32 := 3#32
  let v257 : BitVec 32 := Scalar.addi v256 c3_i32
  let c0_i32_128 : BitVec 32 := 0#32
  let c0_i32_129 : BitVec 32 := 0#32
  ![v167.toNat, v257.toNat, 0, 0]
def k0_off40 (k0_t2 : Fin k0_t2_loop.trips) (v260 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_130 : BitVec 32 := 0#32
  let c7_i32_126 : BitVec 32 := 7#32
  let v261 : BitVec 32 := Scalar.shrsi v260 c7_i32_126
  let c128_i32_127 : BitVec 32 := 128#32
  let v262 : BitVec 32 := Scalar.muli v261 c128_i32_127
  let v263 : BitVec 32 := v262
  ![v184.toNat, v194.toNat, 0, v263.toNat]

def k0_chk12 (k0_t2 : Fin k0_t2_loop.trips) (v260 : BitVec 32) : Prop :=
  (∀ (k0_h1 : k0_cond1 k0_t2 = 1#1), 128 ∣ (k0_mult12 v260).toNat) ∧
  (∀ (k0_h1 : k0_cond1 k0_t2 = 1#1), ∀ a, (k0_off40 k0_t2 v260) a + S1x1x64x128.size a ≤ S2x8x64x131072.size a) ∧
  (∀ (k0_h1 : k0_cond1 k0_t2 = 1#1), ∀ (hinb : ∀ a, (k0_off40 k0_t2 v260) a + S1x1x64x128.size a ≤ S2x8x64x131072.size a), (Rect.unit (s := S2x8x64x131072) (k0_off40 k0_t2 v260) S1x1x64x128.size hinb).WholeWords (EltTy.packing .i8))
theorem k0_mult12_dvd : ∀ (k0_t2 : Fin k0_t2_loop.trips) (v260 : BitVec 32) (k0_hw12 : k0_chk12 k0_t2 v260), ∀ (k0_h1 : k0_cond1 k0_t2 = 1#1), 128 ∣ (k0_mult12 v260).toNat := fun k0_t2 v260 k0_hw12 k0_h1 => k0_hw12.1 k0_h1
theorem k0_off40_inb : ∀ (k0_t2 : Fin k0_t2_loop.trips) (v260 : BitVec 32) (k0_hw12 : k0_chk12 k0_t2 v260), ∀ (k0_h1 : k0_cond1 k0_t2 = 1#1), ∀ a, (k0_off40 k0_t2 v260) a + S1x1x64x128.size a ≤ S2x8x64x131072.size a := fun k0_t2 v260 k0_hw12 k0_h1 => k0_hw12.2.1 k0_h1
theorem k0_off40_wordsi8 : ∀ (k0_t2 : Fin k0_t2_loop.trips) (v260 : BitVec 32) (k0_hw12 : k0_chk12 k0_t2 v260), ∀ (k0_h1 : k0_cond1 k0_t2 = 1#1), (Rect.unit (s := S2x8x64x131072) (k0_off40 k0_t2 v260) S1x1x64x128.size (k0_off40_inb k0_t2 v260 k0_hw12 k0_h1)).WholeWords (EltTy.packing .i8) := fun k0_t2 v260 k0_hw12 k0_h1 => k0_hw12.2.2 k0_h1 (k0_off40_inb k0_t2 v260 k0_hw12 k0_h1)

def k0_off41 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v278 : Index := Scalar.indexCast v166
  let c0_i32_93 : BitVec 32 := 0#32
  let c1_i32_95 : BitVec 32 := 1#32
  let arg17 : BitVec 32 := Scf.iv c0_i32_93 c1_i32_95 k0_t3
  let c8_i32_134 : BitVec 32 := 8#32
  let v276 : BitVec 32 := Scalar.muli arg17 c8_i32_134
  let c4_i32 : BitVec 32 := 4#32
  let v277 : BitVec 32 := Scalar.addi v276 c4_i32
  let v279 : Index := Scalar.indexCast v277
  ![v278.toNat, v279.toNat]
def k0_mult13 (v280 : BitVec 32) : BitVec 32 :=
  let c7_i32_135 : BitVec 32 := 7#32
  let v281 : BitVec 32 := Scalar.shrsi v280 c7_i32_135
  let c128_i32_136 : BitVec 32 := 128#32
  let v282 : BitVec 32 := Scalar.muli v281 c128_i32_136
  v282

def k0_off42 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off43 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_134 : BitVec 32 := 8#32
  let v276 : BitVec 32 := Scalar.muli arg17 c8_i32_134
  let c4_i32 : BitVec 32 := 4#32
  let v277 : BitVec 32 := Scalar.addi v276 c4_i32
  let c0_i32_137 : BitVec 32 := 0#32
  let c0_i32_138 : BitVec 32 := 0#32
  ![v167.toNat, v277.toNat, 0, 0]
def k0_off44 (k0_t2 : Fin k0_t2_loop.trips) (v280 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_139 : BitVec 32 := 0#32
  let c7_i32_135 : BitVec 32 := 7#32
  let v281 : BitVec 32 := Scalar.shrsi v280 c7_i32_135
  let c128_i32_136 : BitVec 32 := 128#32
  let v282 : BitVec 32 := Scalar.muli v281 c128_i32_136
  let v283 : BitVec 32 := v282
  ![v184.toNat, v194.toNat, 0, v283.toNat]

def k0_chk13 (k0_t2 : Fin k0_t2_loop.trips) (v280 : BitVec 32) : Prop :=
  (∀ (k0_h1 : k0_cond1 k0_t2 = 1#1), 128 ∣ (k0_mult13 v280).toNat) ∧
  (∀ (k0_h1 : k0_cond1 k0_t2 = 1#1), ∀ a, (k0_off44 k0_t2 v280) a + S1x1x64x128.size a ≤ S2x8x64x131072.size a) ∧
  (∀ (k0_h1 : k0_cond1 k0_t2 = 1#1), ∀ (hinb : ∀ a, (k0_off44 k0_t2 v280) a + S1x1x64x128.size a ≤ S2x8x64x131072.size a), (Rect.unit (s := S2x8x64x131072) (k0_off44 k0_t2 v280) S1x1x64x128.size hinb).WholeWords (EltTy.packing .i8))
theorem k0_mult13_dvd : ∀ (k0_t2 : Fin k0_t2_loop.trips) (v280 : BitVec 32) (k0_hw13 : k0_chk13 k0_t2 v280), ∀ (k0_h1 : k0_cond1 k0_t2 = 1#1), 128 ∣ (k0_mult13 v280).toNat := fun k0_t2 v280 k0_hw13 k0_h1 => k0_hw13.1 k0_h1
theorem k0_off44_inb : ∀ (k0_t2 : Fin k0_t2_loop.trips) (v280 : BitVec 32) (k0_hw13 : k0_chk13 k0_t2 v280), ∀ (k0_h1 : k0_cond1 k0_t2 = 1#1), ∀ a, (k0_off44 k0_t2 v280) a + S1x1x64x128.size a ≤ S2x8x64x131072.size a := fun k0_t2 v280 k0_hw13 k0_h1 => k0_hw13.2.1 k0_h1
theorem k0_off44_wordsi8 : ∀ (k0_t2 : Fin k0_t2_loop.trips) (v280 : BitVec 32) (k0_hw13 : k0_chk13 k0_t2 v280), ∀ (k0_h1 : k0_cond1 k0_t2 = 1#1), (Rect.unit (s := S2x8x64x131072) (k0_off44 k0_t2 v280) S1x1x64x128.size (k0_off44_inb k0_t2 v280 k0_hw13 k0_h1)).WholeWords (EltTy.packing .i8) := fun k0_t2 v280 k0_hw13 k0_h1 => k0_hw13.2.2 k0_h1 (k0_off44_inb k0_t2 v280 k0_hw13 k0_h1)

def k0_off45 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v298 : Index := Scalar.indexCast v166
  let c0_i32_93 : BitVec 32 := 0#32
  let c1_i32_95 : BitVec 32 := 1#32
  let arg17 : BitVec 32 := Scf.iv c0_i32_93 c1_i32_95 k0_t3
  let c8_i32_143 : BitVec 32 := 8#32
  let v296 : BitVec 32 := Scalar.muli arg17 c8_i32_143
  let c5_i32 : BitVec 32 := 5#32
  let v297 : BitVec 32 := Scalar.addi v296 c5_i32
  let v299 : Index := Scalar.indexCast v297
  ![v298.toNat, v299.toNat]
def k0_mult14 (v300 : BitVec 32) : BitVec 32 :=
  let c7_i32_144 : BitVec 32 := 7#32
  let v301 : BitVec 32 := Scalar.shrsi v300 c7_i32_144
  let c128_i32_145 : BitVec 32 := 128#32
  let v302 : BitVec 32 := Scalar.muli v301 c128_i32_145
  v302

def k0_off46 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off47 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_143 : BitVec 32 := 8#32
  let v296 : BitVec 32 := Scalar.muli arg17 c8_i32_143
  let c5_i32 : BitVec 32 := 5#32
  let v297 : BitVec 32 := Scalar.addi v296 c5_i32
  let c0_i32_146 : BitVec 32 := 0#32
  let c0_i32_147 : BitVec 32 := 0#32
  ![v167.toNat, v297.toNat, 0, 0]
def k0_off48 (k0_t2 : Fin k0_t2_loop.trips) (v300 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_148 : BitVec 32 := 0#32
  let c7_i32_144 : BitVec 32 := 7#32
  let v301 : BitVec 32 := Scalar.shrsi v300 c7_i32_144
  let c128_i32_145 : BitVec 32 := 128#32
  let v302 : BitVec 32 := Scalar.muli v301 c128_i32_145
  let v303 : BitVec 32 := v302
  ![v184.toNat, v194.toNat, 0, v303.toNat]

def k0_chk14 (k0_t2 : Fin k0_t2_loop.trips) (v300 : BitVec 32) : Prop :=
  (∀ (k0_h1 : k0_cond1 k0_t2 = 1#1), 128 ∣ (k0_mult14 v300).toNat) ∧
  (∀ (k0_h1 : k0_cond1 k0_t2 = 1#1), ∀ a, (k0_off48 k0_t2 v300) a + S1x1x64x128.size a ≤ S2x8x64x131072.size a) ∧
  (∀ (k0_h1 : k0_cond1 k0_t2 = 1#1), ∀ (hinb : ∀ a, (k0_off48 k0_t2 v300) a + S1x1x64x128.size a ≤ S2x8x64x131072.size a), (Rect.unit (s := S2x8x64x131072) (k0_off48 k0_t2 v300) S1x1x64x128.size hinb).WholeWords (EltTy.packing .i8))
theorem k0_mult14_dvd : ∀ (k0_t2 : Fin k0_t2_loop.trips) (v300 : BitVec 32) (k0_hw14 : k0_chk14 k0_t2 v300), ∀ (k0_h1 : k0_cond1 k0_t2 = 1#1), 128 ∣ (k0_mult14 v300).toNat := fun k0_t2 v300 k0_hw14 k0_h1 => k0_hw14.1 k0_h1
theorem k0_off48_inb : ∀ (k0_t2 : Fin k0_t2_loop.trips) (v300 : BitVec 32) (k0_hw14 : k0_chk14 k0_t2 v300), ∀ (k0_h1 : k0_cond1 k0_t2 = 1#1), ∀ a, (k0_off48 k0_t2 v300) a + S1x1x64x128.size a ≤ S2x8x64x131072.size a := fun k0_t2 v300 k0_hw14 k0_h1 => k0_hw14.2.1 k0_h1
theorem k0_off48_wordsi8 : ∀ (k0_t2 : Fin k0_t2_loop.trips) (v300 : BitVec 32) (k0_hw14 : k0_chk14 k0_t2 v300), ∀ (k0_h1 : k0_cond1 k0_t2 = 1#1), (Rect.unit (s := S2x8x64x131072) (k0_off48 k0_t2 v300) S1x1x64x128.size (k0_off48_inb k0_t2 v300 k0_hw14 k0_h1)).WholeWords (EltTy.packing .i8) := fun k0_t2 v300 k0_hw14 k0_h1 => k0_hw14.2.2 k0_h1 (k0_off48_inb k0_t2 v300 k0_hw14 k0_h1)

def k0_off49 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v318 : Index := Scalar.indexCast v166
  let c0_i32_93 : BitVec 32 := 0#32
  let c1_i32_95 : BitVec 32 := 1#32
  let arg17 : BitVec 32 := Scf.iv c0_i32_93 c1_i32_95 k0_t3
  let c8_i32_152 : BitVec 32 := 8#32
  let v316 : BitVec 32 := Scalar.muli arg17 c8_i32_152
  let c6_i32 : BitVec 32 := 6#32
  let v317 : BitVec 32 := Scalar.addi v316 c6_i32
  let v319 : Index := Scalar.indexCast v317
  ![v318.toNat, v319.toNat]
def k0_mult15 (v320 : BitVec 32) : BitVec 32 :=
  let c7_i32_153 : BitVec 32 := 7#32
  let v321 : BitVec 32 := Scalar.shrsi v320 c7_i32_153
  let c128_i32_154 : BitVec 32 := 128#32
  let v322 : BitVec 32 := Scalar.muli v321 c128_i32_154
  v322

def k0_off50 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off51 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_152 : BitVec 32 := 8#32
  let v316 : BitVec 32 := Scalar.muli arg17 c8_i32_152
  let c6_i32 : BitVec 32 := 6#32
  let v317 : BitVec 32 := Scalar.addi v316 c6_i32
  let c0_i32_155 : BitVec 32 := 0#32
  let c0_i32_156 : BitVec 32 := 0#32
  ![v167.toNat, v317.toNat, 0, 0]
def k0_off52 (k0_t2 : Fin k0_t2_loop.trips) (v320 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_157 : BitVec 32 := 0#32
  let c7_i32_153 : BitVec 32 := 7#32
  let v321 : BitVec 32 := Scalar.shrsi v320 c7_i32_153
  let c128_i32_154 : BitVec 32 := 128#32
  let v322 : BitVec 32 := Scalar.muli v321 c128_i32_154
  let v323 : BitVec 32 := v322
  ![v184.toNat, v194.toNat, 0, v323.toNat]

def k0_chk15 (k0_t2 : Fin k0_t2_loop.trips) (v320 : BitVec 32) : Prop :=
  (∀ (k0_h1 : k0_cond1 k0_t2 = 1#1), 128 ∣ (k0_mult15 v320).toNat) ∧
  (∀ (k0_h1 : k0_cond1 k0_t2 = 1#1), ∀ a, (k0_off52 k0_t2 v320) a + S1x1x64x128.size a ≤ S2x8x64x131072.size a) ∧
  (∀ (k0_h1 : k0_cond1 k0_t2 = 1#1), ∀ (hinb : ∀ a, (k0_off52 k0_t2 v320) a + S1x1x64x128.size a ≤ S2x8x64x131072.size a), (Rect.unit (s := S2x8x64x131072) (k0_off52 k0_t2 v320) S1x1x64x128.size hinb).WholeWords (EltTy.packing .i8))
theorem k0_mult15_dvd : ∀ (k0_t2 : Fin k0_t2_loop.trips) (v320 : BitVec 32) (k0_hw15 : k0_chk15 k0_t2 v320), ∀ (k0_h1 : k0_cond1 k0_t2 = 1#1), 128 ∣ (k0_mult15 v320).toNat := fun k0_t2 v320 k0_hw15 k0_h1 => k0_hw15.1 k0_h1
theorem k0_off52_inb : ∀ (k0_t2 : Fin k0_t2_loop.trips) (v320 : BitVec 32) (k0_hw15 : k0_chk15 k0_t2 v320), ∀ (k0_h1 : k0_cond1 k0_t2 = 1#1), ∀ a, (k0_off52 k0_t2 v320) a + S1x1x64x128.size a ≤ S2x8x64x131072.size a := fun k0_t2 v320 k0_hw15 k0_h1 => k0_hw15.2.1 k0_h1
theorem k0_off52_wordsi8 : ∀ (k0_t2 : Fin k0_t2_loop.trips) (v320 : BitVec 32) (k0_hw15 : k0_chk15 k0_t2 v320), ∀ (k0_h1 : k0_cond1 k0_t2 = 1#1), (Rect.unit (s := S2x8x64x131072) (k0_off52 k0_t2 v320) S1x1x64x128.size (k0_off52_inb k0_t2 v320 k0_hw15 k0_h1)).WholeWords (EltTy.packing .i8) := fun k0_t2 v320 k0_hw15 k0_h1 => k0_hw15.2.2 k0_h1 (k0_off52_inb k0_t2 v320 k0_hw15 k0_h1)

def k0_off53 (k0_t2 : Fin k0_t2_loop.trips) (k0_t3 : Fin k0_t3_loop.trips) : Fin 2 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let v338 : Index := Scalar.indexCast v166
  let c0_i32_93 : BitVec 32 := 0#32
  let c1_i32_95 : BitVec 32 := 1#32
  let arg17 : BitVec 32 := Scf.iv c0_i32_93 c1_i32_95 k0_t3
  let c8_i32_161 : BitVec 32 := 8#32
  let v336 : BitVec 32 := Scalar.muli arg17 c8_i32_161
  let c7_i32_162 : BitVec 32 := 7#32
  let v337 : BitVec 32 := Scalar.addi v336 c7_i32_162
  let v339 : Index := Scalar.indexCast v337
  ![v338.toNat, v339.toNat]
def k0_mult16 (v340 : BitVec 32) : BitVec 32 :=
  let c7_i32_163 : BitVec 32 := 7#32
  let v341 : BitVec 32 := Scalar.shrsi v340 c7_i32_163
  let c128_i32_164 : BitVec 32 := 128#32
  let v342 : BitVec 32 := Scalar.muli v341 c128_i32_164
  v342

def k0_off54 (k0_t2 : Fin k0_t2_loop.trips) : Fin 1 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  ![v167.toNat]
def k0_off55 (k0_t2 : Fin k0_t2_loop.trips) (k0_t3 : Fin k0_t3_loop.trips) : Fin 4 → Nat :=
  let c1_i32_79 : BitVec 32 := 1#32
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v167 : BitVec 32 := Scalar.subi c1_i32_79 v12
  let c0_i32_93 : BitVec 32 := 0#32
  let c1_i32_95 : BitVec 32 := 1#32
  let arg17 : BitVec 32 := Scf.iv c0_i32_93 c1_i32_95 k0_t3
  let c8_i32_161 : BitVec 32 := 8#32
  let v336 : BitVec 32 := Scalar.muli arg17 c8_i32_161
  let c7_i32_162 : BitVec 32 := 7#32
  let v337 : BitVec 32 := Scalar.addi v336 c7_i32_162
  let c0_i32_165 : BitVec 32 := 0#32
  let c0_i32_166 : BitVec 32 := 0#32
  ![v167.toNat, v337.toNat, 0, 0]
def k0_off56 (k0_t2 : Fin k0_t2_loop.trips) (v340 : BitVec 32) : Fin 4 → Nat :=
  let c0_i32_1 : BitVec 32 := 0#32
  let c1_i32_2 : BitVec 32 := 1#32
  let arg16 : BitVec 32 := Scf.iv c0_i32_1 c1_i32_2 k0_t2
  let c1_i32_78 : BitVec 32 := 1#32
  let v166 : BitVec 32 := Scalar.addi arg16 c1_i32_78
  let c0_i32_81 : BitVec 32 := 0#32
  let v169 : BitVec 1 := Scalar.cmpi .sgt v166 c0_i32_81
  let v170 : BitVec 32 := Scalar.extui v169
  let c0_i32_82 : BitVec 32 := 0#32
  let v171 : BitVec 1 := Scalar.cmpi .slt v166 c0_i32_82
  let v172 : BitVec 32 := Scalar.extui v171
  let v173 : BitVec 32 := Scalar.subi v170 v172
  let c8_i32_80 : BitVec 32 := 8#32
  let c0_i32_83 : BitVec 32 := 0#32
  let v174 : BitVec 1 := Scalar.cmpi .sgt c8_i32_80 c0_i32_83
  let v175 : BitVec 32 := Scalar.extui v174
  let c0_i32_84 : BitVec 32 := 0#32
  let v176 : BitVec 1 := Scalar.cmpi .slt c8_i32_80 c0_i32_84
  let v177 : BitVec 32 := Scalar.extui v176
  let v178 : BitVec 32 := Scalar.subi v175 v177
  let v179 : BitVec 1 := Scalar.cmpi .ne v173 v178
  let v180 : BitVec 32 := Scalar.remsi v166 c8_i32_80
  let c0_i32_85 : BitVec 32 := 0#32
  let v181 : BitVec 1 := Scalar.cmpi .ne v180 c0_i32_85
  let v182 : BitVec 1 := Scalar.andi v179 v181
  let v168 : BitVec 32 := Scalar.divsi v166 c8_i32_80
  let c1_i32_86 : BitVec 32 := 1#32
  let v183 : BitVec 32 := Scalar.subi v168 c1_i32_86
  let v184 : BitVec 32 := Scalar.select v182 v183 v168
  let c8_i32_87 : BitVec 32 := 8#32
  let c0_i32_88 : BitVec 32 := 0#32
  let v185 : BitVec 1 := Scalar.cmpi .eq c8_i32_87 c0_i32_88
  let c1_i32_89 : BitVec 32 := 1#32
  let v186 : BitVec 32 := Scalar.select v185 c1_i32_89 c8_i32_87
  let v187 : BitVec 32 := Scalar.remsi v166 v186
  let c0_i32_91 : BitVec 32 := 0#32
  let v189 : BitVec 1 := Scalar.cmpi .slt v187 c0_i32_91
  let c0_i32_92 : BitVec 32 := 0#32
  let v190 : BitVec 1 := Scalar.cmpi .slt v186 c0_i32_92
  let v191 : BitVec 1 := Scalar.xori v189 v190
  let c0_i32_90 : BitVec 32 := 0#32
  let v188 : BitVec 1 := Scalar.cmpi .ne v187 c0_i32_90
  let v192 : BitVec 1 := Scalar.andi v191 v188
  let v193 : BitVec 32 := Scalar.addi v187 v186
  let v194 : BitVec 32 := Scalar.select v192 v193 v187
  let c0_i32_167 : BitVec 32 := 0#32
  let c7_i32_163 : BitVec 32 := 7#32
  let v341 : BitVec 32 := Scalar.shrsi v340 c7_i32_163
  let c128_i32_164 : BitVec 32 := 128#32
  let v342 : BitVec 32 := Scalar.muli v341 c128_i32_164
  let v343 : BitVec 32 := v342
  ![v184.toNat, v194.toNat, 0, v343.toNat]

def k0_chk16 (k0_t2 : Fin k0_t2_loop.trips) (v340 : BitVec 32) : Prop :=
  (∀ (k0_h1 : k0_cond1 k0_t2 = 1#1), 128 ∣ (k0_mult16 v340).toNat) ∧
  (∀ (k0_h1 : k0_cond1 k0_t2 = 1#1), ∀ a, (k0_off56 k0_t2 v340) a + S1x1x64x128.size a ≤ S2x8x64x131072.size a) ∧
  (∀ (k0_h1 : k0_cond1 k0_t2 = 1#1), ∀ (hinb : ∀ a, (k0_off56 k0_t2 v340) a + S1x1x64x128.size a ≤ S2x8x64x131072.size a), (Rect.unit (s := S2x8x64x131072) (k0_off56 k0_t2 v340) S1x1x64x128.size hinb).WholeWords (EltTy.packing .i8))
theorem k0_mult16_dvd : ∀ (k0_t2 : Fin k0_t2_loop.trips) (v340 : BitVec 32) (k0_hw16 : k0_chk16 k0_t2 v340), ∀ (k0_h1 : k0_cond1 k0_t2 = 1#1), 128 ∣ (k0_mult16 v340).toNat := fun k0_t2 v340 k0_hw16 k0_h1 => k0_hw16.1 k0_h1
theorem k0_off56_inb : ∀ (k0_t2 : Fin k0_t2_loop.trips) (v340 : BitVec 32) (k0_hw16 : k0_chk16 k0_t2 v340), ∀ (k0_h1 : k0_cond1 k0_t2 = 1#1), ∀ a, (k0_off56 k0_t2 v340) a + S1x1x64x128.size a ≤ S2x8x64x131072.size a := fun k0_t2 v340 k0_hw16 k0_h1 => k0_hw16.2.1 k0_h1
theorem k0_off56_wordsi8 : ∀ (k0_t2 : Fin k0_t2_loop.trips) (v340 : BitVec 32) (k0_hw16 : k0_chk16 k0_t2 v340), ∀ (k0_h1 : k0_cond1 k0_t2 = 1#1), (Rect.unit (s := S2x8x64x131072) (k0_off56 k0_t2 v340) S1x1x64x128.size (k0_off56_inb k0_t2 v340 k0_hw16 k0_h1)).WholeWords (EltTy.packing .i8) := fun k0_t2 v340 k0_hw16 k0_h1 => k0_hw16.2.2 k0_h1 (k0_off56_inb k0_t2 v340 k0_hw16 k0_h1)

def k0_off57 (k0_t2 : Fin k0_t2_loop.trips) : Fin 1 → Nat :=
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  ![v12.toNat]
def k0_off58 (k0_t2 : Fin k0_t2_loop.trips) : Fin 4 → Nat :=
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let c0_i32_12 : BitVec 32 := 0#32
  let c0_i32_13 : BitVec 32 := 0#32
  let c0_i32_14 : BitVec 32 := 0#32
  ![v12.toNat, 0, 0, 0]
@[reducible] def k0_t4_loop : Scf.Loop 32 :=
  let c0_i32_37 : BitVec 32 := 0#32
  let c32_i32 : BitVec 32 := 32#32
  let v57 : BitVec 32 := Scalar.addi c0_i32_37 c32_i32
  let c1_i32_38 : BitVec 32 := 1#32
  ⟨c0_i32_37, v57, c1_i32_38⟩
def k0_off59 (k0_t2 : Fin k0_t2_loop.trips) (k0_t4 : Fin k0_t4_loop.trips) (c0_i32_78 : BitVec 32) : Fin 2 → Nat :=
  let c0_i32_1 : BitVec 32 := 0#32
  let c1_i32_2 : BitVec 32 := 1#32
  let arg16 : BitVec 32 := Scf.iv c0_i32_1 c1_i32_2 k0_t2
  let v168 : Index := Scalar.indexCast arg16
  let c0_i32_37 : BitVec 32 := 0#32
  let c1_i32_38 : BitVec 32 := 1#32
  let arg17 : BitVec 32 := Scf.iv c0_i32_37 c1_i32_38 k0_t4
  let c4_i32 : BitVec 32 := 4#32
  let v166 : BitVec 32 := Scalar.muli arg17 c4_i32
  let v167 : BitVec 32 := Scalar.addi v166 c0_i32_78
  let v169 : Index := Scalar.indexCast v167
  ![v168.toNat, v169.toNat]
def k0_off60 (k0_t2 : Fin k0_t2_loop.trips) (k0_t4 : Fin k0_t4_loop.trips) (c0_i32_78 : BitVec 32) : Fin 4 → Nat :=
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v175 : Index := Scalar.indexCast v12
  let c0_i32_37 : BitVec 32 := 0#32
  let c1_i32_38 : BitVec 32 := 1#32
  let arg17 : BitVec 32 := Scf.iv c0_i32_37 c1_i32_38 k0_t4
  let c4_i32 : BitVec 32 := 4#32
  let v166 : BitVec 32 := Scalar.muli arg17 c4_i32
  let v167 : BitVec 32 := Scalar.addi v166 c0_i32_78
  let v176 : Index := Scalar.indexCast v167
  let c0_81 : Index := 0#32
  let c0_82 : Index := 0#32
  ![v175.toNat, v176.toNat, 0, 0]
def k0_off61 (k0_t2 : Fin k0_t2_loop.trips) : Fin 4 → Nat :=
  let c0_i32_1 : BitVec 32 := 0#32
  let c1_i32_2 : BitVec 32 := 1#32
  let arg16 : BitVec 32 := Scf.iv c0_i32_1 c1_i32_2 k0_t2
  let c0_i32_24 : BitVec 32 := 0#32
  let v30 : BitVec 1 := Scalar.cmpi .sgt arg16 c0_i32_24
  let v31 : BitVec 32 := Scalar.extui v30
  let c0_i32_25 : BitVec 32 := 0#32
  let v32 : BitVec 1 := Scalar.cmpi .slt arg16 c0_i32_25
  let v33 : BitVec 32 := Scalar.extui v32
  let v34 : BitVec 32 := Scalar.subi v31 v33
  let c8_i32 : BitVec 32 := 8#32
  let c0_i32_26 : BitVec 32 := 0#32
  let v35 : BitVec 1 := Scalar.cmpi .sgt c8_i32 c0_i32_26
  let v36 : BitVec 32 := Scalar.extui v35
  let c0_i32_27 : BitVec 32 := 0#32
  let v37 : BitVec 1 := Scalar.cmpi .slt c8_i32 c0_i32_27
  let v38 : BitVec 32 := Scalar.extui v37
  let v39 : BitVec 32 := Scalar.subi v36 v38
  let v40 : BitVec 1 := Scalar.cmpi .ne v34 v39
  let v41 : BitVec 32 := Scalar.remsi arg16 c8_i32
  let c0_i32_28 : BitVec 32 := 0#32
  let v42 : BitVec 1 := Scalar.cmpi .ne v41 c0_i32_28
  let v43 : BitVec 1 := Scalar.andi v40 v42
  let v29 : BitVec 32 := Scalar.divsi arg16 c8_i32
  let c1_i32_29 : BitVec 32 := 1#32
  let v44 : BitVec 32 := Scalar.subi v29 c1_i32_29
  let v45 : BitVec 32 := Scalar.select v43 v44 v29
  let v60 : Index := Scalar.indexCast v45
  let c8_i32_30 : BitVec 32 := 8#32
  let c0_i32_31 : BitVec 32 := 0#32
  let v46 : BitVec 1 := Scalar.cmpi .eq c8_i32_30 c0_i32_31
  let c1_i32_32 : BitVec 32 := 1#32
  let v47 : BitVec 32 := Scalar.select v46 c1_i32_32 c8_i32_30
  let v48 : BitVec 32 := Scalar.remsi arg16 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let v61 : Index := Scalar.indexCast v55
  let c0 : Index := 0#32
  let c0_40 : Index := 0#32
  ![v60.toNat, v61.toNat, 0, 0]
@[reducible] def k0_t5_loop : Scf.Loop 32 :=
  let c32_i32_44 : BitVec 32 := 32#32
  let c16_i32_45 : BitVec 32 := 16#32
  let v72 : BitVec 32 := Scalar.addi c32_i32_44 c16_i32_45
  let c1_i32_46 : BitVec 32 := 1#32
  ⟨c32_i32_44, v72, c1_i32_46⟩
def k0_off62 (k0_t2 : Fin k0_t2_loop.trips) (k0_t5 : Fin k0_t5_loop.trips) (c0_i32_78 : BitVec 32) : Fin 2 → Nat :=
  let c0_i32_1 : BitVec 32 := 0#32
  let c1_i32_2 : BitVec 32 := 1#32
  let arg16 : BitVec 32 := Scf.iv c0_i32_1 c1_i32_2 k0_t2
  let v168 : Index := Scalar.indexCast arg16
  let c32_i32_44 : BitVec 32 := 32#32
  let c1_i32_46 : BitVec 32 := 1#32
  let arg17 : BitVec 32 := Scf.iv c32_i32_44 c1_i32_46 k0_t5
  let c4_i32 : BitVec 32 := 4#32
  let v166 : BitVec 32 := Scalar.muli arg17 c4_i32
  let v167 : BitVec 32 := Scalar.addi v166 c0_i32_78
  let v169 : Index := Scalar.indexCast v167
  ![v168.toNat, v169.toNat]
def k0_off63 (k0_t2 : Fin k0_t2_loop.trips) (k0_t5 : Fin k0_t5_loop.trips) (c0_i32_78 : BitVec 32) : Fin 4 → Nat :=
  let c0_i32_1 : BitVec 32 := 0#32
  let c1_i32_2 : BitVec 32 := 1#32
  let arg16 : BitVec 32 := Scf.iv c0_i32_1 c1_i32_2 k0_t2
  let c2_i32 : BitVec 32 := 2#32
  let c0_i32_4 : BitVec 32 := 0#32
  let v3 : BitVec 1 := Scalar.cmpi .eq c2_i32 c0_i32_4
  let c1_i32_5 : BitVec 32 := 1#32
  let v4 : BitVec 32 := Scalar.select v3 c1_i32_5 c2_i32
  let v5 : BitVec 32 := Scalar.remsi arg16 v4
  let c0_i32_7 : BitVec 32 := 0#32
  let v7 : BitVec 1 := Scalar.cmpi .slt v5 c0_i32_7
  let c0_i32_8 : BitVec 32 := 0#32
  let v8 : BitVec 1 := Scalar.cmpi .slt v4 c0_i32_8
  let v9 : BitVec 1 := Scalar.xori v7 v8
  let c0_i32_6 : BitVec 32 := 0#32
  let v6 : BitVec 1 := Scalar.cmpi .ne v5 c0_i32_6
  let v10 : BitVec 1 := Scalar.andi v9 v6
  let v11 : BitVec 32 := Scalar.addi v5 v4
  let v12 : BitVec 32 := Scalar.select v10 v11 v5
  let v175 : Index := Scalar.indexCast v12
  let c32_i32_44 : BitVec 32 := 32#32
  let c1_i32_46 : BitVec 32 := 1#32
  let arg17 : BitVec 32 := Scf.iv c32_i32_44 c1_i32_46 k0_t5
  let c4_i32 : BitVec 32 := 4#32
  let v166 : BitVec 32 := Scalar.muli arg17 c4_i32
  let v167 : BitVec 32 := Scalar.addi v166 c0_i32_78
  let v176 : Index := Scalar.indexCast v167
  let c0_80 : Index := 0#32
  let c0_81 : Index := 0#32
  ![v175.toNat, v176.toNat, 0, 0]
def k0_off64 (k0_t2 : Fin k0_t2_loop.trips) : Fin 4 → Nat :=
  let c0_i32_1 : BitVec 32 := 0#32
  let c1_i32_2 : BitVec 32 := 1#32
  let arg16 : BitVec 32 := Scf.iv c0_i32_1 c1_i32_2 k0_t2
  let c0_i32_24 : BitVec 32 := 0#32
  let v30 : BitVec 1 := Scalar.cmpi .sgt arg16 c0_i32_24
  let v31 : BitVec 32 := Scalar.extui v30
  let c0_i32_25 : BitVec 32 := 0#32
  let v32 : BitVec 1 := Scalar.cmpi .slt arg16 c0_i32_25
  let v33 : BitVec 32 := Scalar.extui v32
  let v34 : BitVec 32 := Scalar.subi v31 v33
  let c8_i32 : BitVec 32 := 8#32
  let c0_i32_26 : BitVec 32 := 0#32
  let v35 : BitVec 1 := Scalar.cmpi .sgt c8_i32 c0_i32_26
  let v36 : BitVec 32 := Scalar.extui v35
  let c0_i32_27 : BitVec 32 := 0#32
  let v37 : BitVec 1 := Scalar.cmpi .slt c8_i32 c0_i32_27
  let v38 : BitVec 32 := Scalar.extui v37
  let v39 : BitVec 32 := Scalar.subi v36 v38
  let v40 : BitVec 1 := Scalar.cmpi .ne v34 v39
  let v41 : BitVec 32 := Scalar.remsi arg16 c8_i32
  let c0_i32_28 : BitVec 32 := 0#32
  let v42 : BitVec 1 := Scalar.cmpi .ne v41 c0_i32_28
  let v43 : BitVec 1 := Scalar.andi v40 v42
  let v29 : BitVec 32 := Scalar.divsi arg16 c8_i32
  let c1_i32_29 : BitVec 32 := 1#32
  let v44 : BitVec 32 := Scalar.subi v29 c1_i32_29
  let v45 : BitVec 32 := Scalar.select v43 v44 v29
  let v76 : Index := Scalar.indexCast v45
  let c8_i32_30 : BitVec 32 := 8#32
  let c0_i32_31 : BitVec 32 := 0#32
  let v46 : BitVec 1 := Scalar.cmpi .eq c8_i32_30 c0_i32_31
  let c1_i32_32 : BitVec 32 := 1#32
  let v47 : BitVec 32 := Scalar.select v46 c1_i32_32 c8_i32_30
  let v48 : BitVec 32 := Scalar.remsi arg16 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let v77 : Index := Scalar.indexCast v55
  let c0_48 : Index := 0#32
  let c128 : Index := 128#32
  ![v76.toNat, v77.toNat, 0, 128]
def k0_off65 (k0_t2 : Fin k0_t2_loop.trips) : Fin 4 → Nat :=
  let c0_i32_1 : BitVec 32 := 0#32
  let c1_i32_2 : BitVec 32 := 1#32
  let arg16 : BitVec 32 := Scf.iv c0_i32_1 c1_i32_2 k0_t2
  let c0_i32_24 : BitVec 32 := 0#32
  let v30 : BitVec 1 := Scalar.cmpi .sgt arg16 c0_i32_24
  let v31 : BitVec 32 := Scalar.extui v30
  let c0_i32_25 : BitVec 32 := 0#32
  let v32 : BitVec 1 := Scalar.cmpi .slt arg16 c0_i32_25
  let v33 : BitVec 32 := Scalar.extui v32
  let v34 : BitVec 32 := Scalar.subi v31 v33
  let c8_i32 : BitVec 32 := 8#32
  let c0_i32_26 : BitVec 32 := 0#32
  let v35 : BitVec 1 := Scalar.cmpi .sgt c8_i32 c0_i32_26
  let v36 : BitVec 32 := Scalar.extui v35
  let c0_i32_27 : BitVec 32 := 0#32
  let v37 : BitVec 1 := Scalar.cmpi .slt c8_i32 c0_i32_27
  let v38 : BitVec 32 := Scalar.extui v37
  let v39 : BitVec 32 := Scalar.subi v36 v38
  let v40 : BitVec 1 := Scalar.cmpi .ne v34 v39
  let v41 : BitVec 32 := Scalar.remsi arg16 c8_i32
  let c0_i32_28 : BitVec 32 := 0#32
  let v42 : BitVec 1 := Scalar.cmpi .ne v41 c0_i32_28
  let v43 : BitVec 1 := Scalar.andi v40 v42
  let v29 : BitVec 32 := Scalar.divsi arg16 c8_i32
  let c1_i32_29 : BitVec 32 := 1#32
  let v44 : BitVec 32 := Scalar.subi v29 c1_i32_29
  let v45 : BitVec 32 := Scalar.select v43 v44 v29
  let v88 : Index := Scalar.indexCast v45
  let c8_i32_30 : BitVec 32 := 8#32
  let c0_i32_31 : BitVec 32 := 0#32
  let v46 : BitVec 1 := Scalar.cmpi .eq c8_i32_30 c0_i32_31
  let c1_i32_32 : BitVec 32 := 1#32
  let v47 : BitVec 32 := Scalar.select v46 c1_i32_32 c8_i32_30
  let v48 : BitVec 32 := Scalar.remsi arg16 v47
  let c0_i32_34 : BitVec 32 := 0#32
  let v50 : BitVec 1 := Scalar.cmpi .slt v48 c0_i32_34
  let c0_i32_35 : BitVec 32 := 0#32
  let v51 : BitVec 1 := Scalar.cmpi .slt v47 c0_i32_35
  let v52 : BitVec 1 := Scalar.xori v50 v51
  let c0_i32_33 : BitVec 32 := 0#32
  let v49 : BitVec 1 := Scalar.cmpi .ne v48 c0_i32_33
  let v53 : BitVec 1 := Scalar.andi v52 v49
  let v54 : BitVec 32 := Scalar.addi v48 v47
  let v55 : BitVec 32 := Scalar.select v53 v54 v48
  let v89 : Index := Scalar.indexCast v55
  let c0_51 : Index := 0#32
  let c0_52 : Index := 0#32
  ![v88.toNat, v89.toNat, 0, 0]
def k0_off66 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let v98 : Index := Scalar.indexCast arg16
  let c0_55 : Index := 0#32
  let c0_56 : Index := 0#32
  ![v98.toNat, 0, 0]
def k0_off67 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let v102 : Index := Scalar.indexCast arg16
  let c0_57 : Index := 0#32
  let c0_58 : Index := 0#32
  ![v102.toNat, 0, 0]
def k0_off68 (k0_t2 : Fin k0_t2_loop.trips) : Fin 3 → Nat :=
  let c0_i32_1 : BitVec 32 := 0#32
  let c1_i32_2 : BitVec 32 := 1#32
  let arg16 : BitVec 32 := Scf.iv c0_i32_1 c1_i32_2 k0_t2
  let v109 : Index := Scalar.indexCast arg16
  let c0_60 : Index := 0#32
  let c0_61 : Index := 0#32
  ![v109.toNat, 0, 0]
abbrev stage0_0 : Fin 1 → Memref sig .tc .smem S16x192 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x4x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x1x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x1x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x1x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S16x1x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S16x4x64 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8x64x192 .i8 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2x8x64x192 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S16x1x192 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== ReferenceIdeal.lean ====
abbrev S2x1x32x64 : Shape := ⟨4, ![2, 1, 32, 64]⟩
abbrev S2x1x8x64 : Shape := ⟨4, ![2, 1, 8, 64]⟩
abbrev S2x131072x8x64 : Shape := ⟨4, ![2, 131072, 8, 64]⟩
abbrev S2x131072x8 : Shape := ⟨3, ![2, 131072, 8]⟩
abbrev S2x8x131072 : Shape := ⟨3, ![2, 8, 131072]⟩
abbrev S_ : Shape := ⟨0, ![]⟩
abbrev S2x8x192 : Shape := ⟨3, ![2, 8, 192]⟩
abbrev S2x192x8 : Shape := ⟨3, ![2, 192, 8]⟩
abbrev S2x192x8x1 : Shape := ⟨4, ![2, 192, 8, 1]⟩
abbrev S1 : Shape := ⟨1, ![1]⟩
abbrev S1x1x1x1 : Shape := ⟨4, ![1, 1, 1, 1]⟩
abbrev S2x192x8x64 : Shape := ⟨4, ![2, 192, 8, 64]⟩
abbrev S2x8x192x1 : Shape := ⟨4, ![2, 8, 192, 1]⟩
abbrev S2x1x8x4x64 : Shape := ⟨5, ![2, 1, 8, 4, 64]⟩
abbrev S2x8x1x1x192 : Shape := ⟨5, ![2, 8, 1, 1, 192]⟩
abbrev S2x8x192x1x4 : Shape := ⟨5, ![2, 8, 192, 1, 4]⟩
abbrev S2x8x4x1x192 : Shape := ⟨5, ![2, 8, 4, 1, 192]⟩
abbrev S2x8x1x1x4 : Shape := ⟨5, ![2, 8, 1, 1, 4]⟩
abbrev S2x8x4x1x1 : Shape := ⟨5, ![2, 8, 4, 1, 1]⟩
abbrev S1x1 : Shape := ⟨2, ![1, 1]⟩
abbrev S2x8x4x1x193 : Shape := ⟨5, ![2, 8, 4, 1, 193]⟩
abbrev S2x8x4x1 : Shape := ⟨4, ![2, 8, 4, 1]⟩
abbrev S2x8x64x4x1 : Shape := ⟨5, ![2, 8, 64, 4, 1]⟩
abbrev S2x1x2048 : Shape := ⟨3, ![2, 1, 2048]⟩

abbrev nBuf : Space → Nat
  | .hbm => 188
  | .vmem => 0
  | .smem => 0
  | _ => 0

abbrev hbmTy0_0 (i : Nat) : BufTy := match i % 128 with
  | 0 => ⟨S2x1x32x64, .bf16⟩
  | 1 => ⟨S2x1x8x64, .bf16⟩
  | 2 => ⟨S2x1x8x64, .bf16⟩
  | 3 => ⟨S2x131072x8x64, .i8⟩
  | 4 => ⟨S2x131072x8, .f32⟩
  | 5 => ⟨S2x131072x8x64, .i8⟩
  | 6 => ⟨S2x131072x8, .f32⟩
  | 7 => ⟨S2x8x131072, .f32⟩
  | 8 => ⟨S_, .f32⟩
  | 9 => ⟨S2x8x131072, .f32⟩
  | 10 => ⟨S2x8x192, .f32⟩
  | 11 => ⟨S2x8x192, .i32⟩
  | 12 => ⟨S2x8x192, .i32⟩
  | 13 => ⟨S2x192x8, .i32⟩
  | 14 => ⟨S2x192x8x1, .i32⟩
  | 15 => ⟨S_, .i32⟩
  | 16 => ⟨S2x192x8x1, .i32⟩
  | 17 => ⟨S2x192x8x1, .i1⟩
  | 18 => ⟨S_, .i32⟩
  | 19 => ⟨S2x192x8x1, .i32⟩
  | 20 => ⟨S2x192x8x1, .i32⟩
  | 21 => ⟨S2x192x8x1, .i32⟩
  | 22 => ⟨S1, .i32⟩
  | 23 => ⟨S_, .i32⟩
  | 24 => ⟨S2x192x8x1, .i32⟩
  | 25 => ⟨S2x192x8x1, .i1⟩
  | 26 => ⟨S1x1x1x1, .i32⟩
  | 27 => ⟨S2x192x8x1, .i32⟩
  | 28 => ⟨S2x192x8x1, .i1⟩
  | 29 => ⟨S2x192x8x1, .i1⟩
  | 30 => ⟨S_, .i1⟩
  | 31 => ⟨S2x192x8, .i1⟩
  | 32 => ⟨S2x192x8x64, .i8⟩
  | 33 => ⟨S2x192x8x64, .i1⟩
  | 34 => ⟨S_, .i8⟩
  | 35 => ⟨S2x192x8x64, .i8⟩
  | 36 => ⟨S2x192x8x64, .i8⟩
  | 37 => ⟨S2x192x8x1, .i32⟩
  | 38 => ⟨S_, .i32⟩
  | 39 => ⟨S2x192x8x1, .i32⟩
  | 40 => ⟨S2x192x8x1, .i1⟩
  | 41 => ⟨S_, .i32⟩
  | 42 => ⟨S2x192x8x1, .i32⟩
  | 43 => ⟨S2x192x8x1, .i32⟩
  | 44 => ⟨S2x192x8x1, .i32⟩
  | 45 => ⟨S1, .i32⟩
  | 46 => ⟨S_, .i32⟩
  | 47 => ⟨S2x192x8x1, .i32⟩
  | 48 => ⟨S2x192x8x1, .i1⟩
  | 49 => ⟨S1x1x1x1, .i32⟩
  | 50 => ⟨S2x192x8x1, .i32⟩
  | 51 => ⟨S2x192x8x1, .i1⟩
  | 52 => ⟨S2x192x8x1, .i1⟩
  | 53 => ⟨S_, .i1⟩
  | 54 => ⟨S2x192x8, .i1⟩
  | 55 => ⟨S2x192x8x64, .i8⟩
  | 56 => ⟨S2x192x8x64, .i1⟩
  | 57 => ⟨S_, .i8⟩
  | 58 => ⟨S2x192x8x64, .i8⟩
  | 59 => ⟨S2x192x8x64, .i8⟩
  | 60 => ⟨S_, .i32⟩
  | 61 => ⟨S2x192x8, .i32⟩
  | 62 => ⟨S2x192x8, .i1⟩
  | 63 => ⟨S_, .i32⟩
  | 64 => ⟨S2x192x8, .i32⟩
  | 65 => ⟨S2x192x8, .i32⟩
  | 66 => ⟨S2x192x8, .i32⟩
  | 67 => ⟨S2x192x8x1, .i32⟩
  | 68 => ⟨S1, .i32⟩
  | 69 => ⟨S_, .i32⟩
  | 70 => ⟨S2x192x8x1, .i32⟩
  | 71 => ⟨S2x192x8x1, .i1⟩
  | 72 => ⟨S1x1x1x1, .i32⟩
  | 73 => ⟨S2x192x8x1, .i32⟩
  | 74 => ⟨S2x192x8x1, .i1⟩
  | 75 => ⟨S2x192x8x1, .i1⟩
  | 76 => ⟨S_, .i1⟩
  | 77 => ⟨S2x192x8, .i1⟩
  | 78 => ⟨S2x192x8, .f32⟩
  | 79 => ⟨S_, .f32⟩
  | 80 => ⟨S2x192x8, .f32⟩
  | 81 => ⟨S2x192x8, .f32⟩
  | 82 => ⟨S_, .i32⟩
  | 83 => ⟨S2x192x8, .i32⟩
  | 84 => ⟨S2x192x8, .i1⟩
  | 85 => ⟨S_, .i32⟩
  | 86 => ⟨S2x192x8, .i32⟩
  | 87 => ⟨S2x192x8, .i32⟩
  | 88 => ⟨S2x192x8, .i32⟩
  | 89 => ⟨S2x192x8x1, .i32⟩
  | 90 => ⟨S1, .i32⟩
  | 91 => ⟨S_, .i32⟩
  | 92 => ⟨S2x192x8x1, .i32⟩
  | 93 => ⟨S2x192x8x1, .i1⟩
  | 94 => ⟨S1x1x1x1, .i32⟩
  | 95 => ⟨S2x192x8x1, .i32⟩
  | 96 => ⟨S2x192x8x1, .i1⟩
  | 97 => ⟨S2x192x8x1, .i1⟩
  | 98 => ⟨S_, .i1⟩
  | 99 => ⟨S2x192x8, .i1⟩
  | 100 => ⟨S2x192x8, .f32⟩
  | 101 => ⟨S_, .f32⟩
  | 102 => ⟨S2x192x8, .f32⟩
  | 103 => ⟨S2x192x8, .f32⟩
  | 104 => ⟨S_, .i32⟩
  | 105 => ⟨S2x8x192, .i32⟩
  | 106 => ⟨S2x8x192, .i1⟩
  | 107 => ⟨S_, .i32⟩
  | 108 => ⟨S2x8x192, .i32⟩
  | 109 => ⟨S2x8x192, .i32⟩
  | 110 => ⟨S2x8x192, .i32⟩
  | 111 => ⟨S2x8x192x1, .i32⟩
  | 112 => ⟨S1, .i32⟩
  | 113 => ⟨S_, .i32⟩
  | 114 => ⟨S2x8x192x1, .i32⟩
  | 115 => ⟨S2x8x192x1, .i1⟩
  | 116 => ⟨S1x1x1x1, .i32⟩
  | 117 => ⟨S2x8x192x1, .i32⟩
  | 118 => ⟨S2x8x192x1, .i1⟩
  | 119 => ⟨S2x8x192x1, .i1⟩
  | 120 => ⟨S_, .i1⟩
  | 121 => ⟨S2x8x192, .i1⟩
  | 122 => ⟨S2x8x192, .f32⟩
  | 123 => ⟨S_, .f32⟩
  | 124 => ⟨S2x8x192, .f32⟩
  | 125 => ⟨S2x8x192, .f32⟩
  | 126 => ⟨S2x1x8x4x64, .bf16⟩
  | 127 => ⟨S2x8x192, .f32⟩
  | _ => ⟨S2x1x32x64, .bf16⟩

abbrev hbmTy0_1 (i : Nat) : BufTy := match i % 128 with
  | 0 => ⟨S2x8x1x1x192, .f32⟩
  | 1 => ⟨S2x8x192, .f32⟩
  | 2 => ⟨S2x8x1x1x192, .f32⟩
  | 3 => ⟨S2x192x8x64, .i32⟩
  | 4 => ⟨S2x192x8x64, .bf16⟩
  | 5 => ⟨S2x8x192x1x4, .f32⟩
  | 6 => ⟨S2x8x4x1x192, .f32⟩
  | 7 => ⟨S_, .f32⟩
  | 8 => ⟨S2x8x1x1x192, .f32⟩
  | 9 => ⟨S2x8x1x1x192, .f32⟩
  | 10 => ⟨S2x8x4x1x192, .f32⟩
  | 11 => ⟨S2x8x4x1x192, .f32⟩
  | 12 => ⟨S2x8x1x1x4, .f32⟩
  | 13 => ⟨S2x8x4x1x1, .f32⟩
  | 14 => ⟨S_, .f32⟩
  | 15 => ⟨S2x8x4x1x1, .f32⟩
  | 16 => ⟨S2x8x4x1x1, .f32⟩
  | 17 => ⟨S1, .i32⟩
  | 18 => ⟨S1x1, .i32⟩
  | 19 => ⟨S1, .i32⟩
  | 20 => ⟨S1x1, .i32⟩
  | 21 => ⟨S1x1, .i1⟩
  | 22 => ⟨S_, .f32⟩
  | 23 => ⟨S_, .f32⟩
  | 24 => ⟨S2x8x4x1x1, .i1⟩
  | 25 => ⟨S2x8x4x1x1, .f32⟩
  | 26 => ⟨S2x8x4x1x1, .f32⟩
  | 27 => ⟨S2x8x4x1x193, .f32⟩
  | 28 => ⟨S_, .f32⟩
  | 29 => ⟨S2x8x4x1, .f32⟩
  | 30 => ⟨S_, .f32⟩
  | 31 => ⟨S2x8x4x1, .f32⟩
  | 32 => ⟨S2x8x4x1, .f32⟩
  | 33 => ⟨S2x8x4x1x1, .f32⟩
  | 34 => ⟨S2x8x4x1x193, .f32⟩
  | 35 => ⟨S2x8x4x1x193, .f32⟩
  | 36 => ⟨S2x8x4x1x193, .f32⟩
  | 37 => ⟨S_, .f32⟩
  | 38 => ⟨S2x8x4x1, .f32⟩
  | 39 => ⟨S2x8x4x1x1, .f32⟩
  | 40 => ⟨S2x8x4x1x193, .f32⟩
  | 41 => ⟨S2x8x4x1x193, .f32⟩
  | 42 => ⟨S2x8x4x1x192, .f32⟩
  | 43 => ⟨S2x8x4x1x1, .f32⟩
  | 44 => ⟨S2x8x4x1x192, .f32⟩
  | 45 => ⟨S2x8x4x1x192, .f32⟩
  | 46 => ⟨S2x8x4x1x192, .bf16⟩
  | 47 => ⟨S2x192x8x64, .i32⟩
  | 48 => ⟨S2x192x8x64, .bf16⟩
  | 49 => ⟨S2x8x64x4x1, .f32⟩
  | 50 => ⟨S2x1x8x4x64, .f32⟩
  | 51 => ⟨S2x8x4x1x1, .bf16⟩
  | 52 => ⟨S2x8x64x4x1, .f32⟩
  | 53 => ⟨S2x1x8x4x64, .f32⟩
  | 54 => ⟨S2x1x8x4x64, .f32⟩
  | 55 => ⟨S2x1x2048, .f32⟩
  | 56 => ⟨S2x1x2048, .bf16⟩
  | 57 => ⟨S_, .f32⟩
  | 58 => ⟨S2x8x192, .f32⟩
  | 59 => ⟨S2x8x192, .f32⟩
  | _ => ⟨S2x1x32x64, .bf16⟩

abbrev hbmTy (i : Nat) : BufTy := match i / 128 with
  | 0 => hbmTy0_0 i
  | 1 => hbmTy0_1 i
  | _ => ⟨S2x1x32x64, .bf16⟩

abbrev bufTy : (tb : Table) → Fin (tcTables nBuf tb) → BufTy
  | .hbm, ⟨i, _⟩ => hbmTy i
  | _, _ => ⟨S2x1x32x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_values : Ref sig .tc := ⟨.hbm, 10, rfl⟩
abbrev main_indices : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call1_c : Ref sig .tc := ⟨.hbm, 15, rfl⟩
abbrev main_call1_v0 : Ref sig .tc := ⟨.hbm, 16, rfl⟩
abbrev main_call1_v1 : Ref sig .tc := ⟨.hbm, 17, rfl⟩
abbrev main_call1_c_0 : Ref sig .tc := ⟨.hbm, 18, rfl⟩
abbrev main_call1_v2 : Ref sig .tc := ⟨.hbm, 19, rfl⟩
abbrev main_call1_v3 : Ref sig .tc := ⟨.hbm, 20, rfl⟩
abbrev main_call1_v4 : Ref sig .tc := ⟨.hbm, 21, rfl⟩
abbrev main_call1_c_1 : Ref sig .tc := ⟨.hbm, 22, rfl⟩
abbrev main_call1_c_2 : Ref sig .tc := ⟨.hbm, 23, rfl⟩
abbrev main_call1_v5 : Ref sig .tc := ⟨.hbm, 24, rfl⟩
abbrev main_call1_v6 : Ref sig .tc := ⟨.hbm, 25, rfl⟩
abbrev main_call1_v7 : Ref sig .tc := ⟨.hbm, 26, rfl⟩
abbrev main_call1_v8 : Ref sig .tc := ⟨.hbm, 27, rfl⟩
abbrev main_call1_v9 : Ref sig .tc := ⟨.hbm, 28, rfl⟩
abbrev main_call1_v10 : Ref sig .tc := ⟨.hbm, 29, rfl⟩
abbrev main_call1_c_3 : Ref sig .tc := ⟨.hbm, 30, rfl⟩
abbrev main_call1_v11 : Ref sig .tc := ⟨.hbm, 31, rfl⟩
abbrev main_call1_v12 : Ref sig .tc := ⟨.hbm, 32, rfl⟩
abbrev main_call1_v13 : Ref sig .tc := ⟨.hbm, 33, rfl⟩
abbrev main_call1_c_4 : Ref sig .tc := ⟨.hbm, 34, rfl⟩
abbrev main_call1_v14 : Ref sig .tc := ⟨.hbm, 35, rfl⟩
abbrev main_v4 : Ref sig .tc := ⟨.hbm, 36, rfl⟩
abbrev main_v5 : Ref sig .tc := ⟨.hbm, 37, rfl⟩
abbrev main_call2_c : Ref sig .tc := ⟨.hbm, 38, rfl⟩
abbrev main_call2_v0 : Ref sig .tc := ⟨.hbm, 39, rfl⟩
abbrev main_call2_v1 : Ref sig .tc := ⟨.hbm, 40, rfl⟩
abbrev main_call2_c_0 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_call2_c_1 : Ref sig .tc := ⟨.hbm, 45, rfl⟩
abbrev main_call2_c_2 : Ref sig .tc := ⟨.hbm, 46, rfl⟩
abbrev main_call2_v5 : Ref sig .tc := ⟨.hbm, 47, rfl⟩
abbrev main_call2_v6 : Ref sig .tc := ⟨.hbm, 48, rfl⟩
abbrev main_call2_v7 : Ref sig .tc := ⟨.hbm, 49, rfl⟩
abbrev main_call2_v8 : Ref sig .tc := ⟨.hbm, 50, rfl⟩
abbrev main_call2_v9 : Ref sig .tc := ⟨.hbm, 51, rfl⟩
abbrev main_call2_v10 : Ref sig .tc := ⟨.hbm, 52, rfl⟩
abbrev main_call2_c_3 : Ref sig .tc := ⟨.hbm, 53, rfl⟩
abbrev main_call2_v11 : Ref sig .tc := ⟨.hbm, 54, rfl⟩
abbrev main_call2_v12 : Ref sig .tc := ⟨.hbm, 55, rfl⟩
abbrev main_call2_v13 : Ref sig .tc := ⟨.hbm, 56, rfl⟩
abbrev main_call2_c_4 : Ref sig .tc := ⟨.hbm, 57, rfl⟩
abbrev main_call2_v14 : Ref sig .tc := ⟨.hbm, 58, rfl⟩
abbrev main_v6 : Ref sig .tc := ⟨.hbm, 59, rfl⟩
abbrev main_call3_c : Ref sig .tc := ⟨.hbm, 60, rfl⟩
abbrev main_call3_v0 : Ref sig .tc := ⟨.hbm, 61, rfl⟩
abbrev main_call3_v1 : Ref sig .tc := ⟨.hbm, 62, rfl⟩
abbrev main_call3_c_0 : Ref sig .tc := ⟨.hbm, 63, rfl⟩
abbrev main_call3_v2 : Ref sig .tc := ⟨.hbm, 64, rfl⟩
abbrev main_call3_v3 : Ref sig .tc := ⟨.hbm, 65, rfl⟩
abbrev main_call3_v4 : Ref sig .tc := ⟨.hbm, 66, rfl⟩
abbrev main_call3_v5 : Ref sig .tc := ⟨.hbm, 67, rfl⟩
abbrev main_call3_c_1 : Ref sig .tc := ⟨.hbm, 68, rfl⟩
abbrev main_call3_c_2 : Ref sig .tc := ⟨.hbm, 69, rfl⟩
abbrev main_call3_v6 : Ref sig .tc := ⟨.hbm, 70, rfl⟩
abbrev main_call3_v7 : Ref sig .tc := ⟨.hbm, 71, rfl⟩
abbrev main_call3_v8 : Ref sig .tc := ⟨.hbm, 72, rfl⟩
abbrev main_call3_v9 : Ref sig .tc := ⟨.hbm, 73, rfl⟩
abbrev main_call3_v10 : Ref sig .tc := ⟨.hbm, 74, rfl⟩
abbrev main_call3_v11 : Ref sig .tc := ⟨.hbm, 75, rfl⟩
abbrev main_call3_c_3 : Ref sig .tc := ⟨.hbm, 76, rfl⟩
abbrev main_call3_v12 : Ref sig .tc := ⟨.hbm, 77, rfl⟩
abbrev main_call3_v13 : Ref sig .tc := ⟨.hbm, 78, rfl⟩
abbrev main_call3_cst : Ref sig .tc := ⟨.hbm, 79, rfl⟩
abbrev main_call3_v14 : Ref sig .tc := ⟨.hbm, 80, rfl⟩
abbrev main_v7 : Ref sig .tc := ⟨.hbm, 81, rfl⟩
abbrev main_call4_c : Ref sig .tc := ⟨.hbm, 82, rfl⟩
abbrev main_call4_v0 : Ref sig .tc := ⟨.hbm, 83, rfl⟩
abbrev main_call4_v1 : Ref sig .tc := ⟨.hbm, 84, rfl⟩
abbrev main_call4_c_0 : Ref sig .tc := ⟨.hbm, 85, rfl⟩
abbrev main_call4_v2 : Ref sig .tc := ⟨.hbm, 86, rfl⟩
abbrev main_call4_v3 : Ref sig .tc := ⟨.hbm, 87, rfl⟩
abbrev main_call4_v4 : Ref sig .tc := ⟨.hbm, 88, rfl⟩
abbrev main_call4_v5 : Ref sig .tc := ⟨.hbm, 89, rfl⟩
abbrev main_call4_c_1 : Ref sig .tc := ⟨.hbm, 90, rfl⟩
abbrev main_call4_c_2 : Ref sig .tc := ⟨.hbm, 91, rfl⟩
abbrev main_call4_v6 : Ref sig .tc := ⟨.hbm, 92, rfl⟩
abbrev main_call4_v7 : Ref sig .tc := ⟨.hbm, 93, rfl⟩
abbrev main_call4_v8 : Ref sig .tc := ⟨.hbm, 94, rfl⟩
abbrev main_call4_v9 : Ref sig .tc := ⟨.hbm, 95, rfl⟩
abbrev main_call4_v10 : Ref sig .tc := ⟨.hbm, 96, rfl⟩
abbrev main_call4_v11 : Ref sig .tc := ⟨.hbm, 97, rfl⟩
abbrev main_call4_c_3 : Ref sig .tc := ⟨.hbm, 98, rfl⟩
abbrev main_call4_v12 : Ref sig .tc := ⟨.hbm, 99, rfl⟩
abbrev main_call4_v13 : Ref sig .tc := ⟨.hbm, 100, rfl⟩
abbrev main_call4_cst : Ref sig .tc := ⟨.hbm, 101, rfl⟩
abbrev main_call4_v14 : Ref sig .tc := ⟨.hbm, 102, rfl⟩
abbrev main_v8 : Ref sig .tc := ⟨.hbm, 103, rfl⟩
abbrev main_call5_c : Ref sig .tc := ⟨.hbm, 104, rfl⟩
abbrev main_call5_v0 : Ref sig .tc := ⟨.hbm, 105, rfl⟩
abbrev main_call5_v1 : Ref sig .tc := ⟨.hbm, 106, rfl⟩
abbrev main_call5_c_0 : Ref sig .tc := ⟨.hbm, 107, rfl⟩
abbrev main_call5_v2 : Ref sig .tc := ⟨.hbm, 108, rfl⟩
abbrev main_call5_v3 : Ref sig .tc := ⟨.hbm, 109, rfl⟩
abbrev main_call5_v4 : Ref sig .tc := ⟨.hbm, 110, rfl⟩
abbrev main_call5_v5 : Ref sig .tc := ⟨.hbm, 111, rfl⟩
abbrev main_call5_c_1 : Ref sig .tc := ⟨.hbm, 112, rfl⟩
abbrev main_call5_c_2 : Ref sig .tc := ⟨.hbm, 113, rfl⟩
abbrev main_call5_v6 : Ref sig .tc := ⟨.hbm, 114, rfl⟩
abbrev main_call5_v7 : Ref sig .tc := ⟨.hbm, 115, rfl⟩
abbrev main_call5_v8 : Ref sig .tc := ⟨.hbm, 116, rfl⟩
abbrev main_call5_v9 : Ref sig .tc := ⟨.hbm, 117, rfl⟩
abbrev main_call5_v10 : Ref sig .tc := ⟨.hbm, 118, rfl⟩
abbrev main_call5_v11 : Ref sig .tc := ⟨.hbm, 119, rfl⟩
abbrev main_call5_c_3 : Ref sig .tc := ⟨.hbm, 120, rfl⟩
abbrev main_call5_v12 : Ref sig .tc := ⟨.hbm, 121, rfl⟩
abbrev main_call5_v13 : Ref sig .tc := ⟨.hbm, 122, rfl⟩
abbrev main_call5_cst : Ref sig .tc := ⟨.hbm, 123, rfl⟩
abbrev main_call5_v14 : Ref sig .tc := ⟨.hbm, 124, rfl⟩
abbrev main_v9 : Ref sig .tc := ⟨.hbm, 125, rfl⟩
abbrev main_v10 : Ref sig .tc := ⟨.hbm, 126, rfl⟩
abbrev main_v11 : Ref sig .tc := ⟨.hbm, 127, rfl⟩
abbrev main_v12 : Ref sig .tc := ⟨.hbm, 128, rfl⟩
abbrev main_v13 : Ref sig .tc := ⟨.hbm, 129, rfl⟩
abbrev main_v14 : Ref sig .tc := ⟨.hbm, 130, rfl⟩
abbrev main_v15 : Ref sig .tc := ⟨.hbm, 131, rfl⟩
abbrev main_v16 : Ref sig .tc := ⟨.hbm, 132, rfl⟩
abbrev main_v17 : Ref sig .tc := ⟨.hbm, 133, rfl⟩
abbrev main_v18 : Ref sig .tc := ⟨.hbm, 134, rfl⟩
abbrev main_cst_0 : Ref sig .tc := ⟨.hbm, 135, rfl⟩
abbrev main_v19 : Ref sig .tc := ⟨.hbm, 136, rfl⟩
abbrev main_v20 : Ref sig .tc := ⟨.hbm, 137, rfl⟩
abbrev main_v21 : Ref sig .tc := ⟨.hbm, 138, rfl⟩
abbrev main_v22 : Ref sig .tc := ⟨.hbm, 139, rfl⟩
abbrev main_v23 : Ref sig .tc := ⟨.hbm, 140, rfl⟩
abbrev main_v24 : Ref sig .tc := ⟨.hbm, 141, rfl⟩
abbrev main_cst_1 : Ref sig .tc := ⟨.hbm, 142, rfl⟩
abbrev main_v25 : Ref sig .tc := ⟨.hbm, 143, rfl⟩
abbrev main_v26 : Ref sig .tc := ⟨.hbm, 144, rfl⟩
abbrev main_v27 : Ref sig .tc := ⟨.hbm, 145, rfl⟩
abbrev main_v28 : Ref sig .tc := ⟨.hbm, 146, rfl⟩
abbrev main_v29 : Ref sig .tc := ⟨.hbm, 147, rfl⟩
abbrev main_v30 : Ref sig .tc := ⟨.hbm, 148, rfl⟩
abbrev main_v31 : Ref sig .tc := ⟨.hbm, 149, rfl⟩
abbrev main_cst_2 : Ref sig .tc := ⟨.hbm, 150, rfl⟩
abbrev main_call6_v0 : Ref sig .tc := ⟨.hbm, 151, rfl⟩
abbrev main_call6_v1 : Ref sig .tc := ⟨.hbm, 152, rfl⟩
abbrev main_call6_v2 : Ref sig .tc := ⟨.hbm, 153, rfl⟩
abbrev main_v32 : Ref sig .tc := ⟨.hbm, 154, rfl⟩
abbrev main_v33 : Ref sig .tc := ⟨.hbm, 155, rfl⟩
abbrev main_cst_3 : Ref sig .tc := ⟨.hbm, 156, rfl⟩
abbrev main_v34 : Ref sig .tc := ⟨.hbm, 157, rfl⟩
abbrev main_cst_4 : Ref sig .tc := ⟨.hbm, 158, rfl⟩
abbrev main_v35 : Ref sig .tc := ⟨.hbm, 159, rfl⟩
abbrev main_v36 : Ref sig .tc := ⟨.hbm, 160, rfl⟩
abbrev main_v37 : Ref sig .tc := ⟨.hbm, 161, rfl⟩
abbrev main_v38 : Ref sig .tc := ⟨.hbm, 162, rfl⟩
abbrev main_v39 : Ref sig .tc := ⟨.hbm, 163, rfl⟩
abbrev main_v40 : Ref sig .tc := ⟨.hbm, 164, rfl⟩
abbrev main_cst_5 : Ref sig .tc := ⟨.hbm, 165, rfl⟩
abbrev main_v41 : Ref sig .tc := ⟨.hbm, 166, rfl⟩
abbrev main_v42 : Ref sig .tc := ⟨.hbm, 167, rfl⟩
abbrev main_v43 : Ref sig .tc := ⟨.hbm, 168, rfl⟩
abbrev main_v44 : Ref sig .tc := ⟨.hbm, 169, rfl⟩
abbrev main_v45 : Ref sig .tc := ⟨.hbm, 170, rfl⟩
abbrev main_v46 : Ref sig .tc := ⟨.hbm, 171, rfl⟩
abbrev main_v47 : Ref sig .tc := ⟨.hbm, 172, rfl⟩
abbrev main_v48 : Ref sig .tc := ⟨.hbm, 173, rfl⟩
abbrev main_v49 : Ref sig .tc := ⟨.hbm, 174, rfl⟩
abbrev main_v50 : Ref sig .tc := ⟨.hbm, 175, rfl⟩
abbrev main_v51 : Ref sig .tc := ⟨.hbm, 176, rfl⟩
abbrev main_v52 : Ref sig .tc := ⟨.hbm, 177, rfl⟩
abbrev main_v53 : Ref sig .tc := ⟨.hbm, 178, rfl⟩
abbrev main_v54 : Ref sig .tc := ⟨.hbm, 179, rfl⟩
abbrev main_v55 : Ref sig .tc := ⟨.hbm, 180, rfl⟩
abbrev main_v56 : Ref sig .tc := ⟨.hbm, 181, rfl⟩
abbrev main_v57 : Ref sig .tc := ⟨.hbm, 182, rfl⟩
abbrev main_v58 : Ref sig .tc := ⟨.hbm, 183, rfl⟩
abbrev main_v59 : Ref sig .tc := ⟨.hbm, 184, rfl⟩
abbrev main_cst_6 : Ref sig .tc := ⟨.hbm, 185, rfl⟩
abbrev main_v60 : Ref sig .tc := ⟨.hbm, 186, rfl⟩
abbrev main_v61 : Ref sig .tc := ⟨.hbm, 187, rfl⟩

abbrev nD : Nat := 1
abbrev τ : Topo := Topo.v7x

variable {F : FTy → Type} [FloatOps F]
-- ==== Proof.KProg.lean ====
/- The two issue loops and the two extraction loops of the kernel body, each trip written as a sequence of equal
   steps: one step per kept position. The equalities hold by definitional unfolding. -/
module

public import proofs.«01_k».proof.Proof.Gen.Kernel.Skeleton

@[expose] public section

set_option synthInstance.maxSize 4096

noncomputable section

namespace Cert.Kernel.Hand

open Cert.Kernel Cert.Kernel.Gen
open Idealize.ShloMosaic Idealize.SL.Sem

variable {F : FTy → Type} [FloatOps F]

/-- One kept position's pair of copies: read the position's word, then start the copy of the key tile and of the
    value tile it names into this position of the slot. -/
noncomputable def issue (arg0 : Memref sig .tc .smem S16x192 .i32)
    (arg7 : Memref sig .tc .hbm S2x8x64x131072 .i8) (harg7 : arg7.IsWhole) (arg8 : Memref sig .tc .hbm S2x8x64x131072 .i8) (harg8 : arg8.IsWhole)
    (arg13 : Memref sig .tc .vmem S2x192x64x128 .i8) (harg13 : arg13.IsWhole) (arg14 : Memref sig .tc .vmem S2x192x64x128 .i8) (harg14 : arg14.IsWhole)
    (sm : DmaSem sig)
    (o0 : Fin 2 → ℕ) (i0 : ∀ a, o0 a + S1x1.size a ≤ S16x192.size a)
    (oD : Fin 4 → ℕ) (iD : ∀ a, oD a + S1x1x64x128.size a ≤ S2x192x64x128.size a)
    (wD : (Rect.unit (s := S2x192x64x128) oD S1x1x64x128.size iD).WholeWords (EltTy.packing .i8))
    (chk : BitVec 32 → Prop) (dec : ∀ v, Decidable (chk v)) (oS : BitVec 32 → Fin 4 → ℕ)
    (iS : ∀ v, chk v → ∀ a, oS v a + S1x1x64x128.size a ≤ S2x8x64x131072.size a)
    (wS : ∀ v (h : chk v), (Rect.unit (s := S2x8x64x131072) (oS v) S1x1x64x128.size (iS v h)).WholeWords (EltTy.packing .i8)) :
    Prog (TpuEff nD τ sig (Elt F) Λ₀ .tc) PUnit := do
  let v : Elt F .i32 ← smemLoad arg0 (Rect.unit (s := S16x192) o0 S1x1.size i0) numel1_S1x1 rfl
  have hw : chk v := (← Prog.lift (TpuEff.assume (chk v) (dec v))).down
  Prog.lift (.enqueueDma ((arg7.slice (Rect.unit (s := S2x8x64x131072) (oS v) S1x1x64x128.size (iS v hw)) (fun _ => rfl)).squeeze S64x128 squeezes_S1x1x64x128_S64x128)
    (.here ((arg13.slice (Rect.unit (s := S2x192x64x128) oD S1x1x64x128.size iD) (fun _ => rfl)).squeeze S64x128 squeezes_S1x1x64x128_S64x128))
    (.dma sm) ((harg7.wordExact_slice rfl _ (wS v hw)).reshape _ _) ((harg13.wordExact_slice rfl _ wD).reshape _ _) ⟨Or.inl rfl, trivial⟩)
  Prog.lift (.enqueueDma ((arg8.slice (Rect.unit (s := S2x8x64x131072) (oS v) S1x1x64x128.size (iS v hw)) (fun _ => rfl)).squeeze S64x128 squeezes_S1x1x64x128_S64x128)
    (.here ((arg14.slice (Rect.unit (s := S2x192x64x128) oD S1x1x64x128.size iD) (fun _ => rfl)).squeeze S64x128 squeezes_S1x1x64x128_S64x128))
    (.dma sm) ((harg8.wordExact_slice rfl _ (wS v hw)).reshape _ _) ((harg14.wordExact_slice rfl _ wD).reshape _ _) ⟨Or.inl rfl, trivial⟩)

set_option maxRecDepth 65536 in
set_option maxHeartbeats 4000000 in
/-- A trip of the first issue loop is eight such pairs. -/
theorem t1_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (k : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 k u = (do
    issue (F := F) arg0 arg7 harg7 arg8 harg8 arg13 harg13 arg14 harg14 ((arg15.slice (Rect.unit (s := S2) ![0] S1.size inb_S2_S1_0)).squeeze S_ squeezes_S1_S_).sem
      (k0_off1 k) (k0_off1_inb k) (k0_off2 k) (k0_off2_inb k) (k0_off2_wordsi8 k)
      k0_chk1 k0_chk1.dec k0_off3 (fun v h => k0_off3_inb v h) (fun v h => k0_off3_wordsi8 v h)
    issue (F := F) arg0 arg7 harg7 arg8 harg8 arg13 harg13 arg14 harg14 ((arg15.slice (Rect.unit (s := S2) ![0] S1.size inb_S2_S1_0)).squeeze S_ squeezes_S1_S_).sem
      (k0_off4 k) (k0_off4_inb k) (k0_off5 k) (k0_off5_inb k) (k0_off5_wordsi8 k)
      k0_chk2 k0_chk2.dec k0_off6 (fun v h => k0_off6_inb v h) (fun v h => k0_off6_wordsi8 v h)
    issue (F := F) arg0 arg7 harg7 arg8 harg8 arg13 harg13 arg14 harg14 ((arg15.slice (Rect.unit (s := S2) ![0] S1.size inb_S2_S1_0)).squeeze S_ squeezes_S1_S_).sem
      (k0_off7 k) (k0_off7_inb k) (k0_off8 k) (k0_off8_inb k) (k0_off8_wordsi8 k)
      k0_chk3 k0_chk3.dec k0_off9 (fun v h => k0_off9_inb v h) (fun v h => k0_off9_wordsi8 v h)
    issue (F := F) arg0 arg7 harg7 arg8 harg8 arg13 harg13 arg14 harg14 ((arg15.slice (Rect.unit (s := S2) ![0] S1.size inb_S2_S1_0)).squeeze S_ squeezes_S1_S_).sem
      (k0_off10 k) (k0_off10_inb k) (k0_off11 k) (k0_off11_inb k) (k0_off11_wordsi8 k)
      k0_chk4 k0_chk4.dec k0_off12 (fun v h => k0_off12_inb v h) (fun v h => k0_off12_wordsi8 v h)
    issue (F := F) arg0 arg7 harg7 arg8 harg8 arg13 harg13 arg14 harg14 ((arg15.slice (Rect.unit (s := S2) ![0] S1.size inb_S2_S1_0)).squeeze S_ squeezes_S1_S_).sem
      (k0_off13 k) (k0_off13_inb k) (k0_off14 k) (k0_off14_inb k) (k0_off14_wordsi8 k)
      k0_chk5 k0_chk5.dec k0_off15 (fun v h => k0_off15_inb v h) (fun v h => k0_off15_wordsi8 v h)
    issue (F := F) arg0 arg7 harg7 arg8 harg8 arg13 harg13 arg14 harg14 ((arg15.slice (Rect.unit (s := S2) ![0] S1.size inb_S2_S1_0)).squeeze S_ squeezes_S1_S_).sem
      (k0_off16 k) (k0_off16_inb k) (k0_off17 k) (k0_off17_inb k) (k0_off17_wordsi8 k)
      k0_chk6 k0_chk6.dec k0_off18 (fun v h => k0_off18_inb v h) (fun v h => k0_off18_wordsi8 v h)
    issue (F := F) arg0 arg7 harg7 arg8 harg8 arg13 harg13 arg14 harg14 ((arg15.slice (Rect.unit (s := S2) ![0] S1.size inb_S2_S1_0)).squeeze S_ squeezes_S1_S_).sem
      (k0_off19 k) (k0_off19_inb k) (k0_off20 k) (k0_off20_inb k) (k0_off20_wordsi8 k)
      k0_chk7 k0_chk7.dec k0_off21 (fun v h => k0_off21_inb v h) (fun v h => k0_off21_wordsi8 v h)
    issue (F := F) arg0 arg7 harg7 arg8 harg8 arg13 harg13 arg14 harg14 ((arg15.slice (Rect.unit (s := S2) ![0] S1.size inb_S2_S1_0)).squeeze S_ squeezes_S1_S_).sem
      (k0_off22 k) (k0_off22_inb k) (k0_off23 k) (k0_off23_inb k) (k0_off23_wordsi8 k)
      k0_chk8 k0_chk8.dec k0_off24 (fun v h => k0_off24_inb v h) (fun v h => k0_off24_wordsi8 v h)
    pure ⟨⟩) := rfl

set_option maxRecDepth 65536 in
set_option maxHeartbeats 4000000 in
/-- A trip of the next row's issue loop is eight such pairs. -/
theorem t3_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (r : Fin k0_t2_loop.trips) (h1 : k0_cond1 r = 1#1) (v166 : BitVec 32) (k : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 0#32 1#32 r h1 v166 k u = (do
    issue (F := F) arg0 arg7 harg7 arg8 harg8 arg13 harg13 arg14 harg14 ((arg15.slice (Rect.unit (s := S2) (k0_off26 r) S1.size (k0_off26_inb r h1))).squeeze S_ squeezes_S1_S_).sem
      (k0_off25 r k) (k0_off25_inb r k h1) (k0_off27 r k) (k0_off27_inb r k h1) (k0_off27_wordsi8 r k h1)
      (k0_chk9 r) (k0_chk9.dec r) (k0_off28 r) (fun v h => k0_off28_inb r v h h1) (fun v h => k0_off28_wordsi8 r v h h1)
    issue (F := F) arg0 arg7 harg7 arg8 harg8 arg13 harg13 arg14 harg14 ((arg15.slice (Rect.unit (s := S2) (k0_off30 r) S1.size (k0_off30_inb r h1))).squeeze S_ squeezes_S1_S_).sem
      (k0_off29 r k) (k0_off29_inb r k h1) (k0_off31 r k) (k0_off31_inb r k h1) (k0_off31_wordsi8 r k h1)
      (k0_chk10 r) (k0_chk10.dec r) (k0_off32 r) (fun v h => k0_off32_inb r v h h1) (fun v h => k0_off32_wordsi8 r v h h1)
    issue (F := F) arg0 arg7 harg7 arg8 harg8 arg13 harg13 arg14 harg14 ((arg15.slice (Rect.unit (s := S2) (k0_off34 r) S1.size (k0_off34_inb r h1))).squeeze S_ squeezes_S1_S_).sem
      (k0_off33 r k) (k0_off33_inb r k h1) (k0_off35 r k) (k0_off35_inb r k h1) (k0_off35_wordsi8 r k h1)
      (k0_chk11 r) (k0_chk11.dec r) (k0_off36 r) (fun v h => k0_off36_inb r v h h1) (fun v h => k0_off36_wordsi8 r v h h1)
    issue (F := F) arg0 arg7 harg7 arg8 harg8 arg13 harg13 arg14 harg14 ((arg15.slice (Rect.unit (s := S2) (k0_off38 r) S1.size (k0_off38_inb r h1))).squeeze S_ squeezes_S1_S_).sem
      (k0_off37 r k) (k0_off37_inb r k h1) (k0_off39 r k) (k0_off39_inb r k h1) (k0_off39_wordsi8 r k h1)
      (k0_chk12 r) (k0_chk12.dec r) (k0_off40 r) (fun v h => k0_off40_inb r v h h1) (fun v h => k0_off40_wordsi8 r v h h1)
    issue (F := F) arg0 arg7 harg7 arg8 harg8 arg13 harg13 arg14 harg14 ((arg15.slice (Rect.unit (s := S2) (k0_off42 r) S1.size (k0_off42_inb r h1))).squeeze S_ squeezes_S1_S_).sem
      (k0_off41 r k) (k0_off41_inb r k h1) (k0_off43 r k) (k0_off43_inb r k h1) (k0_off43_wordsi8 r k h1)
      (k0_chk13 r) (k0_chk13.dec r) (k0_off44 r) (fun v h => k0_off44_inb r v h h1) (fun v h => k0_off44_wordsi8 r v h h1)
    issue (F := F) arg0 arg7 harg7 arg8 harg8 arg13 harg13 arg14 harg14 ((arg15.slice (Rect.unit (s := S2) (k0_off46 r) S1.size (k0_off46_inb r h1))).squeeze S_ squeezes_S1_S_).sem
      (k0_off45 r k) (k0_off45_inb r k h1) (k0_off47 r k) (k0_off47_inb r k h1) (k0_off47_wordsi8 r k h1)
      (k0_chk14 r) (k0_chk14.dec r) (k0_off48 r) (fun v h => k0_off48_inb r v h h1) (fun v h => k0_off48_wordsi8 r v h h1)
    issue (F := F) arg0 arg7 harg7 arg8 harg8 arg13 harg13 arg14 harg14 ((arg15.slice (Rect.unit (s := S2) (k0_off50 r) S1.size (k0_off50_inb r h1))).squeeze S_ squeezes_S1_S_).sem
      (k0_off49 r k) (k0_off49_inb r k h1) (k0_off51 r k) (k0_off51_inb r k h1) (k0_off51_wordsi8 r k h1)
      (k0_chk15 r) (k0_chk15.dec r) (k0_off52 r) (fun v h => k0_off52_inb r v h h1) (fun v h => k0_off52_wordsi8 r v h h1)
    issue (F := F) arg0 arg7 harg7 arg8 harg8 arg13 harg13 arg14 harg14 ((arg15.slice (Rect.unit (s := S2) (k0_off54 r) S1.size (k0_off54_inb r h1))).squeeze S_ squeezes_S1_S_).sem
      (k0_off53 r k) (k0_off53_inb r k h1) (k0_off55 r k) (k0_off55_inb r k h1) (k0_off55_wordsi8 r k h1)
      (k0_chk16 r) (k0_chk16.dec r) (k0_off56 r) (fun v h => k0_off56_inb r v h h1) (fun v h => k0_off56_wordsi8 r v h h1)
    pure ⟨⟩) := rfl

end Cert.Kernel.Hand

end
-- ==== Proof.KExt.lean ====
/- The two extraction loops of the kernel body, each trip written as four equal steps: one step per kept position. -/
module

public import proofs.«01_k».proof.Proof.Gen.Kernel.Skeleton

@[expose] public section

set_option synthInstance.maxSize 4096

noncomputable section

namespace Cert.Kernel.Hand

open Cert.Kernel Cert.Kernel.Gen
open Idealize.ShloMosaic Idealize.SL.Sem

variable {F : FTy → Type} [FloatOps F]

/-- One position's update of the collected columns: rotate the tile (as words of four rows) so that the wanted lane
    comes to lane `p - lo`, and take that lane from it. -/
noncomputable def sel (v0 : IVec S16x128 32) (p lo w : BitVec 32) (tile : Vec F S1x1x64x128 .i8) (a : IVec S16x128 32) :
    IVec S16x128 32 :=
  select (cmpi .eq v0 (broadcast S16x128 (Scalar.subi p lo)))
    (dynamicRotate 1 (Scalar.andi (Scalar.subi (Scalar.subi p lo) (Scalar.andi w 127#32)) 127#32) none
      (bitcast S16x128 32 (shapeCast S64x128 tile shapeCasts_S1x1x64x128_S64x128 : IVec S64x128 8) bitcasts_S64x128_w8_S16x128_w32)
      rotates_S16x128_d1) a

/-- One position's step: read the position's word and its two tiles, update the two collected blocks. -/
noncomputable def ext (arg0 : Memref sig .tc .smem S16x192 .i32)
    (arg13 : Memref sig .tc .vmem S2x192x64x128 .i8) (arg14 : Memref sig .tc .vmem S2x192x64x128 .i8)
    (v0 : IVec S16x128 32) (p lo : BitVec 32)
    (o0 : Fin 2 → ℕ) (i0 : ∀ a, o0 a + S1x1.size a ≤ S16x192.size a)
    (oB : Fin 4 → ℕ) (iB : ∀ a, oB a + S1x1x64x128.size a ≤ S2x192x64x128.size a)
    (a : IVec S16x128 32 × IVec S16x128 32) :
    Prog (TpuEff nD τ sig (Elt F) Λ₀ .tc) (IVec S16x128 32 × IVec S16x128 32) := do
  let w : Elt F .i32 ← smemLoad arg0 (Rect.unit (s := S16x192) o0 S1x1.size i0) numel1_S1x1 rfl
  let kt : Vec F S1x1x64x128 .i8 ← Prog.lift (.load arg13 (Rect.unit (s := S2x192x64x128) oB S1x1x64x128.size iB).toLoadRect (View.loadsAt_vmem h_S1x1x64x128))
  let vt : Vec F S1x1x64x128 .i8 ← Prog.lift (.load arg14 (Rect.unit (s := S2x192x64x128) oB S1x1x64x128.size iB).toLoadRect (View.loadsAt_vmem h_S1x1x64x128))
  pure (sel v0 p lo w kt a.1, sel v0 p lo w vt a.2)

set_option maxRecDepth 65536 in
set_option maxHeartbeats 4000000 in
/-- A trip of this extraction loop is four such steps. -/
theorem t4_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (v0 : IVec S16x128 32) (r : Fin k0_t2_loop.trips) (x1 x2 x3 x4 x5 : BitVec 32) (k : Fin k0_t4_loop.trips) (a : IVec S16x128 32 × IVec S16x128 32) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v0 r x1 x2 x3 x4 x5 k a = (do
    let a1 ← ext (F := F) arg0 arg13 arg14 v0 (Scalar.addi (Scalar.muli (Scf.iv 0#32 1#32 k) 4#32) 0#32) 0#32 (k0_off59 r k 0#32) (k0_off59_inb r k 0) (k0_off60 r k 0#32) (k0_off60_inb r k 0) a
    let a2 ← ext (F := F) arg0 arg13 arg14 v0 (Scalar.addi (Scalar.muli (Scf.iv 0#32 1#32 k) 4#32) 1#32) 0#32 (k0_off59 r k 1#32) (k0_off59_inb r k 1) (k0_off60 r k 1#32) (k0_off60_inb r k 1) a1
    let a3 ← ext (F := F) arg0 arg13 arg14 v0 (Scalar.addi (Scalar.muli (Scf.iv 0#32 1#32 k) 4#32) 2#32) 0#32 (k0_off59 r k 2#32) (k0_off59_inb r k 2) (k0_off60 r k 2#32) (k0_off60_inb r k 2) a2
    ext (F := F) arg0 arg13 arg14 v0 (Scalar.addi (Scalar.muli (Scf.iv 0#32 1#32 k) 4#32) 3#32) 0#32 (k0_off59 r k 3#32) (k0_off59_inb r k 3) (k0_off60 r k 3#32) (k0_off60_inb r k 3) a3) := rfl

set_option maxRecDepth 65536 in
set_option maxHeartbeats 4000000 in
/-- A trip of this extraction loop is four such steps. -/
theorem t5_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (v0 : IVec S16x128 32) (r : Fin k0_t2_loop.trips) (x1 x2 x3 x4 : BitVec 32) (x5 : IVec S16x128 32) (k : Fin k0_t5_loop.trips) (a : IVec S16x128 32 × IVec S16x128 32) :
    k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v0 r x1 x2 x3 x4 x5 32#32 k a = (do
    let a1 ← ext (F := F) arg0 arg13 arg14 v0 (Scalar.addi (Scalar.muli (Scf.iv 32#32 1#32 k) 4#32) 0#32) 128#32 (k0_off62 r k 0#32) (k0_off62_inb r k 0) (k0_off63 r k 0#32) (k0_off63_inb r k 0) a
    let a2 ← ext (F := F) arg0 arg13 arg14 v0 (Scalar.addi (Scalar.muli (Scf.iv 32#32 1#32 k) 4#32) 1#32) 128#32 (k0_off62 r k 1#32) (k0_off62_inb r k 1) (k0_off63 r k 1#32) (k0_off63_inb r k 1) a1
    let a3 ← ext (F := F) arg0 arg13 arg14 v0 (Scalar.addi (Scalar.muli (Scf.iv 32#32 1#32 k) 4#32) 2#32) 128#32 (k0_off62 r k 2#32) (k0_off62_inb r k 2) (k0_off63 r k 2#32) (k0_off63_inb r k 2) a2
    ext (F := F) arg0 arg13 arg14 v0 (Scalar.addi (Scalar.muli (Scf.iv 32#32 1#32 k) 4#32) 3#32) 128#32 (k0_off62 r k 3#32) (k0_off62_inb r k 3) (k0_off63 r k 3#32) (k0_off63_inb r k 3) a3) := rfl

end Cert.Kernel.Hand
-- ==== Proof.KGeo.lean ====
/- Where the kernel's accesses fall: the offsets in closed form, the tiles of the two gather buffers, and what a tile holds
   once its copy has landed. -/
module

public import proofs.«01_k».proof.Proof.KProg
public import proofs.«01_k».proof.Proof.KExt
public import Idealize.ShloMosaic.Lib.Decide

@[expose] public section

set_option synthInstance.maxSize 4096

noncomputable section

namespace Cert.Kernel.Hand

open Cert.Kernel Cert.Kernel.Gen
open Idealize.ShloMosaic Idealize.SL.Sem

/-! ## Offsets -/

theorem off26_eq : ∀ r : Fin k0_t2_loop.trips, k0_off26 r = ![1 - r.val % 2] := by decide +kernel
theorem off57_eq : ∀ r : Fin k0_t2_loop.trips, k0_off57 r = ![r.val % 2] := by decide +kernel
theorem off58_eq : ∀ r : Fin k0_t2_loop.trips, k0_off58 r = ![r.val % 2, 0, 0, 0] := by decide +kernel
theorem off61_eq : ∀ r : Fin k0_t2_loop.trips, k0_off61 r = ![r.val / 8, r.val % 8, 0, 0] := by decide +kernel
theorem off64_eq : ∀ r : Fin k0_t2_loop.trips, k0_off64 r = ![r.val / 8, r.val % 8, 0, 128] := by decide +kernel
theorem off65_eq : ∀ r : Fin k0_t2_loop.trips, k0_off65 r = ![r.val / 8, r.val % 8, 0, 0] := by decide +kernel
theorem cond1_iff : ∀ r : Fin k0_t2_loop.trips, k0_cond1 r = 1#1 ↔ r.val < 15 := by decide +kernel
theorem off60_eq : ∀ (r : Fin k0_t2_loop.trips) (k : Fin k0_t4_loop.trips) (u : Fin 4),
    k0_off60 r k (BitVec.ofNat 32 u.val) = ![r.val % 2, 4 * k.val + u.val, 0, 0] := by decide +kernel
theorem off63_eq : ∀ (r : Fin k0_t2_loop.trips) (k : Fin k0_t5_loop.trips) (u : Fin 4),
    k0_off63 r k (BitVec.ofNat 32 u.val) = ![r.val % 2, 4 * k.val + u.val + 128, 0, 0] := by decide +kernel
theorem off27_eq : ∀ (r : Fin k0_t2_loop.trips) (k : Fin k0_t3_loop.trips), k0_off27 r k = ![1 - r.val % 2, 8 * k.val, 0, 0] := by decide +kernel
theorem off31_eq : ∀ (r : Fin k0_t2_loop.trips) (k : Fin k0_t3_loop.trips), k0_off31 r k = ![1 - r.val % 2, 8 * k.val + 1, 0, 0] := by decide +kernel
theorem off35_eq : ∀ (r : Fin k0_t2_loop.trips) (k : Fin k0_t3_loop.trips), k0_off35 r k = ![1 - r.val % 2, 8 * k.val + 2, 0, 0] := by decide +kernel
theorem off39_eq : ∀ (r : Fin k0_t2_loop.trips) (k : Fin k0_t3_loop.trips), k0_off39 r k = ![1 - r.val % 2, 8 * k.val + 3, 0, 0] := by decide +kernel
theorem off43_eq : ∀ (r : Fin k0_t2_loop.trips) (k : Fin k0_t3_loop.trips), k0_off43 r k = ![1 - r.val % 2, 8 * k.val + 4, 0, 0] := by decide +kernel
theorem off47_eq : ∀ (r : Fin k0_t2_loop.trips) (k : Fin k0_t3_loop.trips), k0_off47 r k = ![1 - r.val % 2, 8 * k.val + 5, 0, 0] := by decide +kernel
theorem off51_eq : ∀ (r : Fin k0_t2_loop.trips) (k : Fin k0_t3_loop.trips), k0_off51 r k = ![1 - r.val % 2, 8 * k.val + 6, 0, 0] := by decide +kernel
theorem off55_eq : ∀ (r : Fin k0_t2_loop.trips) (k : Fin k0_t3_loop.trips), k0_off55 r k = ![1 - r.val % 2, 8 * k.val + 7, 0, 0] := by decide +kernel

/-- A word below `131072`, shifted down by seven and multiplied by `128`: the start of its tile. -/
theorem tile_start (v : BitVec 32) (hv : v.toNat < 131072) :
    (Scalar.muli (Scalar.shrsi v 7#32) 128#32).toNat = v.toNat / 128 * 128 := by
  have h1 : v.msb = false := by
    rw [BitVec.msb_eq_decide]; simp; omega
  have h2 : (Scalar.shrsi v 7#32).toNat = v.toNat / 128 := by
    have h3 : Scalar.shrsi v 7#32 = v.sshiftRight 7 := rfl
    rw [h3, BitVec.sshiftRight_eq_of_msb_false h1, BitVec.toNat_ushiftRight, Nat.shiftRight_eq_div_pow]
  have h4 : Scalar.muli (Scalar.shrsi v 7#32) 128#32 = Scalar.shrsi v 7#32 * 128#32 := rfl
  have h5 : (128#32).toNat = 128 := rfl
  rw [h4, BitVec.toNat_mul, h2, h5, Nat.mod_eq_of_lt]
  omega

/-- The position of a source tile: batch entry and head of the row, every channel, from the tile's start. -/
abbrev srcOff (r : ℕ) (v : BitVec 32) : Fin 4 → ℕ := ![r / 8, r % 8, 0, v.toNat / 128 * 128]

theorem off3_eq (v : BitVec 32) (hv : v.toNat < 131072) : k0_off3 v = srcOff 0 v := by
  show ![0, 0, 0, (Scalar.muli (Scalar.shrsi v 7#32) 128#32).toNat] = _
  rw [tile_start v hv]
theorem off6_eq (v : BitVec 32) (hv : v.toNat < 131072) : k0_off6 v = srcOff 0 v := by
  show ![0, 0, 0, (Scalar.muli (Scalar.shrsi v 7#32) 128#32).toNat] = _
  rw [tile_start v hv]
theorem off9_eq (v : BitVec 32) (hv : v.toNat < 131072) : k0_off9 v = srcOff 0 v := by
  show ![0, 0, 0, (Scalar.muli (Scalar.shrsi v 7#32) 128#32).toNat] = _
  rw [tile_start v hv]
theorem off12_eq (v : BitVec 32) (hv : v.toNat < 131072) : k0_off12 v = srcOff 0 v := by
  show ![0, 0, 0, (Scalar.muli (Scalar.shrsi v 7#32) 128#32).toNat] = _
  rw [tile_start v hv]
theorem off15_eq (v : BitVec 32) (hv : v.toNat < 131072) : k0_off15 v = srcOff 0 v := by
  show ![0, 0, 0, (Scalar.muli (Scalar.shrsi v 7#32) 128#32).toNat] = _
  rw [tile_start v hv]
theorem off18_eq (v : BitVec 32) (hv : v.toNat < 131072) : k0_off18 v = srcOff 0 v := by
  show ![0, 0, 0, (Scalar.muli (Scalar.shrsi v 7#32) 128#32).toNat] = _
  rw [tile_start v hv]
theorem off21_eq (v : BitVec 32) (hv : v.toNat < 131072) : k0_off21 v = srcOff 0 v := by
  show ![0, 0, 0, (Scalar.muli (Scalar.shrsi v 7#32) 128#32).toNat] = _
  rw [tile_start v hv]
theorem off24_eq (v : BitVec 32) (hv : v.toNat < 131072) : k0_off24 v = srcOff 0 v := by
  show ![0, 0, 0, (Scalar.muli (Scalar.shrsi v 7#32) 128#32).toNat] = _
  rw [tile_start v hv]

theorem srcOff_inb (r : ℕ) (hr : r < 16) (v : BitVec 32) (hv : v.toNat < 131072) : ∀ a, srcOff r v a + S1x1x64x128.size a ≤ S2x8x64x131072.size a := by
  intro a
  fin_cases a
  · show r / 8 + 1 ≤ 2; omega
  · show r % 8 + 1 ≤ 8; omega
  · show 0 + 64 ≤ 64; omega
  · show v.toNat / 128 * 128 + 128 ≤ 131072; omega

theorem off28_0 : ∀ r : Fin k0_t2_loop.trips, r.val < 15 → k0_off28 r 0#32 0 = (r.val + 1) / 8 := by decide +kernel
theorem off28_1 : ∀ r : Fin k0_t2_loop.trips, r.val < 15 → k0_off28 r 0#32 1 = (r.val + 1) % 8 := by decide +kernel
theorem off28_split (r : Fin k0_t2_loop.trips) (v : BitVec 32) :
    k0_off28 r v = ![k0_off28 r 0#32 0, k0_off28 r 0#32 1, 0, (Scalar.muli (Scalar.shrsi v 7#32) 128#32).toNat] := by
  unfold k0_off28
  rfl
theorem off28_eq (r : Fin k0_t2_loop.trips) (hr : r.val < 15) (v : BitVec 32) (hv : v.toNat < 131072) : k0_off28 r v = srcOff (r.val + 1) v := by
  rw [off28_split, off28_0 r hr, off28_1 r hr, tile_start v hv]
theorem off32_0 : ∀ r : Fin k0_t2_loop.trips, r.val < 15 → k0_off32 r 0#32 0 = (r.val + 1) / 8 := by decide +kernel
theorem off32_1 : ∀ r : Fin k0_t2_loop.trips, r.val < 15 → k0_off32 r 0#32 1 = (r.val + 1) % 8 := by decide +kernel
theorem off32_split (r : Fin k0_t2_loop.trips) (v : BitVec 32) :
    k0_off32 r v = ![k0_off32 r 0#32 0, k0_off32 r 0#32 1, 0, (Scalar.muli (Scalar.shrsi v 7#32) 128#32).toNat] := by
  unfold k0_off32
  rfl
theorem off32_eq (r : Fin k0_t2_loop.trips) (hr : r.val < 15) (v : BitVec 32) (hv : v.toNat < 131072) : k0_off32 r v = srcOff (r.val + 1) v := by
  rw [off32_split, off32_0 r hr, off32_1 r hr, tile_start v hv]
theorem off36_0 : ∀ r : Fin k0_t2_loop.trips, r.val < 15 → k0_off36 r 0#32 0 = (r.val + 1) / 8 := by decide +kernel
theorem off36_1 : ∀ r : Fin k0_t2_loop.trips, r.val < 15 → k0_off36 r 0#32 1 = (r.val + 1) % 8 := by decide +kernel
theorem off36_split (r : Fin k0_t2_loop.trips) (v : BitVec 32) :
    k0_off36 r v = ![k0_off36 r 0#32 0, k0_off36 r 0#32 1, 0, (Scalar.muli (Scalar.shrsi v 7#32) 128#32).toNat] := by
  unfold k0_off36
  rfl
theorem off36_eq (r : Fin k0_t2_loop.trips) (hr : r.val < 15) (v : BitVec 32) (hv : v.toNat < 131072) : k0_off36 r v = srcOff (r.val + 1) v := by
  rw [off36_split, off36_0 r hr, off36_1 r hr, tile_start v hv]
theorem off40_0 : ∀ r : Fin k0_t2_loop.trips, r.val < 15 → k0_off40 r 0#32 0 = (r.val + 1) / 8 := by decide +kernel
theorem off40_1 : ∀ r : Fin k0_t2_loop.trips, r.val < 15 → k0_off40 r 0#32 1 = (r.val + 1) % 8 := by decide +kernel
theorem off40_split (r : Fin k0_t2_loop.trips) (v : BitVec 32) :
    k0_off40 r v = ![k0_off40 r 0#32 0, k0_off40 r 0#32 1, 0, (Scalar.muli (Scalar.shrsi v 7#32) 128#32).toNat] := by
  unfold k0_off40
  rfl
theorem off40_eq (r : Fin k0_t2_loop.trips) (hr : r.val < 15) (v : BitVec 32) (hv : v.toNat < 131072) : k0_off40 r v = srcOff (r.val + 1) v := by
  rw [off40_split, off40_0 r hr, off40_1 r hr, tile_start v hv]
theorem off44_0 : ∀ r : Fin k0_t2_loop.trips, r.val < 15 → k0_off44 r 0#32 0 = (r.val + 1) / 8 := by decide +kernel
theorem off44_1 : ∀ r : Fin k0_t2_loop.trips, r.val < 15 → k0_off44 r 0#32 1 = (r.val + 1) % 8 := by decide +kernel
theorem off44_split (r : Fin k0_t2_loop.trips) (v : BitVec 32) :
    k0_off44 r v = ![k0_off44 r 0#32 0, k0_off44 r 0#32 1, 0, (Scalar.muli (Scalar.shrsi v 7#32) 128#32).toNat] := by
  unfold k0_off44
  rfl
theorem off44_eq (r : Fin k0_t2_loop.trips) (hr : r.val < 15) (v : BitVec 32) (hv : v.toNat < 131072) : k0_off44 r v = srcOff (r.val + 1) v := by
  rw [off44_split, off44_0 r hr, off44_1 r hr, tile_start v hv]
theorem off48_0 : ∀ r : Fin k0_t2_loop.trips, r.val < 15 → k0_off48 r 0#32 0 = (r.val + 1) / 8 := by decide +kernel
theorem off48_1 : ∀ r : Fin k0_t2_loop.trips, r.val < 15 → k0_off48 r 0#32 1 = (r.val + 1) % 8 := by decide +kernel
theorem off48_split (r : Fin k0_t2_loop.trips) (v : BitVec 32) :
    k0_off48 r v = ![k0_off48 r 0#32 0, k0_off48 r 0#32 1, 0, (Scalar.muli (Scalar.shrsi v 7#32) 128#32).toNat] := by
  unfold k0_off48
  rfl
theorem off48_eq (r : Fin k0_t2_loop.trips) (hr : r.val < 15) (v : BitVec 32) (hv : v.toNat < 131072) : k0_off48 r v = srcOff (r.val + 1) v := by
  rw [off48_split, off48_0 r hr, off48_1 r hr, tile_start v hv]
theorem off52_0 : ∀ r : Fin k0_t2_loop.trips, r.val < 15 → k0_off52 r 0#32 0 = (r.val + 1) / 8 := by decide +kernel
theorem off52_1 : ∀ r : Fin k0_t2_loop.trips, r.val < 15 → k0_off52 r 0#32 1 = (r.val + 1) % 8 := by decide +kernel
theorem off52_split (r : Fin k0_t2_loop.trips) (v : BitVec 32) :
    k0_off52 r v = ![k0_off52 r 0#32 0, k0_off52 r 0#32 1, 0, (Scalar.muli (Scalar.shrsi v 7#32) 128#32).toNat] := by
  unfold k0_off52
  rfl
theorem off52_eq (r : Fin k0_t2_loop.trips) (hr : r.val < 15) (v : BitVec 32) (hv : v.toNat < 131072) : k0_off52 r v = srcOff (r.val + 1) v := by
  rw [off52_split, off52_0 r hr, off52_1 r hr, tile_start v hv]
theorem off56_0 : ∀ r : Fin k0_t2_loop.trips, r.val < 15 → k0_off56 r 0#32 0 = (r.val + 1) / 8 := by decide +kernel
theorem off56_1 : ∀ r : Fin k0_t2_loop.trips, r.val < 15 → k0_off56 r 0#32 1 = (r.val + 1) % 8 := by decide +kernel
theorem off56_split (r : Fin k0_t2_loop.trips) (v : BitVec 32) :
    k0_off56 r v = ![k0_off56 r 0#32 0, k0_off56 r 0#32 1, 0, (Scalar.muli (Scalar.shrsi v 7#32) 128#32).toNat] := by
  unfold k0_off56
  rfl
theorem off56_eq (r : Fin k0_t2_loop.trips) (hr : r.val < 15) (v : BitVec 32) (hv : v.toNat < 131072) : k0_off56 r v = srcOff (r.val + 1) v := by
  rw [off56_split, off56_0 r hr, off56_1 r hr, tile_start v hv]
theorem chk1_of (v : BitVec 32) (hv : v.toNat < 131072) : k0_chk1 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off3_eq v hv]; exact srcOff_inb 0 (by decide) v hv
theorem chk9_of (r : Fin k0_t2_loop.trips) (hr : r.val < 15) (v : BitVec 32) (hv : v.toNat < 131072) : k0_chk9 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off28_eq r hr v hv]; exact srcOff_inb _ (by omega) v hv
theorem chk2_of (v : BitVec 32) (hv : v.toNat < 131072) : k0_chk2 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off6_eq v hv]; exact srcOff_inb 0 (by decide) v hv
theorem chk10_of (r : Fin k0_t2_loop.trips) (hr : r.val < 15) (v : BitVec 32) (hv : v.toNat < 131072) : k0_chk10 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off32_eq r hr v hv]; exact srcOff_inb _ (by omega) v hv
theorem chk3_of (v : BitVec 32) (hv : v.toNat < 131072) : k0_chk3 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off9_eq v hv]; exact srcOff_inb 0 (by decide) v hv
theorem chk11_of (r : Fin k0_t2_loop.trips) (hr : r.val < 15) (v : BitVec 32) (hv : v.toNat < 131072) : k0_chk11 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off36_eq r hr v hv]; exact srcOff_inb _ (by omega) v hv
theorem chk4_of (v : BitVec 32) (hv : v.toNat < 131072) : k0_chk4 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off12_eq v hv]; exact srcOff_inb 0 (by decide) v hv
theorem chk12_of (r : Fin k0_t2_loop.trips) (hr : r.val < 15) (v : BitVec 32) (hv : v.toNat < 131072) : k0_chk12 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off40_eq r hr v hv]; exact srcOff_inb _ (by omega) v hv
theorem chk5_of (v : BitVec 32) (hv : v.toNat < 131072) : k0_chk5 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off15_eq v hv]; exact srcOff_inb 0 (by decide) v hv
theorem chk13_of (r : Fin k0_t2_loop.trips) (hr : r.val < 15) (v : BitVec 32) (hv : v.toNat < 131072) : k0_chk13 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off44_eq r hr v hv]; exact srcOff_inb _ (by omega) v hv
theorem chk6_of (v : BitVec 32) (hv : v.toNat < 131072) : k0_chk6 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off18_eq v hv]; exact srcOff_inb 0 (by decide) v hv
theorem chk14_of (r : Fin k0_t2_loop.trips) (hr : r.val < 15) (v : BitVec 32) (hv : v.toNat < 131072) : k0_chk14 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off48_eq r hr v hv]; exact srcOff_inb _ (by omega) v hv
theorem chk7_of (v : BitVec 32) (hv : v.toNat < 131072) : k0_chk7 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off21_eq v hv]; exact srcOff_inb 0 (by decide) v hv
theorem chk15_of (r : Fin k0_t2_loop.trips) (hr : r.val < 15) (v : BitVec 32) (hv : v.toNat < 131072) : k0_chk15 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off52_eq r hr v hv]; exact srcOff_inb _ (by omega) v hv
theorem chk8_of (v : BitVec 32) (hv : v.toNat < 131072) : k0_chk8 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off24_eq v hv]; exact srcOff_inb 0 (by decide) v hv
theorem chk16_of (r : Fin k0_t2_loop.trips) (hr : r.val < 15) (v : BitVec 32) (hv : v.toNat < 131072) : k0_chk16 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off56_eq r hr v hv]; exact srcOff_inb _ (by omega) v hv

/-! ## Tiles -/

/-- The elements of position `j` of slot `s`. -/
def tileSet (s j : ℕ) : Finset S2x192x64x128.Idx := Finset.univ.filter fun i => (i 0).val = s ∧ (i 1).val = j
/-- The elements of slot `s`. -/
def slotSet (s : ℕ) : Finset S2x192x64x128.Idx := Finset.univ.filter fun i => (i 0).val = s

theorem mem_tileSet {s j : ℕ} {i : S2x192x64x128.Idx} : i ∈ tileSet s j ↔ (i 0).val = s ∧ (i 1).val = j := by
  simp [tileSet]
theorem mem_slotSet {s : ℕ} {i : S2x192x64x128.Idx} : i ∈ slotSet s ↔ (i 0).val = s := by
  simp [slotSet]

theorem tile_disjoint (s : ℕ) : ∀ t ∈ (Finset.univ : Finset (Fin 192)), ∀ t' ∈ (Finset.univ : Finset (Fin 192)), t ≠ t' → Disjoint (tileSet s t) (tileSet s t') := by
  intro t _ t' _ h
  rw [Finset.disjoint_left]
  intro i hi hi'
  rw [mem_tileSet] at hi hi'
  exact h (Fin.ext (hi.2.symm.trans hi'.2))

theorem slot_eq_biUnion (s : ℕ) : slotSet s = (Finset.univ : Finset (Fin 192)).biUnion (fun j => tileSet s j) := by
  ext i
  simp only [mem_slotSet, Finset.mem_biUnion, Finset.mem_univ, true_and, mem_tileSet]
  exact ⟨fun h => ⟨i 1, h, rfl⟩, fun ⟨_, h, _⟩ => h⟩

theorem slot_disjoint : Disjoint (slotSet 0) (slotSet 1) := by
  rw [Finset.disjoint_left]; intro i hi hi'; rw [mem_slotSet] at hi hi'; omega

theorem slot_union : (Finset.univ : Finset S2x192x64x128.Idx) = slotSet 0 ∪ slotSet 1 := by
  ext i
  simp only [Finset.mem_univ, Finset.mem_union, mem_slotSet, true_iff]
  have : (i 0).val < 2 := (i 0).isLt
  omega

theorem tile_set_eq {oD : Fin 4 → ℕ} {iD : ∀ a, oD a + S1x1x64x128.size a ≤ S2x192x64x128.size a} {s j : ℕ} (h : oD = ![s, j, 0, 0]) :
    (Rect.unit (s := S2x192x64x128) oD S1x1x64x128.size iD).set = tileSet s j := by
  subst h
  ext i
  rw [Rect.mem_set_unit, mem_tileSet]
  constructor
  · intro h
    have h0 := h 0; have h1 := h 1
    change s ≤ (i 0).val ∧ (i 0).val < s + 1 at h0
    change j ≤ (i 1).val ∧ (i 1).val < j + 1 at h1
    omega
  · rintro ⟨h0, h1⟩ a
    fin_cases a
    · change s ≤ (i 0).val ∧ (i 0).val < s + 1; omega
    · change j ≤ (i 1).val ∧ (i 1).val < j + 1; omega
    · change 0 ≤ (i 2).val ∧ (i 2).val < 0 + 64; exact ⟨Nat.zero_le _, by have := (i 2).isLt; change (i 2).val < 64 at this; omega⟩
    · change 0 ≤ (i 3).val ∧ (i 3).val < 0 + 128; exact ⟨Nat.zero_le _, by have := (i 3).isLt; change (i 3).val < 128 at this; omega⟩

theorem slot_set_eq {oD : Fin 4 → ℕ} {iD : ∀ a, oD a + S1x192x64x128.size a ≤ S2x192x64x128.size a} {s : ℕ} (h : oD = ![s, 0, 0, 0]) :
    (Rect.unit (s := S2x192x64x128) oD S1x192x64x128.size iD).set = slotSet s := by
  subst h
  ext i
  rw [Rect.mem_set_unit, mem_slotSet]
  constructor
  · intro h
    have h0 := h 0
    change s ≤ (i 0).val ∧ (i 0).val < s + 1 at h0
    omega
  · rintro h0 a
    fin_cases a
    · change s ≤ (i 0).val ∧ (i 0).val < s + 1; omega
    · change 0 ≤ (i 1).val ∧ (i 1).val < 0 + 192; exact ⟨Nat.zero_le _, by have := (i 1).isLt; change (i 1).val < 192 at this; omega⟩
    · change 0 ≤ (i 2).val ∧ (i 2).val < 0 + 64; exact ⟨Nat.zero_le _, by have := (i 2).isLt; change (i 2).val < 64 at this; omega⟩
    · change 0 ≤ (i 3).val ∧ (i 3).val < 0 + 128; exact ⟨Nat.zero_le _, by have := (i 3).isLt; change (i 3).val < 128 at this; omega⟩

/-! ## Indices -/

/-- The cache element at batch entry `b`, head `n`, channel `d`, position `t` (each wrapped into its range). -/
def srcIx (b n d t : ℕ) : S2x8x64x131072.Idx :=
  fun a => ⟨(![b % 2, n % 8, d % 64, t % 131072] : Fin 4 → ℕ) a, by
    fin_cases a
    · exact Nat.mod_lt _ (by decide)
    · exact Nat.mod_lt _ (by decide)
    · exact Nat.mod_lt _ (by decide)
    · exact Nat.mod_lt _ (by decide)⟩
/-- The word of row `r`, position `j`. -/
def wordIx (r j : ℕ) : S16x192.Idx :=
  fun a => ⟨(![r % 16, j % 192] : Fin 2 → ℕ) a, by
    fin_cases a
    · exact Nat.mod_lt _ (by decide)
    · exact Nat.mod_lt _ (by decide)⟩

/-- What a slot holds once row `r`'s copies have landed: at position `j`, the tile the row's word `j` names. -/
def land {α : Type} (V : S2x8x64x131072.Idx → α) (I : S16x192.Idx → BitVec 32) (r : ℕ) : S2x192x64x128.Idx → α :=
  fun i => V (srcIx (r / 8) (r % 8) (i 2).val ((I (wordIx r (i 1).val)).toNat / 128 * 128 + (i 3).val))

theorem word_emb {o0 : Fin 2 → ℕ} {i0 : ∀ a, o0 a + S1x1.size a ≤ S16x192.size a} {r j : ℕ} (h : o0 = ![r, j]) (x : S1x1.Idx) :
    (Rect.unit (s := S16x192) o0 S1x1.size i0).emb x = wordIx r j := by
  subst h
  have hr := i0 0; have hj := i0 1
  change r + 1 ≤ 16 at hr; change j + 1 ≤ 192 at hj
  funext a
  apply Fin.ext
  fin_cases a
  · have h0 : (x 0).val < 1 := (x 0).isLt
    change r + 1 * (x 0).val = r % 16
    omega
  · have h0 : (x 1).val < 1 := (x 1).isLt
    change j + 1 * (x 1).val = j % 192
    omega

theorem src_emb {oS : Fin 4 → ℕ} {iS : ∀ a, oS a + S1x1x64x128.size a ≤ S2x8x64x131072.size a} {r : ℕ} {v : BitVec 32} (h : oS = srcOff r v) (y : S1x1x64x128.Idx) :
    (Rect.unit (s := S2x8x64x131072) oS S1x1x64x128.size iS).emb y = srcIx (r / 8) (r % 8) (y 2).val (v.toNat / 128 * 128 + (y 3).val) := by
  subst h
  have hr := iS 0; have hv := iS 3
  change r / 8 + 1 ≤ 2 at hr; change v.toNat / 128 * 128 + 128 ≤ 131072 at hv
  have h0 : (y 0).val < 1 := (y 0).isLt
  have h1 : (y 1).val < 1 := (y 1).isLt
  have h2 : (y 2).val < 64 := (y 2).isLt
  have h3 : (y 3).val < 128 := (y 3).isLt
  funext a
  apply Fin.ext
  fin_cases a
  · change r / 8 + 1 * (y 0).val = r / 8 % 2; omega
  · change r % 8 + 1 * (y 1).val = r % 8 % 8; omega
  · change 0 + 1 * (y 2).val = (y 2).val % 64; omega
  · change v.toNat / 128 * 128 + 1 * (y 3).val = (v.toNat / 128 * 128 + (y 3).val) % 131072; omega

theorem dst_emb_val {oD : Fin 4 → ℕ} {iD : ∀ a, oD a + S1x1x64x128.size a ≤ S2x192x64x128.size a} {s j : ℕ} (h : oD = ![s, j, 0, 0]) (y : S1x1x64x128.Idx) :
    ((Rect.unit (s := S2x192x64x128) oD S1x1x64x128.size iD).emb y 1).val = j
      ∧ ((Rect.unit (s := S2x192x64x128) oD S1x1x64x128.size iD).emb y 2).val = (y 2).val
      ∧ ((Rect.unit (s := S2x192x64x128) oD S1x1x64x128.size iD).emb y 3).val = (y 3).val := by
  subst h
  have h1 : (y 1).val < 1 := (y 1).isLt
  refine ⟨?_, ?_, ?_⟩
  · change j + 1 * (y 1).val = j; omega
  · change 0 + 1 * (y 2).val = _; omega
  · change 0 + 1 * (y 3).val = _; omega

end Cert.Kernel.Hand
-- ==== Proof.KIssue.lean ====
/- Starting the copies: what the core holds while a slot's copies are in flight, and the two issue loops. -/
module

public import proofs.«01_k».proof.Proof.KGeo
public import proofs.«01_k».proof.Proof.Gen.Kernel.Launch
public import Idealize.ShloMosaic.Lib.Pipeline.FrameBody
public import Idealize.ShloMosaic.Lib.MixedBatch
public import Idealize.ShloMosaic.Lib.Ring
public import Idealize.ShloMosaic.Lib.Tactic

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A batch's next copy, delivered with something more -/

section PutRule
variable {nD : Nat} {τ : Topo} {sig : RefSig} {Ix : Type} [DecidableEq Ix] {Val : EltTy → Type} {Name : Type} [DecidableEq Name]
variable {U : Type} [URA U] {Lvl : Type}
variable (EC' : UEmb Counters (MT nD τ sig Ix Val Name U Lvl))
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- As the library's rule for a batch's next copy, with a resource `put` handed over at the start and delivered with the
    landing. -/
theorem wp_dmaBatchPut [Infinite Name] [EC'.LandsIn (upEmb : UEmb _ (MT nD τ sig Ix Val Name U Lvl))] {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    {D : Fin n → sProp (MT nD τ sig Ix Val Name U Lvl)} {j u : ℕ} {put : sProp (MT nD τ sig Ix Val Name U Lvl)}
    (ι : Ix) (N : ℕ) (hN : dst.view.amount sm = N) (hSd : dst.view.set ⊆ Sd) (hj : j < n) (hu : u ≤ j * N)
    (hD : iprop(put ∗ (dst.view.loc c ↦[Sd]{fullShare} (dst.view.write Val fd (via.apply (src.view.read Val fs)) Finset.univ))
              ∗ (src.view.loc c ↦[src.view.set]{q} fs)) ⊢ D ⟨j, hj⟩) :
    iprop((src.view.loc c ↦[src.view.set]{q} fs) ∗ (dst.view.loc c ↦[Sd]{fullShare} fd) ∗ put ∗ Batch EC' c sm ι N D j u)
      ⊢ iprop((Batch EC' c sm ι N D (j + 1) u -∗ wp frame (wpE defs 𝒱 c bd) Set.univ (k ⟨⟩) Q)
          -∗ wp frame (wpE defs 𝒱 c bd) Set.univ (.op (.enqueueDmaAs src (.here dst) via sm hsrc hdst hsem) k) Q) := by
  unfold Batch
  iintro ⟨Hs, Hd, Hput, ⟨%γ, %γ₀, %κ, #Hinv, HI, H0, Hcred⟩⟩ Hk
  ihave HI' := (show bigSep (pending j) (fun t => count EC' (γ t) 0) ⊢ iprop(count EC' (γ ⟨j, hj⟩) 0 ∗ bigSep (pending (j + 1)) (fun t => count EC' (γ t) 0))
    from Entails.of_eq (by rw [pending_succ hj, bigSep_insert (not_mem_pending_succ hj)]; rfl)) $$ HI
  icases HI' with ⟨Ht, HI⟩
  iapply (wp_enqueueDmaAs 𝒱 c bd Set.univ ι N hN) $$ [Hs Hd] [Ht Hput]
  · isplitl [Hs]; · iexact Hs
    iapply (pointsTo_writeUpdate c hSd) $$ Hd
  · iapply (batch_creditUpdate_with EC' ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-- The next copy of a batch, from a source held whole: started, and delivered with the source whole again. -/
theorem wp_dmaBatchTok [Infinite Name] [EC'.LandsIn (upEmb : UEmb _ (MT nD τ sig Ix Val Name U Lvl))]
    {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {fs : Buf Val (src.view.loc c)}
    {Sd : Finset (Idx (dst.view.loc c))} {fd : Buf Val (dst.view.loc c)}
    {D : Fin n → sProp (MT nD τ sig Ix Val Name U Lvl)} {j : ℕ}
    (ι : Ix) (N : ℕ) (hN : dst.view.amount sm = N) (hSd : dst.view.set ⊆ Sd) (hj : j < n)
    (hD : iprop((dst.view.loc c ↦[Sd]{fullShare} (dst.view.write Val fd (ReadAs.same.apply (src.view.read Val fs)) Finset.univ))
              ∗ (src.view.loc c ↦[Finset.univ]{q} fs)) ⊢ D ⟨j, hj⟩) :
    iprop(Batch EC' c sm ι N D j 0 ∗ (dst.view.loc c ↦[Sd]{fullShare} fd) ∗ (src.view.loc c ↦[Finset.univ]{q} fs))
      ⊢ wp frame (wpE defs 𝒱 c bd) Set.univ (Prog.lift (TpuEff.enqueueDma src (.here dst) sm hsrc hdst hsem)) (fun _ => Batch EC' c sm ι N D (j + 1) 0) := by
  have hD' : iprop((src.view.loc c ↦[Finset.univ \ src.view.set]{q} fs) ∗ (dst.view.loc c ↦[Sd]{fullShare} (dst.view.write Val fd (ReadAs.same.apply (src.view.read Val fs)) Finset.univ))
      ∗ (src.view.loc c ↦[src.view.set]{q} fs)) ⊢ D ⟨j, hj⟩ := by
    have h' : (iprop((src.view.loc c ↦[Finset.univ \ src.view.set]{q} fs) ∗ (dst.view.loc c ↦[Sd]{fullShare} (dst.view.write Val fd (ReadAs.same.apply (src.view.read Val fs)) Finset.univ))
      ∗ (src.view.loc c ↦[src.view.set]{q} fs)) : sProp (MT nD τ sig Ix Val Name U Lvl)) ⊢ iprop((dst.view.loc c ↦[Sd]{fullShare} (dst.view.write Val fd (ReadAs.same.apply (src.view.read Val fs)) Finset.univ))
      ∗ (src.view.loc c ↦[Finset.univ]{q} fs)) := by
      iintro ⟨H1, H2, H3⟩
      isplitl [H2]; · iexact H2
      iapply (pointsTo_split_subset (Finset.subset_univ src.view.set)).2
      isplitl [H3]; · iexact H3
      iexact H1
    exact h'.trans hD
  iintro ⟨HB, Hd, Hs⟩
  ihave Hs := (pointsTo_split_subset (Finset.subset_univ src.view.set)).1 $$ Hs
  icases Hs with ⟨Hs, HsC⟩
  iapply (wp_dmaBatchPut EC' 𝒱 c bd ι N hN hSd hj (Nat.zero_le _) hD') $$ [HB Hd Hs HsC]
  · isplitl [Hs]; · iexact Hs
    isplitl [Hd]; · iexact Hd
    isplitl [HsC]; · iexact HsC
    iexact HB
  iintro H
  rw [wp_ret]
  imodintro
  iexact H

end PutRule

/-! ## The semaphore cells -/

/-- The semaphore of slot `s`. -/
def cell (s : ℕ) : DmaSem sig := if s = 0 then (11 : Fin 13) else (12 : Fin 13)
theorem sem_zero : ((cc0_scratch2.slice (Rect.unit (s := S2) ![0] S1.size inb_S2_S1_0)).squeeze S_ squeezes_S1_S_).sem = cell 0 := by
  decide +kernel
theorem sem_26 : ∀ (r : Fin k0_t2_loop.trips) (h1 : k0_cond1 r = 1#1), ((cc0_scratch2.slice (Rect.unit (s := S2) (k0_off26 r) S1.size (k0_off26_inb r h1))).squeeze S_ squeezes_S1_S_).sem = cell (1 - r.val % 2) := by
  decide +kernel
theorem sem_57 : ∀ (r : Fin k0_t2_loop.trips), ((cc0_scratch2.slice (Rect.unit (s := S2) (k0_off57 r) S1.size (k0_off57_inb r))).squeeze S_ squeezes_S1_S_).sem = cell (r.val % 2) := by
  decide +kernel

/-! ## Held while copies are in flight -/

/-- The caches and the two gather buffers. -/
abbrev srcK : Memref sig .tc .hbm S2x8x64x131072 .i8 := Memref.whole main_v7
abbrev srcV : Memref sig .tc .hbm S2x8x64x131072 .i8 := Memref.whole main_v8
abbrev bufK : Memref sig .tc .vmem S2x192x64x128 .i8 := Memref.whole cc0_scratch0
abbrev bufV : Memref sig .tc .vmem S2x192x64x128 .i8 := Memref.whole cc0_scratch1

variable (c : Dev nD)

/-- The share of the caches slot `s` works with. -/
def slotShare (s : ℕ) : PosShare TreeShare := if s = 0 then shareDrop fullShare 1 else shareTokN fullShare 0

variable (Vk Vv : S2x8x64x131072.Idx → Elt F .i8) (I : S16x192.Idx → Elt F .i32)

/-- What the copies into position `j` of slot `s` deliver, once row `r`'s are started. -/
def delK (s r j : ℕ) : sProp 𝕄 := iprop((bufK.view.loc (c : Thread nD τ) ↦[tileSet s j]{fullShare} land Vk I r) ∗ (srcK.view.loc (c : Thread nD τ) ↦[Finset.univ]{shareTokN (slotShare s) j} Vk))
def delV (s r j : ℕ) : sProp 𝕄 := iprop((bufV.view.loc (c : Thread nD τ) ↦[tileSet s j]{fullShare} land Vv I r) ∗ (srcV.view.loc (c : Thread nD τ) ↦[Finset.univ]{shareTokN (slotShare s) j} Vv))
/-- What starting them takes. -/
def stuff (s j : ℕ) : sProp 𝕄 := iprop((∃ f, bufK.view.loc (c : Thread nD τ) ↦[tileSet s j]{fullShare} f) ∗ (srcK.view.loc (c : Thread nD τ) ↦[Finset.univ]{shareTokN (slotShare s) j} Vk)
  ∗ (∃ f, bufV.view.loc (c : Thread nD τ) ↦[tileSet s j]{fullShare} f) ∗ (srcV.view.loc (c : Thread nD τ) ↦[Finset.univ]{shareTokN (slotShare s) j} Vv))

instance (s r j : ℕ) : Storable (upEmb : UEmb _ 𝕄) (delK (F := F) c Vk I s r j) := by unfold delK; infer_instance
instance (s r j : ℕ) : Storable (upEmb : UEmb _ 𝕄) (delV (F := F) c Vv I s r j) := by unfold delV; infer_instance

/-- The slot with the copies of the first `j` positions of row `r` started. -/
def Fly (s r j : ℕ) : sProp 𝕄 :=
  iprop(Batch (countersEmb (U := Pipeline.UD sig nD τ)) (c : Thread nD τ) (.dma (cell s)) () 256 (Ring.interleaved 192 (delK (F := F) c Vk I s r) (delV c Vv I s r)) (2 * j) 0
    ∗ bigSep (Finset.Ico j 192) (stuff (F := F) c Vk Vv s))

/-- The words the rows are read from. -/
abbrev words : sProp 𝕄 := ((Memref.whole cc0_stg0_0 : Memref sig .tc .smem S16x192 .i32).view.loc (c : Thread nD τ) ↦[Finset.univ]{fullShare} I)

theorem tile_view_set {m : Memref sig .tc .vmem S2x192x64x128 .i8} {oD : Fin 4 → ℕ} {iD : ∀ a, oD a + S1x1x64x128.size a ≤ S2x192x64x128.size a} :
    ((m.slice (Rect.unit (s := S2x192x64x128) oD S1x1x64x128.size iD) (fun _ => rfl)).squeeze S64x128 squeezes_S1x1x64x128_S64x128).view.set
      = (m.view.slice (Rect.unit (s := S2x192x64x128) oD S1x1x64x128.size iD)).set := by
  show (View.reshape _ _ _).set = _
  rw [View.set_reshape]

theorem landed_aux {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j)))
    (V : S2x8x64x131072.Idx → Elt F .i8) (y : S1x1x64x128.Idx) :
    V ((Rect.unit (s := S2x8x64x131072) oS S1x1x64x128.size iS).emb y) = land V I r ((Rect.unit (s := S2x192x64x128) oD S1x1x64x128.size iD).emb y) := by
  rw [src_emb hS]
  obtain ⟨h1, h2, h3⟩ := dst_emb_val (iD := iD) hD y
  unfold land
  rw [h1, h2, h3]

/-- Where a copy lands it writes what the row's word names. -/
theorem landedK {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j))) (f : S2x192x64x128.Idx → Elt F .i8) :
    ∀ i ∈ tileSet s j, ((bufK.slice (Rect.unit (s := S2x192x64x128) oD S1x1x64x128.size iD) (fun _ => rfl)).squeeze S64x128 squeezes_S1x1x64x128_S64x128).view.write (Elt F) f
      (ReadAs.same.apply (((srcK.slice (Rect.unit (s := S2x8x64x131072) oS S1x1x64x128.size iS) (fun _ => rfl)).squeeze S64x128 squeezes_S1x1x64x128_S64x128).view.read (Elt F) Vk)) Finset.univ i = land Vk I r i := by
  intro i hi
  rw [← tile_set_eq (iD := iD) hD] at hi
  have hi' : i ∈ ((bufK.slice (Rect.unit (s := S2x192x64x128) oD S1x1x64x128.size iD) (fun _ => rfl)).squeeze S64x128 squeezes_S1x1x64x128_S64x128).view.set := by
    rw [tile_view_set]; rwa [View.set_slice_whole]
  obtain ⟨x, -, rfl⟩ := Finset.mem_map.mp hi'
  rw [View.write_emb_of_mem _ _ (Finset.mem_univ _)]
  exact landed_aux I hD hS Vk _

theorem landedV {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j))) (f : S2x192x64x128.Idx → Elt F .i8) :
    ∀ i ∈ tileSet s j, ((bufV.slice (Rect.unit (s := S2x192x64x128) oD S1x1x64x128.size iD) (fun _ => rfl)).squeeze S64x128 squeezes_S1x1x64x128_S64x128).view.write (Elt F) f
      (ReadAs.same.apply (((srcV.slice (Rect.unit (s := S2x8x64x131072) oS S1x1x64x128.size iS) (fun _ => rfl)).squeeze S64x128 squeezes_S1x1x64x128_S64x128).view.read (Elt F) Vv)) Finset.univ i = land Vv I r i := by
  intro i hi
  rw [← tile_set_eq (iD := iD) hD] at hi
  have hi' : i ∈ ((bufV.slice (Rect.unit (s := S2x192x64x128) oD S1x1x64x128.size iD) (fun _ => rfl)).squeeze S64x128 squeezes_S1x1x64x128_S64x128).view.set := by
    rw [tile_view_set]; rwa [View.set_slice_whole]
  obtain ⟨x, -, rfl⟩ := Finset.mem_map.mp hi'
  rw [View.write_emb_of_mem _ _ (Finset.mem_univ _)]
  exact landed_aux I hD hS Vv _

theorem amountK {oD : Fin 4 → ℕ} {iD : ∀ a, oD a + S1x1x64x128.size a ≤ S2x192x64x128.size a} {sm : DmaSem sig} :
    ((bufK.slice (Rect.unit (s := S2x192x64x128) oD S1x1x64x128.size iD) (fun _ => rfl)).squeeze S64x128 squeezes_S1x1x64x128_S64x128).view.amount (.dma sm) = 256 := by rfl

/-- The copy of one K tile. -/
theorem wp_copyK {sm : DmaSem sig} {oD : Fin 4 → ℕ} {iD : ∀ a, oD a + S1x1x64x128.size a ≤ S2x192x64x128.size a}
    {oS : Fin 4 → ℕ} {iS : ∀ a, oS a + S1x1x64x128.size a ≤ S2x8x64x131072.size a}
    {h1 : ((srcK.slice (Rect.unit (s := S2x8x64x131072) oS S1x1x64x128.size iS) (fun _ => rfl)).squeeze S64x128 squeezes_S1x1x64x128_S64x128).view.WordExact}
    {h2 : ((bufK.slice (Rect.unit (s := S2x192x64x128) oD S1x1x64x128.size iD) (fun _ => rfl)).squeeze S64x128 squeezes_S1x1x64x128_S64x128).view.WordExact}
    {h3 : DmaTarget.Typed (nD := nD) (τ := τ) (sig := sig) (p := .tc) .hbm (.dma sm) (.here ((bufK.slice (Rect.unit (s := S2x192x64x128) oD S1x1x64x128.size iD) (fun _ => rfl)).squeeze S64x128 squeezes_S1x1x64x128_S64x128))}
    (s r j : ℕ) (hj : j < 192) (hsm : sm = cell s) (hoD : oD = ![s, j, 0, 0]) (hoS : oS = srcOff r (I (wordIx r j)))
    (f : S2x192x64x128.Idx → Elt F .i8) :
    iprop(Batch (countersEmb (U := Pipeline.UD sig nD τ)) (c : Thread nD τ) (.dma (cell s)) () 256 (Ring.interleaved 192 (delK (F := F) c Vk I s r) (delV c Vv I s r)) (2 * j) 0
        ∗ (bufK.view.loc (c : Thread nD τ) ↦[tileSet s j]{fullShare} f) ∗ (srcK.view.loc (c : Thread nD τ) ↦[Finset.univ]{shareTokN (slotShare s) j} Vk))
      ⊢ wp frame (wpE (defs₀ (F := F)) Variants.none (c : Thread nD τ) none) Set.univ
        (Prog.lift (TpuEff.enqueueDma ((srcK.slice (Rect.unit (s := S2x8x64x131072) oS S1x1x64x128.size iS) (fun _ => rfl)).squeeze S64x128 squeezes_S1x1x64x128_S64x128)
          (.here ((bufK.slice (Rect.unit (s := S2x192x64x128) oD S1x1x64x128.size iD) (fun _ => rfl)).squeeze S64x128 squeezes_S1x1x64x128_S64x128)) (.dma sm) h1 h2 h3))
        (fun _ => Batch (countersEmb (U := Pipeline.UD sig nD τ)) (c : Thread nD τ) (.dma (cell s)) () 256 (Ring.interleaved 192 (delK (F := F) c Vk I s r) (delV c Vv I s r)) (2 * j + 1) 0) := by
  subst hsm
  have hland := landedK (F := F) Vk I (iD := iD) hoD (iS := iS) hoS f
  have hset : ((bufK.slice (Rect.unit (s := S2x192x64x128) oD S1x1x64x128.size iD) (fun _ => rfl)).squeeze S64x128 squeezes_S1x1x64x128_S64x128).view.set ⊆ tileSet s j := by
    rw [tile_view_set, View.set_slice_whole, tile_set_eq hoD]
  have hx : (2 * j) < 2 * 192 := by omega
  refine wp_dmaBatchTok (countersEmb (U := Pipeline.UD sig nD τ)) (defs := defs₀ (F := F)) Variants.none (c : Thread nD τ) none (src := ((srcK.slice (Rect.unit (s := S2x8x64x131072) oS S1x1x64x128.size iS) (fun _ => rfl)).squeeze S64x128 squeezes_S1x1x64x128_S64x128))
    (dst := ((bufK.slice (Rect.unit (s := S2x192x64x128) oD S1x1x64x128.size iD) (fun _ => rfl)).squeeze S64x128 squeezes_S1x1x64x128_S64x128))
    (hsrc := h1) (hdst := h2) (hsem := h3) (q := shareTokN (slotShare s) j) (fs := Vk) (fd := f)
    (D := Ring.interleaved 192 (delK (F := F) c Vk I s r) (delV c Vv I s r)) () 256 amountK hset hx ?_
  rw [Ring.interleaved_even]
  unfold delK
  exact sep_mono_left (Entails.of_eq (pointsTo_congr hland))

theorem amountV {oD : Fin 4 → ℕ} {iD : ∀ a, oD a + S1x1x64x128.size a ≤ S2x192x64x128.size a} {sm : DmaSem sig} :
    ((bufV.slice (Rect.unit (s := S2x192x64x128) oD S1x1x64x128.size iD) (fun _ => rfl)).squeeze S64x128 squeezes_S1x1x64x128_S64x128).view.amount (.dma sm) = 256 := by rfl

/-- The copy of one V tile. -/
theorem wp_copyV {sm : DmaSem sig} {oD : Fin 4 → ℕ} {iD : ∀ a, oD a + S1x1x64x128.size a ≤ S2x192x64x128.size a}
    {oS : Fin 4 → ℕ} {iS : ∀ a, oS a + S1x1x64x128.size a ≤ S2x8x64x131072.size a}
    {h1 : ((srcV.slice (Rect.unit (s := S2x8x64x131072) oS S1x1x64x128.size iS) (fun _ => rfl)).squeeze S64x128 squeezes_S1x1x64x128_S64x128).view.WordExact}
    {h2 : ((bufV.slice (Rect.unit (s := S2x192x64x128) oD S1x1x64x128.size iD) (fun _ => rfl)).squeeze S64x128 squeezes_S1x1x64x128_S64x128).view.WordExact}
    {h3 : DmaTarget.Typed (nD := nD) (τ := τ) (sig := sig) (p := .tc) .hbm (.dma sm) (.here ((bufV.slice (Rect.unit (s := S2x192x64x128) oD S1x1x64x128.size iD) (fun _ => rfl)).squeeze S64x128 squeezes_S1x1x64x128_S64x128))}
    (s r j : ℕ) (hj : j < 192) (hsm : sm = cell s) (hoD : oD = ![s, j, 0, 0]) (hoS : oS = srcOff r (I (wordIx r j)))
    (f : S2x192x64x128.Idx → Elt F .i8) :
    iprop(Batch (countersEmb (U := Pipeline.UD sig nD τ)) (c : Thread nD τ) (.dma (cell s)) () 256 (Ring.interleaved 192 (delK (F := F) c Vk I s r) (delV c Vv I s r)) (2 * j + 1) 0
        ∗ (bufV.view.loc (c : Thread nD τ) ↦[tileSet s j]{fullShare} f) ∗ (srcV.view.loc (c : Thread nD τ) ↦[Finset.univ]{shareTokN (slotShare s) j} Vv))
      ⊢ wp frame (wpE (defs₀ (F := F)) Variants.none (c : Thread nD τ) none) Set.univ
        (Prog.lift (TpuEff.enqueueDma ((srcV.slice (Rect.unit (s := S2x8x64x131072) oS S1x1x64x128.size iS) (fun _ => rfl)).squeeze S64x128 squeezes_S1x1x64x128_S64x128)
          (.here ((bufV.slice (Rect.unit (s := S2x192x64x128) oD S1x1x64x128.size iD) (fun _ => rfl)).squeeze S64x128 squeezes_S1x1x64x128_S64x128)) (.dma sm) h1 h2 h3))
        (fun _ => Batch (countersEmb (U := Pipeline.UD sig nD τ)) (c : Thread nD τ) (.dma (cell s)) () 256 (Ring.interleaved 192 (delK (F := F) c Vk I s r) (delV c Vv I s r)) (2 * (j + 1)) 0) := by
  subst hsm
  have hland := landedV (F := F) Vv I (iD := iD) hoD (iS := iS) hoS f
  have hset : ((bufV.slice (Rect.unit (s := S2x192x64x128) oD S1x1x64x128.size iD) (fun _ => rfl)).squeeze S64x128 squeezes_S1x1x64x128_S64x128).view.set ⊆ tileSet s j := by
    rw [tile_view_set, View.set_slice_whole, tile_set_eq hoD]
  have hx : (2 * j + 1) < 2 * 192 := by omega
  refine wp_dmaBatchTok (countersEmb (U := Pipeline.UD sig nD τ)) (defs := defs₀ (F := F)) Variants.none (c : Thread nD τ) none (src := ((srcV.slice (Rect.unit (s := S2x8x64x131072) oS S1x1x64x128.size iS) (fun _ => rfl)).squeeze S64x128 squeezes_S1x1x64x128_S64x128))
    (dst := ((bufV.slice (Rect.unit (s := S2x192x64x128) oD S1x1x64x128.size iD) (fun _ => rfl)).squeeze S64x128 squeezes_S1x1x64x128_S64x128))
    (hsrc := h1) (hdst := h2) (hsem := h3) (q := shareTokN (slotShare s) j) (fs := Vv) (fd := f)
    (D := Ring.interleaved 192 (delK (F := F) c Vk I s r) (delV c Vv I s r)) () 256 amountV hset hx ?_
  rw [Ring.interleaved_odd]
  unfold delV
  exact sep_mono_left (Entails.of_eq (pointsTo_congr hland))

theorem wp_issue {arg0 : Memref sig .tc .smem S16x192 .i32} (h0 : arg0 = Memref.whole cc0_stg0_0)
    {sm : DmaSem sig} {o0 : Fin 2 → ℕ} {i0 : ∀ a, o0 a + S1x1.size a ≤ S16x192.size a}
    {oD : Fin 4 → ℕ} {iD : ∀ a, oD a + S1x1x64x128.size a ≤ S2x192x64x128.size a}
    {wD : (Rect.unit (s := S2x192x64x128) oD S1x1x64x128.size iD).WholeWords (EltTy.packing .i8)}
    {chk : BitVec 32 → Prop} {dec : ∀ v, Decidable (chk v)} {oS : BitVec 32 → Fin 4 → ℕ}
    {iS : ∀ v, chk v → ∀ a, oS v a + S1x1x64x128.size a ≤ S2x8x64x131072.size a}
    {wS : ∀ v (h : chk v), (Rect.unit (s := S2x8x64x131072) (oS v) S1x1x64x128.size (iS v h)).WholeWords (EltTy.packing .i8)}
    (hI : ∀ x, BitVec.toNat (I x) < 131072) (s r j : ℕ) (hj : j < 192) (hr : r < 16) (hsm : sm = cell s) (ho0 : o0 = ![r, j]) (hoD : oD = ![s, j, 0, 0])
    (hchk : ∀ v : BitVec 32, v.toNat < 131072 → chk v) (hoS : ∀ v : BitVec 32, v.toNat < 131072 → oS v = srcOff r v) :
    iprop(words c I ∗ Fly c Vk Vv I s r j) ⊢ wp frame (wpE (defs₀ (F := F)) Variants.none (c : Thread nD τ) none) Set.univ
      (issue (F := F) arg0 srcK (Memref.isWhole_whole _) srcV (Memref.isWhole_whole _) bufK (Memref.isWhole_whole _) bufV (Memref.isWhole_whole _) sm o0 i0 oD iD wD chk dec oS iS wS)
      (fun _ => iprop(words c I ∗ Fly c Vk Vv I s r (j + 1))) := by
  subst h0 hsm
  unfold issue smemLoad Fly words
  have hIco : Finset.Ico j 192 = insert j (Finset.Ico (j + 1) 192) := by ext i; simp only [Finset.mem_Ico, Finset.mem_insert]; omega
  have hst : bigSep (Finset.Ico j 192) (stuff (F := F) c Vk Vv s) = iprop(stuff c Vk Vv s j ∗ bigSep (Finset.Ico (j + 1) 192) (stuff c Vk Vv s)) := by
    rw [hIco, bigSep_insert (by simp)]; rfl
  rw [hst]
  unfold stuff
  iintro ⟨HI, HB, ⟨⟨%fk, Hbk⟩, Hsk, ⟨%fv, Hbv⟩, Hsv⟩, HR⟩
  rw [wp_bind]
  iapply (wp_smemLoadElt Variants.none (c : Thread nD τ) none Set.univ (Finset.subset_univ _)) $$ [HI]
  · iexact HI
  iintro HI
  have hword : (((Memref.whole cc0_stg0_0 : Memref sig .tc .smem S16x192 .i32).access (Rect.unit (s := S16x192) o0 S1x1.size i0)).read (Elt F) I (Shape.Idx.first (numel1_S1x1.symm ▸ Nat.one_pos)) : Elt F .i32) = I (wordIx r j) := by
    show I ((Rect.unit (s := S16x192) o0 S1x1.size i0).emb _) = _
    rw [word_emb ho0]
  rw [hword, wp_ret]
  imodintro
  rw [wp_bind]
  iapply (wp_assume Variants.none (c : Thread nD τ) none Set.univ (hchk _ (hI _)))
  rw [wp_ret]
  imodintro
  have hoS' := hoS _ (hI (wordIx r j))
  rw [wp_bind]
  have hK := wp_copyK (F := F) c Vk Vv I (iD := iD) (iS := iS _ (hchk _ (hI _))) (h1 := (Memref.isWhole_whole main_v7).wordExact_slice rfl _ (wS (I (wordIx r j)) (hchk _ (hI _))) |>.reshape _ _)
    (h2 := (Memref.isWhole_whole cc0_scratch0).wordExact_slice rfl _ wD |>.reshape _ _) (h3 := ⟨Or.inl rfl, trivial⟩) s r j hj rfl hoD hoS' fk
  have hV := wp_copyV (F := F) c Vk Vv I (iD := iD) (iS := iS _ (hchk _ (hI _))) (h1 := (Memref.isWhole_whole main_v8).wordExact_slice rfl _ (wS (I (wordIx r j)) (hchk _ (hI _))) |>.reshape _ _)
    (h2 := (Memref.isWhole_whole cc0_scratch1).wordExact_slice rfl _ wD |>.reshape _ _) (h3 := ⟨Or.inl rfl, trivial⟩) s r j hj rfl hoD hoS' fv
  ihave HW := hK $$ [HB Hbk Hsk]
  · isplitl [HB]; · iexact HB
    isplitl [Hbk]; · iexact Hbk
    iexact Hsk
  iapply (wp_wand _ _ _) $$ HW
  iintro %_ HB
  ihave HW := hV $$ [HB Hbv Hsv]
  · isplitl [HB]; · iexact HB
    isplitl [Hbv]; · iexact Hbv
    iexact Hsv
  iapply (wp_wand _ _ _) $$ HW
  iintro %_ HB
  isplitl [HI]; · iexact HI
  isplitl [HB]; · iexact HB
  iexact HR

end Cert.Kernel.Hand
-- ==== Proof.KLoops.lean ====
/- The two issue loops: each takes a slot with no copy started to the slot with every copy of a row started. -/
module

public import proofs.«01_k».proof.Proof.KIssue

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)
variable (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole)

theorem trips1 : k0_t1_loop.trips = 24 := by decide +kernel
theorem trips2 : k0_t2_loop.trips = 16 := by decide +kernel
theorem trips3 : k0_t3_loop.trips = 24 := by decide +kernel
theorem trips4 : k0_t4_loop.trips = 32 := by decide +kernel
theorem trips5 : k0_t5_loop.trips = 16 := by decide +kernel

/-- One trip of the first issue loop. -/
theorem wp_t1_body (hI : ∀ x, BitVec.toNat (I x) < 131072) (k : Fin k0_t1_loop.trips) (u : PUnit) :
    iprop(words c I ∗ Fly c Vk Vv I 0 0 (8 * k.val)) ⊢ wp frame (wpE (defs₀ (F := F)) Variants.none (c : Thread nD τ) none) Set.univ
      (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 k u) (fun _ => iprop(words c I ∗ Fly c Vk Vv I 0 0 (8 * (k.val + 1)))) := by
  have hk : k.val < 24 := lt_of_lt_of_eq k.isLt trips1
  rw [t1_body_eq]
  rw [wp_bind]
  refine (wp_issue c Vk Vv I rfl hI 0 0 (8 * k.val) (by omega) (by decide) sem_zero (k0_off1_eq k) (k0_off2_eq k) chk1_of off3_eq).trans (wp_mono _ _ _ fun _ => ?_)
  rw [wp_bind]
  refine (wp_issue c Vk Vv I rfl hI 0 0 (8 * k.val + 1) (by omega) (by decide) sem_zero (k0_off4_eq k) (k0_off5_eq k) chk2_of off6_eq).trans (wp_mono _ _ _ fun _ => ?_)
  rw [wp_bind]
  refine (wp_issue c Vk Vv I rfl hI 0 0 (8 * k.val + 2) (by omega) (by decide) sem_zero (k0_off7_eq k) (k0_off8_eq k) chk3_of off9_eq).trans (wp_mono _ _ _ fun _ => ?_)
  rw [wp_bind]
  refine (wp_issue c Vk Vv I rfl hI 0 0 (8 * k.val + 3) (by omega) (by decide) sem_zero (k0_off10_eq k) (k0_off11_eq k) chk4_of off12_eq).trans (wp_mono _ _ _ fun _ => ?_)
  rw [wp_bind]
  refine (wp_issue c Vk Vv I rfl hI 0 0 (8 * k.val + 4) (by omega) (by decide) sem_zero (k0_off13_eq k) (k0_off14_eq k) chk5_of off15_eq).trans (wp_mono _ _ _ fun _ => ?_)
  rw [wp_bind]
  refine (wp_issue c Vk Vv I rfl hI 0 0 (8 * k.val + 5) (by omega) (by decide) sem_zero (k0_off16_eq k) (k0_off17_eq k) chk6_of off18_eq).trans (wp_mono _ _ _ fun _ => ?_)
  rw [wp_bind]
  refine (wp_issue c Vk Vv I rfl hI 0 0 (8 * k.val + 6) (by omega) (by decide) sem_zero (k0_off19_eq k) (k0_off20_eq k) chk7_of off21_eq).trans (wp_mono _ _ _ fun _ => ?_)
  rw [wp_bind]
  refine (wp_issue c Vk Vv I rfl hI 0 0 (8 * k.val + 7) (by omega) (by decide) sem_zero (k0_off22_eq k) (k0_off23_eq k) chk8_of off24_eq).trans (wp_mono _ _ _ fun _ => ?_)
  iintro H
  iapply (le_wp_ret _ _ _ _ _)
  iexact H

/-- The first issue loop starts every copy of row `0` into slot `0`. -/
theorem wp_t1 (hI : ∀ x, BitVec.toNat (I x) < 131072) {Q : PUnit → sProp 𝕄} :
    iprop((words c I ∗ Fly c Vk Vv I 0 0 0) ∗ ((words c I ∗ Fly c Vk Vv I 0 0 192) -∗ Q ⟨⟩)) ⊢ wp frame (wpE (defs₀ (F := F)) Variants.none (c : Thread nD τ) none) Set.univ
      (Scf.Loop.for k0_t1_loop k0_t1_ok ⟨⟩ (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2)) Q := by
  have h := Scf.wp_for frame (wpE (defs₀ (F := F)) Variants.none (c : Thread nD τ) none) Set.univ k0_t1_loop.lb k0_t1_loop.ub k0_t1_loop.st k0_t1_ok ⟨⟩ (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2)
    (fun k _ => iprop(words c I ∗ Fly c Vk Vv I 0 0 (8 * k))) (fun k u => wp_t1_body c Vk Vv I arg1 harg1 arg2 harg2 arg3 harg3 arg4 harg4 arg5 harg5 arg6 harg6 arg9 harg9 arg10 harg10 arg11 harg11 arg12 harg12 hI k u) (Q := Q)
  rw [show Scf.trips k0_t1_loop.lb k0_t1_loop.ub k0_t1_loop.st = 24 from trips1] at h
  iintro ⟨H1, H2⟩
  iapply h
  isplitl [H1]; · iexact H1
  iintro %_ H
  iapply H2
  iexact H

/-- One trip of the next row's issue loop. -/
theorem wp_t3_body (hI : ∀ x, BitVec.toNat (I x) < 131072) (r : Fin k0_t2_loop.trips) (h1 : k0_cond1 r = 1#1) (w : BitVec 32) (k : Fin k0_t3_loop.trips) (u : PUnit) :
    iprop(words c I ∗ Fly c Vk Vv I (1 - r.val % 2) (r.val + 1) (8 * k.val)) ⊢ wp frame (wpE (defs₀ (F := F)) Variants.none (c : Thread nD τ) none) Set.univ
      (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w k u) (fun _ => iprop(words c I ∗ Fly c Vk Vv I (1 - r.val % 2) (r.val + 1) (8 * (k.val + 1)))) := by
  have hk : k.val < 24 := lt_of_lt_of_eq k.isLt trips3
  have hr : r.val < 15 := (cond1_iff r).mp h1
  rw [t3_body_eq]
  rw [wp_bind]
  refine (wp_issue c Vk Vv I rfl hI (1 - r.val % 2) (r.val + 1) (8 * k.val) (by omega) (by omega) (sem_26 r h1) (k0_off25_eq r k) (off27_eq r k) (chk9_of r hr) (off28_eq r hr)).trans (wp_mono _ _ _ fun _ => ?_)
  rw [wp_bind]
  refine (wp_issue c Vk Vv I rfl hI (1 - r.val % 2) (r.val + 1) (8 * k.val + 1) (by omega) (by omega) (sem_26 r h1) (k0_off29_eq r k) (off31_eq r k) (chk10_of r hr) (off32_eq r hr)).trans (wp_mono _ _ _ fun _ => ?_)
  rw [wp_bind]
  refine (wp_issue c Vk Vv I rfl hI (1 - r.val % 2) (r.val + 1) (8 * k.val + 2) (by omega) (by omega) (sem_26 r h1) (k0_off33_eq r k) (off35_eq r k) (chk11_of r hr) (off36_eq r hr)).trans (wp_mono _ _ _ fun _ => ?_)
  rw [wp_bind]
  refine (wp_issue c Vk Vv I rfl hI (1 - r.val % 2) (r.val + 1) (8 * k.val + 3) (by omega) (by omega) (sem_26 r h1) (k0_off37_eq r k) (off39_eq r k) (chk12_of r hr) (off40_eq r hr)).trans (wp_mono _ _ _ fun _ => ?_)
  rw [wp_bind]
  refine (wp_issue c Vk Vv I rfl hI (1 - r.val % 2) (r.val + 1) (8 * k.val + 4) (by omega) (by omega) (sem_26 r h1) (k0_off41_eq r k) (off43_eq r k) (chk13_of r hr) (off44_eq r hr)).trans (wp_mono _ _ _ fun _ => ?_)
  rw [wp_bind]
  refine (wp_issue c Vk Vv I rfl hI (1 - r.val % 2) (r.val + 1) (8 * k.val + 5) (by omega) (by omega) (sem_26 r h1) (k0_off45_eq r k) (off47_eq r k) (chk14_of r hr) (off48_eq r hr)).trans (wp_mono _ _ _ fun _ => ?_)
  rw [wp_bind]
  refine (wp_issue c Vk Vv I rfl hI (1 - r.val % 2) (r.val + 1) (8 * k.val + 6) (by omega) (by omega) (sem_26 r h1) (k0_off49_eq r k) (off51_eq r k) (chk15_of r hr) (off52_eq r hr)).trans (wp_mono _ _ _ fun _ => ?_)
  rw [wp_bind]
  refine (wp_issue c Vk Vv I rfl hI (1 - r.val % 2) (r.val + 1) (8 * k.val + 7) (by omega) (by omega) (sem_26 r h1) (k0_off53_eq r k) (off55_eq r k) (chk16_of r hr) (off56_eq r hr)).trans (wp_mono _ _ _ fun _ => ?_)
  iintro H
  iapply (le_wp_ret _ _ _ _ _)
  iexact H

/-- The next row's issue loop starts every copy of row `r + 1` into the other slot. -/
theorem wp_t3 (hI : ∀ x, BitVec.toNat (I x) < 131072) (r : Fin k0_t2_loop.trips) (h1 : k0_cond1 r = 1#1) (w : BitVec 32) {Q : PUnit → sProp 𝕄} :
    iprop((words c I ∗ Fly c Vk Vv I (1 - r.val % 2) (r.val + 1) 0) ∗ ((words c I ∗ Fly c Vk Vv I (1 - r.val % 2) (r.val + 1) 192) -∗ Q ⟨⟩)) ⊢ wp frame (wpE (defs₀ (F := F)) Variants.none (c : Thread nD τ) none) Set.univ
      (Scf.Loop.for k0_t3_loop (k0_t3_ok r h1) ⟨⟩ (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w)) Q := by
  have h := Scf.wp_for frame (wpE (defs₀ (F := F)) Variants.none (c : Thread nD τ) none) Set.univ k0_t3_loop.lb k0_t3_loop.ub k0_t3_loop.st (k0_t3_ok r h1) ⟨⟩ (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w)
    (fun k _ => iprop(words c I ∗ Fly c Vk Vv I (1 - r.val % 2) (r.val + 1) (8 * k))) (fun k u => wp_t3_body c Vk Vv I arg1 harg1 arg2 harg2 arg3 harg3 arg4 harg4 arg5 harg5 arg6 harg6 arg9 harg9 arg10 harg10 arg11 harg11 arg12 harg12 hI r h1 w k u) (Q := Q)
  rw [show Scf.trips k0_t3_loop.lb k0_t3_loop.ub k0_t3_loop.st = 24 from trips3] at h
  iintro ⟨H1, H2⟩
  iapply h
  isplitl [H1]; · iexact H1
  iintro %_ H
  iapply H2
  iexact H

end Cert.Kernel.Hand
-- ==== Proof.KWait.lean ====
/- A slot at rest, the start of its batch of copies, and the two waits that end it. -/
module

public import proofs.«01_k».proof.Proof.KLoops

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)

/-- The slot's buffers, every element of a slot at the full share. -/
abbrev slotK (s : ℕ) (f : S2x192x64x128.Idx → Elt F .i8) : sProp 𝕄 := (bufK.view.loc (c : Thread nD τ) ↦[slotSet s]{fullShare} f)
abbrev slotV (s : ℕ) (f : S2x192x64x128.Idx → Elt F .i8) : sProp 𝕄 := (bufV.view.loc (c : Thread nD τ) ↦[slotSet s]{fullShare} f)
/-- The caches at a share. -/
abbrev cacheK (q : PosShare TreeShare) : sProp 𝕄 := (srcK.view.loc (c : Thread nD τ) ↦[Finset.univ]{q} Vk)
abbrev cacheV (q : PosShare TreeShare) : sProp 𝕄 := (srcV.view.loc (c : Thread nD τ) ↦[Finset.univ]{q} Vv)

/-- Slot `s` with no copy in flight: its semaphore at zero, its buffers, and its share of the caches. -/
def Idle (s : ℕ) : sProp 𝕄 :=
  iprop(semVal ((c : Thread nD τ), .dma (cell s)) 0 ∗ (∃ f, slotK (F := F) c s f) ∗ (∃ f, slotV (F := F) c s f) ∗ cacheK c Vk (slotShare s) ∗ cacheV c Vv (slotShare s))
/-- Slot `s` holding row `r`'s tiles. -/
def Landed (s r : ℕ) : sProp 𝕄 :=
  iprop(semVal ((c : Thread nD τ), .dma (cell s)) 0 ∗ slotK (F := F) c s (land Vk I r) ∗ slotV (F := F) c s (land Vv I r) ∗ cacheK c Vk (slotShare s) ∗ cacheV c Vv (slotShare s))
/-- The slot's share of the caches beyond the copies' own. -/
def Rest (s : ℕ) : sProp 𝕄 := iprop(cacheK c Vk (shareDrop (slotShare s) 192) ∗ cacheV c Vv (shareDrop (slotShare s) 192))

theorem landed_idle (s r : ℕ) : Landed c Vk Vv I s r ⊢ Idle (F := F) c Vk Vv s := by
  unfold Landed Idle
  iintro ⟨H1, H2, H3, H4, H5⟩
  isplitl [H1]; · iexact H1
  isplitl [H2]; · iexists _; iexact H2
  isplitl [H3]; · iexists _; iexact H3
  isplitl [H4]; · iexact H4
  iexact H5

theorem slot_tiles (s : ℕ) : slotSet s = (Finset.range 192).biUnion (fun j => tileSet s j) := by
  ext i
  simp only [mem_slotSet, Finset.mem_biUnion, Finset.mem_range, mem_tileSet]
  exact ⟨fun h => ⟨(i 1).val, (i 1).isLt, h, rfl⟩, fun ⟨_, _, h, _⟩ => h⟩

theorem tiles_disjoint (s : ℕ) : ∀ t ∈ Finset.range 192, ∀ t' ∈ Finset.range 192, t ≠ t' → Disjoint (tileSet s t) (tileSet s t') := by
  intro t _ t' _ h
  rw [Finset.disjoint_left]
  intro i hi hi'
  rw [mem_tileSet] at hi hi'
  exact h (hi.2.symm.trans hi'.2)

theorem slotK_tiles (s : ℕ) (f : S2x192x64x128.Idx → Elt F .i8) :
    slotK (F := F) c s f = bigSep (Finset.range 192) (fun j => (bufK.view.loc (c : Thread nD τ) ↦[tileSet s j]{fullShare} f : sProp 𝕄)) := by
  unfold slotK; rw [slot_tiles]; exact pointsTo_biUnion _ _ (tiles_disjoint s)
theorem slotV_tiles (s : ℕ) (f : S2x192x64x128.Idx → Elt F .i8) :
    slotV (F := F) c s f = bigSep (Finset.range 192) (fun j => (bufV.view.loc (c : Thread nD τ) ↦[tileSet s j]{fullShare} f : sProp 𝕄)) := by
  unfold slotV; rw [slot_tiles]; exact pointsTo_biUnion _ _ (tiles_disjoint s)

/-- A slot at rest can start the batch of a row's copies. -/
theorem idle_start (s r : ℕ) : Idle c Vk Vv s ⊢ |={Set.univ}=> iprop(Fly (F := F) c Vk Vv I s r 0 ∗ Rest c Vk Vv s) := by
  unfold Idle Fly Rest
  iintro ⟨H1, ⟨%f, H2⟩, ⟨%g, H3⟩, H4, H5⟩
  imod (batch_alloc' (countersEmb (U := Pipeline.UD sig nD τ)) (c := (c : Thread nD τ)) () 256 (Ring.interleaved 192 (delK (F := F) c Vk I s r) (delV c Vv I s r)) (E := Set.univ)) $$ H1 with HB
  imodintro
  ihave H4 := (pointsTo_toks_range (slotShare s) 192).1 $$ H4
  icases H4 with ⟨H4, H4'⟩
  ihave H5 := (pointsTo_toks_range (slotShare s) 192).1 $$ H5
  icases H5 with ⟨H5, H5'⟩
  ihave H2 := (show slotK (F := F) c s f ⊢ bigSep (Finset.range 192) (fun j => iprop(∃ f, bufK.view.loc (c : Thread nD τ) ↦[tileSet s j]{fullShare} f : sProp 𝕄)) from by
    rw [slotK_tiles]; exact bigSep_mono fun j _ => exists_intro (Φ := fun f => (bufK.view.loc (c : Thread nD τ) ↦[tileSet s j]{fullShare} f : sProp 𝕄)) f) $$ H2
  ihave H3 := (show slotV (F := F) c s g ⊢ bigSep (Finset.range 192) (fun j => iprop(∃ f, bufV.view.loc (c : Thread nD τ) ↦[tileSet s j]{fullShare} f : sProp 𝕄)) from by
    rw [slotV_tiles]; exact bigSep_mono fun j _ => exists_intro (Φ := fun f => (bufV.view.loc (c : Thread nD τ) ↦[tileSet s j]{fullShare} f : sProp 𝕄)) g) $$ H3
  isplitr [H4 H5]
  · isplitl [HB]; · iexact HB
    have e : bigSep (Finset.Ico 0 192) (stuff (F := F) c Vk Vv s)
      = iprop(bigSep (Finset.range 192) (fun j => iprop(∃ f, bufK.view.loc (c : Thread nD τ) ↦[tileSet s j]{fullShare} f : sProp 𝕄))
        ∗ bigSep (Finset.range 192) (fun j => cacheK c Vk (shareTokN (slotShare s) j))
        ∗ bigSep (Finset.range 192) (fun j => iprop(∃ f, bufV.view.loc (c : Thread nD τ) ↦[tileSet s j]{fullShare} f : sProp 𝕄))
        ∗ bigSep (Finset.range 192) (fun j => cacheV c Vv (shareTokN (slotShare s) j))) := by
      rw [Nat.Ico_zero_eq_range]
      refine (BI.bigSep_sep (Finset.range 192) _ _).trans (congrArg (fun x => iprop(_ ∗ x)) ?_)
      refine (BI.bigSep_sep (Finset.range 192) _ _).trans (congrArg (fun x => iprop(_ ∗ x)) ?_)
      exact BI.bigSep_sep (Finset.range 192) _ _
    rw [e]
    isplitl [H2]; · iexact H2
    isplitl [H4']; · iexact H4'
    isplitl [H3]; · iexact H3
    iexact H5'
  · isplitl [H4]; · iexact H4
    iexact H5

/-- The batch's deliveries, all back, make the slot hold the row's tiles. -/
theorem landed_of (s r : ℕ) :
    iprop((bigSep Finset.univ (Ring.interleaved 192 (delK (F := F) c Vk I s r) (delV c Vv I s r)) ∗ semVal ((c : Thread nD τ), .dma (cell s)) 0) ∗ Rest c Vk Vv s) ⊢ Landed c Vk Vv I s r := by
  rw [Ring.bigSep_interleaved]
  have eK : bigSep (Finset.range 192) (delK (F := F) c Vk I s r) = iprop(slotK c s (land Vk I r) ∗ bigSep (Finset.range 192) (fun j => cacheK c Vk (shareTokN (slotShare s) j))) := by
    rw [slotK_tiles]; exact BI.bigSep_sep (Finset.range 192) _ _
  have eV : bigSep (Finset.range 192) (delV (F := F) c Vv I s r) = iprop(slotV c s (land Vv I r) ∗ bigSep (Finset.range 192) (fun j => cacheV c Vv (shareTokN (slotShare s) j))) := by
    rw [slotV_tiles]; exact BI.bigSep_sep (Finset.range 192) _ _
  rw [eK, eV]
  unfold Rest Landed
  iintro ⟨⟨⟨⟨HK, HKt⟩, ⟨HV, HVt⟩⟩, HS⟩, ⟨HKr, HVr⟩⟩
  isplitl [HS]; · iexact HS
  isplitl [HK]; · iexact HK
  isplitl [HV]; · iexact HV
  isplitl [HKt HKr]
  · iapply (pointsTo_toks_range (slotShare s) 192).2
    isplitl [HKr]; · iexact HKr
    iexact HKt
  · iapply (pointsTo_toks_range (slotShare s) 192).2
    isplitl [HVr]; · iexact HVr
    iexact HVt

theorem creditK {oD : Fin 4 → ℕ} {iD : ∀ a, oD a + S1x192x64x128.size a ≤ S2x192x64x128.size a} :
    ((bufK.slice (Rect.unit (s := S2x192x64x128) oD S1x192x64x128.size iD) (fun _ => rfl)).squeeze S192x64x128 squeezes_S1x192x64x128_S192x64x128).view.dmaCredit = 192 * 256 := by rfl
theorem creditV {oD : Fin 4 → ℕ} {iD : ∀ a, oD a + S1x192x64x128.size a ≤ S2x192x64x128.size a} :
    ((bufV.slice (Rect.unit (s := S2x192x64x128) oD S1x192x64x128.size iD) (fun _ => rfl)).squeeze S192x64x128 squeezes_S1x192x64x128_S192x64x128).view.dmaCredit = 192 * 256 := by rfl

/-- The first wait of a slot consumes half the batch's units and learns nothing. -/
theorem wp_wait1 {sm : DmaSem sig} {src dst : Memref sig .tc .vmem S192x64x128 .i8} {h1 : src.view.WordExact} {h2 : dst.view.WordExact}
    (hd : dst.view.dmaCredit = 192 * 256) (s r : ℕ) (hsm : sm = cell s) {W : Waits sig Unit} :
    iprop(Batch (countersEmb (U := Pipeline.UD sig nD τ)) (c : Thread nD τ) (.dma (cell s)) () 256 (Ring.interleaved 192 (delK (F := F) c Vk I s r) (delV c Vv I s r)) (2 * 192) 0 ∗ owes (c : Thread nD τ) 0 W)
      ⊢ wp frame (wpE (defs₀ (F := F)) Variants.none (c : Thread nD τ) none) Set.univ (Prog.lift (TpuEff.waitDma2 sm src dst h1 h2))
        (fun _ => iprop(Batch (countersEmb (U := Pipeline.UD sig nD τ)) (c : Thread nD τ) (.dma (cell s)) () 256 (Ring.interleaved 192 (delK (F := F) c Vk I s r) (delV c Vv I s r)) (2 * 192) (192 * 256) ∗ ∃ W', owes (c : Thread nD τ) 0 W')) := by
  subst hsm
  have hu : 0 + 192 * 256 ≤ 256 * (2 * 192) := by decide
  iintro H
  iapply (wp_waitBatchMul (countersEmb (U := Pipeline.UD sig nD τ)) Variants.none (c : Thread nD τ) none () 192 hd hu (D := Ring.interleaved 192 (delK (F := F) c Vk I s r) (delV c Vv I s r))) $$ H
  iintro ⟨H1, H2⟩
  iapply (le_wp_ret _ _ _ _ _)
  isplitl [H1]; · iexact H1
  iexists _; iexact H2

/-- The second wait returns every delivery. -/
theorem wp_wait2 {sm : DmaSem sig} {src dst : Memref sig .tc .vmem S192x64x128 .i8} {h1 : src.view.WordExact} {h2 : dst.view.WordExact}
    (hd : dst.view.dmaCredit = 192 * 256) (s r : ℕ) (hsm : sm = cell s) {W : Waits sig Unit} :
    iprop(Batch (countersEmb (U := Pipeline.UD sig nD τ)) (c : Thread nD τ) (.dma (cell s)) () 256 (Ring.interleaved 192 (delK (F := F) c Vk I s r) (delV c Vv I s r)) (2 * 192) (192 * 256) ∗ owes (c : Thread nD τ) 0 W)
      ⊢ wp frame (wpE (defs₀ (F := F)) Variants.none (c : Thread nD τ) none) Set.univ (Prog.lift (TpuEff.waitDma2 sm src dst h1 h2))
        (fun _ => iprop((bigSep Finset.univ (Ring.interleaved 192 (delK (F := F) c Vk I s r) (delV c Vv I s r)) ∗ semVal ((c : Thread nD τ), .dma (cell s)) 0) ∗ ∃ W', owes (c : Thread nD τ) 0 W')) := by
  subst hsm
  have hu : 192 * 256 + 192 * 256 = 256 * (2 * 192) := by decide
  iintro H
  iapply (wp_waitBatchAll (countersEmb (U := Pipeline.UD sig nD τ)) Variants.none (c : Thread nD τ) none () hd (by decide) hu (D := Ring.interleaved 192 (delK (F := F) c Vk I s r) (delV c Vv I s r))) $$ H
  iintro ⟨H1, H2, H3⟩
  iapply (le_wp_ret _ _ _ _ _)
  isplitl [H1 H2]
  · isplitl [H1]; · iexact H1
    iexact H2
  iexists _; iexact H3

end Cert.Kernel.Hand
-- ==== Proof.KSel.lean ====
/- What one position's update of the collected columns does, byte by byte. -/
module

public import proofs.«01_k».proof.Proof.KExt
public import Idealize.ShloMosaic.Lib.BitcastFour
public import Idealize.ShloMosaic.Lib.KernelVsHost
public import Idealize.ShloMosaic.Lib.ValueLayout
public import Idealize.ShloMosaic.Lib.Pointwise

@[expose] public section

noncomputable section

namespace Cert.Kernel.Hand

open Cert.Kernel Cert.Kernel.Gen
open Idealize.ShloMosaic hiding ix2 ix4
open Idealize.ShloMosaic.ValueIdx

variable {F : FTy → Type} [FloatOps F]

/-- The bytes of a block of words of four rows. -/
def bytes (a : IVec S16x128 32) : IVec S64x128 8 := bitcast S64x128 8 a bitcasts_S16x128_w32_S64x128_w8

/-- Every lane's own number. -/
def lanes : IVec S16x128 32 := iota .tc S16x128 32 [1] iota_S16x128_d1_w32

/-- Bit `q` of byte `(d, x)` is bit `8 (d mod 4) + q` of word `(d / 4, x)`. -/
theorem bytes_bit (a : IVec S16x128 32) (d : Fin 64) (x : Fin 128) (q : ℕ) (hq : q < 8) :
    (bytes a (ix2 d x)).getLsbD q = (a (ix2 ⟨d.val / 4, by omega⟩ x)).getLsbD (8 * (d.val % 4) + q) := by
  unfold bytes
  rw [bitcast_getLsbD a bitcasts_S16x128_w32_S64x128_w8 (ix2 d x) q hq (by decide)]
  have hr : Shape.row S64x128 (ix2 d x) = d.val := rfl
  congr 2
  · funext c
    apply Fin.ext
    fin_cases c
    · refine (Shape.Bitcasts.srcIdx_row _ _ _ _ _ rfl).trans ?_
      rw [hr]; show (d.val * 8 + q) / 32 = d.val / 4; omega
    · exact Shape.Bitcasts.srcIdx_other _ _ _ _ _ (by decide)
  · rw [hr]; omega

/-- The bytes of the words of a tile are the tile. -/
theorem tile_bit (t : Vec F S1x1x64x128 .i8) (d : Fin 64) (x : Fin 128) (q : ℕ) (hq : q < 8) :
    (bitcast S16x128 32 (shapeCast S64x128 t shapeCasts_S1x1x64x128_S64x128 : IVec S64x128 8) bitcasts_S64x128_w8_S16x128_w32
      (ix2 ⟨d.val / 4, by omega⟩ x)).getLsbD (8 * (d.val % 4) + q) = BitVec.getLsbD (w := 8) (t (ix4 0 0 d x)) q := by
  rw [bitcast_8_32_getLsbD_ix2 (shapeCast S64x128 t shapeCasts_S1x1x64x128_S64x128 : IVec S64x128 8) bitcasts_S64x128_w8_S16x128_w32 ⟨d.val / 4, by omega⟩ x (8 * (d.val % 4) + q) (by omega) d (by simp only []; omega)]
  have e : (shapeCast S64x128 t shapeCasts_S1x1x64x128_S64x128 : IVec S64x128 8) (ix2 d x) = t (ix4 0 0 d x) := by
    simp only [pointwise]; rfl
  rw [e]
  congr 1
  omega

/-- The update changes lane `p - lo` alone, to the tile's lane `w mod 128`. -/
theorem bytes_sel (p lo : ℕ) (hp : p < 192) (hlo : lo ≤ p) (hd : p - lo < 128) (w : BitVec 32) (t : Vec F S1x1x64x128 .i8)
    (a : IVec S16x128 32) (d : Fin 64) (x : Fin 128) :
    bytes (sel lanes (BitVec.ofNat 32 p) (BitVec.ofNat 32 lo) w t a) (ix2 d x)
      = if x.val = p - lo then t (ix4 0 0 d ⟨w.toNat % 128, Nat.mod_lt _ (by decide)⟩) else bytes a (ix2 d x) := by
  have hsub : Scalar.subi (BitVec.ofNat 32 p) (BitVec.ofNat 32 lo) = BitVec.ofNat 32 (p - lo) := by
    apply BitVec.eq_of_toNat_eq
    simp only [Scalar.subi, IntOp.subi, BitVec.toNat_sub, BitVec.toNat_ofNat]
    omega
  have hmask : ∀ y : BitVec 32, (Scalar.andi y 127#32).toNat = y.toNat % 128 := fun y => by
    simp only [Scalar.andi, IntOp.andi, BitVec.toNat_and, BitVec.toNat_ofNat]
    exact Nat.and_two_pow_sub_one_eq_mod _ 7
  have hcond : ∀ r : Fin 16, cmpi .eq lanes (broadcast S16x128 (BitVec.ofNat 32 (p - lo))) (ix2 r x) = 1 ↔ x.val = p - lo := by
    intro r
    have hl : lanes (ix2 r x) = BitVec.ofNat 32 x.val := by
      show BitVec.ofNat 32 (0 * 128 + x.val) = _
      rw [Nat.zero_mul, Nat.zero_add]
    show BitVec.ofBool (lanes (ix2 r x) == BitVec.ofNat 32 (p - lo)) = 1 ↔ _
    rw [hl]
    constructor
    · intro h
      have h' : (BitVec.ofNat 32 x.val == BitVec.ofNat 32 (p - lo)) = true := by
        revert h; cases (BitVec.ofNat 32 x.val == BitVec.ofNat 32 (p - lo)) <;> decide
      have h2 := congrArg BitVec.toNat (beq_iff_eq.mp h')
      simp only [BitVec.toNat_ofNat] at h2
      omega
    · intro h; rw [h]; simp
  apply BitVec.eq_of_getLsbD_eq
  intro q hq
  rw [bytes_bit _ d x q hq]
  unfold sel
  rw [hsub]
  by_cases hx : x.val = p - lo
  · rw [if_pos hx]
    show (if cmpi .eq lanes (broadcast S16x128 (BitVec.ofNat 32 (p - lo))) (ix2 (⟨d.val / 4, by omega⟩ : Fin 16) x) = 1 then _ else _ : BitVec 32).getLsbD _ = _
    rw [if_pos ((hcond _).mpr hx)]
    rw [dynamicRotate_apply (1 : Fin 2) _ _ rotates_S16x128_d1 (ix2 (⟨d.val / 4, by omega⟩ : Fin 16) x)
      (ix2 (⟨d.val / 4, by omega⟩ : Fin 16) (⟨w.toNat % 128, Nat.mod_lt _ (by decide)⟩ : Fin 128)) ?_]
    · exact tile_bit t d _ q hq
    · intro b
      fin_cases b
      · rfl
      · refine Eq.trans ?_ (if_pos rfl).symm
        show w.toNat % 128 = (x.val + 128 - (Scalar.andi (Scalar.subi (BitVec.ofNat 32 (p - lo)) (Scalar.andi w 127#32)) 127#32).toNat % 128) % 128
        rw [hmask]
        have : (Scalar.subi (BitVec.ofNat 32 (p - lo)) (Scalar.andi w 127#32)).toNat = (2 ^ 32 - w.toNat % 128 + (p - lo) % 2 ^ 32) % 2 ^ 32 := by
          simp only [Scalar.subi, IntOp.subi, BitVec.toNat_sub, BitVec.toNat_ofNat, hmask]
        rw [this, hx]
        have := Nat.mod_lt w.toNat (show 0 < 128 by decide)
        omega
  · rw [if_neg hx]
    show (if cmpi .eq lanes (broadcast S16x128 (BitVec.ofNat 32 (p - lo))) (ix2 (⟨d.val / 4, by omega⟩ : Fin 16) x) = 1 then _ else _ : BitVec 32).getLsbD _ = _
    rw [if_neg (fun h => hx ((hcond _).mp h))]
    exact (bytes_bit a d x q hq).symm

end Cert.Kernel.Hand
-- ==== Proof.KVals.lean ====
/- What the kernel's row computes: each result's row in terms of the inputs, and the state of a result after some rows. -/
module

public import proofs.«01_k».proof.Proof.KSel
public import proofs.«01_k».proof.Proof.KGeo

@[expose] public section

noncomputable section

namespace Cert.Kernel.Hand

open Cert.Kernel Cert.Kernel.Gen
open Idealize.ShloMosaic hiding ix2 ix3 ix4
open Idealize.ShloMosaic.ValueIdx Idealize.SL.Sem

variable {F : FTy → Type} [FloatOps F]

/-- The arrays that the call reads. -/
structure Ins (F : FTy → Type) where
  I : S16x192.Idx → Elt F .i32
  q : S16x4x64.Idx → Elt F .bf16
  kn : S16x1x64.Idx → Elt F .bf16
  vn : S16x1x64.Idx → Elt F .bf16
  ks : S16x1x192.Idx → Elt F .f32
  vs : S16x1x192.Idx → Elt F .f32
  raw : S16x1x192.Idx → Elt F .f32
  Vk : S2x8x64x131072.Idx → Elt F .i8
  Vv : S2x8x64x131072.Idx → Elt F .i8

/-- Element `d` of the column that row `r`'s word at position `j` names. -/
def pick (I : S16x192.Idx → Elt F .i32) (V : S2x8x64x131072.Idx → Elt F .i8) (r j d : ℕ) : Elt F .i8 :=
  V (srcIx (r / 8) (r % 8) d (BitVec.toNat (I (wordIx r j))))

/-- Row `r`'s gathered columns. -/
def picked (I : S16x192.Idx → Elt F .i32) (V : S2x8x64x131072.Idx → Elt F .i8) (r : ℕ) : S1x1x64x192.Idx → Elt F .i8 :=
  fun y => pick I V r (y 3).val (y 2).val

/-- The index of row `r`'s element in an array of sixteen rows. -/
def rowIx {a b : ℕ} (r : ℕ) (y : (⟨3, ![1, a, b]⟩ : Shape).Idx) : (⟨3, ![16, a, b]⟩ : Shape).Idx :=
  ix3 (⟨r % 16, Nat.mod_lt _ (by decide)⟩ : Fin 16) (show Fin a from y 1) (show Fin b from y 2)

/-- Row `r` of an array of sixteen rows. -/
def row3 {α : Type} {a b : ℕ} (f : (⟨3, ![16, a, b]⟩ : Shape).Idx → α) (r : ℕ) : (⟨3, ![1, a, b]⟩ : Shape).Idx → α := fun y => f (rowIx r y)

/-- An element's index within its own row. -/
def unrow {a b : ℕ} (i : (⟨3, ![16, a, b]⟩ : Shape).Idx) : (⟨3, ![1, a, b]⟩ : Shape).Idx := ix3 (0 : Fin 1) (show Fin a from i 1) (show Fin b from i 2)

/-- Row `r`'s query, as a matrix. -/
def rowQ (X : Ins F) (r : ℕ) : FVec F S4x64 .bf16 := k0_pay31 (row3 X.q r)
/-- Row `r`'s scores against the kept keys. -/
def rowS (X : Ins F) (r : ℕ) : FVec F S4x192 .f32 := k0_pay32 (picked X.I X.Vk r) (row3 X.q r) (row3 X.ks r)
/-- Row `r`'s probabilities of the kept keys. -/
def rowP (X : Ins F) (r : ℕ) : FVec F S4x192 .f32 := k0_pay38 (rowQ X r) (rowS X r) (row3 X.kn r)
/-- Row `r` of the attention's result. -/
def rowO (X : Ins F) (r : ℕ) : FVec F S1x4x64 .bf16 :=
  k0_pay39 (k0_pay30 (picked X.I X.Vv r)) (rowQ X r) (rowS X r) (row3 X.kn r) (row3 X.vs r) (row3 X.vn r)
/-- Row `r` of the kept scores. -/
def rowC (X : Ins F) (r : ℕ) : FVec F S1x1x192 .f32 := k0_pay1 (rowP X r) (row3 X.raw r)

/-- The gathered columns of every row. -/
def outG (I : S16x192.Idx → Elt F .i32) (V : S2x8x64x131072.Idx → Elt F .i8) : S2x8x64x192.Idx → Elt F .i8 :=
  fun i => pick I V (8 * (i 0).val + (i 1).val) (i 3).val (i 2).val
/-- An array from its rows. -/
def outR {α : Type} {a b : ℕ} (v : ℕ → (⟨3, ![1, a, b]⟩ : Shape).Idx → α) : (⟨3, ![16, a, b]⟩ : Shape).Idx → α :=
  fun i => v (show Fin 16 from i 0).val (unrow i)

/-- The rows below `r`, and the first `m` columns of row `r`, are gathered. -/
def DoneG (I : S16x192.Idx → Elt F .i32) (V : S2x8x64x131072.Idx → Elt F .i8) (r m : ℕ) (f : S2x8x64x192.Idx → Elt F .i8) : Prop :=
  ∀ i, (8 * (i 0).val + (i 1).val < r ∨ (8 * (i 0).val + (i 1).val = r ∧ (i 3).val < m)) → f i = outG I V i
/-- The rows below `r` are written. -/
def DoneR {α : Type} {a b : ℕ} (v : ℕ → (⟨3, ![1, a, b]⟩ : Shape).Idx → α) (r : ℕ) (f : (⟨3, ![16, a, b]⟩ : Shape).Idx → α) : Prop :=
  ∀ i, (show Fin 16 from i 0).val < r → f i = outR v i

theorem doneG_next {I : S16x192.Idx → Elt F .i32} {V : S2x8x64x131072.Idx → Elt F .i8} {r : ℕ} {f : S2x8x64x192.Idx → Elt F .i8}
    (h : DoneG I V r 192 f) : DoneG I V (r + 1) 0 f := by
  intro i hi
  refine h i ?_
  have : (i 3).val < 192 := (i 3).isLt
  omega

theorem doneG_all {I : S16x192.Idx → Elt F .i32} {V : S2x8x64x131072.Idx → Elt F .i8} {f : S2x8x64x192.Idx → Elt F .i8}
    (h : DoneG I V 16 0 f) : f = outG I V := by
  funext i
  refine h i (.inl ?_)
  have h0 : (i 0).val < 2 := (i 0).isLt
  have h1 : (i 1).val < 8 := (i 1).isLt
  omega

theorem doneR_all {α : Type} {a b : ℕ} {v : ℕ → (⟨3, ![1, a, b]⟩ : Shape).Idx → α} {f : (⟨3, ![16, a, b]⟩ : Shape).Idx → α}
    (h : DoneR v 16 f) : f = outR v := funext fun i => h i (show Fin 16 from i 0).isLt

/-- Writing a block of row `r`'s columns gathers them. -/
theorem doneG_step {I : S16x192.Idx → Elt F .i32} {V : S2x8x64x131072.Idx → Elt F .i8} {n lo r : ℕ} {off : Fin 4 → ℕ}
    {inb : ∀ a, off a + (![1, 1, 64, n] : Fin 4 → ℕ) a ≤ S2x8x64x192.size a} (ho : off = ![r / 8, r % 8, 0, lo])
    {f g : S2x8x64x192.Idx → Elt F .i8}
    (h1 : ∀ y : (⟨4, ![1, 1, 64, n]⟩ : Shape).Idx, g ((Rect.unit (s := S2x8x64x192) off ![1, 1, 64, n] inb).emb y) = pick I V r (lo + (y 3).val) (y 2).val)
    (h2 : ∀ i, i ∉ (Rect.unit (s := S2x8x64x192) off ![1, 1, 64, n] inb).set → g i = f i)
    (hf : DoneG I V r lo f) : DoneG I V r (lo + n) g := by
  subst ho
  intro i hi
  by_cases hm : i ∈ (Rect.unit (s := S2x8x64x192) ![r / 8, r % 8, 0, lo] ![1, 1, 64, n] inb).set
  · obtain ⟨y, -, rfl⟩ := Finset.mem_map.mp ((Rect.map_emb_univ _).symm ▸ hm)
    rw [h1]
    have y0 : (y 0).val < 1 := (y 0).isLt
    have y1 : (y 1).val < 1 := (y 1).isLt
    unfold outG
    have e0 : ((Rect.unit (s := S2x8x64x192) ![r / 8, r % 8, 0, lo] ![1, 1, 64, n] inb).emb y 0).val = r / 8 := by
      change r / 8 + 1 * (y 0).val = _; omega
    have e1 : ((Rect.unit (s := S2x8x64x192) ![r / 8, r % 8, 0, lo] ![1, 1, 64, n] inb).emb y 1).val = r % 8 := by
      change r % 8 + 1 * (y 1).val = _; omega
    have e2 : ((Rect.unit (s := S2x8x64x192) ![r / 8, r % 8, 0, lo] ![1, 1, 64, n] inb).emb y 2).val = (y 2).val := by
      change 0 + 1 * (y 2).val = _; omega
    have e3 : ((Rect.unit (s := S2x8x64x192) ![r / 8, r % 8, 0, lo] ![1, 1, 64, n] inb).emb y 3).val = lo + (y 3).val := by
      change lo + 1 * (y 3).val = _; omega
    rw [e0, e1, e2, e3, Nat.div_add_mod]
  · rw [h2 i hm]
    refine hf i ?_
    rcases hi with hi | ⟨hr, hx⟩
    · exact .inl hi
    · refine .inr ⟨hr, ?_⟩
      by_contra hlo
      apply hm
      rw [Rect.mem_set_unit]
      intro a
      have h0 : (i 0).val < 2 := (i 0).isLt
      have h1 : (i 1).val < 8 := (i 1).isLt
      have h2 : (i 2).val < 64 := (i 2).isLt
      fin_cases a
      · change r / 8 ≤ (i 0).val ∧ (i 0).val < r / 8 + 1; omega
      · change r % 8 ≤ (i 1).val ∧ (i 1).val < r % 8 + 1; omega
      · change 0 ≤ (i 2).val ∧ (i 2).val < 0 + 64; omega
      · change lo ≤ (i 3).val ∧ (i 3).val < lo + n; omega

/-- Row `r`'s columns read back, once gathered. -/
theorem doneG_read {I : S16x192.Idx → Elt F .i32} {V : S2x8x64x131072.Idx → Elt F .i8} {r : ℕ} {off : Fin 4 → ℕ}
    {inb : ∀ a, off a + S1x1x64x192.size a ≤ S2x8x64x192.size a} (ho : off = ![r / 8, r % 8, 0, 0])
    {f : S2x8x64x192.Idx → Elt F .i8} (hf : DoneG I V r 192 f) :
    (fun y => f ((Rect.unit (s := S2x8x64x192) off S1x1x64x192.size inb).emb y)) = picked I V r := by
  subst ho
  funext y
  have y0 : (y 0).val < 1 := (y 0).isLt
  have y1 : (y 1).val < 1 := (y 1).isLt
  have y3 : (y 3).val < 192 := (y 3).isLt
  have e0 : ((Rect.unit (s := S2x8x64x192) ![r / 8, r % 8, 0, 0] S1x1x64x192.size inb).emb y 0).val = r / 8 := by
    change r / 8 + 1 * (y 0).val = _; omega
  have e1 : ((Rect.unit (s := S2x8x64x192) ![r / 8, r % 8, 0, 0] S1x1x64x192.size inb).emb y 1).val = r % 8 := by
    change r % 8 + 1 * (y 1).val = _; omega
  have e2 : ((Rect.unit (s := S2x8x64x192) ![r / 8, r % 8, 0, 0] S1x1x64x192.size inb).emb y 2).val = (y 2).val := by
    change 0 + 1 * (y 2).val = _; omega
  have e3 : ((Rect.unit (s := S2x8x64x192) ![r / 8, r % 8, 0, 0] S1x1x64x192.size inb).emb y 3).val = (y 3).val := by
    change 0 + 1 * (y 3).val = _; omega
  rw [hf _ (.inr ⟨by rw [e0, e1, Nat.div_add_mod], by rw [e3]; exact y3⟩)]
  unfold outG picked
  rw [e0, e1, e2, e3, Nat.div_add_mod]

/-- The index of a row's element, through the row's rectangle. -/
theorem row_emb {a b r : ℕ} {off : Fin 3 → ℕ} {inb : ∀ t, off t + (![1, a, b] : Fin 3 → ℕ) t ≤ (⟨3, ![16, a, b]⟩ : Shape).size t} (ho : off = ![r, 0, 0])
    (y : (⟨3, ![1, a, b]⟩ : Shape).Idx) : (Rect.unit (s := (⟨3, ![16, a, b]⟩ : Shape)) off ![1, a, b] inb).emb y = rowIx r y := by
  subst ho
  have h0 := inb 0
  change r + 1 ≤ 16 at h0
  have y0 : (show Fin 1 from y 0).val < 1 := (show Fin 1 from y 0).isLt
  funext t
  apply Fin.ext
  fin_cases t
  · change r + 1 * (show Fin 1 from y 0).val = r % 16; omega
  · change 0 + 1 * (y 1).val = (y 1).val; omega
  · change 0 + 1 * (y 2).val = (y 2).val; omega

/-- Writing row `r` extends the written rows. -/
theorem doneR_step {α : Type} {a b r : ℕ} {off : Fin 3 → ℕ} {inb : ∀ t, off t + (![1, a, b] : Fin 3 → ℕ) t ≤ (⟨3, ![16, a, b]⟩ : Shape).size t} (ho : off = ![r, 0, 0])
    {v : ℕ → (⟨3, ![1, a, b]⟩ : Shape).Idx → α} {f g : (⟨3, ![16, a, b]⟩ : Shape).Idx → α}
    (h1 : ∀ y : (⟨3, ![1, a, b]⟩ : Shape).Idx, g ((Rect.unit (s := (⟨3, ![16, a, b]⟩ : Shape)) off ![1, a, b] inb).emb y) = v r y)
    (h2 : ∀ i, i ∉ (Rect.unit (s := (⟨3, ![16, a, b]⟩ : Shape)) off ![1, a, b] inb).set → g i = f i)
    (hf : DoneR v r f) : DoneR v (r + 1) g := by
  have hr0 := inb 0
  intro i hi
  by_cases hm : i ∈ (Rect.unit (s := (⟨3, ![16, a, b]⟩ : Shape)) off ![1, a, b] inb).set
  · obtain ⟨y, -, rfl⟩ := Finset.mem_map.mp ((Rect.map_emb_univ _).symm ▸ hm)
    rw [h1]
    subst ho
    change r + 1 ≤ 16 at hr0
    rw [row_emb rfl]
    unfold outR
    have e : (show Fin 16 from (rowIx r y) 0).val = r := by change r % 16 = r; omega
    rw [e]
    congr 1
    funext t
    apply Fin.ext
    fin_cases t
    · have y0 : (show Fin 1 from y 0).val < 1 := (show Fin 1 from y 0).isLt
      change (show Fin 1 from y 0).val = 0; omega
    · rfl
    · rfl
  · rw [h2 i hm]
    refine hf i ?_
    by_contra hlo
    apply hm
    subst ho
    rw [Rect.mem_set_unit]
    intro t
    fin_cases t
    · change r ≤ (show Fin 16 from i 0).val ∧ (show Fin 16 from i 0).val < r + 1; omega
    · change 0 ≤ (show Fin a from i 1).val ∧ (show Fin a from i 1).val < 0 + a; exact ⟨Nat.zero_le _, by have := (show Fin a from i 1).isLt; omega⟩
    · change 0 ≤ (show Fin b from i 2).val ∧ (show Fin b from i 2).val < 0 + b; exact ⟨Nat.zero_le _, by have := (show Fin b from i 2).isLt; omega⟩

/-- The first stored block is the collected block's bytes. -/
theorem pay22_at (a : IVec S16x128 32) (y : S1x1x64x128.Idx) : k0_pay22 a y = bytes a (ix2 (y 2) (y 3)) := by
  unfold k0_pay22
  simp only [pointwise]
  rfl
theorem pay23_at (a : IVec S16x128 32) (y : S1x1x64x128.Idx) : k0_pay23 a y = bytes a (ix2 (y 2) (y 3)) := pay22_at a y
/-- The second stored block is the first half of the collected block's bytes. -/
theorem pay28_at (a : IVec S16x128 32) (y : S1x1x64x64.Idx) : k0_pay28 a y = bytes a (ix2 (y 2) ⟨(y 3).val, by have := (y 3).isLt; change (y 3).val < 64 at this; omega⟩) := by
  unfold k0_pay28
  simp only [pointwise]
  unfold bytes
  congr 1
  funext t
  apply Fin.ext
  fin_cases t
  · simp [ix2]
  · simp [ix2]
theorem pay29_at (a : IVec S16x128 32) (y : S1x1x64x64.Idx) : k0_pay29 a y = bytes a (ix2 (y 2) ⟨(y 3).val, by have := (y 3).isLt; change (y 3).val < 64 at this; omega⟩) := pay28_at a y

end Cert.Kernel.Hand
-- ==== Proof.KExtr.lean ====
/- The two extraction loops: each collects, from the slot's tiles, the columns that the row's words name. -/
module

public import proofs.«01_k».proof.Proof.KWait
public import proofs.«01_k».proof.Proof.KVals

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)

/-- The first `m` columns of a collected block are those that the words from position `lo` on name. -/
def Col (V : S2x8x64x131072.Idx → Elt F .i8) (r lo m : ℕ) (a : IVec S16x128 32) : Prop :=
  ∀ (d : Fin 64) (x : Fin 128), x.val < m → bytes a (ValueIdx.ix2 d x) = pick I V r (lo + x.val) d.val

/-- One update collects one more column. -/
theorem col_step (V : S2x8x64x131072.Idx → Elt F .i8) (r s lo m : ℕ) (hm : m < 128) (hp : lo + m < 192) (t : Vec F S1x1x64x128 .i8)
    (ht : ∀ (d : Fin 64) (x : Fin 128), t (ValueIdx.ix4 0 0 d x) = V (srcIx (r / 8) (r % 8) d.val (BitVec.toNat (I (wordIx r (lo + m))) / 128 * 128 + x.val)))
    (a : IVec S16x128 32) (h : Col I V r lo m a) :
    Col I V r lo (m + 1) (sel lanes (BitVec.ofNat 32 (lo + m)) (BitVec.ofNat 32 lo) (I (wordIx r (lo + m))) t a) := by
  intro d x hx
  rw [bytes_sel (lo + m) lo hp (by omega) (by omega)]
  by_cases e : x.val = lo + m - lo
  · rw [if_pos e, ht]
    have e' : x.val = m := by omega
    unfold pick
    rw [e']
    congr 2
    exact Nat.div_add_mod' _ _
  · rw [if_neg e]
    exact h d x (by omega)

/-- A row's words, its landed tiles, and the two collected blocks up to `m` columns. -/
def Row (r s lo m : ℕ) (a : IVec S16x128 32 × IVec S16x128 32) : sProp 𝕄 :=
  iprop(⌜Col I Vk r lo m a.1 ∧ Col I Vv r lo m a.2⌝ ∗ words c I ∗ slotK (F := F) c s (land Vk I r) ∗ slotV (F := F) c s (land Vv I r))

theorem tile_slot {m : Memref sig .tc .vmem S2x192x64x128 .i8} {oB : Fin 4 → ℕ} {iB : ∀ a, oB a + S1x1x64x128.size a ≤ S2x192x64x128.size a} {s j : ℕ} (h : oB = ![s, j, 0, 0]) :
    (Rect.unit (s := S2x192x64x128) oB S1x1x64x128.size iB).set ⊆ slotSet s := by
  rw [tile_set_eq h]; intro i hi
  exact mem_slotSet.mpr (mem_tileSet.mp hi).1

theorem tile_read {oB : Fin 4 → ℕ} {iB : ∀ a, oB a + S1x1x64x128.size a ≤ S2x192x64x128.size a} {s j : ℕ} (h : oB = ![s, j, 0, 0])
    (V : S2x8x64x131072.Idx → Elt F .i8) (r : ℕ) (d : Fin 64) (x : Fin 128) :
    land V I r ((Rect.unit (s := S2x192x64x128) oB S1x1x64x128.size iB).emb (ValueIdx.ix4 0 0 d x : S1x1x64x128.Idx)) = V (srcIx (r / 8) (r % 8) d.val (BitVec.toNat (I (wordIx r j)) / 128 * 128 + x.val)) := by
  obtain ⟨h1, h2, h3⟩ := dst_emb_val (iD := iB) h (ValueIdx.ix4 0 0 d x : S1x1x64x128.Idx)
  unfold land
  rw [h1, h2, h3]

/-- A load of a tile of a slot. -/
theorem wp_loadK {oB : Fin 4 → ℕ} {iB : ∀ a, oB a + S1x1x64x128.size a ≤ S2x192x64x128.size a} {s j : ℕ} (h : oB = ![s, j, 0, 0])
    {hl : bufK.view.LoadsAt (Rect.unit (s := S2x192x64x128) oB S1x1x64x128.size iB).toLoadRect} {α : Type}
    {k : Vec F S1x1x64x128 .i8 → Prog (TpuEff nD τ sig (Elt F) Λ₀ .tc) α} {Q : α → sProp 𝕄} (f : S2x192x64x128.Idx → Elt F .i8) :
    slotK (F := F) c s f ⊢ iprop((slotK (F := F) c s f -∗ wp frame (wpE (defs₀ (F := F)) Variants.none (c : Thread nD τ) none) Set.univ (k (fun y => f ((Rect.unit (s := S2x192x64x128) oB S1x1x64x128.size iB).emb y))) Q)
      -∗ wp frame (wpE (defs₀ (F := F)) Variants.none (c : Thread nD τ) none) Set.univ (.op (.load bufK (Rect.unit (s := S2x192x64x128) oB S1x1x64x128.size iB).toLoadRect hl) k) Q) := by
  have hS : (bufK.access (Rect.unit (s := S2x192x64x128) oB S1x1x64x128.size iB)).set ⊆ slotSet s := by
    have e : (bufK.access (Rect.unit (s := S2x192x64x128) oB S1x1x64x128.size iB)).set = (Rect.unit (s := S2x192x64x128) oB S1x1x64x128.size iB).set := View.set_slice_whole _ _
    rw [e]; exact tile_slot (m := bufK) h
  exact wp_load_rect Variants.none (c : Thread nD τ) none Set.univ (m := bufK) (r := Rect.unit (s := S2x192x64x128) oB S1x1x64x128.size iB) hS

/-- A load of a tile of a slot. -/
theorem wp_loadV {oB : Fin 4 → ℕ} {iB : ∀ a, oB a + S1x1x64x128.size a ≤ S2x192x64x128.size a} {s j : ℕ} (h : oB = ![s, j, 0, 0])
    {hl : bufV.view.LoadsAt (Rect.unit (s := S2x192x64x128) oB S1x1x64x128.size iB).toLoadRect} {α : Type}
    {k : Vec F S1x1x64x128 .i8 → Prog (TpuEff nD τ sig (Elt F) Λ₀ .tc) α} {Q : α → sProp 𝕄} (f : S2x192x64x128.Idx → Elt F .i8) :
    slotV (F := F) c s f ⊢ iprop((slotV (F := F) c s f -∗ wp frame (wpE (defs₀ (F := F)) Variants.none (c : Thread nD τ) none) Set.univ (k (fun y => f ((Rect.unit (s := S2x192x64x128) oB S1x1x64x128.size iB).emb y))) Q)
      -∗ wp frame (wpE (defs₀ (F := F)) Variants.none (c : Thread nD τ) none) Set.univ (.op (.load bufV (Rect.unit (s := S2x192x64x128) oB S1x1x64x128.size iB).toLoadRect hl) k) Q) := by
  have hS : (bufV.access (Rect.unit (s := S2x192x64x128) oB S1x1x64x128.size iB)).set ⊆ slotSet s := by
    have e : (bufV.access (Rect.unit (s := S2x192x64x128) oB S1x1x64x128.size iB)).set = (Rect.unit (s := S2x192x64x128) oB S1x1x64x128.size iB).set := View.set_slice_whole _ _
    rw [e]; exact tile_slot (m := bufV) h
  exact wp_load_rect Variants.none (c : Thread nD τ) none Set.univ (m := bufV) (r := Rect.unit (s := S2x192x64x128) oB S1x1x64x128.size iB) hS

/-- One position's step. -/
theorem wp_ext (r s lo m : ℕ) (hr : r < 16) (hm : m < 128) (hp : lo + m < 192) {p : BitVec 32} (hpe : p = BitVec.ofNat 32 (lo + m))
    {o0 : Fin 2 → ℕ} {i0 : ∀ a, o0 a + S1x1.size a ≤ S16x192.size a} (ho0 : o0 = ![r, lo + m])
    {oB : Fin 4 → ℕ} {iB : ∀ a, oB a + S1x1x64x128.size a ≤ S2x192x64x128.size a} (hoB : oB = ![s, lo + m, 0, 0])
    (a : IVec S16x128 32 × IVec S16x128 32) :
    Row (F := F) c Vk Vv I r s lo m a ⊢ wp frame (wpE (defs₀ (F := F)) Variants.none (c : Thread nD τ) none) Set.univ
      (ext (F := F) (Memref.whole cc0_stg0_0) bufK bufV lanes p (BitVec.ofNat 32 lo) o0 i0 oB iB a) (Row (F := F) c Vk Vv I r s lo (m + 1)) := by
  subst hpe
  unfold ext smemLoad Row words
  iintro ⟨%hc, HI, HK, HV⟩
  rw [wp_bind]
  iapply (wp_smemLoadElt Variants.none (c : Thread nD τ) none Set.univ (Finset.subset_univ _)) $$ [HI]
  · iexact HI
  iintro HI
  have hword : (((Memref.whole cc0_stg0_0 : Memref sig .tc .smem S16x192 .i32).access (Rect.unit (s := S16x192) o0 S1x1.size i0)).read (Elt F) I (Shape.Idx.first (numel1_S1x1.symm ▸ Nat.one_pos)) : Elt F .i32) = I (wordIx r (lo + m)) := by
    show I ((Rect.unit (s := S16x192) o0 S1x1.size i0).emb _) = _
    rw [word_emb ho0]
  rw [hword, wp_ret]
  imodintro
  rw [wp_bind]
  iapply (wp_loadK (F := F) c hoB) $$ [HK]
  · iexact HK
  iintro HK
  rw [wp_ret]
  imodintro
  rw [wp_bind]
  iapply (wp_loadV (F := F) c hoB) $$ [HV]
  · iexact HV
  iintro HV
  rw [wp_ret]
  imodintro
  iapply (le_wp_ret _ _ _ _ _)
  isplitl []
  · ipureintro
    exact ⟨col_step I Vk r s lo m hm hp _ (fun d x => tile_read I hoB Vk r d x) _ hc.1, col_step I Vv r s lo m hm hp _ (fun d x => tile_read I hoB Vv r d x) _ hc.2⟩
  isplitl [HI]; · iexact HI
  isplitl [HK]; · iexact HK
  iexact HV

variable (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole)

/-- One trip of the extraction loop over positions 0..127 collects four more columns. -/
theorem wp_t4_body (r : Fin k0_t2_loop.trips) (x1 x2 x3 x4 : BitVec 32) (x5 : BitVec 32) (k : Fin k0_t4_loop.trips) (a : IVec S16x128 32 × IVec S16x128 32) :
    Row (F := F) c Vk Vv I r.val (r.val % 2) 0 (4 * k.val) a ⊢ wp frame (wpE (defs₀ (F := F)) Variants.none (c : Thread nD τ) none) Set.univ
      (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 k a) (Row (F := F) c Vk Vv I r.val (r.val % 2) 0 (4 * (k.val + 1))) := by
  have hk : k.val < 32 := lt_of_lt_of_eq k.isLt trips4
  have hr : r.val < 16 := lt_of_lt_of_eq r.isLt trips2
  have hp : ∀ u : Fin 4, Scalar.addi (Scalar.muli (Scf.iv 0#32 1#32 k) 4#32) (BitVec.ofNat 32 u.val) = BitVec.ofNat 32 (0 + (4 * k.val + u.val)) := by
    revert k; intro k _; revert k; decide +kernel
  have ho0 : ∀ u : Fin 4, k0_off59 r k (BitVec.ofNat 32 u.val) = ![r.val, 0 + (4 * k.val + u.val)] := fun u => by
    rw [k0_off59_eq r k u]; congr 2; omega
  have hoB : ∀ u : Fin 4, k0_off60 r k (BitVec.ofNat 32 u.val) = ![r.val % 2, 0 + (4 * k.val + u.val), 0, 0] := fun u => by
    rw [off60_eq r k u]; congr 2; omega
  rw [t4_body_eq]
  rw [wp_bind]
  refine (wp_ext (F := F) c Vk Vv I r.val (r.val % 2) 0 (4 * k.val + 0) hr (by omega) (by omega) (hp 0) (ho0 0) (hoB 0) a).trans (wp_mono _ _ _ fun a1 => ?_)
  rw [wp_bind]
  refine (wp_ext (F := F) c Vk Vv I r.val (r.val % 2) 0 (4 * k.val + 1) hr (by omega) (by omega) (hp 1) (ho0 1) (hoB 1) a1).trans (wp_mono _ _ _ fun a2 => ?_)
  rw [wp_bind]
  refine (wp_ext (F := F) c Vk Vv I r.val (r.val % 2) 0 (4 * k.val + 2) hr (by omega) (by omega) (hp 2) (ho0 2) (hoB 2) a2).trans (wp_mono _ _ _ fun a3 => ?_)
  exact wp_ext (F := F) c Vk Vv I r.val (r.val % 2) 0 (4 * k.val + 3) hr (by omega) (by omega) (hp 3) (ho0 3) (hoB 3) a3

/-- The extraction loop collects positions 0..127. -/
theorem wp_t4 (r : Fin k0_t2_loop.trips) (x1 x2 x3 x4 : BitVec 32) (x5 : BitVec 32) (a : IVec S16x128 32 × IVec S16x128 32) {Q : IVec S16x128 32 × IVec S16x128 32 → sProp 𝕄} :
    iprop(Row (F := F) c Vk Vv I r.val (r.val % 2) 0 0 a ∗ (∀ b, Row (F := F) c Vk Vv I r.val (r.val % 2) 0 128 b -∗ Q b)) ⊢ wp frame (wpE (defs₀ (F := F)) Variants.none (c : Thread nD τ) none) Set.univ
      (Scf.Loop.for k0_t4_loop k0_t4_ok a (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5)) Q := by
  have h := Scf.wp_for frame (wpE (defs₀ (F := F)) Variants.none (c : Thread nD τ) none) Set.univ k0_t4_loop.lb k0_t4_loop.ub k0_t4_loop.st k0_t4_ok a (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5)
    (fun k b => Row (F := F) c Vk Vv I r.val (r.val % 2) 0 (4 * k) b) (fun k b => wp_t4_body c Vk Vv I arg1 harg1 arg2 harg2 arg3 harg3 arg4 harg4 arg5 harg5 arg6 harg6 arg9 harg9 arg10 harg10 arg11 harg11 arg12 harg12 r x1 x2 x3 x4 x5 k b) (Q := Q)
  rw [show Scf.trips k0_t4_loop.lb k0_t4_loop.ub k0_t4_loop.st = 32 from trips4] at h
  exact h

/-- One trip of the extraction loop over positions 128..191 collects four more columns. -/
theorem wp_t5_body (r : Fin k0_t2_loop.trips) (x1 x2 x3 x4 : BitVec 32) (x5 : IVec S16x128 32) (k : Fin k0_t5_loop.trips) (a : IVec S16x128 32 × IVec S16x128 32) :
    Row (F := F) c Vk Vv I r.val (r.val % 2) 128 (4 * k.val) a ⊢ wp frame (wpE (defs₀ (F := F)) Variants.none (c : Thread nD τ) none) Set.univ
      (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32 k a) (Row (F := F) c Vk Vv I r.val (r.val % 2) 128 (4 * (k.val + 1))) := by
  have hk : k.val < 16 := lt_of_lt_of_eq k.isLt trips5
  have hr : r.val < 16 := lt_of_lt_of_eq r.isLt trips2
  have hp : ∀ u : Fin 4, Scalar.addi (Scalar.muli (Scf.iv 32#32 1#32 k) 4#32) (BitVec.ofNat 32 u.val) = BitVec.ofNat 32 (128 + (4 * k.val + u.val)) := by
    revert k; intro k _; revert k; decide +kernel
  have ho0 : ∀ u : Fin 4, k0_off62 r k (BitVec.ofNat 32 u.val) = ![r.val, 128 + (4 * k.val + u.val)] := fun u => by
    rw [k0_off62_eq r k u]; congr 2; omega
  have hoB : ∀ u : Fin 4, k0_off63 r k (BitVec.ofNat 32 u.val) = ![r.val % 2, 128 + (4 * k.val + u.val), 0, 0] := fun u => by
    rw [off63_eq r k u]; congr 2; omega
  rw [t5_body_eq]
  rw [wp_bind]
  refine (wp_ext (F := F) c Vk Vv I r.val (r.val % 2) 128 (4 * k.val + 0) hr (by omega) (by omega) (hp 0) (ho0 0) (hoB 0) a).trans (wp_mono _ _ _ fun a1 => ?_)
  rw [wp_bind]
  refine (wp_ext (F := F) c Vk Vv I r.val (r.val % 2) 128 (4 * k.val + 1) hr (by omega) (by omega) (hp 1) (ho0 1) (hoB 1) a1).trans (wp_mono _ _ _ fun a2 => ?_)
  rw [wp_bind]
  refine (wp_ext (F := F) c Vk Vv I r.val (r.val % 2) 128 (4 * k.val + 2) hr (by omega) (by omega) (hp 2) (ho0 2) (hoB 2) a2).trans (wp_mono _ _ _ fun a3 => ?_)
  exact wp_ext (F := F) c Vk Vv I r.val (r.val % 2) 128 (4 * k.val + 3) hr (by omega) (by omega) (hp 3) (ho0 3) (hoB 3) a3

/-- The extraction loop collects positions 128..191. -/
theorem wp_t5 (r : Fin k0_t2_loop.trips) (x1 x2 x3 x4 : BitVec 32) (x5 : IVec S16x128 32) (a : IVec S16x128 32 × IVec S16x128 32) {Q : IVec S16x128 32 × IVec S16x128 32 → sProp 𝕄} :
    iprop(Row (F := F) c Vk Vv I r.val (r.val % 2) 128 0 a ∗ (∀ b, Row (F := F) c Vk Vv I r.val (r.val % 2) 128 64 b -∗ Q b)) ⊢ wp frame (wpE (defs₀ (F := F)) Variants.none (c : Thread nD τ) none) Set.univ
      (Scf.Loop.for k0_t5_loop k0_t5_ok a (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32)) Q := by
  have h := Scf.wp_for frame (wpE (defs₀ (F := F)) Variants.none (c : Thread nD τ) none) Set.univ k0_t5_loop.lb k0_t5_loop.ub k0_t5_loop.st k0_t5_ok a (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32)
    (fun k b => Row (F := F) c Vk Vv I r.val (r.val % 2) 128 (4 * k) b) (fun k b => wp_t5_body c Vk Vv I arg1 harg1 arg2 harg2 arg3 harg3 arg4 harg4 arg5 harg5 arg6 harg6 arg9 harg9 arg10 harg10 arg11 harg11 arg12 harg12 r x1 x2 x3 x4 x5 k b) (Q := Q)
  rw [show Scf.trips k0_t5_loop.lb k0_t5_loop.ub k0_t5_loop.st = 16 from trips5] at h
  exact h

end Cert.Kernel.Hand
-- ==== Proof.KRow.lean ====
/- One row of the kernel: start the next row's copies, wait for this row's, collect its columns, attend. -/
module

public import proofs.«01_k».proof.Proof.KExtr

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The call's staging buffers. -/
abbrev inQ : Memref sig .tc .vmem S16x4x64 .bf16 := Memref.whole cc0_stg1_0
abbrev inKn : Memref sig .tc .vmem S16x1x64 .bf16 := Memref.whole cc0_stg2_0
abbrev inVn : Memref sig .tc .vmem S16x1x64 .bf16 := Memref.whole cc0_stg3_0
abbrev inKs : Memref sig .tc .vmem S16x1x192 .f32 := Memref.whole cc0_stg4_0
abbrev inVs : Memref sig .tc .vmem S16x1x192 .f32 := Memref.whole cc0_stg5_0
abbrev inRaw : Memref sig .tc .vmem S16x1x192 .f32 := Memref.whole cc0_stg6_0
abbrev outO : Memref sig .tc .vmem S16x4x64 .bf16 := Memref.whole cc0_stg7_0
abbrev outK : Memref sig .tc .vmem S2x8x64x192 .i8 := Memref.whole cc0_stg8_0
abbrev outV : Memref sig .tc .vmem S2x8x64x192 .i8 := Memref.whole cc0_stg9_0
abbrev outC : Memref sig .tc .vmem S16x1x192 .f32 := Memref.whole cc0_stg10_0

variable (c : Dev nD) (X : Ins F)

/-- A buffer owned whole. -/
abbrev pt {cs : CoreSpace} {s : Shape} {e : EltTy} (m : Memref sig .tc cs s e) (f : Buf (Elt F) (m.view.loc (c : Thread nD τ))) : sProp 𝕄 :=
  (m.view.loc (c : Thread nD τ) ↦[Finset.univ]{fullShare} f)

/-- A load of a rectangle of a buffer owned whole. -/
theorem wp_ld {cs : CoreSpace} {s : Shape} {e : EltTy} (m : Memref sig .tc cs s e) (r : Rect s) {hl : m.view.LoadsAt r.toLoadRect} {α : Type}
    {k : (r.shape.Idx → Elt F e) → Prog (TpuEff nD τ sig (Elt F) Λ₀ .tc) α} {Q : α → sProp 𝕄} {f : Buf (Elt F) (m.view.loc (c : Thread nD τ))}
    (v : r.shape.Idx → Elt F e) (hv : (m.access r).read (Elt F) f = v) :
    pt c m f ⊢ iprop((pt c m f -∗ wp frame (wpE (defs₀ (F := F)) Variants.none (c : Thread nD τ) none) Set.univ (k v) Q) -∗ wp frame (wpE (defs₀ (F := F)) Variants.none (c : Thread nD τ) none) Set.univ (.op (.load m r.toLoadRect hl) k) Q) := by
  subst hv
  exact wp_load_rect Variants.none (c : Thread nD τ) none Set.univ (m := m) (r := r) (Finset.subset_univ _)

/-- A store to a rectangle of a buffer owned whole. -/
theorem wp_st {cs : CoreSpace} {s : Shape} {e : EltTy} (m : Memref sig .tc cs s e) (r : Rect s) (w : r.shape.Idx → Elt F e)
    {hx : (m.access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄} {f : Buf (Elt F) (m.view.loc (c : Thread nD τ))} :
    pt c m f ⊢ iprop((pt c m ((m.access r).write (Elt F) f w Finset.univ) -∗ wp frame (wpE (defs₀ (F := F)) Variants.none (c : Thread nD τ) none) Set.univ (k ⟨⟩) Q) -∗ wp frame (wpE (defs₀ (F := F)) Variants.none (c : Thread nD τ) none) Set.univ (.op (.store m r w Finset.univ hx hm) k) Q) :=
  wp_store Variants.none (c : Thread nD τ) none Set.univ (m := m) (r := r) (Finset.subset_univ _)

/-- A buffer written whole at a rectangle holds the payload there. -/
theorem whole_write (b : Ref sig .tc) (r : Rect b.ty.shape) (f : b.ty.Contents (Elt F)) (w : r.shape.Idx → Elt F b.ty.elt) (y : r.shape.Idx) :
    ((View.whole b).slice r).write (Elt F) f w Finset.univ (r.emb y) = w y := View.write_emb_of_mem (v := (View.whole b).slice r) f w (Finset.mem_univ y)
/-- … and what it held elsewhere. -/
theorem whole_write_off (b : Ref sig .tc) (r : Rect b.ty.shape) (f : b.ty.Contents (Elt F)) (w : r.shape.Idx → Elt F b.ty.elt) (i : b.ty.shape.Idx) (h : i ∉ r.set) :
    ((View.whole b).slice r).write (Elt F) f w Finset.univ i = f i := by
  refine View.write_of_not_mem (v := (View.whole b).slice r) f w Finset.univ ?_
  intro hi
  apply h
  have := View.set_slice_whole b r
  rw [← this]
  exact hi

/-- The inputs that the attention reads. -/
def inp : sProp 𝕄 :=
  iprop(pt c inQ X.q ∗ pt c inKn X.kn ∗ pt c inVn X.vn ∗ pt c inKs X.ks ∗ pt c inVs X.vs ∗ pt c inRaw X.raw)
/-- The gathered results so far. -/
def outKV (r m : ℕ) : sProp 𝕄 :=
  iprop(∃ f g, ⌜DoneG X.I X.Vk r m f ∧ DoneG X.I X.Vv r m g⌝ ∗ pt c outK f ∗ pt c outV g)
/-- The attention's result so far. -/
def outA (r : ℕ) : sProp 𝕄 := iprop(∃ f, ⌜DoneR (rowO X) r f⌝ ∗ pt c outO f)
/-- The kept scores so far. -/
def outS (r : ℕ) : sProp 𝕄 := iprop(∃ f, ⌜DoneR (rowC X) r f⌝ ∗ pt c outC f)
/-- A row's words and its landed tiles. -/
def tiles (r : ℕ) : sProp 𝕄 := iprop(words c X.I ∗ slotK (F := F) c (r % 2) (land X.Vk X.I r) ∗ slotV (F := F) c (r % 2) (land X.Vv X.I r))
/-- The slot that row `k` uses: its copies started if there is such a row, else at rest. -/
def Ready (k : ℕ) : sProp 𝕄 :=
  if k < 16 then iprop(Fly c X.Vk X.Vv X.I (k % 2) k 192 ∗ Rest c X.Vk X.Vv (k % 2)) else Idle c X.Vk X.Vv (k % 2)

/-- Storing the collected columns 0..127 of a row gathers them. -/
theorem done128K (I : S16x192.Idx → Elt F .i32) (V : S2x8x64x131072.Idx → Elt F .i8) (r : Fin k0_t2_loop.trips) {f : S2x8x64x192.Idx → Elt F .i8} {a : IVec S16x128 32}
    (h : Col I V r.val 0 128 a) (hf : DoneG I V r.val 0 f) :
    DoneG I V r.val 128 ((outK.access (Rect.unit (s := S2x8x64x192) (k0_off61 r) S1x1x64x128.size (k0_off61_inb r))).write (Elt F) f (k0_pay22 a) Finset.univ) :=
  doneG_step (n := 128) (lo := 0) (inb := k0_off61_inb r) (off61_eq r)
    (fun y => (whole_write cc0_stg8_0 (Rect.unit (s := S2x8x64x192) (k0_off61 r) S1x1x64x128.size (k0_off61_inb r)) f (k0_pay22 a) y).trans ((pay22_at a y).trans (h _ _ (y 3).isLt)))
    (whole_write_off cc0_stg8_0 (Rect.unit (s := S2x8x64x192) (k0_off61 r) S1x1x64x128.size (k0_off61_inb r)) f (k0_pay22 a)) hf

/-- Storing the collected columns 0..127 of a row gathers them. -/
theorem done128V (I : S16x192.Idx → Elt F .i32) (V : S2x8x64x131072.Idx → Elt F .i8) (r : Fin k0_t2_loop.trips) {f : S2x8x64x192.Idx → Elt F .i8} {a : IVec S16x128 32}
    (h : Col I V r.val 0 128 a) (hf : DoneG I V r.val 0 f) :
    DoneG I V r.val 128 ((outV.access (Rect.unit (s := S2x8x64x192) (k0_off61 r) S1x1x64x128.size (k0_off61_inb r))).write (Elt F) f (k0_pay23 a) Finset.univ) :=
  doneG_step (n := 128) (lo := 0) (inb := k0_off61_inb r) (off61_eq r)
    (fun y => (whole_write cc0_stg9_0 (Rect.unit (s := S2x8x64x192) (k0_off61 r) S1x1x64x128.size (k0_off61_inb r)) f (k0_pay23 a) y).trans ((pay23_at a y).trans (h _ _ (y 3).isLt)))
    (whole_write_off cc0_stg9_0 (Rect.unit (s := S2x8x64x192) (k0_off61 r) S1x1x64x128.size (k0_off61_inb r)) f (k0_pay23 a)) hf

/-- Storing the collected columns 128..191 of a row gathers them. -/
theorem done64K (I : S16x192.Idx → Elt F .i32) (V : S2x8x64x131072.Idx → Elt F .i8) (r : Fin k0_t2_loop.trips) {f : S2x8x64x192.Idx → Elt F .i8} {a : IVec S16x128 32}
    (h : Col I V r.val 128 64 a) (hf : DoneG I V r.val 128 f) :
    DoneG I V r.val 192 ((outK.access (Rect.unit (s := S2x8x64x192) (k0_off64 r) S1x1x64x64.size (k0_off64_inb r))).write (Elt F) f (k0_pay28 a) Finset.univ) :=
  doneG_step (n := 64) (lo := 128) (inb := k0_off64_inb r) (off64_eq r)
    (fun y => (whole_write cc0_stg8_0 (Rect.unit (s := S2x8x64x192) (k0_off64 r) S1x1x64x64.size (k0_off64_inb r)) f (k0_pay28 a) y).trans ((pay28_at a y).trans (h _ _ (y 3).isLt)))
    (whole_write_off cc0_stg8_0 (Rect.unit (s := S2x8x64x192) (k0_off64 r) S1x1x64x64.size (k0_off64_inb r)) f (k0_pay28 a)) hf

/-- Storing the collected columns 128..191 of a row gathers them. -/
theorem done64V (I : S16x192.Idx → Elt F .i32) (V : S2x8x64x131072.Idx → Elt F .i8) (r : Fin k0_t2_loop.trips) {f : S2x8x64x192.Idx → Elt F .i8} {a : IVec S16x128 32}
    (h : Col I V r.val 128 64 a) (hf : DoneG I V r.val 128 f) :
    DoneG I V r.val 192 ((outV.access (Rect.unit (s := S2x8x64x192) (k0_off64 r) S1x1x64x64.size (k0_off64_inb r))).write (Elt F) f (k0_pay29 a) Finset.univ) :=
  doneG_step (n := 64) (lo := 128) (inb := k0_off64_inb r) (off64_eq r)
    (fun y => (whole_write cc0_stg9_0 (Rect.unit (s := S2x8x64x192) (k0_off64 r) S1x1x64x64.size (k0_off64_inb r)) f (k0_pay29 a) y).trans ((pay29_at a y).trans (h _ _ (y 3).isLt)))
    (whole_write_off cc0_stg9_0 (Rect.unit (s := S2x8x64x192) (k0_off64 r) S1x1x64x64.size (k0_off64_inb r)) f (k0_pay29 a)) hf

/-- The two waits of a row: this row's tiles have landed. -/
theorem wp_waits (r : Fin k0_t2_loop.trips) {α : Type} (x : α)
    {h1 : ((bufK.slice (Rect.unit (s := S2x192x64x128) (k0_off58 r) S1x192x64x128.size (k0_off58_inb r)) (fun _ => rfl)).squeeze S192x64x128 squeezes_S1x192x64x128_S192x64x128).view.WordExact}
    {h2 : ((bufK.slice (Rect.unit (s := S2x192x64x128) (k0_off58 r) S1x192x64x128.size (k0_off58_inb r)) (fun _ => rfl)).squeeze S192x64x128 squeezes_S1x192x64x128_S192x64x128).view.WordExact}
    {h3 : ((bufV.slice (Rect.unit (s := S2x192x64x128) (k0_off58 r) S1x192x64x128.size (k0_off58_inb r)) (fun _ => rfl)).squeeze S192x64x128 squeezes_S1x192x64x128_S192x64x128).view.WordExact}
    {h4 : ((bufV.slice (Rect.unit (s := S2x192x64x128) (k0_off58 r) S1x192x64x128.size (k0_off58_inb r)) (fun _ => rfl)).squeeze S192x64x128 squeezes_S1x192x64x128_S192x64x128).view.WordExact} :
    iprop(Ready c X r.val ∗ ∃ W, owes (c : Thread nD τ) 0 W) ⊢ wp frame (wpE (defs₀ (F := F)) Variants.none (c : Thread nD τ) none) Set.univ
      (do
        Prog.lift (TpuEff.waitDma2 ((cc0_scratch2.slice (Rect.unit (s := S2) (k0_off57 r) S1.size (k0_off57_inb r))).squeeze S_ squeezes_S1_S_).sem _ _ h1 h2)
        Prog.lift (TpuEff.waitDma2 ((cc0_scratch2.slice (Rect.unit (s := S2) (k0_off57 r) S1.size (k0_off57_inb r))).squeeze S_ squeezes_S1_S_).sem _ _ h3 h4)
        pure x : Prog (TpuEff nD τ sig (Elt F) Λ₀ .tc) α)
      (fun _ => iprop(Landed c X.Vk X.Vv X.I (r.val % 2) r.val ∗ ∃ W, owes (c : Thread nD τ) 0 W)) := by
  have hr : r.val < 16 := lt_of_lt_of_eq r.isLt trips2
  unfold Ready
  rw [if_pos hr]
  unfold Fly
  iintro ⟨⟨⟨HB, HE⟩, HT⟩, ⟨%W, HO⟩⟩
  rw [wp_bind]
  iapply (wp_wand _ _ _) $$ [HB HO]
  · iapply (wp_wait1 c X.Vk X.Vv X.I creditK (r.val % 2) r.val (sem_57 r))
    isplitl [HB]; · iexact HB
    iexact HO
  iintro %_ ⟨HB, ⟨%W2, HO⟩⟩
  rw [wp_bind]
  iapply (wp_wand _ _ _) $$ [HB HO]
  · iapply (wp_wait2 c X.Vk X.Vv X.I creditV (r.val % 2) r.val (sem_57 r))
    isplitl [HB]; · iexact HB
    iexact HO
  iintro %_ ⟨HB, HO⟩
  iapply (le_wp_ret _ _ _ _ _)
  isplitl [HB HT]
  · iapply (landed_of c X.Vk X.Vv X.I (r.val % 2) r.val)
    isplitl [HB]; · iexact HB
    iexact HT
  iexact HO

/-- The start of a row: the next row's copies are started, and this row's have landed. -/
theorem wp_part14 (hI : ∀ x, BitVec.toNat (X.I x) < 131072) (r : Fin k0_t2_loop.trips) :
    iprop(words c X.I ∗ Ready c X r.val ∗ Idle c X.Vk X.Vv (1 - r.val % 2) ∗ ∃ W, owes (c : Thread nD τ) 0 W) ⊢ wp frame (wpE (defs₀ (F := F)) Variants.none (c : Thread nD τ) none) Set.univ
      (k0_part14 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 0#32 1#32 r)
      (fun _ => iprop(words c X.I ∗ Landed c X.Vk X.Vv X.I (r.val % 2) r.val ∗ Ready c X (r.val + 1) ∗ ∃ W, owes (c : Thread nD τ) 0 W)) := by
  have hr : r.val < 16 := lt_of_lt_of_eq r.isLt trips2
  have hmod : (r.val + 1) % 2 = 1 - r.val % 2 := by omega
  rw [k0_part14_eq_skeleton]
  unfold k0_part14_skel
  dsimp only
  iintro ⟨HW, HR, HI, HO⟩
  by_cases h1 : k0_cond1 r = 1#1
  · rw [dif_pos h1]
    have hlt : r.val < 15 := (cond1_iff r).mp h1
    have hN : Ready c X (r.val + 1) = iprop(Fly c X.Vk X.Vv X.I (1 - r.val % 2) (r.val + 1) 192 ∗ Rest c X.Vk X.Vv (1 - r.val % 2)) := by
      unfold Ready; rw [if_pos (show r.val + 1 < 16 by omega), hmod]
    rw [hN]
    imod (idle_start c X.Vk X.Vv X.I (1 - r.val % 2) (r.val + 1)) $$ HI with ⟨HF, HT⟩
    rw [wp_bind]
    iapply (wp_t3 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) hI r h1 _)
    isplitl [HW HF]
    · isplitl [HW]; · iexact HW
      iexact HF
    iintro ⟨HW, HF⟩
    iapply (wp_wand _ _ _) $$ [HR HO]
    · iapply (wp_waits c X r _)
      isplitl [HR]; · iexact HR
      iexact HO
    iintro %_ ⟨HL, HO⟩
    isplitl [HW]; · iexact HW
    isplitl [HL]; · iexact HL
    isplitr [HO]
    · isplitl [HF]; · iexact HF
      iexact HT
    iexact HO
  · rw [dif_neg h1]
    have hlt : ¬ r.val < 15 := fun h => h1 ((cond1_iff r).mpr h)
    have hN : Ready c X (r.val + 1) = Idle c X.Vk X.Vv (1 - r.val % 2) := by
      unfold Ready; rw [if_neg (show ¬ r.val + 1 < 16 by omega), hmod]
    rw [hN]
    iapply (wp_wand _ _ _) $$ [HR HO]
    · iapply (wp_waits c X r _)
      isplitl [HR]; · iexact HR
      iexact HO
    iintro %_ ⟨HL, HO⟩
    isplitl [HW]; · iexact HW
    isplitl [HL]; · iexact HL
    isplitl [HI]; · iexact HI
    iexact HO

/-- The first 128 columns. -/
theorem wp_part15 (r : Fin k0_t2_loop.trips) (x1 x2 x3 x4 x5 : BitVec 32) :
    iprop(tiles c X r.val ∗ outKV c X r.val 0) ⊢ wp frame (wpE (defs₀ (F := F)) Variants.none (c : Thread nD τ) none) Set.univ
      (k0_part15 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r x1 x2 x3 x4 x5)
      (fun x => iprop(⌜x.2.2.2 = 32#32⌝ ∗ tiles c X r.val ∗ outKV c X r.val 128)) := by
  rw [k0_part15_eq_skeleton]
  unfold k0_part15_skel
  dsimp only
  unfold tiles outKV
  iintro ⟨⟨HW, HK, HV⟩, ⟨%f, %g, %hfg, Hf, Hg⟩⟩
  rw [wp_bind]
  iapply (wp_t4 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) r _ _ _ _ _ _)
  isplitl [HW HK HV]
  · unfold Row
    isplitl []; · ipureintro; exact ⟨fun _ _ h => absurd h (Nat.not_lt_zero _), fun _ _ h => absurd h (Nat.not_lt_zero _)⟩
    isplitl [HW]; · iexact HW
    isplitl [HK]; · iexact HK
    iexact HV
  unfold Row
  iintro %b ⟨%hb, HW, HK, HV⟩
  obtain ⟨b0, b1⟩ := b
  dsimp only
  rw [wp_bind]
  iapply (wp_ld (F := F) c outK (Rect.unit (s := S2x8x64x192) (k0_off61 r) S1x1x64x128.size (k0_off61_inb r)) _ (rfl)) $$ [Hf]
  · iexact Hf
  iintro Hf
  rw [wp_ret]
  imodintro
  rw [wp_bind]
  iapply (wp_st (F := F) c outK (Rect.unit (s := S2x8x64x192) (k0_off61 r) S1x1x64x128.size (k0_off61_inb r)) (k0_pay22 b0)) $$ [Hf]
  · iexact Hf
  iintro Hf
  rw [wp_ret]
  imodintro
  rw [wp_bind]
  iapply (wp_ld (F := F) c outV (Rect.unit (s := S2x8x64x192) (k0_off61 r) S1x1x64x128.size (k0_off61_inb r)) _ (rfl)) $$ [Hg]
  · iexact Hg
  iintro Hg
  rw [wp_ret]
  imodintro
  rw [wp_bind]
  iapply (wp_st (F := F) c outV (Rect.unit (s := S2x8x64x192) (k0_off61 r) S1x1x64x128.size (k0_off61_inb r)) (k0_pay23 b1)) $$ [Hg]
  · iexact Hg
  iintro Hg
  rw [wp_ret]
  imodintro
  iapply (le_wp_ret _ _ _ _ _)
  isplitl []; · ipureintro; rfl
  isplitl [HW HK HV]
  · isplitl [HW]; · iexact HW
    isplitl [HK]; · iexact HK
    iexact HV
  iexists _; iexists _
  isplitr [Hf Hg]
  · ipureintro
    exact ⟨done128K X.I X.Vk r hb.1 hfg.1, done128V X.I X.Vv r hb.2 hfg.2⟩
  isplitl [Hf]; · iexact Hf
  iexact Hg

set_option maxHeartbeats 2000000 in
/-- The last 64 columns, and the row's scores. -/
theorem wp_part16 (r : Fin k0_t2_loop.trips) (x1 x2 x3 x4 : BitVec 32) (x5 : IVec S16x128 32) :
    iprop(tiles c X r.val ∗ outKV c X r.val 128 ∗ inp c X) ⊢ wp frame (wpE (defs₀ (F := F)) Variants.none (c : Thread nD τ) none) Set.univ
      (k0_part16 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r x1 x2 x3 x4 x5 32#32)
      (fun x => iprop(⌜x = ⟨k0_pay30 (picked X.I X.Vv r.val), rowQ X r.val, rowS X r.val, row3 X.kn r.val⟩⌝ ∗ tiles c X r.val ∗ outKV c X (r.val + 1) 0 ∗ inp c X)) := by
  rw [k0_part16_eq_skeleton]
  unfold k0_part16_skel
  dsimp only
  unfold tiles outKV inp
  iintro ⟨⟨HW, HK, HV⟩, ⟨%f, %g, %hfg, Hf, Hg⟩, ⟨Hq, Hkn, Hvn, Hks, Hvs, Hraw⟩⟩
  rw [wp_bind]
  iapply (wp_t5 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) r _ _ _ _ _ _)
  isplitl [HW HK HV]
  · unfold Row
    isplitl []; · ipureintro; exact ⟨fun _ _ h => absurd h (Nat.not_lt_zero _), fun _ _ h => absurd h (Nat.not_lt_zero _)⟩
    isplitl [HW]; · iexact HW
    isplitl [HK]; · iexact HK
    iexact HV
  unfold Row
  iintro %b ⟨%hb, HW, HK, HV⟩
  obtain ⟨b0, b1⟩ := b
  dsimp only
  rw [wp_bind]
  iapply (wp_ld (F := F) c outK (Rect.unit (s := S2x8x64x192) (k0_off64 r) S1x1x64x64.size (k0_off64_inb r)) _ (rfl)) $$ [Hf]
  · iexact Hf
  iintro Hf
  rw [wp_ret]
  imodintro
  rw [wp_bind]
  iapply (wp_st (F := F) c outK (Rect.unit (s := S2x8x64x192) (k0_off64 r) S1x1x64x64.size (k0_off64_inb r)) (k0_pay28 b0)) $$ [Hf]
  · iexact Hf
  iintro Hf
  rw [wp_ret]
  imodintro
  rw [wp_bind]
  iapply (wp_ld (F := F) c outV (Rect.unit (s := S2x8x64x192) (k0_off64 r) S1x1x64x64.size (k0_off64_inb r)) _ (rfl)) $$ [Hg]
  · iexact Hg
  iintro Hg
  rw [wp_ret]
  imodintro
  rw [wp_bind]
  iapply (wp_st (F := F) c outV (Rect.unit (s := S2x8x64x192) (k0_off64 r) S1x1x64x64.size (k0_off64_inb r)) (k0_pay29 b1)) $$ [Hg]
  · iexact Hg
  iintro Hg
  rw [wp_ret]
  imodintro
  have hf' := done64K X.I X.Vk r hb.1 hfg.1
  have hg' := done64V X.I X.Vv r hb.2 hfg.2
  rw [wp_bind]
  iapply (wp_ld (F := F) c outK (Rect.unit (s := S2x8x64x192) (k0_off65 r) S1x1x64x192.size (k0_off65_inb r)) (picked X.I X.Vk r.val) (doneG_read (inb := k0_off65_inb r) (off65_eq r) hf')) $$ [Hf]
  · iexact Hf
  iintro Hf
  rw [wp_ret]
  imodintro
  rw [wp_bind]
  iapply (wp_ld (F := F) c outV (Rect.unit (s := S2x8x64x192) (k0_off65 r) S1x1x64x192.size (k0_off65_inb r)) (picked X.I X.Vv r.val) (doneG_read (inb := k0_off65_inb r) (off65_eq r) hg')) $$ [Hg]
  · iexact Hg
  iintro Hg
  rw [wp_ret]
  imodintro
  rw [wp_bind]
  iapply (wp_ld (F := F) c inQ (Rect.unit (s := S16x4x64) (k0_off66 r) S1x4x64.size (k0_off66_inb r)) (row3 X.q r.val) (funext fun y => congrArg _ (row_emb (inb := k0_off66_inb r) (k0_off66_eq r) y))) $$ [Hq]
  · iexact Hq
  iintro Hq
  rw [wp_ret]
  imodintro
  rw [wp_bind]
  iapply (wp_ld (F := F) c inKs (Rect.unit (s := S16x1x192) (k0_off67 r) S1x1x192.size (k0_off67_inb r)) (row3 X.ks r.val) (funext fun y => congrArg _ (row_emb (inb := k0_off67_inb r) (k0_off67_eq r) y))) $$ [Hks]
  · iexact Hks
  iintro Hks
  rw [wp_ret]
  imodintro
  rw [wp_bind]
  iapply (wp_ld (F := F) c inKn (Rect.unit (s := S16x1x64) (k0_off68 r) S1x1x64.size (k0_off68_inb r)) (row3 X.kn r.val) (funext fun y => congrArg _ (row_emb (inb := k0_off68_inb r) (k0_off68_eq r) y))) $$ [Hkn]
  · iexact Hkn
  iintro Hkn
  rw [wp_ret]
  imodintro
  iapply (le_wp_ret _ _ _ _ _)
  isplitl []; · ipureintro; rfl
  isplitl [HW HK HV]
  · isplitl [HW]; · iexact HW
    isplitl [HK]; · iexact HK
    iexact HV
  isplitl [Hf Hg]
  · iexists _; iexists _
    isplitr [Hf Hg]
    · ipureintro; exact ⟨doneG_next hf', doneG_next hg'⟩
    isplitl [Hf]; · iexact Hf
    iexact Hg
  isplitl [Hq]; · iexact Hq
  isplitl [Hkn]; · iexact Hkn
  isplitl [Hvn]; · iexact Hvn
  isplitl [Hks]; · iexact Hks
  isplitl [Hvs]; · iexact Hvs
  iexact Hraw

/-- The row's result. -/
theorem wp_part17 (r : Fin k0_t2_loop.trips) (x1 : BitVec 32) :
    iprop(inp c X ∗ outA c X r.val) ⊢ wp frame (wpE (defs₀ (F := F)) Variants.none (c : Thread nD τ) none) Set.univ
      (k0_part17 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 r x1 (k0_pay30 (picked X.I X.Vv r.val)) (rowQ X r.val) (rowS X r.val) (row3 X.kn r.val))
      (fun x => iprop(⌜x = rowP X r.val⌝ ∗ inp c X ∗ outA c X (r.val + 1))) := by
  rw [k0_part17_eq_skeleton]
  unfold k0_part17_skel
  dsimp only
  unfold inp outA
  iintro ⟨⟨Hq, Hkn, Hvn, Hks, Hvs, Hraw⟩, ⟨%f, %hf, Hf⟩⟩
  rw [wp_bind]
  iapply (wp_ld (F := F) c inVs (Rect.unit (s := S16x1x192) (k0_off67 r) S1x1x192.size (k0_off67_inb r)) (row3 X.vs r.val) (funext fun y => congrArg _ (row_emb (inb := k0_off67_inb r) (k0_off67_eq r) y))) $$ [Hvs]
  · iexact Hvs
  iintro Hvs
  rw [wp_ret]
  imodintro
  rw [wp_bind]
  iapply (wp_ld (F := F) c inVn (Rect.unit (s := S16x1x64) (k0_off68 r) S1x1x64.size (k0_off68_inb r)) (row3 X.vn r.val) (funext fun y => congrArg _ (row_emb (inb := k0_off68_inb r) (k0_off68_eq r) y))) $$ [Hvn]
  · iexact Hvn
  iintro Hvn
  rw [wp_ret]
  imodintro
  rw [wp_bind]
  iapply (wp_ld (F := F) c outO (Rect.unit (s := S16x4x64) (k0_off66 r) S1x4x64.size (k0_off66_inb r)) _ (rfl)) $$ [Hf]
  · iexact Hf
  iintro Hf
  rw [wp_ret]
  imodintro
  rw [wp_bind]
  iapply (wp_st (F := F) c outO (Rect.unit (s := S16x4x64) (k0_off66 r) S1x4x64.size (k0_off66_inb r)) _) $$ [Hf]
  · iexact Hf
  iintro Hf
  rw [wp_ret]
  imodintro
  iapply (le_wp_ret _ _ _ _ _)
  isplitl []; · ipureintro; rfl
  isplitr [Hf]
  · isplitl [Hq]; · iexact Hq
    isplitl [Hkn]; · iexact Hkn
    isplitl [Hvn]; · iexact Hvn
    isplitl [Hks]; · iexact Hks
    isplitl [Hvs]; · iexact Hvs
    iexact Hraw
  iexists _
  isplitr [Hf]
  · ipureintro
    exact doneR_step (inb := k0_off66_inb r) (k0_off66_eq r) (whole_write cc0_stg7_0 (Rect.unit (s := S16x4x64) (k0_off66 r) S1x4x64.size (k0_off66_inb r)) f (rowO X r.val)) (whole_write_off cc0_stg7_0 (Rect.unit (s := S16x4x64) (k0_off66 r) S1x4x64.size (k0_off66_inb r)) f (rowO X r.val)) hf
  iexact Hf

/-- What the row loop keeps. -/
def Inv (k : ℕ) : sProp 𝕄 :=
  iprop(words c X.I ∗ Ready c X k ∗ Idle c X.Vk X.Vv (1 - k % 2) ∗ (∃ W, owes (c : Thread nD τ) 0 W) ∗ inp c X ∗ outKV c X k 0 ∗ outA c X k ∗ outS c X k)

/-- One row. -/
theorem wp_row (hI : ∀ x, BitVec.toNat (X.I x) < 131072) (r : Fin k0_t2_loop.trips) (u : Unit) :
    Inv c X r.val ⊢ wp frame (wpE (defs₀ (F := F)) Variants.none (c : Thread nD τ) none) Set.univ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r u) (fun _ => Inv c X (r.val + 1)) := by
  have hr : r.val < 16 := lt_of_lt_of_eq r.isLt trips2
  have hmod : 1 - (r.val + 1) % 2 = r.val % 2 := by omega
  unfold k0_t2_body Inv
  dsimp only
  iintro ⟨HW, HR, HI, HO, Hin, HKV, HA, HS⟩
  rw [wp_bind]
  iapply (wp_wand _ _ _) $$ [HW HR HI HO]
  · iapply (wp_part14 c X hI r)
    isplitl [HW]; · iexact HW
    isplitl [HR]; · iexact HR
    isplitl [HI]; · iexact HI
    iexact HO
  iintro %x ⟨HW, HL, HR, HO⟩
  obtain ⟨x1, x2, x3, x4, x5⟩ := x
  dsimp only
  unfold Landed
  icases HL with ⟨Hsem, HK, HV, HcK, HcV⟩
  rw [wp_bind]
  iapply (wp_wand _ _ _) $$ [HW HK HV HKV]
  · iapply (wp_part15 c X r _ _ _ _ _)
    isplitr [HKV]
    · unfold tiles
      isplitl [HW]; · iexact HW
      isplitl [HK]; · iexact HK
      iexact HV
    iexact HKV
  iintro %y ⟨%hy, HT, HKV⟩
  obtain ⟨y1, y2, y3, y4⟩ := y
  dsimp only at hy
  subst hy
  dsimp only
  rw [wp_bind]
  iapply (wp_wand _ _ _) $$ [HT HKV Hin]
  · iapply (wp_part16 c X r _ _ _ _ _)
    isplitl [HT]; · iexact HT
    isplitl [HKV]; · iexact HKV
    iexact Hin
  iintro %z ⟨%hz, HT, HKV, Hin⟩
  subst hz
  dsimp only
  rw [wp_bind]
  iapply (wp_wand _ _ _) $$ [Hin HA]
  · iapply (wp_part17 c X r _)
    isplitl [Hin]; · iexact Hin
    iexact HA
  iintro %w ⟨%hw, Hin, HA⟩
  subst hw
  unfold inp outS tiles
  icases Hin with ⟨Hq, Hkn, Hvn, Hks, Hvs, Hraw⟩
  icases HS with ⟨%f, %hf, Hf⟩
  icases HT with ⟨HW, HK, HV⟩
  rw [wp_bind]
  iapply (wp_ld (F := F) c inRaw (Rect.unit (s := S16x1x192) (k0_off67 r) S1x1x192.size (k0_off67_inb r)) (row3 X.raw r.val) (funext fun y => congrArg _ (row_emb (inb := k0_off67_inb r) (k0_off67_eq r) y))) $$ [Hraw]
  · iexact Hraw
  iintro Hraw
  rw [wp_ret]
  imodintro
  rw [wp_bind]
  iapply (wp_ld (F := F) c outC (Rect.unit (s := S16x1x192) (k0_off67 r) S1x1x192.size (k0_off67_inb r)) _ (rfl)) $$ [Hf]
  · iexact Hf
  iintro Hf
  rw [wp_ret]
  imodintro
  rw [wp_bind]
  iapply (wp_st (F := F) c outC (Rect.unit (s := S16x1x192) (k0_off67 r) S1x1x192.size (k0_off67_inb r)) _) $$ [Hf]
  · iexact Hf
  iintro Hf
  rw [wp_ret]
  imodintro
  iapply (le_wp_ret _ _ _ _ _)
  isplitl [HW]; · iexact HW
  isplitl [HR]; · iexact HR
  isplitl [Hsem HK HV HcK HcV]
  · rw [hmod]
    iapply (landed_idle c X.Vk X.Vv X.I (r.val % 2) r.val)
    unfold Landed
    isplitl [Hsem]; · iexact Hsem
    isplitl [HK]; · iexact HK
    isplitl [HV]; · iexact HV
    isplitl [HcK]; · iexact HcK
    iexact HcV
  isplitl [HO]; · iexact HO
  isplitl [Hq Hkn Hvn Hks Hvs Hraw]
  · isplitl [Hq]; · iexact Hq
    isplitl [Hkn]; · iexact Hkn
    isplitl [Hvn]; · iexact Hvn
    isplitl [Hks]; · iexact Hks
    isplitl [Hvs]; · iexact Hvs
    iexact Hraw
  isplitl [HKV]; · iexact HKV
  isplitl [HA]; · iexact HA
  iexists _
  isplitr [Hf]
  · ipureintro
    exact doneR_step (inb := k0_off67_inb r) (k0_off67_eq r) (whole_write cc0_stg10_0 (Rect.unit (s := S16x1x192) (k0_off67 r) S1x1x192.size (k0_off67_inb r)) f (rowC X r.val)) (whole_write_off cc0_stg10_0 (Rect.unit (s := S16x1x192) (k0_off67 r) S1x1x192.size (k0_off67_inb r)) f (rowC X r.val)) hf
  iexact Hf

/-- All rows. -/
theorem wp_rows (hI : ∀ x, BitVec.toNat (X.I x) < 131072) {Q : PUnit → sProp 𝕄} :
    iprop(Inv c X 0 ∗ (Inv c X 16 -∗ Q ⟨⟩)) ⊢ wp frame (wpE (defs₀ (F := F)) Variants.none (c : Thread nD τ) none) Set.univ
      (Scf.Loop.for k0_t2_loop k0_t2_ok ⟨⟩ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes)) Q := by
  have h := Scf.wp_for frame (wpE (defs₀ (F := F)) Variants.none (c : Thread nD τ) none) Set.univ k0_t2_loop.lb k0_t2_loop.ub k0_t2_loop.st k0_t2_ok ⟨⟩ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes)
    (fun k _ => Inv c X k) (fun k u => wp_row c X hI k u) (Q := Q)
  rw [show Scf.trips k0_t2_loop.lb k0_t2_loop.ub k0_t2_loop.st = 16 from trips2] at h
  iintro ⟨H1, H2⟩
  iapply h
  isplitl [H1]; · iexact H1
  iintro %_ H
  iapply H2
  iexact H

end Cert.Kernel.Hand
-- ==== Proof.KBody.lean ====
/- The kernel's body: from its buffers at anything and its operands to its results. -/
module

public import proofs.«01_k».proof.Proof.KRow

@[expose] public section

set_option synthInstance.maxSize 4096

noncomputable section

namespace Cert.Kernel.Hand

open Cert.Kernel Cert.Kernel.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : Ins F)

/-- A buffer of two slots, split into its slots. -/
theorem bufK_split : iprop(∃ f, pt c bufK f) ⊢ iprop((∃ f, slotK (F := F) c 0 f) ∗ (∃ f, slotK (F := F) c 1 f)) := by
  iintro ⟨%f, H⟩
  ihave H := (show pt c bufK f ⊢ iprop(slotK (F := F) c 0 f ∗ slotK (F := F) c 1 f) from by
    unfold pt slotK; rw [slot_union]; exact (pointsTo_union slot_disjoint).1) $$ H
  icases H with ⟨H1, H2⟩
  isplitl [H1]; · iexists f; iexact H1
  iexists f; iexact H2
theorem bufV_split : iprop(∃ f, pt c bufV f) ⊢ iprop((∃ f, slotV (F := F) c 0 f) ∗ (∃ f, slotV (F := F) c 1 f)) := by
  iintro ⟨%f, H⟩
  ihave H := (show pt c bufV f ⊢ iprop(slotV (F := F) c 0 f ∗ slotV (F := F) c 1 f) from by
    unfold pt slotV; rw [slot_union]; exact (pointsTo_union slot_disjoint).1) $$ H
  icases H with ⟨H1, H2⟩
  isplitl [H1]; · iexists f; iexact H1
  iexists f; iexact H2
/-- The two slots, joined. -/
theorem bufK_join : iprop((∃ f, slotK (F := F) c 0 f) ∗ (∃ f, slotK (F := F) c 1 f)) ⊢ iprop(∃ f, pt c bufK f) := by
  iintro ⟨⟨%f, H1⟩, ⟨%g, H2⟩⟩
  ihave H := (show iprop(slotK (F := F) c 0 f ∗ slotK (F := F) c 1 g) ⊢ iprop(∃ f, pt c bufK f) from by
    unfold pt slotK; rw [slot_union]
    iintro H; iexists _; iapply (pointsTo_join slot_disjoint); iexact H) $$ [H1 H2]
  · isplitl [H1]; · iexact H1
    iexact H2
  iexact H
theorem bufV_join : iprop((∃ f, slotV (F := F) c 0 f) ∗ (∃ f, slotV (F := F) c 1 f)) ⊢ iprop(∃ f, pt c bufV f) := by
  iintro ⟨⟨%f, H1⟩, ⟨%g, H2⟩⟩
  ihave H := (show iprop(slotV (F := F) c 0 f ∗ slotV (F := F) c 1 g) ⊢ iprop(∃ f, pt c bufV f) from by
    unfold pt slotV; rw [slot_union]
    iintro H; iexists _; iapply (pointsTo_join slot_disjoint); iexact H) $$ [H1 H2]
  · isplitl [H1]; · iexact H1
    iexact H2
  iexact H

/-- A cache, shared between the two slots. -/
theorem cacheK_split : (cacheK c X.Vk fullShare : sProp 𝕄) ⊣⊢ iprop(cacheK c X.Vk (slotShare 0) ∗ cacheK c X.Vk (slotShare 1)) := by
  have h : (cacheK c X.Vk fullShare : sProp 𝕄) ⊣⊢ _ := pointsTo_toks_range fullShare 1
  rw [Finset.range_one, bigSep_singleton] at h
  exact h
theorem cacheV_split : (cacheV c X.Vv fullShare : sProp 𝕄) ⊣⊢ iprop(cacheV c X.Vv (slotShare 0) ∗ cacheV c X.Vv (slotShare 1)) := by
  have h : (cacheV c X.Vv fullShare : sProp 𝕄) ⊣⊢ _ := pointsTo_toks_range fullShare 1
  rw [Finset.range_one, bigSep_singleton] at h
  exact h

/-- The body's scratch, at rest: its buffers at anything, its semaphores at zero, the caches. -/
def Still : sProp 𝕄 :=
  iprop((∃ f, pt c bufK f) ∗ (∃ f, pt c bufV f) ∗ semVal ((c : Thread nD τ), .dma (cell 0)) 0 ∗ semVal ((c : Thread nD τ), .dma (cell 1)) 0
    ∗ cacheK c X.Vk fullShare ∗ cacheV c X.Vv fullShare)

theorem scratch_idle : Still c X ⊢ iprop(Idle c X.Vk X.Vv 0 ∗ Idle c X.Vk X.Vv 1) := by
  unfold Still Idle
  iintro ⟨HK, HV, H0, H1, Hk, Hv⟩
  ihave HK := (bufK_split c) $$ HK
  icases HK with ⟨HK0, HK1⟩
  ihave HV := (bufV_split c) $$ HV
  icases HV with ⟨HV0, HV1⟩
  ihave Hk := (cacheK_split c X).1 $$ Hk
  icases Hk with ⟨Hk0, Hk1⟩
  ihave Hv := (cacheV_split c X).1 $$ Hv
  icases Hv with ⟨Hv0, Hv1⟩
  isplitl [HK0 HV0 Hk0 Hv0 H0]
  · isplitl [H0]; · iexact H0
    isplitl [HK0]; · iexact HK0
    isplitl [HV0]; · iexact HV0
    isplitl [Hk0]; · iexact Hk0
    iexact Hv0
  · isplitl [H1]; · iexact H1
    isplitl [HK1]; · iexact HK1
    isplitl [HV1]; · iexact HV1
    isplitl [Hk1]; · iexact Hk1
    iexact Hv1

theorem idle_scratch : iprop(Idle c X.Vk X.Vv 0 ∗ Idle c X.Vk X.Vv 1) ⊢ Still c X := by
  unfold Still Idle
  iintro ⟨⟨H0, HK0, HV0, Hk0, Hv0⟩, ⟨H1, HK1, HV1, Hk1, Hv1⟩⟩
  isplitl [HK0 HK1]
  · iapply (bufK_join c); isplitl [HK0]; · iexact HK0
    iexact HK1
  isplitl [HV0 HV1]
  · iapply (bufV_join c); isplitl [HV0]; · iexact HV0
    iexact HV1
  isplitl [H0]; · iexact H0
  isplitl [H1]; · iexact H1
  isplitl [Hk0 Hk1]
  · iapply (cacheK_split c X).2; isplitl [Hk0]; · iexact Hk0
    iexact Hk1
  · iapply (cacheV_split c X).2; isplitl [Hv0]; · iexact Hv0
    iexact Hv1

/-- The results, all written. -/
def outs : sProp 𝕄 :=
  iprop(pt c outO (outR (rowO X)) ∗ pt c outK (outG X.I X.Vk) ∗ pt c outV (outG X.I X.Vv) ∗ pt c outC (outR (rowC X)))
/-- The results' buffers at anything. -/
def outs0 : sProp 𝕄 := iprop((∃ f, pt (F := F) c outO f) ∗ (∃ f, pt (F := F) c outK f) ∗ (∃ f, pt (F := F) c outV f) ∗ (∃ f, pt (F := F) c outC f))

theorem inv_start : iprop(words c X.I ∗ Fly c X.Vk X.Vv X.I 0 0 192 ∗ Rest c X.Vk X.Vv 0 ∗ Idle c X.Vk X.Vv 1 ∗ (∃ W, owes (c : Thread nD τ) 0 W) ∗ inp c X ∗ outs0 (F := F) c) ⊢ Inv c X 0 := by
  unfold Inv outs0 outKV outA outS
  rw [show Ready c X 0 = iprop(Fly c X.Vk X.Vv X.I (0 % 2) 0 192 ∗ Rest c X.Vk X.Vv (0 % 2)) from if_pos (by decide)]
  iintro ⟨H1, H2, H3, H4, H5, H6, ⟨%f7, H7⟩, ⟨%f8, H8⟩, ⟨%f9, H9⟩, ⟨%f10, H10⟩⟩
  isplitl [H1]; · iexact H1
  isplitl [H2 H3]
  · isplitl [H2]; · iexact H2
    iexact H3
  isplitl [H4]; · iexact H4
  isplitl [H5]; · iexact H5
  isplitl [H6]; · iexact H6
  isplitl [H8 H9]
  · iexists f8, f9
    isplitr
    · ipureintro
      exact ⟨fun i hi => absurd hi (by omega), fun i hi => absurd hi (by omega)⟩
    isplitl [H8]; · iexact H8
    iexact H9
  isplitl [H7]
  · iexists f7
    isplitr
    · ipureintro; exact fun i hi => absurd hi (Nat.not_lt_zero _)
    iexact H7
  iexists f10
  isplitr
  · ipureintro; exact fun i hi => absurd hi (Nat.not_lt_zero _)
  iexact H10

theorem inv_end : Inv c X 16 ⊢ iprop(words c X.I ∗ Still c X ∗ (∃ W, owes (c : Thread nD τ) 0 W) ∗ inp c X ∗ outs c X) := by
  unfold Inv outs outKV outA outS
  rw [show Ready c X 16 = Idle c X.Vk X.Vv (16 % 2) from if_neg (by decide)]
  iintro ⟨H1, H2, H4, H5, H6, ⟨%f8, %f9, %h89, H8, H9⟩, ⟨%f7, %h7, H7⟩, ⟨%f10, %h10, H10⟩⟩
  obtain ⟨h8, h9⟩ := h89
  rw [← doneG_all h8, ← doneG_all h9, ← doneR_all h7, ← doneR_all h10]
  isplitl [H1]; · iexact H1
  isplitl [H2 H4]
  · iapply (idle_scratch c X)
    isplitl [H2]; · iexact H2
    iexact H4
  isplitl [H5]; · iexact H5
  isplitl [H6]; · iexact H6
  isplitl [H7]; · iexact H7
  isplitl [H8]; · iexact H8
  isplitl [H9]; · iexact H9
  iexact H10

/-- The body, run on its operands and buffers, leaves the results written and everything else as it was. -/
theorem wp_body (hI : ∀ x, BitVec.toNat (X.I x) < 131072) :
    iprop(words c X.I ∗ Still c X ∗ (∃ W, owes (c : Thread nD τ) 0 W) ∗ inp c X ∗ outs0 (F := F) c) ⊢ wp frame (wpE (defs₀ (F := F)) Variants.none (c : Thread nD τ) none) Set.univ
      (cc0_gather_attend (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2) (fun _ => iprop(words c X.I ∗ Still c X ∗ (∃ W, owes (c : Thread nD τ) 0 W) ∗ inp c X ∗ outs c X)) := by
  rw [cc0_gather_attend_eq_skeleton]
  unfold cc0_gather_attend_skel
  iintro ⟨HW, HS, HO, Hin, Hout⟩
  ihave HS := (scratch_idle c X) $$ HS
  icases HS with ⟨H0, H1⟩
  imod (idle_start c X.Vk X.Vv X.I 0 0) $$ H0 with H0
  icases H0 with ⟨HF, HR⟩
  rw [wp_bind]
  iapply (wp_t1 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) hI)
  isplitl [HW HF]
  · isplitl [HW]; · iexact HW
    iexact HF
  iintro ⟨HW, HF⟩
  rw [wp_bind]
  iapply (wp_rows c X hI)
  isplitl [HW HF HR H1 HO Hin Hout]
  · iapply (inv_start c X)
    isplitl [HW]; · iexact HW
    isplitl [HF]; · iexact HF
    isplitl [HR]; · iexact HR
    isplitl [H1]; · iexact H1
    isplitl [HO]; · iexact HO
    isplitl [Hin]; · iexact Hin
    iexact Hout
  iintro HI
  iapply (le_wp_ret _ _ _ _ _)
  iapply (inv_end c X)
  iexact HI

end Cert.Kernel.Hand
-- ==== Proof.KFrame.lean ====
/- The kernel's run: the host lines, the call, the host lines after it; and its frame. -/
module

public import proofs.«01_k».proof.Proof.KBody
public import proofs.«01_k».proof.Proof.Gen.Kernel.Frame
public import Idealize.ShloMosaic.Lib.Pipeline.ValueKit

@[expose] public section

set_option synthInstance.maxSize 4096

set_option maxRecDepth 16384

noncomputable section

namespace Cert.Kernel.Hand

open Cert.Kernel Cert.Kernel.Gen
open Idealize.ShloMosaic Idealize.ShloMosaic.TcCoe Idealize.ShloMosaic.Tactic Idealize.ShloMosaic.Transfers
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the call -/

set_option maxHeartbeats 800000 in
/-- @main runs the host lines, then the call, then the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7] [hostOps1] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The two caches, which the body's copies read. -/
def H0 : Finset (Ref sig .tc) := {main_v7, main_v8}
theorem H0_sub : H0 ⊆ Pipeline.restRefs sig spec0 := by decide
/-- The body's two semaphores. -/
abbrev osem0 : Fin 2 → SemLoc sig := fun j => (![SemLoc.dma 11, SemLoc.dma 12] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
theorem hbmPts0_eq (c : Dev nD) :
    (bigSep H0 (fun b => ((c : Thread nD τ).loc b) ↦{fullShare} V m c b) : sProp 𝕄)
      = iprop(cacheK c (V m c main_v7) fullShare ∗ cacheV c (V m c main_v8) fullShare) := by
  rw [BI.bigSep_eq_bigSepL_of_eq [main_v7, main_v8] (by decide) (by decide)]; rfl

/-- The lines after the call touch neither cache. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl | rfl | rfl | rfl
  all_goals intro b hb; simp only [H0, Finset.mem_insert, Finset.mem_singleton] at hb
  all_goals rcases hb with rfl | rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-! ## The body's operands -/

/-- The operands as the call finds them. -/
def ins (c : Dev nD) : Ins F where
  I := V m c main_v9
  q := V m c main_v10
  kn := V m c main_v11
  vn := V m c main_v12
  ks := V m c main_v13
  vs := V m c main_v14
  raw := V m c main_v15
  Vk := V m c main_v7
  Vv := V m c main_v8

/-- Each window is its whole array, at index 0. -/
theorem idx0 : ∀ t : Fin cfg0.N, win0_0.index t = ![0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0, 0] ∧ win0_9.index t = ![0, 0, 0, 0] ∧ win0_10.index t = ![0, 0, 0] :=
  (by decide +kernel : ∀ t : Fin grid0.N, _)

theorem blk0_0 (f : S16x192.Idx → Elt F .i32) : ((cfg0.win 0).blk t0_0).view.read (Elt F) f = f := by
  blk_ext! [idx0 t0_0]
theorem blk0_1 (f : S16x4x64.Idx → Elt F .bf16) : ((cfg0.win 1).blk t0_0).view.read (Elt F) f = f := by
  blk_ext! [idx0 t0_0]
theorem blk0_2 (f : S16x1x64.Idx → Elt F .bf16) : ((cfg0.win 2).blk t0_0).view.read (Elt F) f = f := by
  blk_ext! [idx0 t0_0]
theorem blk0_3 (f : S16x1x64.Idx → Elt F .bf16) : ((cfg0.win 3).blk t0_0).view.read (Elt F) f = f := by
  blk_ext! [idx0 t0_0]
theorem blk0_4 (f : S16x1x192.Idx → Elt F .f32) : ((cfg0.win 4).blk t0_0).view.read (Elt F) f = f := by
  blk_ext! [idx0 t0_0]
theorem blk0_5 (f : S16x1x192.Idx → Elt F .f32) : ((cfg0.win 5).blk t0_0).view.read (Elt F) f = f := by
  blk_ext! [idx0 t0_0]
theorem blk0_6 (f : S16x1x192.Idx → Elt F .f32) : ((cfg0.win 6).blk t0_0).view.read (Elt F) f = f := by
  blk_ext! [idx0 t0_0]

/-- The call's data: its operands as they are, its results as the body leaves them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outR (rowO (ins m c))
    | ⟨8, _⟩ => outG (ins m c).I (ins m c).Vk
    | ⟨9, _⟩ => outG (ins m c).I (ins m c).Vv
    | ⟨10, _⟩ => outR (rowC (ins m c))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem iblk0_0 (c : Dev nD) : iblk m c 0 t0_0 = (ins m c).I := by
  unfold iblk ins; dsimp only; generalize V m c = f; exact blk0_0 (f main_v9)
theorem stg0_0 (c : Dev nD) (d) : (owns (c : Thread nD τ) (win0_0.stage (cfg0.slots t0_0 0)) fullShare ((dats m 0 c).before 0 t0_0 d) : sProp 𝕄)
    = (((Memref.whole cc0_stg0_0 : Memref sig .tc _ S16x192 .i32).view.loc (c : Thread nD τ)) ↦[Finset.univ]{fullShare} (ins m c).I) := by
  have h : (dats m 0 c).before 0 t0_0 d = iblk m c 0 t0_0 :=
    ((dats m 0 c).before_in_eq_fetched 0 rfl (fun _ => rfl) (fun _ _ _ => rfl) (fun t => by rw [after0_0]; unfold Dat.blockOf iblk; rw [A_eq]; try rfl) t0_0 d).trans
      (by unfold Dat.fetched Dat.blockOf iblk; rw [A_eq]; try rfl)
  rw [h]
  rw [iblk0_0]
  exact owns_whole (c : Thread nD τ) cc0_stg0_0 fullShare _
theorem end0_0 (c : Dev nD) : (owns (c : Thread nD τ) (win0_0.stage (cfg0.slots t0_0 0)) fullShare ((dats m 0 c).after 0 t0_0) : sProp 𝕄)
    = (((Memref.whole cc0_stg0_0 : Memref sig .tc _ S16x192 .i32).view.loc (c : Thread nD τ)) ↦[Finset.univ]{fullShare} (ins m c).I) := by
  rw [after0_0]
  rw [iblk0_0]
  exact owns_whole (c : Thread nD τ) cc0_stg0_0 fullShare _
theorem after0_1 (c : Dev nD) (t : Fin cfg0.N) : (dats m 0 c).after 1 t = iblk m c 1 t := by dsimp only [dats]
theorem iblk0_1 (c : Dev nD) : iblk m c 1 t0_0 = (ins m c).q := by
  unfold iblk ins; dsimp only; generalize V m c = f; exact blk0_1 (f main_v10)
theorem stg0_1 (c : Dev nD) (d) : (owns (c : Thread nD τ) (win0_1.stage (cfg0.slots t0_0 1)) fullShare ((dats m 0 c).before 1 t0_0 d) : sProp 𝕄)
    = (((Memref.whole cc0_stg1_0 : Memref sig .tc _ S16x4x64 .bf16).view.loc (c : Thread nD τ)) ↦[Finset.univ]{fullShare} (ins m c).q) := by
  have h : (dats m 0 c).before 1 t0_0 d = iblk m c 1 t0_0 :=
    ((dats m 0 c).before_in_eq_fetched 1 rfl (fun _ => rfl) (fun _ _ _ => rfl) (fun t => by rw [after0_1]; unfold Dat.blockOf iblk; rw [A_eq]; try rfl) t0_0 d).trans
      (by unfold Dat.fetched Dat.blockOf iblk; rw [A_eq]; try rfl)
  rw [h]
  rw [iblk0_1]
  exact owns_whole (c : Thread nD τ) cc0_stg1_0 fullShare _
theorem end0_1 (c : Dev nD) : (owns (c : Thread nD τ) (win0_1.stage (cfg0.slots t0_0 1)) fullShare ((dats m 0 c).after 1 t0_0) : sProp 𝕄)
    = (((Memref.whole cc0_stg1_0 : Memref sig .tc _ S16x4x64 .bf16).view.loc (c : Thread nD τ)) ↦[Finset.univ]{fullShare} (ins m c).q) := by
  rw [after0_1]
  rw [iblk0_1]
  exact owns_whole (c : Thread nD τ) cc0_stg1_0 fullShare _
theorem after0_2 (c : Dev nD) (t : Fin cfg0.N) : (dats m 0 c).after 2 t = iblk m c 2 t := by dsimp only [dats]
theorem iblk0_2 (c : Dev nD) : iblk m c 2 t0_0 = (ins m c).kn := by
  unfold iblk ins; dsimp only; generalize V m c = f; exact blk0_2 (f main_v11)
theorem stg0_2 (c : Dev nD) (d) : (owns (c : Thread nD τ) (win0_2.stage (cfg0.slots t0_0 2)) fullShare ((dats m 0 c).before 2 t0_0 d) : sProp 𝕄)
    = (((Memref.whole cc0_stg2_0 : Memref sig .tc _ S16x1x64 .bf16).view.loc (c : Thread nD τ)) ↦[Finset.univ]{fullShare} (ins m c).kn) := by
  have h : (dats m 0 c).before 2 t0_0 d = iblk m c 2 t0_0 :=
    ((dats m 0 c).before_in_eq_fetched 2 rfl (fun _ => rfl) (fun _ _ _ => rfl) (fun t => by rw [after0_2]; unfold Dat.blockOf iblk; rw [A_eq]; try rfl) t0_0 d).trans
      (by unfold Dat.fetched Dat.blockOf iblk; rw [A_eq]; try rfl)
  rw [h]
  rw [iblk0_2]
  exact owns_whole (c : Thread nD τ) cc0_stg2_0 fullShare _
theorem end0_2 (c : Dev nD) : (owns (c : Thread nD τ) (win0_2.stage (cfg0.slots t0_0 2)) fullShare ((dats m 0 c).after 2 t0_0) : sProp 𝕄)
    = (((Memref.whole cc0_stg2_0 : Memref sig .tc _ S16x1x64 .bf16).view.loc (c : Thread nD τ)) ↦[Finset.univ]{fullShare} (ins m c).kn) := by
  rw [after0_2]
  rw [iblk0_2]
  exact owns_whole (c : Thread nD τ) cc0_stg2_0 fullShare _
theorem after0_3 (c : Dev nD) (t : Fin cfg0.N) : (dats m 0 c).after 3 t = iblk m c 3 t := by dsimp only [dats]
theorem iblk0_3 (c : Dev nD) : iblk m c 3 t0_0 = (ins m c).vn := by
  unfold iblk ins; dsimp only; generalize V m c = f; exact blk0_3 (f main_v12)
theorem stg0_3 (c : Dev nD) (d) : (owns (c : Thread nD τ) (win0_3.stage (cfg0.slots t0_0 3)) fullShare ((dats m 0 c).before 3 t0_0 d) : sProp 𝕄)
    = (((Memref.whole cc0_stg3_0 : Memref sig .tc _ S16x1x64 .bf16).view.loc (c : Thread nD τ)) ↦[Finset.univ]{fullShare} (ins m c).vn) := by
  have h : (dats m 0 c).before 3 t0_0 d = iblk m c 3 t0_0 :=
    ((dats m 0 c).before_in_eq_fetched 3 rfl (fun _ => rfl) (fun _ _ _ => rfl) (fun t => by rw [after0_3]; unfold Dat.blockOf iblk; rw [A_eq]; try rfl) t0_0 d).trans
      (by unfold Dat.fetched Dat.blockOf iblk; rw [A_eq]; try rfl)
  rw [h]
  rw [iblk0_3]
  exact owns_whole (c : Thread nD τ) cc0_stg3_0 fullShare _
theorem end0_3 (c : Dev nD) : (owns (c : Thread nD τ) (win0_3.stage (cfg0.slots t0_0 3)) fullShare ((dats m 0 c).after 3 t0_0) : sProp 𝕄)
    = (((Memref.whole cc0_stg3_0 : Memref sig .tc _ S16x1x64 .bf16).view.loc (c : Thread nD τ)) ↦[Finset.univ]{fullShare} (ins m c).vn) := by
  rw [after0_3]
  rw [iblk0_3]
  exact owns_whole (c : Thread nD τ) cc0_stg3_0 fullShare _
theorem after0_4 (c : Dev nD) (t : Fin cfg0.N) : (dats m 0 c).after 4 t = iblk m c 4 t := by dsimp only [dats]
theorem iblk0_4 (c : Dev nD) : iblk m c 4 t0_0 = (ins m c).ks := by
  unfold iblk ins; dsimp only; generalize V m c = f; exact blk0_4 (f main_v13)
theorem stg0_4 (c : Dev nD) (d) : (owns (c : Thread nD τ) (win0_4.stage (cfg0.slots t0_0 4)) fullShare ((dats m 0 c).before 4 t0_0 d) : sProp 𝕄)
    = (((Memref.whole cc0_stg4_0 : Memref sig .tc _ S16x1x192 .f32).view.loc (c : Thread nD τ)) ↦[Finset.univ]{fullShare} (ins m c).ks) := by
  have h : (dats m 0 c).before 4 t0_0 d = iblk m c 4 t0_0 :=
    ((dats m 0 c).before_in_eq_fetched 4 rfl (fun _ => rfl) (fun _ _ _ => rfl) (fun t => by rw [after0_4]; unfold Dat.blockOf iblk; rw [A_eq]; try rfl) t0_0 d).trans
      (by unfold Dat.fetched Dat.blockOf iblk; rw [A_eq]; try rfl)
  rw [h]
  rw [iblk0_4]
  exact owns_whole (c : Thread nD τ) cc0_stg4_0 fullShare _
theorem end0_4 (c : Dev nD) : (owns (c : Thread nD τ) (win0_4.stage (cfg0.slots t0_0 4)) fullShare ((dats m 0 c).after 4 t0_0) : sProp 𝕄)
    = (((Memref.whole cc0_stg4_0 : Memref sig .tc _ S16x1x192 .f32).view.loc (c : Thread nD τ)) ↦[Finset.univ]{fullShare} (ins m c).ks) := by
  rw [after0_4]
  rw [iblk0_4]
  exact owns_whole (c : Thread nD τ) cc0_stg4_0 fullShare _
theorem after0_5 (c : Dev nD) (t : Fin cfg0.N) : (dats m 0 c).after 5 t = iblk m c 5 t := by dsimp only [dats]
theorem iblk0_5 (c : Dev nD) : iblk m c 5 t0_0 = (ins m c).vs := by
  unfold iblk ins; dsimp only; generalize V m c = f; exact blk0_5 (f main_v14)
theorem stg0_5 (c : Dev nD) (d) : (owns (c : Thread nD τ) (win0_5.stage (cfg0.slots t0_0 5)) fullShare ((dats m 0 c).before 5 t0_0 d) : sProp 𝕄)
    = (((Memref.whole cc0_stg5_0 : Memref sig .tc _ S16x1x192 .f32).view.loc (c : Thread nD τ)) ↦[Finset.univ]{fullShare} (ins m c).vs) := by
  have h : (dats m 0 c).before 5 t0_0 d = iblk m c 5 t0_0 :=
    ((dats m 0 c).before_in_eq_fetched 5 rfl (fun _ => rfl) (fun _ _ _ => rfl) (fun t => by rw [after0_5]; unfold Dat.blockOf iblk; rw [A_eq]; try rfl) t0_0 d).trans
      (by unfold Dat.fetched Dat.blockOf iblk; rw [A_eq]; try rfl)
  rw [h]
  rw [iblk0_5]
  exact owns_whole (c : Thread nD τ) cc0_stg5_0 fullShare _
theorem end0_5 (c : Dev nD) : (owns (c : Thread nD τ) (win0_5.stage (cfg0.slots t0_0 5)) fullShare ((dats m 0 c).after 5 t0_0) : sProp 𝕄)
    = (((Memref.whole cc0_stg5_0 : Memref sig .tc _ S16x1x192 .f32).view.loc (c : Thread nD τ)) ↦[Finset.univ]{fullShare} (ins m c).vs) := by
  rw [after0_5]
  rw [iblk0_5]
  exact owns_whole (c : Thread nD τ) cc0_stg5_0 fullShare _
theorem after0_6 (c : Dev nD) (t : Fin cfg0.N) : (dats m 0 c).after 6 t = iblk m c 6 t := by dsimp only [dats]
theorem iblk0_6 (c : Dev nD) : iblk m c 6 t0_0 = (ins m c).raw := by
  unfold iblk ins; dsimp only; generalize V m c = f; exact blk0_6 (f main_v15)
theorem stg0_6 (c : Dev nD) (d) : (owns (c : Thread nD τ) (win0_6.stage (cfg0.slots t0_0 6)) fullShare ((dats m 0 c).before 6 t0_0 d) : sProp 𝕄)
    = (((Memref.whole cc0_stg6_0 : Memref sig .tc _ S16x1x192 .f32).view.loc (c : Thread nD τ)) ↦[Finset.univ]{fullShare} (ins m c).raw) := by
  have h : (dats m 0 c).before 6 t0_0 d = iblk m c 6 t0_0 :=
    ((dats m 0 c).before_in_eq_fetched 6 rfl (fun _ => rfl) (fun _ _ _ => rfl) (fun t => by rw [after0_6]; unfold Dat.blockOf iblk; rw [A_eq]; try rfl) t0_0 d).trans
      (by unfold Dat.fetched Dat.blockOf iblk; rw [A_eq]; try rfl)
  rw [h]
  rw [iblk0_6]
  exact owns_whole (c : Thread nD τ) cc0_stg6_0 fullShare _
theorem end0_6 (c : Dev nD) : (owns (c : Thread nD τ) (win0_6.stage (cfg0.slots t0_0 6)) fullShare ((dats m 0 c).after 6 t0_0) : sProp 𝕄)
    = (((Memref.whole cc0_stg6_0 : Memref sig .tc _ S16x1x192 .f32).view.loc (c : Thread nD τ)) ↦[Finset.univ]{fullShare} (ins m c).raw) := by
  rw [after0_6]
  rw [iblk0_6]
  exact owns_whole (c : Thread nD τ) cc0_stg6_0 fullShare _
theorem stg0_7 (c : Dev nD) (d) : (owns (c : Thread nD τ) (win0_7.stage (cfg0.slots t0_0 7)) fullShare d : sProp 𝕄) = pt c outO d :=
  owns_whole (c : Thread nD τ) cc0_stg7_0 fullShare _
theorem end0_7 (c : Dev nD) : (owns (c : Thread nD τ) (win0_7.stage (cfg0.slots t0_0 7)) fullShare ((dats m 0 c).after 7 t0_0) : sProp 𝕄) = pt c outO (outR (rowO (ins m c))) := by
  rw [show (dats m 0 c).after 7 t0_0 = outR (rowO (ins m c)) from by dsimp only [dats]]
  exact owns_whole (c : Thread nD τ) cc0_stg7_0 fullShare _
theorem stg0_8 (c : Dev nD) (d) : (owns (c : Thread nD τ) (win0_8.stage (cfg0.slots t0_0 8)) fullShare d : sProp 𝕄) = pt c outK d :=
  owns_whole (c : Thread nD τ) cc0_stg8_0 fullShare _
theorem end0_8 (c : Dev nD) : (owns (c : Thread nD τ) (win0_8.stage (cfg0.slots t0_0 8)) fullShare ((dats m 0 c).after 8 t0_0) : sProp 𝕄) = pt c outK (outG (ins m c).I (ins m c).Vk) := by
  rw [show (dats m 0 c).after 8 t0_0 = outG (ins m c).I (ins m c).Vk from by dsimp only [dats]]
  exact owns_whole (c : Thread nD τ) cc0_stg8_0 fullShare _
theorem stg0_9 (c : Dev nD) (d) : (owns (c : Thread nD τ) (win0_9.stage (cfg0.slots t0_0 9)) fullShare d : sProp 𝕄) = pt c outV d :=
  owns_whole (c : Thread nD τ) cc0_stg9_0 fullShare _
theorem end0_9 (c : Dev nD) : (owns (c : Thread nD τ) (win0_9.stage (cfg0.slots t0_0 9)) fullShare ((dats m 0 c).after 9 t0_0) : sProp 𝕄) = pt c outV (outG (ins m c).I (ins m c).Vv) := by
  rw [show (dats m 0 c).after 9 t0_0 = outG (ins m c).I (ins m c).Vv from by dsimp only [dats]]
  exact owns_whole (c : Thread nD τ) cc0_stg9_0 fullShare _
theorem stg0_10 (c : Dev nD) (d) : (owns (c : Thread nD τ) (win0_10.stage (cfg0.slots t0_0 10)) fullShare d : sProp 𝕄) = pt c outC d :=
  owns_whole (c : Thread nD τ) cc0_stg10_0 fullShare _
theorem end0_10 (c : Dev nD) : (owns (c : Thread nD τ) (win0_10.stage (cfg0.slots t0_0 10)) fullShare ((dats m 0 c).after 10 t0_0) : sProp 𝕄) = pt c outC (outR (rowC (ins m c))) := by
  rw [show (dats m 0 c).after 10 t0_0 = outR (rowC (ins m c)) from by dsimp only [dats]]
  exact owns_whole (c : Thread nD τ) cc0_stg10_0 fullShare _

theorem Phi_eq (c : Dev nD) (t) : (dats m 0 c).Φ t = iprop(iprop((∃ f, pt (F := F) c bufK f) ∗ (∃ f, pt (F := F) c bufV f)) ∗ (∃ r, prngReg c r)
    ∗ iprop(semVal ((c : Thread nD τ), SemLoc.dma (cell 0)) 0 ∗ semVal ((c : Thread nD τ), SemLoc.dma (cell 1)) 0)
    ∗ iprop(cacheK c (V m c main_v7) fullShare ∗ cacheV c (V m c main_v8) fullShare)) := by
  rw [show (dats m 0 c).Φ t = Pipeline.ΦD osem0 spec0 H0 (V m) c from rfl, Pipeline.ΦD_eq, scopedRest0_eq, ownSems00_eq, hbmPts0_eq]; try rfl

theorem eqEnt {P Q : sProp 𝕄} (h : P = Q) : P ⊢ Q := h ▸ .rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t))

set_option maxHeartbeats 2000000 in
/-- The body keeps its promise. -/
theorem sound_body (hI : ∀ c x, BitVec.toNat ((ins m c).I x) < 131072) (c : Dev nD) (t : Fin cfg0.N) :
    bodyPre m c t ⊢ wp frame (wpE (defs₀ (F := F)) Variants.none c none) Set.univ (bodyAt0 t) (fun _ => bodyPost m c t) := by
  rw [fin_N0 t]
  unfold bodyPre bodyPost
  rw [Phi_eq, Phi_eq]
  unfold Dat.owesAt Pipeline.owesWithin
  rw [show (dats m 0 c).owed (Fin.castSucc t0_0) = 0 from rfl, show (dats m 0 c).owed (Fin.succ t0_0) = 0 from rfl]
  iintro ⟨⟨⟨HK, HV⟩, Hg, ⟨Hs0, Hs1⟩, ⟨Hk, Hv⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (eqEnt (stg0_0 m c _)) $$ H0
  ihave H1 := (eqEnt (stg0_1 m c _)) $$ H1
  ihave H2 := (eqEnt (stg0_2 m c _)) $$ H2
  ihave H3 := (eqEnt (stg0_3 m c _)) $$ H3
  ihave H4 := (eqEnt (stg0_4 m c _)) $$ H4
  ihave H5 := (eqEnt (stg0_5 m c _)) $$ H5
  ihave H6 := (eqEnt (stg0_6 m c _)) $$ H6
  ihave H7 := (eqEnt (stg0_7 c _)) $$ H7
  ihave H8 := (eqEnt (stg0_8 c _)) $$ H8
  ihave H9 := (eqEnt (stg0_9 c _)) $$ H9
  ihave H10 := (eqEnt (stg0_10 c _)) $$ H10
  iapply (wp_wand _ _ _) $$ [HK HV Hs0 Hs1 Hk Hv HW H0 H1 H2 H3 H4 H5 H6 H7 H8 H9 H10]
  · iapply (wp_body c (ins m c) (hI c))
    unfold Still inp outs0
    isplitl [H0]; · iexact H0
    isplitl [HK HV Hs0 Hs1 Hk Hv]
    · isplitl [HK]; · iexact HK
      isplitl [HV]; · iexact HV
      isplitl [Hs0]; · iexact Hs0
      isplitl [Hs1]; · iexact Hs1
      isplitl [Hk]; · iexact Hk
      iexact Hv
    isplitl [HW]; · iexists W; iexact HW
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    iexists _; iexact H10
  unfold Still inp outs
  iintro %_ ⟨H0, ⟨HK, HV, Hs0, Hs1, Hk, Hv⟩, ⟨%W', HW⟩, ⟨H1, H2, H3, H4, H5, H6⟩, ⟨H7, H8, H9, H10⟩⟩
  isplitl [HK HV Hg Hs0 Hs1 Hk Hv]
  · isplitl [HK HV]
    · isplitl [HK]; · iexact HK
      iexact HV
    isplitl [Hg]; · iexact Hg
    isplitl [Hs0 Hs1]
    · isplitl [Hs0]; · iexact Hs0
      iexact Hs1
    isplitl [Hk]; · iexact Hk
    iexact Hv
  isplitl [HW]
  · iexists W'; isplitr; · ipureintro; exact fun _ _ => Or.inl trivial
    iexact HW
  isplitl [H0]
  · iapply (eqEnt (end0_0 m c).symm); iexact H0
  isplitl [H1]
  · iapply (eqEnt (end0_1 m c).symm); iexact H1
  isplitl [H2]
  · iapply (eqEnt (end0_2 m c).symm); iexact H2
  isplitl [H3]
  · iapply (eqEnt (end0_3 m c).symm); iexact H3
  isplitl [H4]
  · iapply (eqEnt (end0_4 m c).symm); iexact H4
  isplitl [H5]
  · iapply (eqEnt (end0_5 m c).symm); iexact H5
  isplitl [H6]
  · iapply (eqEnt (end0_6 m c).symm); iexact H6
  isplitl [H7]
  · iapply (eqEnt (end0_7 m c).symm); iexact H7
  isplitl [H8]
  · iapply (eqEnt (end0_8 m c).symm); iexact H8
  isplitl [H9]
  · iapply (eqEnt (end0_9 m c).symm); iexact H9
  iapply (eqEnt (end0_10 m c).symm); iexact H10

theorem defs₀_row (t : Fin cfg0.N) :
    defs₀ (F := F) .tc cfg0.body (cfg0.bodyArgs t (cfg0.slots t)) = bodyAt0 t := by
  unfold defs₀; rw [Defs.onTc_tc]

theorem body_obligation (hI : ∀ c x, BitVec.toNat ((ins m c).I x) < 131072) (c : Dev nD) : BodyObligation (dats (F := F) m 0 c) (defs₀ (F := F)) Variants.none () Set.univ := fun t => by
  rw [bigSep_W0, bigSep_W0, defs₀_row]
  exact triple_restated (sound_body m hI c t) rfl .rfl fun _ => .rfl

/-! ## The run and the frame -/

set_option maxHeartbeats 4000000 in
set_option backward.isDefEq.respectTransparency.types false in
/-- The whole program runs: the call's arrays end as the data say, the other buffers as the host lines leave them, every semaphore at zero. -/
theorem run_main (hI : ∀ c x, BitVec.toNat ((ins m c).I x) < 131072) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hI c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- A buffer that is no array of the call and no result of a later line ends as the call found it. -/
theorem tail_keep (c : Dev nD) (b : Ref sig .tc) (h1 : ∀ w, Pipeline.arrRef spec0 w ≠ b)
    (h2 : b ≠ main_v17 ∧ b ≠ main_v18 ∧ b ≠ main_v19 ∧ b ≠ main_v20 ∧ b ≠ main_v21 ∧ b ≠ main_v22) :
    Pipeline.afterTail₀ cfgs (dats m) 0 (V0 m) [hostOps1] c b = V m c b := by
  obtain ⟨a1, a2, a3, a4, a5, a6⟩ := h2
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne a1, StableHlo.devRef_ne_of_ne a2, StableHlo.devRef_ne_of_ne a3, StableHlo.devRef_ne_of_ne a4, StableHlo.devRef_ne_of_ne a5, StableHlo.devRef_ne_of_ne a6⟩)),
    Pipeline.withArrays_of_ne _ c (V0 m c) _ b h1]

theorem frame_at {r : PUnit × MemSt nD τ sig (Elt F)} (h : Pipeline.FramePost cfgs (dats m) 0 (Pipeline.afterTail₀ cfgs (dats m) 0 (V0 m) [hostOps1]) r)
    (c : Dev nD) (b : Ref sig .tc) (hb : b ∈ Pipeline.restRefs sig spec0) (h1 : ∀ w, Pipeline.arrRef spec0 w ≠ b)
    (h2 : b ≠ main_v17 ∧ b ≠ main_v18 ∧ b ≠ main_v19 ∧ b ≠ main_v20 ∧ b ≠ main_v21 ∧ b ≠ main_v22) :
    r.2.mem ((c : Thread nD τ).loc b) = V m c b :=
  ((h c).2 b hb).trans (tail_keep m c b h1 h2)

/-- The arguments end as launched. -/
theorem args_keep {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(frame_at m h c main_arg0 (Pipeline.mem_restRefs_of main_arg0 (by decide) (by decide)) (by decide) (by decide)).trans (V_main_arg0 m c),
    (frame_at m h c main_arg1 (Pipeline.mem_restRefs_of main_arg1 (by decide) (by decide)) (by decide) (by decide)).trans (V_main_arg1 m c),
    (frame_at m h c main_arg2 (Pipeline.mem_restRefs_of main_arg2 (by decide) (by decide)) (by decide) (by decide)).trans (V_main_arg2 m c),
    (frame_at m h c main_arg3 (Pipeline.mem_restRefs_of main_arg3 (by decide) (by decide)) (by decide) (by decide)).trans (V_main_arg3 m c),
    (frame_at m h c main_arg4 (Pipeline.mem_restRefs_of main_arg4 (by decide) (by decide)) (by decide) (by decide)).trans (V_main_arg4 m c),
    (frame_at m h c main_arg5 (Pipeline.mem_restRefs_of main_arg5 (by decide) (by decide)) (by decide) (by decide)).trans (V_main_arg5 m c),
    (frame_at m h c main_arg6 (Pipeline.mem_restRefs_of main_arg6 (by decide) (by decide)) (by decide) (by decide)).trans (V_main_arg6 m c),
    (frame_at m h c main_arg7 (Pipeline.mem_restRefs_of main_arg7 (by decide) (by decide)) (by decide) (by decide)).trans (V_main_arg7 m c)⟩

/-- The frame: the program runs, its arguments end as launched, every semaphore at zero. -/
theorem frame_of (hI : ∀ c x, BitVec.toNat ((ins m c).I x) < 131072) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_keep m h.1 c, h.2⟩) (run_main m ρ hI)

end Cert.Kernel.Hand
-- ==== Proof.KSort.lean ====
module
public import Idealize.ShloMosaic.Lib.Pointwise
public import Idealize.ShloMosaic.Lib.ValueIdx

@[expose] public section

namespace Cert.Hand

open Idealize.ShloMosaic

/-- A sorted array holds only words of the array that it sorts. -/
theorem sort_mem {s : Shape} {d : ℕ} {α : Type} (cmp : α → α → BitVec 1) (x : s.Idx → α) (P : α → Prop)
    (h : ∀ i, P (x i)) (j : s.Idx) : P (Host.sort s d cmp x j) := by
  unfold Host.sort
  split <;> exact h _

/-- The positions that a top-k gives are positions of the row. -/
theorem topK_lt {s t : Shape} {d : ℕ} (hd : d < s.rank) {α : Type} (gt : α → α → BitVec 1) (x : s.Idx → α)
    (h : s.Slices (fun _ => 0) t) (n : ℕ) (hn : s.size ⟨d, hd⟩ = n) (j : t.Idx) :
    ((Host.topK t d gt x h).2 j).toNat < n := by
  subst hn
  unfold Host.topK
  dsimp only
  unfold extractStridedSlice Host.sort2
  simp only [dif_pos hd]
  unfold iotaInDim
  exact lt_of_le_of_lt (BitVec.toNat_ofNat _ _ ▸ Nat.mod_le _ _) (Fin.isLt _)
end Cert.Hand
-- ==== Proof.KHost.lean ====
/- What the host lines before the call leave: the kept positions, in range. -/
module
public import proofs.«01_k».proof.Proof.KFrame
public import proofs.«01_k».proof.Proof.KSort
public import Idealize.ShloMosaic.Lib.StableHlo.RunRead

@[expose] public section

namespace Cert.Kernel.Hand

open Cert.Kernel Cert.Kernel.Gen
open Idealize.ShloMosaic hiding ix2 ix3 ix4
open Idealize.ShloMosaic.ValueIdx
open Idealize.SL.Sem

set_option maxRecDepth 16384

noncomputable section

variable {F : FTy → Type} [FloatOps F]
variable (m : (ℓ : Loc nD τ sig) → Buf (Elt F) ℓ)

/-- The kept positions: the greatest of the pooled scores, in position order. -/
def kix (c : Dev nD) : IVec S2x8x192 32 :=
  Host.sort S2x8x192 2 comparator_i32_d2
    (Host.topK S2x8x192 2 (FloatOps.cmpfTotal CmpDirection.gt)
      (Host.reduceWindowAdd ![1, 1, 7] ![1, 1, 1] ![0, 0, 3] ![0, 0, 3] (m (c, Proc.tc.devRef main_arg7))
        (constant (F := F) S_ FTy.f32 0#32) reduceWindows_S2x8x131072_S2x8x131072_w1s1p0_0_w1s1p0_0_w7s1p3_3 h_S_)
      sliceFits_S2x8x131072_S2x8x192).2

/-- A kept position is a position of the cache. -/
theorem kix_lt (c : Dev nD) (j : S2x8x192.Idx) : (kix m c j).toNat < 131072 :=
  Cert.Hand.sort_mem _ _ (fun w : BitVec 32 => w.toNat < 131072)
    (fun i => Cert.Hand.topK_lt (s := S2x8x131072) (d := 2) (by decide) _ _ _ 131072 rfl i) j

/-- The call's first operand: the kept positions, one row for each batch and group. -/
theorem V_v9 (c : Dev nD) : V m c main_v9 = shapeCast S16x192 (kix m c) shapeCasts_S2x8x192_S16x192 := by
  show StableHlo.after _ (fun b => m (c, b)) (Proc.devRef .tc main_v9) = _
  simp only [List.flatten_cons, List.flatten_nil, List.append_nil]
  after_reads_simp
  rfl

/-- Every position that the kernel reads is a position of the cache. -/
theorem ins_lt (c : Dev nD) (x : S16x192.Idx) : BitVec.toNat ((ins m c).I x) < 131072 := by
  have h : (ins m c).I = V m c main_v9 := by unfold ins; dsimp only
  rw [h, V_v9 m c]
  exact kix_lt m c _

end

end Cert.Kernel.Hand
-- ==== Proof.IProg.lean ====
/- The two issue loops and the two extraction loops of the kernel body, each trip written as a sequence of equal
   steps: one step per kept position. The equalities hold by definitional unfolding. -/
module

public import proofs.«01_k».proof.Proof.Gen.KernelIdeal.Skeleton

@[expose] public section

set_option synthInstance.maxSize 4096

noncomputable section

namespace Cert.KernelIdeal.Hand

open Cert.KernelIdeal Cert.KernelIdeal.Gen
open Idealize.ShloMosaic Idealize.SL.Sem

variable {F : FTy → Type} [FloatOps F]

/-- One kept position's pair of copies: read the position's word, then start the copy of the key tile and of the
    value tile it names into this position of the slot. -/
noncomputable def issue (arg0 : Memref sig .tc .smem S16x192 .i32)
    (arg7 : Memref sig .tc .hbm S2x8x64x131072 .i8) (harg7 : arg7.IsWhole) (arg8 : Memref sig .tc .hbm S2x8x64x131072 .i8) (harg8 : arg8.IsWhole)
    (arg13 : Memref sig .tc .vmem S2x192x64x128 .i8) (harg13 : arg13.IsWhole) (arg14 : Memref sig .tc .vmem S2x192x64x128 .i8) (harg14 : arg14.IsWhole)
    (sm : DmaSem sig)
    (o0 : Fin 2 → ℕ) (i0 : ∀ a, o0 a + S1x1.size a ≤ S16x192.size a)
    (oD : Fin 4 → ℕ) (iD : ∀ a, oD a + S1x1x64x128.size a ≤ S2x192x64x128.size a)
    (wD : (Rect.unit (s := S2x192x64x128) oD S1x1x64x128.size iD).WholeWords (EltTy.packing .i8))
    (chk : BitVec 32 → Prop) (dec : ∀ v, Decidable (chk v)) (oS : BitVec 32 → Fin 4 → ℕ)
    (iS : ∀ v, chk v → ∀ a, oS v a + S1x1x64x128.size a ≤ S2x8x64x131072.size a)
    (wS : ∀ v (h : chk v), (Rect.unit (s := S2x8x64x131072) (oS v) S1x1x64x128.size (iS v h)).WholeWords (EltTy.packing .i8)) :
    Prog (TpuEff nD τ sig (Elt F) Λ₀ .tc) PUnit := do
  let v : Elt F .i32 ← smemLoad arg0 (Rect.unit (s := S16x192) o0 S1x1.size i0) numel1_S1x1 rfl
  have hw : chk v := (← Prog.lift (TpuEff.assume (chk v) (dec v))).down
  Prog.lift (.enqueueDma ((arg7.slice (Rect.unit (s := S2x8x64x131072) (oS v) S1x1x64x128.size (iS v hw)) (fun _ => rfl)).squeeze S64x128 squeezes_S1x1x64x128_S64x128)
    (.here ((arg13.slice (Rect.unit (s := S2x192x64x128) oD S1x1x64x128.size iD) (fun _ => rfl)).squeeze S64x128 squeezes_S1x1x64x128_S64x128))
    (.dma sm) ((harg7.wordExact_slice rfl _ (wS v hw)).reshape _ _) ((harg13.wordExact_slice rfl _ wD).reshape _ _) ⟨Or.inl rfl, trivial⟩)
  Prog.lift (.enqueueDma ((arg8.slice (Rect.unit (s := S2x8x64x131072) (oS v) S1x1x64x128.size (iS v hw)) (fun _ => rfl)).squeeze S64x128 squeezes_S1x1x64x128_S64x128)
    (.here ((arg14.slice (Rect.unit (s := S2x192x64x128) oD S1x1x64x128.size iD) (fun _ => rfl)).squeeze S64x128 squeezes_S1x1x64x128_S64x128))
    (.dma sm) ((harg8.wordExact_slice rfl _ (wS v hw)).reshape _ _) ((harg14.wordExact_slice rfl _ wD).reshape _ _) ⟨Or.inl rfl, trivial⟩)

set_option maxRecDepth 65536 in
set_option maxHeartbeats 4000000 in
/-- A trip of the first issue loop is eight such pairs. -/
theorem t1_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (k : Fin k0_t1_loop.trips) (u : Unit) :
    k0_t1_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 k u = (do
    issue (F := F) arg0 arg7 harg7 arg8 harg8 arg13 harg13 arg14 harg14 ((arg15.slice (Rect.unit (s := S2) ![0] S1.size inb_S2_S1_0)).squeeze S_ squeezes_S1_S_).sem
      (k0_off1 k) (k0_off1_inb k) (k0_off2 k) (k0_off2_inb k) (k0_off2_wordsi8 k)
      k0_chk1 k0_chk1.dec k0_off3 (fun v h => k0_off3_inb v h) (fun v h => k0_off3_wordsi8 v h)
    issue (F := F) arg0 arg7 harg7 arg8 harg8 arg13 harg13 arg14 harg14 ((arg15.slice (Rect.unit (s := S2) ![0] S1.size inb_S2_S1_0)).squeeze S_ squeezes_S1_S_).sem
      (k0_off4 k) (k0_off4_inb k) (k0_off5 k) (k0_off5_inb k) (k0_off5_wordsi8 k)
      k0_chk2 k0_chk2.dec k0_off6 (fun v h => k0_off6_inb v h) (fun v h => k0_off6_wordsi8 v h)
    issue (F := F) arg0 arg7 harg7 arg8 harg8 arg13 harg13 arg14 harg14 ((arg15.slice (Rect.unit (s := S2) ![0] S1.size inb_S2_S1_0)).squeeze S_ squeezes_S1_S_).sem
      (k0_off7 k) (k0_off7_inb k) (k0_off8 k) (k0_off8_inb k) (k0_off8_wordsi8 k)
      k0_chk3 k0_chk3.dec k0_off9 (fun v h => k0_off9_inb v h) (fun v h => k0_off9_wordsi8 v h)
    issue (F := F) arg0 arg7 harg7 arg8 harg8 arg13 harg13 arg14 harg14 ((arg15.slice (Rect.unit (s := S2) ![0] S1.size inb_S2_S1_0)).squeeze S_ squeezes_S1_S_).sem
      (k0_off10 k) (k0_off10_inb k) (k0_off11 k) (k0_off11_inb k) (k0_off11_wordsi8 k)
      k0_chk4 k0_chk4.dec k0_off12 (fun v h => k0_off12_inb v h) (fun v h => k0_off12_wordsi8 v h)
    issue (F := F) arg0 arg7 harg7 arg8 harg8 arg13 harg13 arg14 harg14 ((arg15.slice (Rect.unit (s := S2) ![0] S1.size inb_S2_S1_0)).squeeze S_ squeezes_S1_S_).sem
      (k0_off13 k) (k0_off13_inb k) (k0_off14 k) (k0_off14_inb k) (k0_off14_wordsi8 k)
      k0_chk5 k0_chk5.dec k0_off15 (fun v h => k0_off15_inb v h) (fun v h => k0_off15_wordsi8 v h)
    issue (F := F) arg0 arg7 harg7 arg8 harg8 arg13 harg13 arg14 harg14 ((arg15.slice (Rect.unit (s := S2) ![0] S1.size inb_S2_S1_0)).squeeze S_ squeezes_S1_S_).sem
      (k0_off16 k) (k0_off16_inb k) (k0_off17 k) (k0_off17_inb k) (k0_off17_wordsi8 k)
      k0_chk6 k0_chk6.dec k0_off18 (fun v h => k0_off18_inb v h) (fun v h => k0_off18_wordsi8 v h)
    issue (F := F) arg0 arg7 harg7 arg8 harg8 arg13 harg13 arg14 harg14 ((arg15.slice (Rect.unit (s := S2) ![0] S1.size inb_S2_S1_0)).squeeze S_ squeezes_S1_S_).sem
      (k0_off19 k) (k0_off19_inb k) (k0_off20 k) (k0_off20_inb k) (k0_off20_wordsi8 k)
      k0_chk7 k0_chk7.dec k0_off21 (fun v h => k0_off21_inb v h) (fun v h => k0_off21_wordsi8 v h)
    issue (F := F) arg0 arg7 harg7 arg8 harg8 arg13 harg13 arg14 harg14 ((arg15.slice (Rect.unit (s := S2) ![0] S1.size inb_S2_S1_0)).squeeze S_ squeezes_S1_S_).sem
      (k0_off22 k) (k0_off22_inb k) (k0_off23 k) (k0_off23_inb k) (k0_off23_wordsi8 k)
      k0_chk8 k0_chk8.dec k0_off24 (fun v h => k0_off24_inb v h) (fun v h => k0_off24_wordsi8 v h)
    pure ⟨⟩) := rfl

set_option maxRecDepth 65536 in
set_option maxHeartbeats 4000000 in
/-- A trip of the next row's issue loop is eight such pairs. -/
theorem t3_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (r : Fin k0_t2_loop.trips) (h1 : k0_cond1 r = 1#1) (v166 : BitVec 32) (k : Fin k0_t3_loop.trips) (u : Unit) :
    k0_t3_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 0#32 1#32 r h1 v166 k u = (do
    issue (F := F) arg0 arg7 harg7 arg8 harg8 arg13 harg13 arg14 harg14 ((arg15.slice (Rect.unit (s := S2) (k0_off26 r) S1.size (k0_off26_inb r h1))).squeeze S_ squeezes_S1_S_).sem
      (k0_off25 r k) (k0_off25_inb r k h1) (k0_off27 r k) (k0_off27_inb r k h1) (k0_off27_wordsi8 r k h1)
      (k0_chk9 r) (k0_chk9.dec r) (k0_off28 r) (fun v h => k0_off28_inb r v h h1) (fun v h => k0_off28_wordsi8 r v h h1)
    issue (F := F) arg0 arg7 harg7 arg8 harg8 arg13 harg13 arg14 harg14 ((arg15.slice (Rect.unit (s := S2) (k0_off30 r) S1.size (k0_off30_inb r h1))).squeeze S_ squeezes_S1_S_).sem
      (k0_off29 r k) (k0_off29_inb r k h1) (k0_off31 r k) (k0_off31_inb r k h1) (k0_off31_wordsi8 r k h1)
      (k0_chk10 r) (k0_chk10.dec r) (k0_off32 r) (fun v h => k0_off32_inb r v h h1) (fun v h => k0_off32_wordsi8 r v h h1)
    issue (F := F) arg0 arg7 harg7 arg8 harg8 arg13 harg13 arg14 harg14 ((arg15.slice (Rect.unit (s := S2) (k0_off34 r) S1.size (k0_off34_inb r h1))).squeeze S_ squeezes_S1_S_).sem
      (k0_off33 r k) (k0_off33_inb r k h1) (k0_off35 r k) (k0_off35_inb r k h1) (k0_off35_wordsi8 r k h1)
      (k0_chk11 r) (k0_chk11.dec r) (k0_off36 r) (fun v h => k0_off36_inb r v h h1) (fun v h => k0_off36_wordsi8 r v h h1)
    issue (F := F) arg0 arg7 harg7 arg8 harg8 arg13 harg13 arg14 harg14 ((arg15.slice (Rect.unit (s := S2) (k0_off38 r) S1.size (k0_off38_inb r h1))).squeeze S_ squeezes_S1_S_).sem
      (k0_off37 r k) (k0_off37_inb r k h1) (k0_off39 r k) (k0_off39_inb r k h1) (k0_off39_wordsi8 r k h1)
      (k0_chk12 r) (k0_chk12.dec r) (k0_off40 r) (fun v h => k0_off40_inb r v h h1) (fun v h => k0_off40_wordsi8 r v h h1)
    issue (F := F) arg0 arg7 harg7 arg8 harg8 arg13 harg13 arg14 harg14 ((arg15.slice (Rect.unit (s := S2) (k0_off42 r) S1.size (k0_off42_inb r h1))).squeeze S_ squeezes_S1_S_).sem
      (k0_off41 r k) (k0_off41_inb r k h1) (k0_off43 r k) (k0_off43_inb r k h1) (k0_off43_wordsi8 r k h1)
      (k0_chk13 r) (k0_chk13.dec r) (k0_off44 r) (fun v h => k0_off44_inb r v h h1) (fun v h => k0_off44_wordsi8 r v h h1)
    issue (F := F) arg0 arg7 harg7 arg8 harg8 arg13 harg13 arg14 harg14 ((arg15.slice (Rect.unit (s := S2) (k0_off46 r) S1.size (k0_off46_inb r h1))).squeeze S_ squeezes_S1_S_).sem
      (k0_off45 r k) (k0_off45_inb r k h1) (k0_off47 r k) (k0_off47_inb r k h1) (k0_off47_wordsi8 r k h1)
      (k0_chk14 r) (k0_chk14.dec r) (k0_off48 r) (fun v h => k0_off48_inb r v h h1) (fun v h => k0_off48_wordsi8 r v h h1)
    issue (F := F) arg0 arg7 harg7 arg8 harg8 arg13 harg13 arg14 harg14 ((arg15.slice (Rect.unit (s := S2) (k0_off50 r) S1.size (k0_off50_inb r h1))).squeeze S_ squeezes_S1_S_).sem
      (k0_off49 r k) (k0_off49_inb r k h1) (k0_off51 r k) (k0_off51_inb r k h1) (k0_off51_wordsi8 r k h1)
      (k0_chk15 r) (k0_chk15.dec r) (k0_off52 r) (fun v h => k0_off52_inb r v h h1) (fun v h => k0_off52_wordsi8 r v h h1)
    issue (F := F) arg0 arg7 harg7 arg8 harg8 arg13 harg13 arg14 harg14 ((arg15.slice (Rect.unit (s := S2) (k0_off54 r) S1.size (k0_off54_inb r h1))).squeeze S_ squeezes_S1_S_).sem
      (k0_off53 r k) (k0_off53_inb r k h1) (k0_off55 r k) (k0_off55_inb r k h1) (k0_off55_wordsi8 r k h1)
      (k0_chk16 r) (k0_chk16.dec r) (k0_off56 r) (fun v h => k0_off56_inb r v h h1) (fun v h => k0_off56_wordsi8 r v h h1)
    pure ⟨⟩) := rfl

end Cert.KernelIdeal.Hand

end
-- ==== Proof.IExt.lean ====
/- The two extraction loops of the kernel body, each trip written as four equal steps: one step per kept position. -/
module

public import proofs.«01_k».proof.Proof.Gen.KernelIdeal.Skeleton

@[expose] public section

set_option synthInstance.maxSize 4096

noncomputable section

namespace Cert.KernelIdeal.Hand

open Cert.KernelIdeal Cert.KernelIdeal.Gen
open Idealize.ShloMosaic Idealize.SL.Sem

variable {F : FTy → Type} [FloatOps F]

/-- One position's update of the collected columns: rotate the tile (as words of four rows) so that the wanted lane
    comes to lane `p - lo`, and take that lane from it. -/
noncomputable def sel (v0 : IVec S16x128 32) (p lo w : BitVec 32) (tile : Vec F S1x1x64x128 .i8) (a : IVec S16x128 32) :
    IVec S16x128 32 :=
  select (cmpi .eq v0 (broadcast S16x128 (Scalar.subi p lo)))
    (dynamicRotate 1 (Scalar.andi (Scalar.subi (Scalar.subi p lo) (Scalar.andi w 127#32)) 127#32) none
      (bitcast S16x128 32 (shapeCast S64x128 tile shapeCasts_S1x1x64x128_S64x128 : IVec S64x128 8) bitcasts_S64x128_w8_S16x128_w32)
      rotates_S16x128_d1) a

/-- One position's step: read the position's word and its two tiles, update the two collected blocks. -/
noncomputable def ext (arg0 : Memref sig .tc .smem S16x192 .i32)
    (arg13 : Memref sig .tc .vmem S2x192x64x128 .i8) (arg14 : Memref sig .tc .vmem S2x192x64x128 .i8)
    (v0 : IVec S16x128 32) (p lo : BitVec 32)
    (o0 : Fin 2 → ℕ) (i0 : ∀ a, o0 a + S1x1.size a ≤ S16x192.size a)
    (oB : Fin 4 → ℕ) (iB : ∀ a, oB a + S1x1x64x128.size a ≤ S2x192x64x128.size a)
    (a : IVec S16x128 32 × IVec S16x128 32) :
    Prog (TpuEff nD τ sig (Elt F) Λ₀ .tc) (IVec S16x128 32 × IVec S16x128 32) := do
  let w : Elt F .i32 ← smemLoad arg0 (Rect.unit (s := S16x192) o0 S1x1.size i0) numel1_S1x1 rfl
  let kt : Vec F S1x1x64x128 .i8 ← Prog.lift (.load arg13 (Rect.unit (s := S2x192x64x128) oB S1x1x64x128.size iB).toLoadRect (View.loadsAt_vmem h_S1x1x64x128))
  let vt : Vec F S1x1x64x128 .i8 ← Prog.lift (.load arg14 (Rect.unit (s := S2x192x64x128) oB S1x1x64x128.size iB).toLoadRect (View.loadsAt_vmem h_S1x1x64x128))
  pure (sel v0 p lo w kt a.1, sel v0 p lo w vt a.2)

set_option maxRecDepth 65536 in
set_option maxHeartbeats 4000000 in
/-- A trip of this extraction loop is four such steps. -/
theorem t4_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (v0 : IVec S16x128 32) (r : Fin k0_t2_loop.trips) (x1 x2 x3 x4 x5 : BitVec 32) (k : Fin k0_t4_loop.trips) (a : IVec S16x128 32 × IVec S16x128 32) :
    k0_t4_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v0 r x1 x2 x3 x4 x5 k a = (do
    let a1 ← ext (F := F) arg0 arg13 arg14 v0 (Scalar.addi (Scalar.muli (Scf.iv 0#32 1#32 k) 4#32) 0#32) 0#32 (k0_off59 r k 0#32) (k0_off59_inb r k 0) (k0_off60 r k 0#32) (k0_off60_inb r k 0) a
    let a2 ← ext (F := F) arg0 arg13 arg14 v0 (Scalar.addi (Scalar.muli (Scf.iv 0#32 1#32 k) 4#32) 1#32) 0#32 (k0_off59 r k 1#32) (k0_off59_inb r k 1) (k0_off60 r k 1#32) (k0_off60_inb r k 1) a1
    let a3 ← ext (F := F) arg0 arg13 arg14 v0 (Scalar.addi (Scalar.muli (Scf.iv 0#32 1#32 k) 4#32) 2#32) 0#32 (k0_off59 r k 2#32) (k0_off59_inb r k 2) (k0_off60 r k 2#32) (k0_off60_inb r k 2) a2
    ext (F := F) arg0 arg13 arg14 v0 (Scalar.addi (Scalar.muli (Scf.iv 0#32 1#32 k) 4#32) 3#32) 0#32 (k0_off59 r k 3#32) (k0_off59_inb r k 3) (k0_off60 r k 3#32) (k0_off60_inb r k 3) a3) := rfl

set_option maxRecDepth 65536 in
set_option maxHeartbeats 4000000 in
/-- A trip of this extraction loop is four such steps. -/
theorem t5_body_eq (arg0 : Memref sig .tc .smem S16x192 .i32) (harg0 : arg0.IsWhole) (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg7 : Memref sig .tc .hbm S2x8x64x131072 .i8) (harg7 : arg7.IsWhole) (arg8 : Memref sig .tc .hbm S2x8x64x131072 .i8) (harg8 : arg8.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole) (arg13 : Memref sig .tc .vmem S2x192x64x128 .i8) (harg13 : arg13.IsWhole) (arg14 : Memref sig .tc .vmem S2x192x64x128 .i8) (harg14 : arg14.IsWhole) (arg15 : DmaSems sig S2) (v0 : IVec S16x128 32) (r : Fin k0_t2_loop.trips) (x1 x2 x3 x4 : BitVec 32) (x5 : IVec S16x128 32) (k : Fin k0_t5_loop.trips) (a : IVec S16x128 32 × IVec S16x128 32) :
    k0_t5_body (F := F) arg0 harg0 arg1 harg1 arg2 harg2 arg3 harg3 arg4 harg4 arg5 harg5 arg6 harg6 arg7 harg7 arg8 harg8 arg9 harg9 arg10 harg10 arg11 harg11 arg12 harg12 arg13 harg13 arg14 harg14 arg15 v0 r x1 x2 x3 x4 x5 32#32 k a = (do
    let a1 ← ext (F := F) arg0 arg13 arg14 v0 (Scalar.addi (Scalar.muli (Scf.iv 32#32 1#32 k) 4#32) 0#32) 128#32 (k0_off62 r k 0#32) (k0_off62_inb r k 0) (k0_off63 r k 0#32) (k0_off63_inb r k 0) a
    let a2 ← ext (F := F) arg0 arg13 arg14 v0 (Scalar.addi (Scalar.muli (Scf.iv 32#32 1#32 k) 4#32) 1#32) 128#32 (k0_off62 r k 1#32) (k0_off62_inb r k 1) (k0_off63 r k 1#32) (k0_off63_inb r k 1) a1
    let a3 ← ext (F := F) arg0 arg13 arg14 v0 (Scalar.addi (Scalar.muli (Scf.iv 32#32 1#32 k) 4#32) 2#32) 128#32 (k0_off62 r k 2#32) (k0_off62_inb r k 2) (k0_off63 r k 2#32) (k0_off63_inb r k 2) a2
    ext (F := F) arg0 arg13 arg14 v0 (Scalar.addi (Scalar.muli (Scf.iv 32#32 1#32 k) 4#32) 3#32) 128#32 (k0_off62 r k 3#32) (k0_off62_inb r k 3) (k0_off63 r k 3#32) (k0_off63_inb r k 3) a3) := rfl

end Cert.KernelIdeal.Hand
-- ==== Proof.IGeo.lean ====
/- Where the kernel's accesses fall: the offsets in closed form, the tiles of the two gather buffers, and what a tile holds
   once its copy has landed. -/
module

public import proofs.«01_k».proof.Proof.IProg
public import proofs.«01_k».proof.Proof.IExt
public import Idealize.ShloMosaic.Lib.Decide

@[expose] public section

set_option synthInstance.maxSize 4096

noncomputable section

namespace Cert.KernelIdeal.Hand

open Cert.KernelIdeal Cert.KernelIdeal.Gen
open Idealize.ShloMosaic Idealize.SL.Sem

/-! ## Offsets -/

theorem off26_eq : ∀ r : Fin k0_t2_loop.trips, k0_off26 r = ![1 - r.val % 2] := by decide +kernel
theorem off57_eq : ∀ r : Fin k0_t2_loop.trips, k0_off57 r = ![r.val % 2] := by decide +kernel
theorem off58_eq : ∀ r : Fin k0_t2_loop.trips, k0_off58 r = ![r.val % 2, 0, 0, 0] := by decide +kernel
theorem off61_eq : ∀ r : Fin k0_t2_loop.trips, k0_off61 r = ![r.val / 8, r.val % 8, 0, 0] := by decide +kernel
theorem off64_eq : ∀ r : Fin k0_t2_loop.trips, k0_off64 r = ![r.val / 8, r.val % 8, 0, 128] := by decide +kernel
theorem off65_eq : ∀ r : Fin k0_t2_loop.trips, k0_off65 r = ![r.val / 8, r.val % 8, 0, 0] := by decide +kernel
theorem cond1_iff : ∀ r : Fin k0_t2_loop.trips, k0_cond1 r = 1#1 ↔ r.val < 15 := by decide +kernel
theorem off60_eq : ∀ (r : Fin k0_t2_loop.trips) (k : Fin k0_t4_loop.trips) (u : Fin 4),
    k0_off60 r k (BitVec.ofNat 32 u.val) = ![r.val % 2, 4 * k.val + u.val, 0, 0] := by decide +kernel
theorem off63_eq : ∀ (r : Fin k0_t2_loop.trips) (k : Fin k0_t5_loop.trips) (u : Fin 4),
    k0_off63 r k (BitVec.ofNat 32 u.val) = ![r.val % 2, 4 * k.val + u.val + 128, 0, 0] := by decide +kernel
theorem off27_eq : ∀ (r : Fin k0_t2_loop.trips) (k : Fin k0_t3_loop.trips), k0_off27 r k = ![1 - r.val % 2, 8 * k.val, 0, 0] := by decide +kernel
theorem off31_eq : ∀ (r : Fin k0_t2_loop.trips) (k : Fin k0_t3_loop.trips), k0_off31 r k = ![1 - r.val % 2, 8 * k.val + 1, 0, 0] := by decide +kernel
theorem off35_eq : ∀ (r : Fin k0_t2_loop.trips) (k : Fin k0_t3_loop.trips), k0_off35 r k = ![1 - r.val % 2, 8 * k.val + 2, 0, 0] := by decide +kernel
theorem off39_eq : ∀ (r : Fin k0_t2_loop.trips) (k : Fin k0_t3_loop.trips), k0_off39 r k = ![1 - r.val % 2, 8 * k.val + 3, 0, 0] := by decide +kernel
theorem off43_eq : ∀ (r : Fin k0_t2_loop.trips) (k : Fin k0_t3_loop.trips), k0_off43 r k = ![1 - r.val % 2, 8 * k.val + 4, 0, 0] := by decide +kernel
theorem off47_eq : ∀ (r : Fin k0_t2_loop.trips) (k : Fin k0_t3_loop.trips), k0_off47 r k = ![1 - r.val % 2, 8 * k.val + 5, 0, 0] := by decide +kernel
theorem off51_eq : ∀ (r : Fin k0_t2_loop.trips) (k : Fin k0_t3_loop.trips), k0_off51 r k = ![1 - r.val % 2, 8 * k.val + 6, 0, 0] := by decide +kernel
theorem off55_eq : ∀ (r : Fin k0_t2_loop.trips) (k : Fin k0_t3_loop.trips), k0_off55 r k = ![1 - r.val % 2, 8 * k.val + 7, 0, 0] := by decide +kernel

/-- A word below `131072`, shifted down by seven and multiplied by `128`: the start of its tile. -/
theorem tile_start (v : BitVec 32) (hv : v.toNat < 131072) :
    (Scalar.muli (Scalar.shrsi v 7#32) 128#32).toNat = v.toNat / 128 * 128 := by
  have h1 : v.msb = false := by
    rw [BitVec.msb_eq_decide]; simp; omega
  have h2 : (Scalar.shrsi v 7#32).toNat = v.toNat / 128 := by
    have h3 : Scalar.shrsi v 7#32 = v.sshiftRight 7 := rfl
    rw [h3, BitVec.sshiftRight_eq_of_msb_false h1, BitVec.toNat_ushiftRight, Nat.shiftRight_eq_div_pow]
  have h4 : Scalar.muli (Scalar.shrsi v 7#32) 128#32 = Scalar.shrsi v 7#32 * 128#32 := rfl
  have h5 : (128#32).toNat = 128 := rfl
  rw [h4, BitVec.toNat_mul, h2, h5, Nat.mod_eq_of_lt]
  omega

/-- The position of a source tile: batch entry and head of the row, every channel, from the tile's start. -/
abbrev srcOff (r : ℕ) (v : BitVec 32) : Fin 4 → ℕ := ![r / 8, r % 8, 0, v.toNat / 128 * 128]

theorem off3_eq (v : BitVec 32) (hv : v.toNat < 131072) : k0_off3 v = srcOff 0 v := by
  show ![0, 0, 0, (Scalar.muli (Scalar.shrsi v 7#32) 128#32).toNat] = _
  rw [tile_start v hv]
theorem off6_eq (v : BitVec 32) (hv : v.toNat < 131072) : k0_off6 v = srcOff 0 v := by
  show ![0, 0, 0, (Scalar.muli (Scalar.shrsi v 7#32) 128#32).toNat] = _
  rw [tile_start v hv]
theorem off9_eq (v : BitVec 32) (hv : v.toNat < 131072) : k0_off9 v = srcOff 0 v := by
  show ![0, 0, 0, (Scalar.muli (Scalar.shrsi v 7#32) 128#32).toNat] = _
  rw [tile_start v hv]
theorem off12_eq (v : BitVec 32) (hv : v.toNat < 131072) : k0_off12 v = srcOff 0 v := by
  show ![0, 0, 0, (Scalar.muli (Scalar.shrsi v 7#32) 128#32).toNat] = _
  rw [tile_start v hv]
theorem off15_eq (v : BitVec 32) (hv : v.toNat < 131072) : k0_off15 v = srcOff 0 v := by
  show ![0, 0, 0, (Scalar.muli (Scalar.shrsi v 7#32) 128#32).toNat] = _
  rw [tile_start v hv]
theorem off18_eq (v : BitVec 32) (hv : v.toNat < 131072) : k0_off18 v = srcOff 0 v := by
  show ![0, 0, 0, (Scalar.muli (Scalar.shrsi v 7#32) 128#32).toNat] = _
  rw [tile_start v hv]
theorem off21_eq (v : BitVec 32) (hv : v.toNat < 131072) : k0_off21 v = srcOff 0 v := by
  show ![0, 0, 0, (Scalar.muli (Scalar.shrsi v 7#32) 128#32).toNat] = _
  rw [tile_start v hv]
theorem off24_eq (v : BitVec 32) (hv : v.toNat < 131072) : k0_off24 v = srcOff 0 v := by
  show ![0, 0, 0, (Scalar.muli (Scalar.shrsi v 7#32) 128#32).toNat] = _
  rw [tile_start v hv]

theorem srcOff_inb (r : ℕ) (hr : r < 16) (v : BitVec 32) (hv : v.toNat < 131072) : ∀ a, srcOff r v a + S1x1x64x128.size a ≤ S2x8x64x131072.size a := by
  intro a
  fin_cases a
  · show r / 8 + 1 ≤ 2; omega
  · show r % 8 + 1 ≤ 8; omega
  · show 0 + 64 ≤ 64; omega
  · show v.toNat / 128 * 128 + 128 ≤ 131072; omega

theorem off28_0 : ∀ r : Fin k0_t2_loop.trips, r.val < 15 → k0_off28 r 0#32 0 = (r.val + 1) / 8 := by decide +kernel
theorem off28_1 : ∀ r : Fin k0_t2_loop.trips, r.val < 15 → k0_off28 r 0#32 1 = (r.val + 1) % 8 := by decide +kernel
theorem off28_split (r : Fin k0_t2_loop.trips) (v : BitVec 32) :
    k0_off28 r v = ![k0_off28 r 0#32 0, k0_off28 r 0#32 1, 0, (Scalar.muli (Scalar.shrsi v 7#32) 128#32).toNat] := by
  unfold k0_off28
  rfl
theorem off28_eq (r : Fin k0_t2_loop.trips) (hr : r.val < 15) (v : BitVec 32) (hv : v.toNat < 131072) : k0_off28 r v = srcOff (r.val + 1) v := by
  rw [off28_split, off28_0 r hr, off28_1 r hr, tile_start v hv]
theorem off32_0 : ∀ r : Fin k0_t2_loop.trips, r.val < 15 → k0_off32 r 0#32 0 = (r.val + 1) / 8 := by decide +kernel
theorem off32_1 : ∀ r : Fin k0_t2_loop.trips, r.val < 15 → k0_off32 r 0#32 1 = (r.val + 1) % 8 := by decide +kernel
theorem off32_split (r : Fin k0_t2_loop.trips) (v : BitVec 32) :
    k0_off32 r v = ![k0_off32 r 0#32 0, k0_off32 r 0#32 1, 0, (Scalar.muli (Scalar.shrsi v 7#32) 128#32).toNat] := by
  unfold k0_off32
  rfl
theorem off32_eq (r : Fin k0_t2_loop.trips) (hr : r.val < 15) (v : BitVec 32) (hv : v.toNat < 131072) : k0_off32 r v = srcOff (r.val + 1) v := by
  rw [off32_split, off32_0 r hr, off32_1 r hr, tile_start v hv]
theorem off36_0 : ∀ r : Fin k0_t2_loop.trips, r.val < 15 → k0_off36 r 0#32 0 = (r.val + 1) / 8 := by decide +kernel
theorem off36_1 : ∀ r : Fin k0_t2_loop.trips, r.val < 15 → k0_off36 r 0#32 1 = (r.val + 1) % 8 := by decide +kernel
theorem off36_split (r : Fin k0_t2_loop.trips) (v : BitVec 32) :
    k0_off36 r v = ![k0_off36 r 0#32 0, k0_off36 r 0#32 1, 0, (Scalar.muli (Scalar.shrsi v 7#32) 128#32).toNat] := by
  unfold k0_off36
  rfl
theorem off36_eq (r : Fin k0_t2_loop.trips) (hr : r.val < 15) (v : BitVec 32) (hv : v.toNat < 131072) : k0_off36 r v = srcOff (r.val + 1) v := by
  rw [off36_split, off36_0 r hr, off36_1 r hr, tile_start v hv]
theorem off40_0 : ∀ r : Fin k0_t2_loop.trips, r.val < 15 → k0_off40 r 0#32 0 = (r.val + 1) / 8 := by decide +kernel
theorem off40_1 : ∀ r : Fin k0_t2_loop.trips, r.val < 15 → k0_off40 r 0#32 1 = (r.val + 1) % 8 := by decide +kernel
theorem off40_split (r : Fin k0_t2_loop.trips) (v : BitVec 32) :
    k0_off40 r v = ![k0_off40 r 0#32 0, k0_off40 r 0#32 1, 0, (Scalar.muli (Scalar.shrsi v 7#32) 128#32).toNat] := by
  unfold k0_off40
  rfl
theorem off40_eq (r : Fin k0_t2_loop.trips) (hr : r.val < 15) (v : BitVec 32) (hv : v.toNat < 131072) : k0_off40 r v = srcOff (r.val + 1) v := by
  rw [off40_split, off40_0 r hr, off40_1 r hr, tile_start v hv]
theorem off44_0 : ∀ r : Fin k0_t2_loop.trips, r.val < 15 → k0_off44 r 0#32 0 = (r.val + 1) / 8 := by decide +kernel
theorem off44_1 : ∀ r : Fin k0_t2_loop.trips, r.val < 15 → k0_off44 r 0#32 1 = (r.val + 1) % 8 := by decide +kernel
theorem off44_split (r : Fin k0_t2_loop.trips) (v : BitVec 32) :
    k0_off44 r v = ![k0_off44 r 0#32 0, k0_off44 r 0#32 1, 0, (Scalar.muli (Scalar.shrsi v 7#32) 128#32).toNat] := by
  unfold k0_off44
  rfl
theorem off44_eq (r : Fin k0_t2_loop.trips) (hr : r.val < 15) (v : BitVec 32) (hv : v.toNat < 131072) : k0_off44 r v = srcOff (r.val + 1) v := by
  rw [off44_split, off44_0 r hr, off44_1 r hr, tile_start v hv]
theorem off48_0 : ∀ r : Fin k0_t2_loop.trips, r.val < 15 → k0_off48 r 0#32 0 = (r.val + 1) / 8 := by decide +kernel
theorem off48_1 : ∀ r : Fin k0_t2_loop.trips, r.val < 15 → k0_off48 r 0#32 1 = (r.val + 1) % 8 := by decide +kernel
theorem off48_split (r : Fin k0_t2_loop.trips) (v : BitVec 32) :
    k0_off48 r v = ![k0_off48 r 0#32 0, k0_off48 r 0#32 1, 0, (Scalar.muli (Scalar.shrsi v 7#32) 128#32).toNat] := by
  unfold k0_off48
  rfl
theorem off48_eq (r : Fin k0_t2_loop.trips) (hr : r.val < 15) (v : BitVec 32) (hv : v.toNat < 131072) : k0_off48 r v = srcOff (r.val + 1) v := by
  rw [off48_split, off48_0 r hr, off48_1 r hr, tile_start v hv]
theorem off52_0 : ∀ r : Fin k0_t2_loop.trips, r.val < 15 → k0_off52 r 0#32 0 = (r.val + 1) / 8 := by decide +kernel
theorem off52_1 : ∀ r : Fin k0_t2_loop.trips, r.val < 15 → k0_off52 r 0#32 1 = (r.val + 1) % 8 := by decide +kernel
theorem off52_split (r : Fin k0_t2_loop.trips) (v : BitVec 32) :
    k0_off52 r v = ![k0_off52 r 0#32 0, k0_off52 r 0#32 1, 0, (Scalar.muli (Scalar.shrsi v 7#32) 128#32).toNat] := by
  unfold k0_off52
  rfl
theorem off52_eq (r : Fin k0_t2_loop.trips) (hr : r.val < 15) (v : BitVec 32) (hv : v.toNat < 131072) : k0_off52 r v = srcOff (r.val + 1) v := by
  rw [off52_split, off52_0 r hr, off52_1 r hr, tile_start v hv]
theorem off56_0 : ∀ r : Fin k0_t2_loop.trips, r.val < 15 → k0_off56 r 0#32 0 = (r.val + 1) / 8 := by decide +kernel
theorem off56_1 : ∀ r : Fin k0_t2_loop.trips, r.val < 15 → k0_off56 r 0#32 1 = (r.val + 1) % 8 := by decide +kernel
theorem off56_split (r : Fin k0_t2_loop.trips) (v : BitVec 32) :
    k0_off56 r v = ![k0_off56 r 0#32 0, k0_off56 r 0#32 1, 0, (Scalar.muli (Scalar.shrsi v 7#32) 128#32).toNat] := by
  unfold k0_off56
  rfl
theorem off56_eq (r : Fin k0_t2_loop.trips) (hr : r.val < 15) (v : BitVec 32) (hv : v.toNat < 131072) : k0_off56 r v = srcOff (r.val + 1) v := by
  rw [off56_split, off56_0 r hr, off56_1 r hr, tile_start v hv]
theorem chk1_of (v : BitVec 32) (hv : v.toNat < 131072) : k0_chk1 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off3_eq v hv]; exact srcOff_inb 0 (by decide) v hv
theorem chk9_of (r : Fin k0_t2_loop.trips) (hr : r.val < 15) (v : BitVec 32) (hv : v.toNat < 131072) : k0_chk9 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off28_eq r hr v hv]; exact srcOff_inb _ (by omega) v hv
theorem chk2_of (v : BitVec 32) (hv : v.toNat < 131072) : k0_chk2 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off6_eq v hv]; exact srcOff_inb 0 (by decide) v hv
theorem chk10_of (r : Fin k0_t2_loop.trips) (hr : r.val < 15) (v : BitVec 32) (hv : v.toNat < 131072) : k0_chk10 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off32_eq r hr v hv]; exact srcOff_inb _ (by omega) v hv
theorem chk3_of (v : BitVec 32) (hv : v.toNat < 131072) : k0_chk3 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off9_eq v hv]; exact srcOff_inb 0 (by decide) v hv
theorem chk11_of (r : Fin k0_t2_loop.trips) (hr : r.val < 15) (v : BitVec 32) (hv : v.toNat < 131072) : k0_chk11 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off36_eq r hr v hv]; exact srcOff_inb _ (by omega) v hv
theorem chk4_of (v : BitVec 32) (hv : v.toNat < 131072) : k0_chk4 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off12_eq v hv]; exact srcOff_inb 0 (by decide) v hv
theorem chk12_of (r : Fin k0_t2_loop.trips) (hr : r.val < 15) (v : BitVec 32) (hv : v.toNat < 131072) : k0_chk12 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off40_eq r hr v hv]; exact srcOff_inb _ (by omega) v hv
theorem chk5_of (v : BitVec 32) (hv : v.toNat < 131072) : k0_chk5 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off15_eq v hv]; exact srcOff_inb 0 (by decide) v hv
theorem chk13_of (r : Fin k0_t2_loop.trips) (hr : r.val < 15) (v : BitVec 32) (hv : v.toNat < 131072) : k0_chk13 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off44_eq r hr v hv]; exact srcOff_inb _ (by omega) v hv
theorem chk6_of (v : BitVec 32) (hv : v.toNat < 131072) : k0_chk6 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off18_eq v hv]; exact srcOff_inb 0 (by decide) v hv
theorem chk14_of (r : Fin k0_t2_loop.trips) (hr : r.val < 15) (v : BitVec 32) (hv : v.toNat < 131072) : k0_chk14 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off48_eq r hr v hv]; exact srcOff_inb _ (by omega) v hv
theorem chk7_of (v : BitVec 32) (hv : v.toNat < 131072) : k0_chk7 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off21_eq v hv]; exact srcOff_inb 0 (by decide) v hv
theorem chk15_of (r : Fin k0_t2_loop.trips) (hr : r.val < 15) (v : BitVec 32) (hv : v.toNat < 131072) : k0_chk15 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off52_eq r hr v hv]; exact srcOff_inb _ (by omega) v hv
theorem chk8_of (v : BitVec 32) (hv : v.toNat < 131072) : k0_chk8 v := by
  refine ⟨?_, ?_, fun _ => .inr ⟨by decide, rfl, rfl, rfl⟩⟩
  · show 128 ∣ (Scalar.muli (Scalar.shrsi v 7#32) 128#32).toNat
    rw [tile_start v hv]; exact Nat.dvd_mul_left _ _
  · rw [off24_eq v hv]; exact srcOff_inb 0 (by decide) v hv
theorem chk16_of (r : Fin k0_t2_loop.trips) (hr : r.val < 15) (v : BitVec 32) (hv : v.toNat < 131072) : k0_chk16 r v := by
  refine ⟨fun _ => ?_, fun _ => ?_, fun _ _ => .inr ⟨by decide, rfl, rfl, rfl⟩⟩
  · show 128 ∣ (Scalar.muli (Scalar.shrsi v 7#32) 128#32).toNat
    rw [tile_start v hv]; exact Nat.dvd_mul_left _ _
  · rw [off56_eq r hr v hv]; exact srcOff_inb _ (by omega) v hv

/-! ## Tiles -/

/-- The elements of position `j` of slot `s`. -/
def tileSet (s j : ℕ) : Finset S2x192x64x128.Idx := Finset.univ.filter fun i => (i 0).val = s ∧ (i 1).val = j
/-- The elements of slot `s`. -/
def slotSet (s : ℕ) : Finset S2x192x64x128.Idx := Finset.univ.filter fun i => (i 0).val = s

theorem mem_tileSet {s j : ℕ} {i : S2x192x64x128.Idx} : i ∈ tileSet s j ↔ (i 0).val = s ∧ (i 1).val = j := by
  simp [tileSet]
theorem mem_slotSet {s : ℕ} {i : S2x192x64x128.Idx} : i ∈ slotSet s ↔ (i 0).val = s := by
  simp [slotSet]

theorem tile_disjoint (s : ℕ) : ∀ t ∈ (Finset.univ : Finset (Fin 192)), ∀ t' ∈ (Finset.univ : Finset (Fin 192)), t ≠ t' → Disjoint (tileSet s t) (tileSet s t') := by
  intro t _ t' _ h
  rw [Finset.disjoint_left]
  intro i hi hi'
  rw [mem_tileSet] at hi hi'
  exact h (Fin.ext (hi.2.symm.trans hi'.2))

theorem slot_eq_biUnion (s : ℕ) : slotSet s = (Finset.univ : Finset (Fin 192)).biUnion (fun j => tileSet s j) := by
  ext i
  simp only [mem_slotSet, Finset.mem_biUnion, Finset.mem_univ, true_and, mem_tileSet]
  exact ⟨fun h => ⟨i 1, h, rfl⟩, fun ⟨_, h, _⟩ => h⟩

theorem slot_disjoint : Disjoint (slotSet 0) (slotSet 1) := by
  rw [Finset.disjoint_left]; intro i hi hi'; rw [mem_slotSet] at hi hi'; omega

theorem slot_union : (Finset.univ : Finset S2x192x64x128.Idx) = slotSet 0 ∪ slotSet 1 := by
  ext i
  simp only [Finset.mem_univ, Finset.mem_union, mem_slotSet, true_iff]
  have : (i 0).val < 2 := (i 0).isLt
  omega

theorem tile_set_eq {oD : Fin 4 → ℕ} {iD : ∀ a, oD a + S1x1x64x128.size a ≤ S2x192x64x128.size a} {s j : ℕ} (h : oD = ![s, j, 0, 0]) :
    (Rect.unit (s := S2x192x64x128) oD S1x1x64x128.size iD).set = tileSet s j := by
  subst h
  ext i
  rw [Rect.mem_set_unit, mem_tileSet]
  constructor
  · intro h
    have h0 := h 0; have h1 := h 1
    change s ≤ (i 0).val ∧ (i 0).val < s + 1 at h0
    change j ≤ (i 1).val ∧ (i 1).val < j + 1 at h1
    omega
  · rintro ⟨h0, h1⟩ a
    fin_cases a
    · change s ≤ (i 0).val ∧ (i 0).val < s + 1; omega
    · change j ≤ (i 1).val ∧ (i 1).val < j + 1; omega
    · change 0 ≤ (i 2).val ∧ (i 2).val < 0 + 64; exact ⟨Nat.zero_le _, by have := (i 2).isLt; change (i 2).val < 64 at this; omega⟩
    · change 0 ≤ (i 3).val ∧ (i 3).val < 0 + 128; exact ⟨Nat.zero_le _, by have := (i 3).isLt; change (i 3).val < 128 at this; omega⟩

theorem slot_set_eq {oD : Fin 4 → ℕ} {iD : ∀ a, oD a + S1x192x64x128.size a ≤ S2x192x64x128.size a} {s : ℕ} (h : oD = ![s, 0, 0, 0]) :
    (Rect.unit (s := S2x192x64x128) oD S1x192x64x128.size iD).set = slotSet s := by
  subst h
  ext i
  rw [Rect.mem_set_unit, mem_slotSet]
  constructor
  · intro h
    have h0 := h 0
    change s ≤ (i 0).val ∧ (i 0).val < s + 1 at h0
    omega
  · rintro h0 a
    fin_cases a
    · change s ≤ (i 0).val ∧ (i 0).val < s + 1; omega
    · change 0 ≤ (i 1).val ∧ (i 1).val < 0 + 192; exact ⟨Nat.zero_le _, by have := (i 1).isLt; change (i 1).val < 192 at this; omega⟩
    · change 0 ≤ (i 2).val ∧ (i 2).val < 0 + 64; exact ⟨Nat.zero_le _, by have := (i 2).isLt; change (i 2).val < 64 at this; omega⟩
    · change 0 ≤ (i 3).val ∧ (i 3).val < 0 + 128; exact ⟨Nat.zero_le _, by have := (i 3).isLt; change (i 3).val < 128 at this; omega⟩

/-! ## Indices -/

/-- The cache element at batch entry `b`, head `n`, channel `d`, position `t` (each wrapped into its range). -/
def srcIx (b n d t : ℕ) : S2x8x64x131072.Idx :=
  fun a => ⟨(![b % 2, n % 8, d % 64, t % 131072] : Fin 4 → ℕ) a, by
    fin_cases a
    · exact Nat.mod_lt _ (by decide)
    · exact Nat.mod_lt _ (by decide)
    · exact Nat.mod_lt _ (by decide)
    · exact Nat.mod_lt _ (by decide)⟩
/-- The word of row `r`, position `j`. -/
def wordIx (r j : ℕ) : S16x192.Idx :=
  fun a => ⟨(![r % 16, j % 192] : Fin 2 → ℕ) a, by
    fin_cases a
    · exact Nat.mod_lt _ (by decide)
    · exact Nat.mod_lt _ (by decide)⟩

/-- What a slot holds once row `r`'s copies have landed: at position `j`, the tile the row's word `j` names. -/
def land {α : Type} (V : S2x8x64x131072.Idx → α) (I : S16x192.Idx → BitVec 32) (r : ℕ) : S2x192x64x128.Idx → α :=
  fun i => V (srcIx (r / 8) (r % 8) (i 2).val ((I (wordIx r (i 1).val)).toNat / 128 * 128 + (i 3).val))

theorem word_emb {o0 : Fin 2 → ℕ} {i0 : ∀ a, o0 a + S1x1.size a ≤ S16x192.size a} {r j : ℕ} (h : o0 = ![r, j]) (x : S1x1.Idx) :
    (Rect.unit (s := S16x192) o0 S1x1.size i0).emb x = wordIx r j := by
  subst h
  have hr := i0 0; have hj := i0 1
  change r + 1 ≤ 16 at hr; change j + 1 ≤ 192 at hj
  funext a
  apply Fin.ext
  fin_cases a
  · have h0 : (x 0).val < 1 := (x 0).isLt
    change r + 1 * (x 0).val = r % 16
    omega
  · have h0 : (x 1).val < 1 := (x 1).isLt
    change j + 1 * (x 1).val = j % 192
    omega

theorem src_emb {oS : Fin 4 → ℕ} {iS : ∀ a, oS a + S1x1x64x128.size a ≤ S2x8x64x131072.size a} {r : ℕ} {v : BitVec 32} (h : oS = srcOff r v) (y : S1x1x64x128.Idx) :
    (Rect.unit (s := S2x8x64x131072) oS S1x1x64x128.size iS).emb y = srcIx (r / 8) (r % 8) (y 2).val (v.toNat / 128 * 128 + (y 3).val) := by
  subst h
  have hr := iS 0; have hv := iS 3
  change r / 8 + 1 ≤ 2 at hr; change v.toNat / 128 * 128 + 128 ≤ 131072 at hv
  have h0 : (y 0).val < 1 := (y 0).isLt
  have h1 : (y 1).val < 1 := (y 1).isLt
  have h2 : (y 2).val < 64 := (y 2).isLt
  have h3 : (y 3).val < 128 := (y 3).isLt
  funext a
  apply Fin.ext
  fin_cases a
  · change r / 8 + 1 * (y 0).val = r / 8 % 2; omega
  · change r % 8 + 1 * (y 1).val = r % 8 % 8; omega
  · change 0 + 1 * (y 2).val = (y 2).val % 64; omega
  · change v.toNat / 128 * 128 + 1 * (y 3).val = (v.toNat / 128 * 128 + (y 3).val) % 131072; omega

theorem dst_emb_val {oD : Fin 4 → ℕ} {iD : ∀ a, oD a + S1x1x64x128.size a ≤ S2x192x64x128.size a} {s j : ℕ} (h : oD = ![s, j, 0, 0]) (y : S1x1x64x128.Idx) :
    ((Rect.unit (s := S2x192x64x128) oD S1x1x64x128.size iD).emb y 1).val = j
      ∧ ((Rect.unit (s := S2x192x64x128) oD S1x1x64x128.size iD).emb y 2).val = (y 2).val
      ∧ ((Rect.unit (s := S2x192x64x128) oD S1x1x64x128.size iD).emb y 3).val = (y 3).val := by
  subst h
  have h1 : (y 1).val < 1 := (y 1).isLt
  refine ⟨?_, ?_, ?_⟩
  · change j + 1 * (y 1).val = j; omega
  · change 0 + 1 * (y 2).val = _; omega
  · change 0 + 1 * (y 3).val = _; omega

end Cert.KernelIdeal.Hand
-- ==== Proof.IIssue.lean ====
/- Starting the copies: what the core holds while a slot's copies are in flight, and the two issue loops. -/
module

public import proofs.«01_k».proof.Proof.IGeo
public import proofs.«01_k».proof.Proof.Gen.KernelIdeal.Launch
public import Idealize.ShloMosaic.Lib.Pipeline.FrameBody
public import Idealize.ShloMosaic.Lib.MixedBatch
public import Idealize.ShloMosaic.Lib.Ring
public import Idealize.ShloMosaic.Lib.Tactic

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## A batch's next copy, delivered with something more -/

section PutRule
variable {nD : Nat} {τ : Topo} {sig : RefSig} {Ix : Type} [DecidableEq Ix] {Val : EltTy → Type} {Name : Type} [DecidableEq Name]
variable {U : Type} [URA U] {Lvl : Type}
variable (EC' : UEmb Counters (MT nD τ sig Ix Val Name U Lvl))
variable [Preorder Lvl] {Λ : Labels} {defs : Defs nD τ sig Val Λ} (𝒱 : Variants) (c : Thread nD τ) (bd : Option 𝒱.V)
variable {α : Type} {Q : α → sProp (MT nD τ sig Ix Val Name U Lvl)} {sp sp' : Space} {s : Shape} {e : EltTy} {n : ℕ}

/-- As the library's rule for a batch's next copy, with a resource `put` handed over at the start and delivered with the
    landing. -/
theorem wp_dmaBatchPut [Infinite Name] [EC'.LandsIn (upEmb : UEmb _ (MT nD τ sig Ix Val Name U Lvl))] {s₀ : Shape} {e₀ : EltTy}
    {src : Memref sig c.2.kind sp s₀ e₀} {via : ReadAs Val s₀ e₀ s e} {dst : Memref sig c.2.kind sp' s e} {sm : SemLoc sig}
    {hsrc : src.view.WordExact} {hdst : dst.view.WordExact} {hsem : DmaTarget.Typed (nD := nD) sp sm (.here dst)}
    {k : PUnit → Prog (TpuEff nD τ sig Val Λ c.2) α} {q : PosShare TreeShare} {fs : Buf Val (src.view.loc c)}
    {Sd : Finset (Idx (dst.view.loc c))} {fd : Buf Val (dst.view.loc c)}
    {D : Fin n → sProp (MT nD τ sig Ix Val Name U Lvl)} {j u : ℕ} {put : sProp (MT nD τ sig Ix Val Name U Lvl)}
    (ι : Ix) (N : ℕ) (hN : dst.view.amount sm = N) (hSd : dst.view.set ⊆ Sd) (hj : j < n) (hu : u ≤ j * N)
    (hD : iprop(put ∗ (dst.view.loc c ↦[Sd]{fullShare} (dst.view.write Val fd (via.apply (src.view.read Val fs)) Finset.univ))
              ∗ (src.view.loc c ↦[src.view.set]{q} fs)) ⊢ D ⟨j, hj⟩) :
    iprop((src.view.loc c ↦[src.view.set]{q} fs) ∗ (dst.view.loc c ↦[Sd]{fullShare} fd) ∗ put ∗ Batch EC' c sm ι N D j u)
      ⊢ iprop((Batch EC' c sm ι N D (j + 1) u -∗ wp frame (wpE defs 𝒱 c bd) Set.univ (k ⟨⟩) Q)
          -∗ wp frame (wpE defs 𝒱 c bd) Set.univ (.op (.enqueueDmaAs src (.here dst) via sm hsrc hdst hsem) k) Q) := by
  unfold Batch
  iintro ⟨Hs, Hd, Hput, ⟨%γ, %γ₀, %κ, #Hinv, HI, H0, Hcred⟩⟩ Hk
  ihave HI' := (show bigSep (pending j) (fun t => count EC' (γ t) 0) ⊢ iprop(count EC' (γ ⟨j, hj⟩) 0 ∗ bigSep (pending (j + 1)) (fun t => count EC' (γ t) 0))
    from Entails.of_eq (by rw [pending_succ hj, bigSep_insert (not_mem_pending_succ hj)]; rfl)) $$ HI
  icases HI' with ⟨Ht, HI⟩
  iapply (wp_enqueueDmaAs 𝒱 c bd Set.univ ι N hN) $$ [Hs Hd] [Ht Hput]
  · isplitl [Hs]; · iexact Hs
    iapply (pointsTo_writeUpdate c hSd) $$ Hd
  · iapply (batch_creditUpdate_with EC' ⟨j, hj⟩ hD)
    isplitr; · iexact Hinv
    isplitl [Ht]; · iexact Ht
    iexact Hput
  iintro Hcred'
  iapply Hk
  iexists γ, γ₀, κ
  isplitr; · iexact Hinv
  isplitl [HI]; · iexact HI
  isplitl [H0]; · iexact H0
  rw [show (j + 1) * N - u = (j * N - u) + N by rw [Nat.succ_mul]; omega, ← tallyAt_add]
  icombine Hcred Hcred' as H
  iexact H

/-- The next copy of a batch, from a source held whole: started, and delivered with the source whole again. -/
theorem wp_dmaBatchTok [Infinite Name] [EC'.LandsIn (upEmb : UEmb _ (MT nD τ sig Ix Val Name U Lvl))]
    {src : Memref sig c.2.kind sp s e} {dst : Memref sig c.2.kind sp' s e} {sm : SemLoc sig}
    {hsrc : src.view.WordExact} {hdst : dst.view.WordExact} {hsem : DmaTarget.Typed (nD := nD) sp sm (.here dst)}
    {q : PosShare TreeShare} {fs : Buf Val (src.view.loc c)}
    {Sd : Finset (Idx (dst.view.loc c))} {fd : Buf Val (dst.view.loc c)}
    {D : Fin n → sProp (MT nD τ sig Ix Val Name U Lvl)} {j : ℕ}
    (ι : Ix) (N : ℕ) (hN : dst.view.amount sm = N) (hSd : dst.view.set ⊆ Sd) (hj : j < n)
    (hD : iprop((dst.view.loc c ↦[Sd]{fullShare} (dst.view.write Val fd (ReadAs.same.apply (src.view.read Val fs)) Finset.univ))
              ∗ (src.view.loc c ↦[Finset.univ]{q} fs)) ⊢ D ⟨j, hj⟩) :
    iprop(Batch EC' c sm ι N D j 0 ∗ (dst.view.loc c ↦[Sd]{fullShare} fd) ∗ (src.view.loc c ↦[Finset.univ]{q} fs))
      ⊢ wp frame (wpE defs 𝒱 c bd) Set.univ (Prog.lift (TpuEff.enqueueDma src (.here dst) sm hsrc hdst hsem)) (fun _ => Batch EC' c sm ι N D (j + 1) 0) := by
  have hD' : iprop((src.view.loc c ↦[Finset.univ \ src.view.set]{q} fs) ∗ (dst.view.loc c ↦[Sd]{fullShare} (dst.view.write Val fd (ReadAs.same.apply (src.view.read Val fs)) Finset.univ))
      ∗ (src.view.loc c ↦[src.view.set]{q} fs)) ⊢ D ⟨j, hj⟩ := by
    have h' : (iprop((src.view.loc c ↦[Finset.univ \ src.view.set]{q} fs) ∗ (dst.view.loc c ↦[Sd]{fullShare} (dst.view.write Val fd (ReadAs.same.apply (src.view.read Val fs)) Finset.univ))
      ∗ (src.view.loc c ↦[src.view.set]{q} fs)) : sProp (MT nD τ sig Ix Val Name U Lvl)) ⊢ iprop((dst.view.loc c ↦[Sd]{fullShare} (dst.view.write Val fd (ReadAs.same.apply (src.view.read Val fs)) Finset.univ))
      ∗ (src.view.loc c ↦[Finset.univ]{q} fs)) := by
      iintro ⟨H1, H2, H3⟩
      isplitl [H2]; · iexact H2
      iapply (pointsTo_split_subset (Finset.subset_univ src.view.set)).2
      isplitl [H3]; · iexact H3
      iexact H1
    exact h'.trans hD
  iintro ⟨HB, Hd, Hs⟩
  ihave Hs := (pointsTo_split_subset (Finset.subset_univ src.view.set)).1 $$ Hs
  icases Hs with ⟨Hs, HsC⟩
  iapply (wp_dmaBatchPut EC' 𝒱 c bd ι N hN hSd hj (Nat.zero_le _) hD') $$ [HB Hd Hs HsC]
  · isplitl [Hs]; · iexact Hs
    isplitl [Hd]; · iexact Hd
    isplitl [HsC]; · iexact HsC
    iexact HB
  iintro H
  rw [wp_ret]
  imodintro
  iexact H

end PutRule

/-! ## The semaphore cells -/

/-- The semaphore of slot `s`. -/
def cell (s : ℕ) : DmaSem sig := if s = 0 then (11 : Fin 13) else (12 : Fin 13)
theorem sem_zero : ((cc0_scratch2.slice (Rect.unit (s := S2) ![0] S1.size inb_S2_S1_0)).squeeze S_ squeezes_S1_S_).sem = cell 0 := by
  decide +kernel
theorem sem_26 : ∀ (r : Fin k0_t2_loop.trips) (h1 : k0_cond1 r = 1#1), ((cc0_scratch2.slice (Rect.unit (s := S2) (k0_off26 r) S1.size (k0_off26_inb r h1))).squeeze S_ squeezes_S1_S_).sem = cell (1 - r.val % 2) := by
  decide +kernel
theorem sem_57 : ∀ (r : Fin k0_t2_loop.trips), ((cc0_scratch2.slice (Rect.unit (s := S2) (k0_off57 r) S1.size (k0_off57_inb r))).squeeze S_ squeezes_S1_S_).sem = cell (r.val % 2) := by
  decide +kernel

/-! ## Held while copies are in flight -/

/-- The caches and the two gather buffers. -/
abbrev srcK : Memref sig .tc .hbm S2x8x64x131072 .i8 := Memref.whole main_v7
abbrev srcV : Memref sig .tc .hbm S2x8x64x131072 .i8 := Memref.whole main_v8
abbrev bufK : Memref sig .tc .vmem S2x192x64x128 .i8 := Memref.whole cc0_scratch0
abbrev bufV : Memref sig .tc .vmem S2x192x64x128 .i8 := Memref.whole cc0_scratch1

variable (c : Dev nD)

/-- The share of the caches slot `s` works with. -/
def slotShare (s : ℕ) : PosShare TreeShare := if s = 0 then shareDrop fullShare 1 else shareTokN fullShare 0

variable (Vk Vv : S2x8x64x131072.Idx → Elt F .i8) (I : S16x192.Idx → Elt F .i32)

/-- What the copies into position `j` of slot `s` deliver, once row `r`'s are started. -/
def delK (s r j : ℕ) : sProp 𝕄 := iprop((bufK.view.loc (c : Thread nD τ) ↦[tileSet s j]{fullShare} land Vk I r) ∗ (srcK.view.loc (c : Thread nD τ) ↦[Finset.univ]{shareTokN (slotShare s) j} Vk))
def delV (s r j : ℕ) : sProp 𝕄 := iprop((bufV.view.loc (c : Thread nD τ) ↦[tileSet s j]{fullShare} land Vv I r) ∗ (srcV.view.loc (c : Thread nD τ) ↦[Finset.univ]{shareTokN (slotShare s) j} Vv))
/-- What starting them takes. -/
def stuff (s j : ℕ) : sProp 𝕄 := iprop((∃ f, bufK.view.loc (c : Thread nD τ) ↦[tileSet s j]{fullShare} f) ∗ (srcK.view.loc (c : Thread nD τ) ↦[Finset.univ]{shareTokN (slotShare s) j} Vk)
  ∗ (∃ f, bufV.view.loc (c : Thread nD τ) ↦[tileSet s j]{fullShare} f) ∗ (srcV.view.loc (c : Thread nD τ) ↦[Finset.univ]{shareTokN (slotShare s) j} Vv))

instance (s r j : ℕ) : Storable (upEmb : UEmb _ 𝕄) (delK (F := F) c Vk I s r j) := by unfold delK; infer_instance
instance (s r j : ℕ) : Storable (upEmb : UEmb _ 𝕄) (delV (F := F) c Vv I s r j) := by unfold delV; infer_instance

/-- The slot with the copies of the first `j` positions of row `r` started. -/
def Fly (s r j : ℕ) : sProp 𝕄 :=
  iprop(Batch (countersEmb (U := Pipeline.UD sig nD τ)) (c : Thread nD τ) (.dma (cell s)) () 256 (Ring.interleaved 192 (delK (F := F) c Vk I s r) (delV c Vv I s r)) (2 * j) 0
    ∗ bigSep (Finset.Ico j 192) (stuff (F := F) c Vk Vv s))

/-- The words the rows are read from. -/
abbrev words : sProp 𝕄 := ((Memref.whole cc0_stg0_0 : Memref sig .tc .smem S16x192 .i32).view.loc (c : Thread nD τ) ↦[Finset.univ]{fullShare} I)

theorem tile_view_set {m : Memref sig .tc .vmem S2x192x64x128 .i8} {oD : Fin 4 → ℕ} {iD : ∀ a, oD a + S1x1x64x128.size a ≤ S2x192x64x128.size a} :
    ((m.slice (Rect.unit (s := S2x192x64x128) oD S1x1x64x128.size iD) (fun _ => rfl)).squeeze S64x128 squeezes_S1x1x64x128_S64x128).view.set
      = (m.view.slice (Rect.unit (s := S2x192x64x128) oD S1x1x64x128.size iD)).set := by
  show (View.reshape _ _ _).set = _
  rw [View.set_reshape]

theorem landed_aux {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j)))
    (V : S2x8x64x131072.Idx → Elt F .i8) (y : S1x1x64x128.Idx) :
    V ((Rect.unit (s := S2x8x64x131072) oS S1x1x64x128.size iS).emb y) = land V I r ((Rect.unit (s := S2x192x64x128) oD S1x1x64x128.size iD).emb y) := by
  rw [src_emb hS]
  obtain ⟨h1, h2, h3⟩ := dst_emb_val (iD := iD) hD y
  unfold land
  rw [h1, h2, h3]

/-- Where a copy lands it writes what the row's word names. -/
theorem landedK {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j))) (f : S2x192x64x128.Idx → Elt F .i8) :
    ∀ i ∈ tileSet s j, ((bufK.slice (Rect.unit (s := S2x192x64x128) oD S1x1x64x128.size iD) (fun _ => rfl)).squeeze S64x128 squeezes_S1x1x64x128_S64x128).view.write (Elt F) f
      (ReadAs.same.apply (((srcK.slice (Rect.unit (s := S2x8x64x131072) oS S1x1x64x128.size iS) (fun _ => rfl)).squeeze S64x128 squeezes_S1x1x64x128_S64x128).view.read (Elt F) Vk)) Finset.univ i = land Vk I r i := by
  intro i hi
  rw [← tile_set_eq (iD := iD) hD] at hi
  have hi' : i ∈ ((bufK.slice (Rect.unit (s := S2x192x64x128) oD S1x1x64x128.size iD) (fun _ => rfl)).squeeze S64x128 squeezes_S1x1x64x128_S64x128).view.set := by
    rw [tile_view_set]; rwa [View.set_slice_whole]
  obtain ⟨x, -, rfl⟩ := Finset.mem_map.mp hi'
  rw [View.write_emb_of_mem _ _ (Finset.mem_univ _)]
  exact landed_aux I hD hS Vk _

theorem landedV {oD : Fin 4 → ℕ} {iD : ∀ a, oD a + S1x1x64x128.size a ≤ S2x192x64x128.size a} {s r j : ℕ} (hD : oD = ![s, j, 0, 0])
    {oS : Fin 4 → ℕ} {iS : ∀ a, oS a + S1x1x64x128.size a ≤ S2x8x64x131072.size a} (hS : oS = srcOff r (I (wordIx r j))) (f : S2x192x64x128.Idx → Elt F .i8) :
    ∀ i ∈ tileSet s j, ((bufV.slice (Rect.unit (s := S2x192x64x128) oD S1x1x64x128.size iD) (fun _ => rfl)).squeeze S64x128 squeezes_S1x1x64x128_S64x128).view.write (Elt F) f
      (ReadAs.same.apply (((srcV.slice (Rect.unit (s := S2x8x64x131072) oS S1x1x64x128.size iS) (fun _ => rfl)).squeeze S64x128 squeezes_S1x1x64x128_S64x128).view.read (Elt F) Vv)) Finset.univ i = land Vv I r i := by
  intro i hi
  rw [← tile_set_eq (iD := iD) hD] at hi
  have hi' : i ∈ ((bufV.slice (Rect.unit (s := S2x192x64x128) oD S1x1x64x128.size iD) (fun _ => rfl)).squeeze S64x128 squeezes_S1x1x64x128_S64x128).view.set := by
    rw [tile_view_set]; rwa [View.set_slice_whole]
  obtain ⟨x, -, rfl⟩ := Finset.mem_map.mp hi'
  rw [View.write_emb_of_mem _ _ (Finset.mem_univ _)]
  exact landed_aux I hD hS Vv _

theorem amountK {oD : Fin 4 → ℕ} {iD : ∀ a, oD a + S1x1x64x128.size a ≤ S2x192x64x128.size a} {sm : DmaSem sig} :
    ((bufK.slice (Rect.unit (s := S2x192x64x128) oD S1x1x64x128.size iD) (fun _ => rfl)).squeeze S64x128 squeezes_S1x1x64x128_S64x128).view.amount (.dma sm) = 256 := by rfl

/-- The copy of one K tile. -/
theorem wp_copyK {sm : DmaSem sig} {oD : Fin 4 → ℕ} {iD : ∀ a, oD a + S1x1x64x128.size a ≤ S2x192x64x128.size a}
    {oS : Fin 4 → ℕ} {iS : ∀ a, oS a + S1x1x64x128.size a ≤ S2x8x64x131072.size a}
    {h1 : ((srcK.slice (Rect.unit (s := S2x8x64x131072) oS S1x1x64x128.size iS) (fun _ => rfl)).squeeze S64x128 squeezes_S1x1x64x128_S64x128).view.WordExact}
    {h2 : ((bufK.slice (Rect.unit (s := S2x192x64x128) oD S1x1x64x128.size iD) (fun _ => rfl)).squeeze S64x128 squeezes_S1x1x64x128_S64x128).view.WordExact}
    {h3 : DmaTarget.Typed (nD := nD) (τ := τ) (sig := sig) (p := .tc) .hbm (.dma sm) (.here ((bufK.slice (Rect.unit (s := S2x192x64x128) oD S1x1x64x128.size iD) (fun _ => rfl)).squeeze S64x128 squeezes_S1x1x64x128_S64x128))}
    (s r j : ℕ) (hj : j < 192) (hsm : sm = cell s) (hoD : oD = ![s, j, 0, 0]) (hoS : oS = srcOff r (I (wordIx r j)))
    (f : S2x192x64x128.Idx → Elt F .i8) :
    iprop(Batch (countersEmb (U := Pipeline.UD sig nD τ)) (c : Thread nD τ) (.dma (cell s)) () 256 (Ring.interleaved 192 (delK (F := F) c Vk I s r) (delV c Vv I s r)) (2 * j) 0
        ∗ (bufK.view.loc (c : Thread nD τ) ↦[tileSet s j]{fullShare} f) ∗ (srcK.view.loc (c : Thread nD τ) ↦[Finset.univ]{shareTokN (slotShare s) j} Vk))
      ⊢ wp frame (wpE (defs₀ (F := F)) Variants.none (c : Thread nD τ) none) Set.univ
        (Prog.lift (TpuEff.enqueueDma ((srcK.slice (Rect.unit (s := S2x8x64x131072) oS S1x1x64x128.size iS) (fun _ => rfl)).squeeze S64x128 squeezes_S1x1x64x128_S64x128)
          (.here ((bufK.slice (Rect.unit (s := S2x192x64x128) oD S1x1x64x128.size iD) (fun _ => rfl)).squeeze S64x128 squeezes_S1x1x64x128_S64x128)) (.dma sm) h1 h2 h3))
        (fun _ => Batch (countersEmb (U := Pipeline.UD sig nD τ)) (c : Thread nD τ) (.dma (cell s)) () 256 (Ring.interleaved 192 (delK (F := F) c Vk I s r) (delV c Vv I s r)) (2 * j + 1) 0) := by
  subst hsm
  have hland := landedK (F := F) Vk I (iD := iD) hoD (iS := iS) hoS f
  have hset : ((bufK.slice (Rect.unit (s := S2x192x64x128) oD S1x1x64x128.size iD) (fun _ => rfl)).squeeze S64x128 squeezes_S1x1x64x128_S64x128).view.set ⊆ tileSet s j := by
    rw [tile_view_set, View.set_slice_whole, tile_set_eq hoD]
  have hx : (2 * j) < 2 * 192 := by omega
  refine wp_dmaBatchTok (countersEmb (U := Pipeline.UD sig nD τ)) (defs := defs₀ (F := F)) Variants.none (c : Thread nD τ) none (src := ((srcK.slice (Rect.unit (s := S2x8x64x131072) oS S1x1x64x128.size iS) (fun _ => rfl)).squeeze S64x128 squeezes_S1x1x64x128_S64x128))
    (dst := ((bufK.slice (Rect.unit (s := S2x192x64x128) oD S1x1x64x128.size iD) (fun _ => rfl)).squeeze S64x128 squeezes_S1x1x64x128_S64x128))
    (hsrc := h1) (hdst := h2) (hsem := h3) (q := shareTokN (slotShare s) j) (fs := Vk) (fd := f)
    (D := Ring.interleaved 192 (delK (F := F) c Vk I s r) (delV c Vv I s r)) () 256 amountK hset hx ?_
  rw [Ring.interleaved_even]
  unfold delK
  exact sep_mono_left (Entails.of_eq (pointsTo_congr hland))

theorem amountV {oD : Fin 4 → ℕ} {iD : ∀ a, oD a + S1x1x64x128.size a ≤ S2x192x64x128.size a} {sm : DmaSem sig} :
    ((bufV.slice (Rect.unit (s := S2x192x64x128) oD S1x1x64x128.size iD) (fun _ => rfl)).squeeze S64x128 squeezes_S1x1x64x128_S64x128).view.amount (.dma sm) = 256 := by rfl

/-- The copy of one V tile. -/
theorem wp_copyV {sm : DmaSem sig} {oD : Fin 4 → ℕ} {iD : ∀ a, oD a + S1x1x64x128.size a ≤ S2x192x64x128.size a}
    {oS : Fin 4 → ℕ} {iS : ∀ a, oS a + S1x1x64x128.size a ≤ S2x8x64x131072.size a}
    {h1 : ((srcV.slice (Rect.unit (s := S2x8x64x131072) oS S1x1x64x128.size iS) (fun _ => rfl)).squeeze S64x128 squeezes_S1x1x64x128_S64x128).view.WordExact}
    {h2 : ((bufV.slice (Rect.unit (s := S2x192x64x128) oD S1x1x64x128.size iD) (fun _ => rfl)).squeeze S64x128 squeezes_S1x1x64x128_S64x128).view.WordExact}
    {h3 : DmaTarget.Typed (nD := nD) (τ := τ) (sig := sig) (p := .tc) .hbm (.dma sm) (.here ((bufV.slice (Rect.unit (s := S2x192x64x128) oD S1x1x64x128.size iD) (fun _ => rfl)).squeeze S64x128 squeezes_S1x1x64x128_S64x128))}
    (s r j : ℕ) (hj : j < 192) (hsm : sm = cell s) (hoD : oD = ![s, j, 0, 0]) (hoS : oS = srcOff r (I (wordIx r j)))
    (f : S2x192x64x128.Idx → Elt F .i8) :
    iprop(Batch (countersEmb (U := Pipeline.UD sig nD τ)) (c : Thread nD τ) (.dma (cell s)) () 256 (Ring.interleaved 192 (delK (F := F) c Vk I s r) (delV c Vv I s r)) (2 * j + 1) 0
        ∗ (bufV.view.loc (c : Thread nD τ) ↦[tileSet s j]{fullShare} f) ∗ (srcV.view.loc (c : Thread nD τ) ↦[Finset.univ]{shareTokN (slotShare s) j} Vv))
      ⊢ wp frame (wpE (defs₀ (F := F)) Variants.none (c : Thread nD τ) none) Set.univ
        (Prog.lift (TpuEff.enqueueDma ((srcV.slice (Rect.unit (s := S2x8x64x131072) oS S1x1x64x128.size iS) (fun _ => rfl)).squeeze S64x128 squeezes_S1x1x64x128_S64x128)
          (.here ((bufV.slice (Rect.unit (s := S2x192x64x128) oD S1x1x64x128.size iD) (fun _ => rfl)).squeeze S64x128 squeezes_S1x1x64x128_S64x128)) (.dma sm) h1 h2 h3))
        (fun _ => Batch (countersEmb (U := Pipeline.UD sig nD τ)) (c : Thread nD τ) (.dma (cell s)) () 256 (Ring.interleaved 192 (delK (F := F) c Vk I s r) (delV c Vv I s r)) (2 * (j + 1)) 0) := by
  subst hsm
  have hland := landedV (F := F) Vv I (iD := iD) hoD (iS := iS) hoS f
  have hset : ((bufV.slice (Rect.unit (s := S2x192x64x128) oD S1x1x64x128.size iD) (fun _ => rfl)).squeeze S64x128 squeezes_S1x1x64x128_S64x128).view.set ⊆ tileSet s j := by
    rw [tile_view_set, View.set_slice_whole, tile_set_eq hoD]
  have hx : (2 * j + 1) < 2 * 192 := by omega
  refine wp_dmaBatchTok (countersEmb (U := Pipeline.UD sig nD τ)) (defs := defs₀ (F := F)) Variants.none (c : Thread nD τ) none (src := ((srcV.slice (Rect.unit (s := S2x8x64x131072) oS S1x1x64x128.size iS) (fun _ => rfl)).squeeze S64x128 squeezes_S1x1x64x128_S64x128))
    (dst := ((bufV.slice (Rect.unit (s := S2x192x64x128) oD S1x1x64x128.size iD) (fun _ => rfl)).squeeze S64x128 squeezes_S1x1x64x128_S64x128))
    (hsrc := h1) (hdst := h2) (hsem := h3) (q := shareTokN (slotShare s) j) (fs := Vv) (fd := f)
    (D := Ring.interleaved 192 (delK (F := F) c Vk I s r) (delV c Vv I s r)) () 256 amountV hset hx ?_
  rw [Ring.interleaved_odd]
  unfold delV
  exact sep_mono_left (Entails.of_eq (pointsTo_congr hland))

theorem wp_issue {arg0 : Memref sig .tc .smem S16x192 .i32} (h0 : arg0 = Memref.whole cc0_stg0_0)
    {sm : DmaSem sig} {o0 : Fin 2 → ℕ} {i0 : ∀ a, o0 a + S1x1.size a ≤ S16x192.size a}
    {oD : Fin 4 → ℕ} {iD : ∀ a, oD a + S1x1x64x128.size a ≤ S2x192x64x128.size a}
    {wD : (Rect.unit (s := S2x192x64x128) oD S1x1x64x128.size iD).WholeWords (EltTy.packing .i8)}
    {chk : BitVec 32 → Prop} {dec : ∀ v, Decidable (chk v)} {oS : BitVec 32 → Fin 4 → ℕ}
    {iS : ∀ v, chk v → ∀ a, oS v a + S1x1x64x128.size a ≤ S2x8x64x131072.size a}
    {wS : ∀ v (h : chk v), (Rect.unit (s := S2x8x64x131072) (oS v) S1x1x64x128.size (iS v h)).WholeWords (EltTy.packing .i8)}
    (hI : ∀ x, BitVec.toNat (I x) < 131072) (s r j : ℕ) (hj : j < 192) (hr : r < 16) (hsm : sm = cell s) (ho0 : o0 = ![r, j]) (hoD : oD = ![s, j, 0, 0])
    (hchk : ∀ v : BitVec 32, v.toNat < 131072 → chk v) (hoS : ∀ v : BitVec 32, v.toNat < 131072 → oS v = srcOff r v) :
    iprop(words c I ∗ Fly c Vk Vv I s r j) ⊢ wp frame (wpE (defs₀ (F := F)) Variants.none (c : Thread nD τ) none) Set.univ
      (issue (F := F) arg0 srcK (Memref.isWhole_whole _) srcV (Memref.isWhole_whole _) bufK (Memref.isWhole_whole _) bufV (Memref.isWhole_whole _) sm o0 i0 oD iD wD chk dec oS iS wS)
      (fun _ => iprop(words c I ∗ Fly c Vk Vv I s r (j + 1))) := by
  subst h0 hsm
  unfold issue smemLoad Fly words
  have hIco : Finset.Ico j 192 = insert j (Finset.Ico (j + 1) 192) := by ext i; simp only [Finset.mem_Ico, Finset.mem_insert]; omega
  have hst : bigSep (Finset.Ico j 192) (stuff (F := F) c Vk Vv s) = iprop(stuff c Vk Vv s j ∗ bigSep (Finset.Ico (j + 1) 192) (stuff c Vk Vv s)) := by
    rw [hIco, bigSep_insert (by simp)]; rfl
  rw [hst]
  unfold stuff
  iintro ⟨HI, HB, ⟨⟨%fk, Hbk⟩, Hsk, ⟨%fv, Hbv⟩, Hsv⟩, HR⟩
  rw [wp_bind]
  iapply (wp_smemLoadElt Variants.none (c : Thread nD τ) none Set.univ (Finset.subset_univ _)) $$ [HI]
  · iexact HI
  iintro HI
  have hword : (((Memref.whole cc0_stg0_0 : Memref sig .tc .smem S16x192 .i32).access (Rect.unit (s := S16x192) o0 S1x1.size i0)).read (Elt F) I (Shape.Idx.first (numel1_S1x1.symm ▸ Nat.one_pos)) : Elt F .i32) = I (wordIx r j) := by
    show I ((Rect.unit (s := S16x192) o0 S1x1.size i0).emb _) = _
    rw [word_emb ho0]
  rw [hword, wp_ret]
  imodintro
  rw [wp_bind]
  iapply (wp_assume Variants.none (c : Thread nD τ) none Set.univ (hchk _ (hI _)))
  rw [wp_ret]
  imodintro
  have hoS' := hoS _ (hI (wordIx r j))
  rw [wp_bind]
  have hK := wp_copyK (F := F) c Vk Vv I (iD := iD) (iS := iS _ (hchk _ (hI _))) (h1 := (Memref.isWhole_whole main_v7).wordExact_slice rfl _ (wS (I (wordIx r j)) (hchk _ (hI _))) |>.reshape _ _)
    (h2 := (Memref.isWhole_whole cc0_scratch0).wordExact_slice rfl _ wD |>.reshape _ _) (h3 := ⟨Or.inl rfl, trivial⟩) s r j hj rfl hoD hoS' fk
  have hV := wp_copyV (F := F) c Vk Vv I (iD := iD) (iS := iS _ (hchk _ (hI _))) (h1 := (Memref.isWhole_whole main_v8).wordExact_slice rfl _ (wS (I (wordIx r j)) (hchk _ (hI _))) |>.reshape _ _)
    (h2 := (Memref.isWhole_whole cc0_scratch1).wordExact_slice rfl _ wD |>.reshape _ _) (h3 := ⟨Or.inl rfl, trivial⟩) s r j hj rfl hoD hoS' fv
  ihave HW := hK $$ [HB Hbk Hsk]
  · isplitl [HB]; · iexact HB
    isplitl [Hbk]; · iexact Hbk
    iexact Hsk
  iapply (wp_wand _ _ _) $$ HW
  iintro %_ HB
  ihave HW := hV $$ [HB Hbv Hsv]
  · isplitl [HB]; · iexact HB
    isplitl [Hbv]; · iexact Hbv
    iexact Hsv
  iapply (wp_wand _ _ _) $$ HW
  iintro %_ HB
  isplitl [HI]; · iexact HI
  isplitl [HB]; · iexact HB
  iexact HR

end Cert.KernelIdeal.Hand
-- ==== Proof.ILoops.lean ====
/- The two issue loops: each takes a slot with no copy started to the slot with every copy of a row started. -/
module

public import proofs.«01_k».proof.Proof.IIssue

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)
variable (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole)

theorem trips1 : k0_t1_loop.trips = 24 := by decide +kernel
theorem trips2 : k0_t2_loop.trips = 16 := by decide +kernel
theorem trips3 : k0_t3_loop.trips = 24 := by decide +kernel
theorem trips4 : k0_t4_loop.trips = 32 := by decide +kernel
theorem trips5 : k0_t5_loop.trips = 16 := by decide +kernel

/-- One trip of the first issue loop. -/
theorem wp_t1_body (hI : ∀ x, BitVec.toNat (I x) < 131072) (k : Fin k0_t1_loop.trips) (u : PUnit) :
    iprop(words c I ∗ Fly c Vk Vv I 0 0 (8 * k.val)) ⊢ wp frame (wpE (defs₀ (F := F)) Variants.none (c : Thread nD τ) none) Set.univ
      (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 k u) (fun _ => iprop(words c I ∗ Fly c Vk Vv I 0 0 (8 * (k.val + 1)))) := by
  have hk : k.val < 24 := lt_of_lt_of_eq k.isLt trips1
  rw [t1_body_eq]
  rw [wp_bind]
  refine (wp_issue c Vk Vv I rfl hI 0 0 (8 * k.val) (by omega) (by decide) sem_zero (k0_off1_eq k) (k0_off2_eq k) chk1_of off3_eq).trans (wp_mono _ _ _ fun _ => ?_)
  rw [wp_bind]
  refine (wp_issue c Vk Vv I rfl hI 0 0 (8 * k.val + 1) (by omega) (by decide) sem_zero (k0_off4_eq k) (k0_off5_eq k) chk2_of off6_eq).trans (wp_mono _ _ _ fun _ => ?_)
  rw [wp_bind]
  refine (wp_issue c Vk Vv I rfl hI 0 0 (8 * k.val + 2) (by omega) (by decide) sem_zero (k0_off7_eq k) (k0_off8_eq k) chk3_of off9_eq).trans (wp_mono _ _ _ fun _ => ?_)
  rw [wp_bind]
  refine (wp_issue c Vk Vv I rfl hI 0 0 (8 * k.val + 3) (by omega) (by decide) sem_zero (k0_off10_eq k) (k0_off11_eq k) chk4_of off12_eq).trans (wp_mono _ _ _ fun _ => ?_)
  rw [wp_bind]
  refine (wp_issue c Vk Vv I rfl hI 0 0 (8 * k.val + 4) (by omega) (by decide) sem_zero (k0_off13_eq k) (k0_off14_eq k) chk5_of off15_eq).trans (wp_mono _ _ _ fun _ => ?_)
  rw [wp_bind]
  refine (wp_issue c Vk Vv I rfl hI 0 0 (8 * k.val + 5) (by omega) (by decide) sem_zero (k0_off16_eq k) (k0_off17_eq k) chk6_of off18_eq).trans (wp_mono _ _ _ fun _ => ?_)
  rw [wp_bind]
  refine (wp_issue c Vk Vv I rfl hI 0 0 (8 * k.val + 6) (by omega) (by decide) sem_zero (k0_off19_eq k) (k0_off20_eq k) chk7_of off21_eq).trans (wp_mono _ _ _ fun _ => ?_)
  rw [wp_bind]
  refine (wp_issue c Vk Vv I rfl hI 0 0 (8 * k.val + 7) (by omega) (by decide) sem_zero (k0_off22_eq k) (k0_off23_eq k) chk8_of off24_eq).trans (wp_mono _ _ _ fun _ => ?_)
  iintro H
  iapply (le_wp_ret _ _ _ _ _)
  iexact H

/-- The first issue loop starts every copy of row `0` into slot `0`. -/
theorem wp_t1 (hI : ∀ x, BitVec.toNat (I x) < 131072) {Q : PUnit → sProp 𝕄} :
    iprop((words c I ∗ Fly c Vk Vv I 0 0 0) ∗ ((words c I ∗ Fly c Vk Vv I 0 0 192) -∗ Q ⟨⟩)) ⊢ wp frame (wpE (defs₀ (F := F)) Variants.none (c : Thread nD τ) none) Set.univ
      (Scf.Loop.for k0_t1_loop k0_t1_ok ⟨⟩ (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2)) Q := by
  have h := Scf.wp_for frame (wpE (defs₀ (F := F)) Variants.none (c : Thread nD τ) none) Set.univ k0_t1_loop.lb k0_t1_loop.ub k0_t1_loop.st k0_t1_ok ⟨⟩ (k0_t1_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2)
    (fun k _ => iprop(words c I ∗ Fly c Vk Vv I 0 0 (8 * k))) (fun k u => wp_t1_body c Vk Vv I arg1 harg1 arg2 harg2 arg3 harg3 arg4 harg4 arg5 harg5 arg6 harg6 arg9 harg9 arg10 harg10 arg11 harg11 arg12 harg12 hI k u) (Q := Q)
  rw [show Scf.trips k0_t1_loop.lb k0_t1_loop.ub k0_t1_loop.st = 24 from trips1] at h
  iintro ⟨H1, H2⟩
  iapply h
  isplitl [H1]; · iexact H1
  iintro %_ H
  iapply H2
  iexact H

/-- One trip of the next row's issue loop. -/
theorem wp_t3_body (hI : ∀ x, BitVec.toNat (I x) < 131072) (r : Fin k0_t2_loop.trips) (h1 : k0_cond1 r = 1#1) (w : BitVec 32) (k : Fin k0_t3_loop.trips) (u : PUnit) :
    iprop(words c I ∗ Fly c Vk Vv I (1 - r.val % 2) (r.val + 1) (8 * k.val)) ⊢ wp frame (wpE (defs₀ (F := F)) Variants.none (c : Thread nD τ) none) Set.univ
      (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w k u) (fun _ => iprop(words c I ∗ Fly c Vk Vv I (1 - r.val % 2) (r.val + 1) (8 * (k.val + 1)))) := by
  have hk : k.val < 24 := lt_of_lt_of_eq k.isLt trips3
  have hr : r.val < 15 := (cond1_iff r).mp h1
  rw [t3_body_eq]
  rw [wp_bind]
  refine (wp_issue c Vk Vv I rfl hI (1 - r.val % 2) (r.val + 1) (8 * k.val) (by omega) (by omega) (sem_26 r h1) (k0_off25_eq r k) (off27_eq r k) (chk9_of r hr) (off28_eq r hr)).trans (wp_mono _ _ _ fun _ => ?_)
  rw [wp_bind]
  refine (wp_issue c Vk Vv I rfl hI (1 - r.val % 2) (r.val + 1) (8 * k.val + 1) (by omega) (by omega) (sem_26 r h1) (k0_off29_eq r k) (off31_eq r k) (chk10_of r hr) (off32_eq r hr)).trans (wp_mono _ _ _ fun _ => ?_)
  rw [wp_bind]
  refine (wp_issue c Vk Vv I rfl hI (1 - r.val % 2) (r.val + 1) (8 * k.val + 2) (by omega) (by omega) (sem_26 r h1) (k0_off33_eq r k) (off35_eq r k) (chk11_of r hr) (off36_eq r hr)).trans (wp_mono _ _ _ fun _ => ?_)
  rw [wp_bind]
  refine (wp_issue c Vk Vv I rfl hI (1 - r.val % 2) (r.val + 1) (8 * k.val + 3) (by omega) (by omega) (sem_26 r h1) (k0_off37_eq r k) (off39_eq r k) (chk12_of r hr) (off40_eq r hr)).trans (wp_mono _ _ _ fun _ => ?_)
  rw [wp_bind]
  refine (wp_issue c Vk Vv I rfl hI (1 - r.val % 2) (r.val + 1) (8 * k.val + 4) (by omega) (by omega) (sem_26 r h1) (k0_off41_eq r k) (off43_eq r k) (chk13_of r hr) (off44_eq r hr)).trans (wp_mono _ _ _ fun _ => ?_)
  rw [wp_bind]
  refine (wp_issue c Vk Vv I rfl hI (1 - r.val % 2) (r.val + 1) (8 * k.val + 5) (by omega) (by omega) (sem_26 r h1) (k0_off45_eq r k) (off47_eq r k) (chk14_of r hr) (off48_eq r hr)).trans (wp_mono _ _ _ fun _ => ?_)
  rw [wp_bind]
  refine (wp_issue c Vk Vv I rfl hI (1 - r.val % 2) (r.val + 1) (8 * k.val + 6) (by omega) (by omega) (sem_26 r h1) (k0_off49_eq r k) (off51_eq r k) (chk15_of r hr) (off52_eq r hr)).trans (wp_mono _ _ _ fun _ => ?_)
  rw [wp_bind]
  refine (wp_issue c Vk Vv I rfl hI (1 - r.val % 2) (r.val + 1) (8 * k.val + 7) (by omega) (by omega) (sem_26 r h1) (k0_off53_eq r k) (off55_eq r k) (chk16_of r hr) (off56_eq r hr)).trans (wp_mono _ _ _ fun _ => ?_)
  iintro H
  iapply (le_wp_ret _ _ _ _ _)
  iexact H

/-- The next row's issue loop starts every copy of row `r + 1` into the other slot. -/
theorem wp_t3 (hI : ∀ x, BitVec.toNat (I x) < 131072) (r : Fin k0_t2_loop.trips) (h1 : k0_cond1 r = 1#1) (w : BitVec 32) {Q : PUnit → sProp 𝕄} :
    iprop((words c I ∗ Fly c Vk Vv I (1 - r.val % 2) (r.val + 1) 0) ∗ ((words c I ∗ Fly c Vk Vv I (1 - r.val % 2) (r.val + 1) 192) -∗ Q ⟨⟩)) ⊢ wp frame (wpE (defs₀ (F := F)) Variants.none (c : Thread nD τ) none) Set.univ
      (Scf.Loop.for k0_t3_loop (k0_t3_ok r h1) ⟨⟩ (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w)) Q := by
  have h := Scf.wp_for frame (wpE (defs₀ (F := F)) Variants.none (c : Thread nD τ) none) Set.univ k0_t3_loop.lb k0_t3_loop.ub k0_t3_loop.st (k0_t3_ok r h1) ⟨⟩ (k0_t3_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 0#32 1#32 r h1 w)
    (fun k _ => iprop(words c I ∗ Fly c Vk Vv I (1 - r.val % 2) (r.val + 1) (8 * k))) (fun k u => wp_t3_body c Vk Vv I arg1 harg1 arg2 harg2 arg3 harg3 arg4 harg4 arg5 harg5 arg6 harg6 arg9 harg9 arg10 harg10 arg11 harg11 arg12 harg12 hI r h1 w k u) (Q := Q)
  rw [show Scf.trips k0_t3_loop.lb k0_t3_loop.ub k0_t3_loop.st = 24 from trips3] at h
  iintro ⟨H1, H2⟩
  iapply h
  isplitl [H1]; · iexact H1
  iintro %_ H
  iapply H2
  iexact H

end Cert.KernelIdeal.Hand
-- ==== Proof.IWait.lean ====
/- A slot at rest, the start of its batch of copies, and the two waits that end it. -/
module

public import proofs.«01_k».proof.Proof.ILoops

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)

/-- The slot's buffers, every element of a slot at the full share. -/
abbrev slotK (s : ℕ) (f : S2x192x64x128.Idx → Elt F .i8) : sProp 𝕄 := (bufK.view.loc (c : Thread nD τ) ↦[slotSet s]{fullShare} f)
abbrev slotV (s : ℕ) (f : S2x192x64x128.Idx → Elt F .i8) : sProp 𝕄 := (bufV.view.loc (c : Thread nD τ) ↦[slotSet s]{fullShare} f)
/-- The caches at a share. -/
abbrev cacheK (q : PosShare TreeShare) : sProp 𝕄 := (srcK.view.loc (c : Thread nD τ) ↦[Finset.univ]{q} Vk)
abbrev cacheV (q : PosShare TreeShare) : sProp 𝕄 := (srcV.view.loc (c : Thread nD τ) ↦[Finset.univ]{q} Vv)

/-- Slot `s` with no copy in flight: its semaphore at zero, its buffers, and its share of the caches. -/
def Idle (s : ℕ) : sProp 𝕄 :=
  iprop(semVal ((c : Thread nD τ), .dma (cell s)) 0 ∗ (∃ f, slotK (F := F) c s f) ∗ (∃ f, slotV (F := F) c s f) ∗ cacheK c Vk (slotShare s) ∗ cacheV c Vv (slotShare s))
/-- Slot `s` holding row `r`'s tiles. -/
def Landed (s r : ℕ) : sProp 𝕄 :=
  iprop(semVal ((c : Thread nD τ), .dma (cell s)) 0 ∗ slotK (F := F) c s (land Vk I r) ∗ slotV (F := F) c s (land Vv I r) ∗ cacheK c Vk (slotShare s) ∗ cacheV c Vv (slotShare s))
/-- The slot's share of the caches beyond the copies' own. -/
def Rest (s : ℕ) : sProp 𝕄 := iprop(cacheK c Vk (shareDrop (slotShare s) 192) ∗ cacheV c Vv (shareDrop (slotShare s) 192))

theorem landed_idle (s r : ℕ) : Landed c Vk Vv I s r ⊢ Idle (F := F) c Vk Vv s := by
  unfold Landed Idle
  iintro ⟨H1, H2, H3, H4, H5⟩
  isplitl [H1]; · iexact H1
  isplitl [H2]; · iexists _; iexact H2
  isplitl [H3]; · iexists _; iexact H3
  isplitl [H4]; · iexact H4
  iexact H5

theorem slot_tiles (s : ℕ) : slotSet s = (Finset.range 192).biUnion (fun j => tileSet s j) := by
  ext i
  simp only [mem_slotSet, Finset.mem_biUnion, Finset.mem_range, mem_tileSet]
  exact ⟨fun h => ⟨(i 1).val, (i 1).isLt, h, rfl⟩, fun ⟨_, _, h, _⟩ => h⟩

theorem tiles_disjoint (s : ℕ) : ∀ t ∈ Finset.range 192, ∀ t' ∈ Finset.range 192, t ≠ t' → Disjoint (tileSet s t) (tileSet s t') := by
  intro t _ t' _ h
  rw [Finset.disjoint_left]
  intro i hi hi'
  rw [mem_tileSet] at hi hi'
  exact h (hi.2.symm.trans hi'.2)

theorem slotK_tiles (s : ℕ) (f : S2x192x64x128.Idx → Elt F .i8) :
    slotK (F := F) c s f = bigSep (Finset.range 192) (fun j => (bufK.view.loc (c : Thread nD τ) ↦[tileSet s j]{fullShare} f : sProp 𝕄)) := by
  unfold slotK; rw [slot_tiles]; exact pointsTo_biUnion _ _ (tiles_disjoint s)
theorem slotV_tiles (s : ℕ) (f : S2x192x64x128.Idx → Elt F .i8) :
    slotV (F := F) c s f = bigSep (Finset.range 192) (fun j => (bufV.view.loc (c : Thread nD τ) ↦[tileSet s j]{fullShare} f : sProp 𝕄)) := by
  unfold slotV; rw [slot_tiles]; exact pointsTo_biUnion _ _ (tiles_disjoint s)

/-- A slot at rest can start the batch of a row's copies. -/
theorem idle_start (s r : ℕ) : Idle c Vk Vv s ⊢ |={Set.univ}=> iprop(Fly (F := F) c Vk Vv I s r 0 ∗ Rest c Vk Vv s) := by
  unfold Idle Fly Rest
  iintro ⟨H1, ⟨%f, H2⟩, ⟨%g, H3⟩, H4, H5⟩
  imod (batch_alloc' (countersEmb (U := Pipeline.UD sig nD τ)) (c := (c : Thread nD τ)) () 256 (Ring.interleaved 192 (delK (F := F) c Vk I s r) (delV c Vv I s r)) (E := Set.univ)) $$ H1 with HB
  imodintro
  ihave H4 := (pointsTo_toks_range (slotShare s) 192).1 $$ H4
  icases H4 with ⟨H4, H4'⟩
  ihave H5 := (pointsTo_toks_range (slotShare s) 192).1 $$ H5
  icases H5 with ⟨H5, H5'⟩
  ihave H2 := (show slotK (F := F) c s f ⊢ bigSep (Finset.range 192) (fun j => iprop(∃ f, bufK.view.loc (c : Thread nD τ) ↦[tileSet s j]{fullShare} f : sProp 𝕄)) from by
    rw [slotK_tiles]; exact bigSep_mono fun j _ => exists_intro (Φ := fun f => (bufK.view.loc (c : Thread nD τ) ↦[tileSet s j]{fullShare} f : sProp 𝕄)) f) $$ H2
  ihave H3 := (show slotV (F := F) c s g ⊢ bigSep (Finset.range 192) (fun j => iprop(∃ f, bufV.view.loc (c : Thread nD τ) ↦[tileSet s j]{fullShare} f : sProp 𝕄)) from by
    rw [slotV_tiles]; exact bigSep_mono fun j _ => exists_intro (Φ := fun f => (bufV.view.loc (c : Thread nD τ) ↦[tileSet s j]{fullShare} f : sProp 𝕄)) g) $$ H3
  isplitr [H4 H5]
  · isplitl [HB]; · iexact HB
    have e : bigSep (Finset.Ico 0 192) (stuff (F := F) c Vk Vv s)
      = iprop(bigSep (Finset.range 192) (fun j => iprop(∃ f, bufK.view.loc (c : Thread nD τ) ↦[tileSet s j]{fullShare} f : sProp 𝕄))
        ∗ bigSep (Finset.range 192) (fun j => cacheK c Vk (shareTokN (slotShare s) j))
        ∗ bigSep (Finset.range 192) (fun j => iprop(∃ f, bufV.view.loc (c : Thread nD τ) ↦[tileSet s j]{fullShare} f : sProp 𝕄))
        ∗ bigSep (Finset.range 192) (fun j => cacheV c Vv (shareTokN (slotShare s) j))) := by
      rw [Nat.Ico_zero_eq_range]
      refine (BI.bigSep_sep (Finset.range 192) _ _).trans (congrArg (fun x => iprop(_ ∗ x)) ?_)
      refine (BI.bigSep_sep (Finset.range 192) _ _).trans (congrArg (fun x => iprop(_ ∗ x)) ?_)
      exact BI.bigSep_sep (Finset.range 192) _ _
    rw [e]
    isplitl [H2]; · iexact H2
    isplitl [H4']; · iexact H4'
    isplitl [H3]; · iexact H3
    iexact H5'
  · isplitl [H4]; · iexact H4
    iexact H5

/-- The batch's deliveries, all back, make the slot hold the row's tiles. -/
theorem landed_of (s r : ℕ) :
    iprop((bigSep Finset.univ (Ring.interleaved 192 (delK (F := F) c Vk I s r) (delV c Vv I s r)) ∗ semVal ((c : Thread nD τ), .dma (cell s)) 0) ∗ Rest c Vk Vv s) ⊢ Landed c Vk Vv I s r := by
  rw [Ring.bigSep_interleaved]
  have eK : bigSep (Finset.range 192) (delK (F := F) c Vk I s r) = iprop(slotK c s (land Vk I r) ∗ bigSep (Finset.range 192) (fun j => cacheK c Vk (shareTokN (slotShare s) j))) := by
    rw [slotK_tiles]; exact BI.bigSep_sep (Finset.range 192) _ _
  have eV : bigSep (Finset.range 192) (delV (F := F) c Vv I s r) = iprop(slotV c s (land Vv I r) ∗ bigSep (Finset.range 192) (fun j => cacheV c Vv (shareTokN (slotShare s) j))) := by
    rw [slotV_tiles]; exact BI.bigSep_sep (Finset.range 192) _ _
  rw [eK, eV]
  unfold Rest Landed
  iintro ⟨⟨⟨⟨HK, HKt⟩, ⟨HV, HVt⟩⟩, HS⟩, ⟨HKr, HVr⟩⟩
  isplitl [HS]; · iexact HS
  isplitl [HK]; · iexact HK
  isplitl [HV]; · iexact HV
  isplitl [HKt HKr]
  · iapply (pointsTo_toks_range (slotShare s) 192).2
    isplitl [HKr]; · iexact HKr
    iexact HKt
  · iapply (pointsTo_toks_range (slotShare s) 192).2
    isplitl [HVr]; · iexact HVr
    iexact HVt

theorem creditK {oD : Fin 4 → ℕ} {iD : ∀ a, oD a + S1x192x64x128.size a ≤ S2x192x64x128.size a} :
    ((bufK.slice (Rect.unit (s := S2x192x64x128) oD S1x192x64x128.size iD) (fun _ => rfl)).squeeze S192x64x128 squeezes_S1x192x64x128_S192x64x128).view.dmaCredit = 192 * 256 := by rfl
theorem creditV {oD : Fin 4 → ℕ} {iD : ∀ a, oD a + S1x192x64x128.size a ≤ S2x192x64x128.size a} :
    ((bufV.slice (Rect.unit (s := S2x192x64x128) oD S1x192x64x128.size iD) (fun _ => rfl)).squeeze S192x64x128 squeezes_S1x192x64x128_S192x64x128).view.dmaCredit = 192 * 256 := by rfl

/-- The first wait of a slot consumes half the batch's units and learns nothing. -/
theorem wp_wait1 {sm : DmaSem sig} {src dst : Memref sig .tc .vmem S192x64x128 .i8} {h1 : src.view.WordExact} {h2 : dst.view.WordExact}
    (hd : dst.view.dmaCredit = 192 * 256) (s r : ℕ) (hsm : sm = cell s) {W : Waits sig Unit} :
    iprop(Batch (countersEmb (U := Pipeline.UD sig nD τ)) (c : Thread nD τ) (.dma (cell s)) () 256 (Ring.interleaved 192 (delK (F := F) c Vk I s r) (delV c Vv I s r)) (2 * 192) 0 ∗ owes (c : Thread nD τ) 0 W)
      ⊢ wp frame (wpE (defs₀ (F := F)) Variants.none (c : Thread nD τ) none) Set.univ (Prog.lift (TpuEff.waitDma2 sm src dst h1 h2))
        (fun _ => iprop(Batch (countersEmb (U := Pipeline.UD sig nD τ)) (c : Thread nD τ) (.dma (cell s)) () 256 (Ring.interleaved 192 (delK (F := F) c Vk I s r) (delV c Vv I s r)) (2 * 192) (192 * 256) ∗ ∃ W', owes (c : Thread nD τ) 0 W')) := by
  subst hsm
  have hu : 0 + 192 * 256 ≤ 256 * (2 * 192) := by decide
  iintro H
  iapply (wp_waitBatchMul (countersEmb (U := Pipeline.UD sig nD τ)) Variants.none (c : Thread nD τ) none () 192 hd hu (D := Ring.interleaved 192 (delK (F := F) c Vk I s r) (delV c Vv I s r))) $$ H
  iintro ⟨H1, H2⟩
  iapply (le_wp_ret _ _ _ _ _)
  isplitl [H1]; · iexact H1
  iexists _; iexact H2

/-- The second wait returns every delivery. -/
theorem wp_wait2 {sm : DmaSem sig} {src dst : Memref sig .tc .vmem S192x64x128 .i8} {h1 : src.view.WordExact} {h2 : dst.view.WordExact}
    (hd : dst.view.dmaCredit = 192 * 256) (s r : ℕ) (hsm : sm = cell s) {W : Waits sig Unit} :
    iprop(Batch (countersEmb (U := Pipeline.UD sig nD τ)) (c : Thread nD τ) (.dma (cell s)) () 256 (Ring.interleaved 192 (delK (F := F) c Vk I s r) (delV c Vv I s r)) (2 * 192) (192 * 256) ∗ owes (c : Thread nD τ) 0 W)
      ⊢ wp frame (wpE (defs₀ (F := F)) Variants.none (c : Thread nD τ) none) Set.univ (Prog.lift (TpuEff.waitDma2 sm src dst h1 h2))
        (fun _ => iprop((bigSep Finset.univ (Ring.interleaved 192 (delK (F := F) c Vk I s r) (delV c Vv I s r)) ∗ semVal ((c : Thread nD τ), .dma (cell s)) 0) ∗ ∃ W', owes (c : Thread nD τ) 0 W')) := by
  subst hsm
  have hu : 192 * 256 + 192 * 256 = 256 * (2 * 192) := by decide
  iintro H
  iapply (wp_waitBatchAll (countersEmb (U := Pipeline.UD sig nD τ)) Variants.none (c : Thread nD τ) none () hd (by decide) hu (D := Ring.interleaved 192 (delK (F := F) c Vk I s r) (delV c Vv I s r))) $$ H
  iintro ⟨H1, H2, H3⟩
  iapply (le_wp_ret _ _ _ _ _)
  isplitl [H1 H2]
  · isplitl [H1]; · iexact H1
    iexact H2
  iexists _; iexact H3

end Cert.KernelIdeal.Hand
-- ==== Proof.ISel.lean ====
/- What one position's update of the collected columns does, byte by byte. -/
module

public import proofs.«01_k».proof.Proof.IExt
public import Idealize.ShloMosaic.Lib.BitcastFour
public import Idealize.ShloMosaic.Lib.KernelVsHost
public import Idealize.ShloMosaic.Lib.ValueLayout
public import Idealize.ShloMosaic.Lib.Pointwise

@[expose] public section

noncomputable section

namespace Cert.KernelIdeal.Hand

open Cert.KernelIdeal Cert.KernelIdeal.Gen
open Idealize.ShloMosaic hiding ix2 ix4
open Idealize.ShloMosaic.ValueIdx

variable {F : FTy → Type} [FloatOps F]

/-- The bytes of a block of words of four rows. -/
def bytes (a : IVec S16x128 32) : IVec S64x128 8 := bitcast S64x128 8 a bitcasts_S16x128_w32_S64x128_w8

/-- Every lane's own number. -/
def lanes : IVec S16x128 32 := iota .tc S16x128 32 [1] iota_S16x128_d1_w32

/-- Bit `q` of byte `(d, x)` is bit `8 (d mod 4) + q` of word `(d / 4, x)`. -/
theorem bytes_bit (a : IVec S16x128 32) (d : Fin 64) (x : Fin 128) (q : ℕ) (hq : q < 8) :
    (bytes a (ix2 d x)).getLsbD q = (a (ix2 ⟨d.val / 4, by omega⟩ x)).getLsbD (8 * (d.val % 4) + q) := by
  unfold bytes
  rw [bitcast_getLsbD a bitcasts_S16x128_w32_S64x128_w8 (ix2 d x) q hq (by decide)]
  have hr : Shape.row S64x128 (ix2 d x) = d.val := rfl
  congr 2
  · funext c
    apply Fin.ext
    fin_cases c
    · refine (Shape.Bitcasts.srcIdx_row _ _ _ _ _ rfl).trans ?_
      rw [hr]; show (d.val * 8 + q) / 32 = d.val / 4; omega
    · exact Shape.Bitcasts.srcIdx_other _ _ _ _ _ (by decide)
  · rw [hr]; omega

/-- The bytes of the words of a tile are the tile. -/
theorem tile_bit (t : Vec F S1x1x64x128 .i8) (d : Fin 64) (x : Fin 128) (q : ℕ) (hq : q < 8) :
    (bitcast S16x128 32 (shapeCast S64x128 t shapeCasts_S1x1x64x128_S64x128 : IVec S64x128 8) bitcasts_S64x128_w8_S16x128_w32
      (ix2 ⟨d.val / 4, by omega⟩ x)).getLsbD (8 * (d.val % 4) + q) = BitVec.getLsbD (w := 8) (t (ix4 0 0 d x)) q := by
  rw [bitcast_8_32_getLsbD_ix2 (shapeCast S64x128 t shapeCasts_S1x1x64x128_S64x128 : IVec S64x128 8) bitcasts_S64x128_w8_S16x128_w32 ⟨d.val / 4, by omega⟩ x (8 * (d.val % 4) + q) (by omega) d (by simp only []; omega)]
  have e : (shapeCast S64x128 t shapeCasts_S1x1x64x128_S64x128 : IVec S64x128 8) (ix2 d x) = t (ix4 0 0 d x) := by
    simp only [pointwise]; rfl
  rw [e]
  congr 1
  omega

/-- The update changes lane `p - lo` alone, to the tile's lane `w mod 128`. -/
theorem bytes_sel (p lo : ℕ) (hp : p < 192) (hlo : lo ≤ p) (hd : p - lo < 128) (w : BitVec 32) (t : Vec F S1x1x64x128 .i8)
    (a : IVec S16x128 32) (d : Fin 64) (x : Fin 128) :
    bytes (sel lanes (BitVec.ofNat 32 p) (BitVec.ofNat 32 lo) w t a) (ix2 d x)
      = if x.val = p - lo then t (ix4 0 0 d ⟨w.toNat % 128, Nat.mod_lt _ (by decide)⟩) else bytes a (ix2 d x) := by
  have hsub : Scalar.subi (BitVec.ofNat 32 p) (BitVec.ofNat 32 lo) = BitVec.ofNat 32 (p - lo) := by
    apply BitVec.eq_of_toNat_eq
    simp only [Scalar.subi, IntOp.subi, BitVec.toNat_sub, BitVec.toNat_ofNat]
    omega
  have hmask : ∀ y : BitVec 32, (Scalar.andi y 127#32).toNat = y.toNat % 128 := fun y => by
    simp only [Scalar.andi, IntOp.andi, BitVec.toNat_and, BitVec.toNat_ofNat]
    exact Nat.and_two_pow_sub_one_eq_mod _ 7
  have hcond : ∀ r : Fin 16, cmpi .eq lanes (broadcast S16x128 (BitVec.ofNat 32 (p - lo))) (ix2 r x) = 1 ↔ x.val = p - lo := by
    intro r
    have hl : lanes (ix2 r x) = BitVec.ofNat 32 x.val := by
      show BitVec.ofNat 32 (0 * 128 + x.val) = _
      rw [Nat.zero_mul, Nat.zero_add]
    show BitVec.ofBool (lanes (ix2 r x) == BitVec.ofNat 32 (p - lo)) = 1 ↔ _
    rw [hl]
    constructor
    · intro h
      have h' : (BitVec.ofNat 32 x.val == BitVec.ofNat 32 (p - lo)) = true := by
        revert h; cases (BitVec.ofNat 32 x.val == BitVec.ofNat 32 (p - lo)) <;> decide
      have h2 := congrArg BitVec.toNat (beq_iff_eq.mp h')
      simp only [BitVec.toNat_ofNat] at h2
      omega
    · intro h; rw [h]; simp
  apply BitVec.eq_of_getLsbD_eq
  intro q hq
  rw [bytes_bit _ d x q hq]
  unfold sel
  rw [hsub]
  by_cases hx : x.val = p - lo
  · rw [if_pos hx]
    show (if cmpi .eq lanes (broadcast S16x128 (BitVec.ofNat 32 (p - lo))) (ix2 (⟨d.val / 4, by omega⟩ : Fin 16) x) = 1 then _ else _ : BitVec 32).getLsbD _ = _
    rw [if_pos ((hcond _).mpr hx)]
    rw [dynamicRotate_apply (1 : Fin 2) _ _ rotates_S16x128_d1 (ix2 (⟨d.val / 4, by omega⟩ : Fin 16) x)
      (ix2 (⟨d.val / 4, by omega⟩ : Fin 16) (⟨w.toNat % 128, Nat.mod_lt _ (by decide)⟩ : Fin 128)) ?_]
    · exact tile_bit t d _ q hq
    · intro b
      fin_cases b
      · rfl
      · refine Eq.trans ?_ (if_pos rfl).symm
        show w.toNat % 128 = (x.val + 128 - (Scalar.andi (Scalar.subi (BitVec.ofNat 32 (p - lo)) (Scalar.andi w 127#32)) 127#32).toNat % 128) % 128
        rw [hmask]
        have : (Scalar.subi (BitVec.ofNat 32 (p - lo)) (Scalar.andi w 127#32)).toNat = (2 ^ 32 - w.toNat % 128 + (p - lo) % 2 ^ 32) % 2 ^ 32 := by
          simp only [Scalar.subi, IntOp.subi, BitVec.toNat_sub, BitVec.toNat_ofNat, hmask]
        rw [this, hx]
        have := Nat.mod_lt w.toNat (show 0 < 128 by decide)
        omega
  · rw [if_neg hx]
    show (if cmpi .eq lanes (broadcast S16x128 (BitVec.ofNat 32 (p - lo))) (ix2 (⟨d.val / 4, by omega⟩ : Fin 16) x) = 1 then _ else _ : BitVec 32).getLsbD _ = _
    rw [if_neg (fun h => hx ((hcond _).mp h))]
    exact (bytes_bit a d x q hq).symm

end Cert.KernelIdeal.Hand
-- ==== Proof.IVals.lean ====
/- What the kernel's row computes: each result's row in terms of the inputs, and the state of a result after some rows. -/
module

public import proofs.«01_k».proof.Proof.ISel
public import proofs.«01_k».proof.Proof.IGeo

@[expose] public section

noncomputable section

namespace Cert.KernelIdeal.Hand

open Cert.KernelIdeal Cert.KernelIdeal.Gen
open Idealize.ShloMosaic hiding ix2 ix3 ix4
open Idealize.ShloMosaic.ValueIdx Idealize.SL.Sem

variable {F : FTy → Type} [FloatOps F]

/-- The arrays that the call reads. -/
structure Ins (F : FTy → Type) where
  I : S16x192.Idx → Elt F .i32
  q : S16x4x64.Idx → Elt F .bf16
  kn : S16x1x64.Idx → Elt F .bf16
  vn : S16x1x64.Idx → Elt F .bf16
  ks : S16x1x192.Idx → Elt F .f32
  vs : S16x1x192.Idx → Elt F .f32
  raw : S16x1x192.Idx → Elt F .f32
  Vk : S2x8x64x131072.Idx → Elt F .i8
  Vv : S2x8x64x131072.Idx → Elt F .i8

/-- Element `d` of the column that row `r`'s word at position `j` names. -/
def pick (I : S16x192.Idx → Elt F .i32) (V : S2x8x64x131072.Idx → Elt F .i8) (r j d : ℕ) : Elt F .i8 :=
  V (srcIx (r / 8) (r % 8) d (BitVec.toNat (I (wordIx r j))))

/-- Row `r`'s gathered columns. -/
def picked (I : S16x192.Idx → Elt F .i32) (V : S2x8x64x131072.Idx → Elt F .i8) (r : ℕ) : S1x1x64x192.Idx → Elt F .i8 :=
  fun y => pick I V r (y 3).val (y 2).val

/-- The index of row `r`'s element in an array of sixteen rows. -/
def rowIx {a b : ℕ} (r : ℕ) (y : (⟨3, ![1, a, b]⟩ : Shape).Idx) : (⟨3, ![16, a, b]⟩ : Shape).Idx :=
  ix3 (⟨r % 16, Nat.mod_lt _ (by decide)⟩ : Fin 16) (show Fin a from y 1) (show Fin b from y 2)

/-- Row `r` of an array of sixteen rows. -/
def row3 {α : Type} {a b : ℕ} (f : (⟨3, ![16, a, b]⟩ : Shape).Idx → α) (r : ℕ) : (⟨3, ![1, a, b]⟩ : Shape).Idx → α := fun y => f (rowIx r y)

/-- An element's index within its own row. -/
def unrow {a b : ℕ} (i : (⟨3, ![16, a, b]⟩ : Shape).Idx) : (⟨3, ![1, a, b]⟩ : Shape).Idx := ix3 (0 : Fin 1) (show Fin a from i 1) (show Fin b from i 2)

/-- Row `r`'s query, as a matrix. -/
def rowQ (X : Ins F) (r : ℕ) : FVec F S4x64 .bf16 := k0_pay31 (row3 X.q r)
/-- Row `r`'s scores against the kept keys. -/
def rowS (X : Ins F) (r : ℕ) : FVec F S4x192 .f32 := k0_pay32 (picked X.I X.Vk r) (row3 X.q r) (row3 X.ks r)
/-- Row `r`'s probabilities of the kept keys. -/
def rowP (X : Ins F) (r : ℕ) : FVec F S4x192 .f32 := k0_pay38 (rowQ X r) (rowS X r) (row3 X.kn r)
/-- Row `r` of the attention's result. -/
def rowO (X : Ins F) (r : ℕ) : FVec F S1x4x64 .bf16 :=
  k0_pay39 (k0_pay30 (picked X.I X.Vv r)) (rowQ X r) (rowS X r) (row3 X.kn r) (row3 X.vs r) (row3 X.vn r)
/-- Row `r` of the kept scores. -/
def rowC (X : Ins F) (r : ℕ) : FVec F S1x1x192 .f32 := k0_pay1 (rowP X r) (row3 X.raw r)

/-- The gathered columns of every row. -/
def outG (I : S16x192.Idx → Elt F .i32) (V : S2x8x64x131072.Idx → Elt F .i8) : S2x8x64x192.Idx → Elt F .i8 :=
  fun i => pick I V (8 * (i 0).val + (i 1).val) (i 3).val (i 2).val
/-- An array from its rows. -/
def outR {α : Type} {a b : ℕ} (v : ℕ → (⟨3, ![1, a, b]⟩ : Shape).Idx → α) : (⟨3, ![16, a, b]⟩ : Shape).Idx → α :=
  fun i => v (show Fin 16 from i 0).val (unrow i)

/-- The rows below `r`, and the first `m` columns of row `r`, are gathered. -/
def DoneG (I : S16x192.Idx → Elt F .i32) (V : S2x8x64x131072.Idx → Elt F .i8) (r m : ℕ) (f : S2x8x64x192.Idx → Elt F .i8) : Prop :=
  ∀ i, (8 * (i 0).val + (i 1).val < r ∨ (8 * (i 0).val + (i 1).val = r ∧ (i 3).val < m)) → f i = outG I V i
/-- The rows below `r` are written. -/
def DoneR {α : Type} {a b : ℕ} (v : ℕ → (⟨3, ![1, a, b]⟩ : Shape).Idx → α) (r : ℕ) (f : (⟨3, ![16, a, b]⟩ : Shape).Idx → α) : Prop :=
  ∀ i, (show Fin 16 from i 0).val < r → f i = outR v i

theorem doneG_next {I : S16x192.Idx → Elt F .i32} {V : S2x8x64x131072.Idx → Elt F .i8} {r : ℕ} {f : S2x8x64x192.Idx → Elt F .i8}
    (h : DoneG I V r 192 f) : DoneG I V (r + 1) 0 f := by
  intro i hi
  refine h i ?_
  have : (i 3).val < 192 := (i 3).isLt
  omega

theorem doneG_all {I : S16x192.Idx → Elt F .i32} {V : S2x8x64x131072.Idx → Elt F .i8} {f : S2x8x64x192.Idx → Elt F .i8}
    (h : DoneG I V 16 0 f) : f = outG I V := by
  funext i
  refine h i (.inl ?_)
  have h0 : (i 0).val < 2 := (i 0).isLt
  have h1 : (i 1).val < 8 := (i 1).isLt
  omega

theorem doneR_all {α : Type} {a b : ℕ} {v : ℕ → (⟨3, ![1, a, b]⟩ : Shape).Idx → α} {f : (⟨3, ![16, a, b]⟩ : Shape).Idx → α}
    (h : DoneR v 16 f) : f = outR v := funext fun i => h i (show Fin 16 from i 0).isLt

/-- Writing a block of row `r`'s columns gathers them. -/
theorem doneG_step {I : S16x192.Idx → Elt F .i32} {V : S2x8x64x131072.Idx → Elt F .i8} {n lo r : ℕ} {off : Fin 4 → ℕ}
    {inb : ∀ a, off a + (![1, 1, 64, n] : Fin 4 → ℕ) a ≤ S2x8x64x192.size a} (ho : off = ![r / 8, r % 8, 0, lo])
    {f g : S2x8x64x192.Idx → Elt F .i8}
    (h1 : ∀ y : (⟨4, ![1, 1, 64, n]⟩ : Shape).Idx, g ((Rect.unit (s := S2x8x64x192) off ![1, 1, 64, n] inb).emb y) = pick I V r (lo + (y 3).val) (y 2).val)
    (h2 : ∀ i, i ∉ (Rect.unit (s := S2x8x64x192) off ![1, 1, 64, n] inb).set → g i = f i)
    (hf : DoneG I V r lo f) : DoneG I V r (lo + n) g := by
  subst ho
  intro i hi
  by_cases hm : i ∈ (Rect.unit (s := S2x8x64x192) ![r / 8, r % 8, 0, lo] ![1, 1, 64, n] inb).set
  · obtain ⟨y, -, rfl⟩ := Finset.mem_map.mp ((Rect.map_emb_univ _).symm ▸ hm)
    rw [h1]
    have y0 : (y 0).val < 1 := (y 0).isLt
    have y1 : (y 1).val < 1 := (y 1).isLt
    unfold outG
    have e0 : ((Rect.unit (s := S2x8x64x192) ![r / 8, r % 8, 0, lo] ![1, 1, 64, n] inb).emb y 0).val = r / 8 := by
      change r / 8 + 1 * (y 0).val = _; omega
    have e1 : ((Rect.unit (s := S2x8x64x192) ![r / 8, r % 8, 0, lo] ![1, 1, 64, n] inb).emb y 1).val = r % 8 := by
      change r % 8 + 1 * (y 1).val = _; omega
    have e2 : ((Rect.unit (s := S2x8x64x192) ![r / 8, r % 8, 0, lo] ![1, 1, 64, n] inb).emb y 2).val = (y 2).val := by
      change 0 + 1 * (y 2).val = _; omega
    have e3 : ((Rect.unit (s := S2x8x64x192) ![r / 8, r % 8, 0, lo] ![1, 1, 64, n] inb).emb y 3).val = lo + (y 3).val := by
      change lo + 1 * (y 3).val = _; omega
    rw [e0, e1, e2, e3, Nat.div_add_mod]
  · rw [h2 i hm]
    refine hf i ?_
    rcases hi with hi | ⟨hr, hx⟩
    · exact .inl hi
    · refine .inr ⟨hr, ?_⟩
      by_contra hlo
      apply hm
      rw [Rect.mem_set_unit]
      intro a
      have h0 : (i 0).val < 2 := (i 0).isLt
      have h1 : (i 1).val < 8 := (i 1).isLt
      have h2 : (i 2).val < 64 := (i 2).isLt
      fin_cases a
      · change r / 8 ≤ (i 0).val ∧ (i 0).val < r / 8 + 1; omega
      · change r % 8 ≤ (i 1).val ∧ (i 1).val < r % 8 + 1; omega
      · change 0 ≤ (i 2).val ∧ (i 2).val < 0 + 64; omega
      · change lo ≤ (i 3).val ∧ (i 3).val < lo + n; omega

/-- Row `r`'s columns read back, once gathered. -/
theorem doneG_read {I : S16x192.Idx → Elt F .i32} {V : S2x8x64x131072.Idx → Elt F .i8} {r : ℕ} {off : Fin 4 → ℕ}
    {inb : ∀ a, off a + S1x1x64x192.size a ≤ S2x8x64x192.size a} (ho : off = ![r / 8, r % 8, 0, 0])
    {f : S2x8x64x192.Idx → Elt F .i8} (hf : DoneG I V r 192 f) :
    (fun y => f ((Rect.unit (s := S2x8x64x192) off S1x1x64x192.size inb).emb y)) = picked I V r := by
  subst ho
  funext y
  have y0 : (y 0).val < 1 := (y 0).isLt
  have y1 : (y 1).val < 1 := (y 1).isLt
  have y3 : (y 3).val < 192 := (y 3).isLt
  have e0 : ((Rect.unit (s := S2x8x64x192) ![r / 8, r % 8, 0, 0] S1x1x64x192.size inb).emb y 0).val = r / 8 := by
    change r / 8 + 1 * (y 0).val = _; omega
  have e1 : ((Rect.unit (s := S2x8x64x192) ![r / 8, r % 8, 0, 0] S1x1x64x192.size inb).emb y 1).val = r % 8 := by
    change r % 8 + 1 * (y 1).val = _; omega
  have e2 : ((Rect.unit (s := S2x8x64x192) ![r / 8, r % 8, 0, 0] S1x1x64x192.size inb).emb y 2).val = (y 2).val := by
    change 0 + 1 * (y 2).val = _; omega
  have e3 : ((Rect.unit (s := S2x8x64x192) ![r / 8, r % 8, 0, 0] S1x1x64x192.size inb).emb y 3).val = (y 3).val := by
    change 0 + 1 * (y 3).val = _; omega
  rw [hf _ (.inr ⟨by rw [e0, e1, Nat.div_add_mod], by rw [e3]; exact y3⟩)]
  unfold outG picked
  rw [e0, e1, e2, e3, Nat.div_add_mod]

/-- The index of a row's element, through the row's rectangle. -/
theorem row_emb {a b r : ℕ} {off : Fin 3 → ℕ} {inb : ∀ t, off t + (![1, a, b] : Fin 3 → ℕ) t ≤ (⟨3, ![16, a, b]⟩ : Shape).size t} (ho : off = ![r, 0, 0])
    (y : (⟨3, ![1, a, b]⟩ : Shape).Idx) : (Rect.unit (s := (⟨3, ![16, a, b]⟩ : Shape)) off ![1, a, b] inb).emb y = rowIx r y := by
  subst ho
  have h0 := inb 0
  change r + 1 ≤ 16 at h0
  have y0 : (show Fin 1 from y 0).val < 1 := (show Fin 1 from y 0).isLt
  funext t
  apply Fin.ext
  fin_cases t
  · change r + 1 * (show Fin 1 from y 0).val = r % 16; omega
  · change 0 + 1 * (y 1).val = (y 1).val; omega
  · change 0 + 1 * (y 2).val = (y 2).val; omega

/-- Writing row `r` extends the written rows. -/
theorem doneR_step {α : Type} {a b r : ℕ} {off : Fin 3 → ℕ} {inb : ∀ t, off t + (![1, a, b] : Fin 3 → ℕ) t ≤ (⟨3, ![16, a, b]⟩ : Shape).size t} (ho : off = ![r, 0, 0])
    {v : ℕ → (⟨3, ![1, a, b]⟩ : Shape).Idx → α} {f g : (⟨3, ![16, a, b]⟩ : Shape).Idx → α}
    (h1 : ∀ y : (⟨3, ![1, a, b]⟩ : Shape).Idx, g ((Rect.unit (s := (⟨3, ![16, a, b]⟩ : Shape)) off ![1, a, b] inb).emb y) = v r y)
    (h2 : ∀ i, i ∉ (Rect.unit (s := (⟨3, ![16, a, b]⟩ : Shape)) off ![1, a, b] inb).set → g i = f i)
    (hf : DoneR v r f) : DoneR v (r + 1) g := by
  have hr0 := inb 0
  intro i hi
  by_cases hm : i ∈ (Rect.unit (s := (⟨3, ![16, a, b]⟩ : Shape)) off ![1, a, b] inb).set
  · obtain ⟨y, -, rfl⟩ := Finset.mem_map.mp ((Rect.map_emb_univ _).symm ▸ hm)
    rw [h1]
    subst ho
    change r + 1 ≤ 16 at hr0
    rw [row_emb rfl]
    unfold outR
    have e : (show Fin 16 from (rowIx r y) 0).val = r := by change r % 16 = r; omega
    rw [e]
    congr 1
    funext t
    apply Fin.ext
    fin_cases t
    · have y0 : (show Fin 1 from y 0).val < 1 := (show Fin 1 from y 0).isLt
      change (show Fin 1 from y 0).val = 0; omega
    · rfl
    · rfl
  · rw [h2 i hm]
    refine hf i ?_
    by_contra hlo
    apply hm
    subst ho
    rw [Rect.mem_set_unit]
    intro t
    fin_cases t
    · change r ≤ (show Fin 16 from i 0).val ∧ (show Fin 16 from i 0).val < r + 1; omega
    · change 0 ≤ (show Fin a from i 1).val ∧ (show Fin a from i 1).val < 0 + a; exact ⟨Nat.zero_le _, by have := (show Fin a from i 1).isLt; omega⟩
    · change 0 ≤ (show Fin b from i 2).val ∧ (show Fin b from i 2).val < 0 + b; exact ⟨Nat.zero_le _, by have := (show Fin b from i 2).isLt; omega⟩

/-- The first stored block is the collected block's bytes. -/
theorem pay22_at (a : IVec S16x128 32) (y : S1x1x64x128.Idx) : k0_pay22 a y = bytes a (ix2 (y 2) (y 3)) := by
  unfold k0_pay22
  simp only [pointwise]
  rfl
theorem pay23_at (a : IVec S16x128 32) (y : S1x1x64x128.Idx) : k0_pay23 a y = bytes a (ix2 (y 2) (y 3)) := pay22_at a y
/-- The second stored block is the first half of the collected block's bytes. -/
theorem pay28_at (a : IVec S16x128 32) (y : S1x1x64x64.Idx) : k0_pay28 a y = bytes a (ix2 (y 2) ⟨(y 3).val, by have := (y 3).isLt; change (y 3).val < 64 at this; omega⟩) := by
  unfold k0_pay28
  simp only [pointwise]
  unfold bytes
  congr 1
  funext t
  apply Fin.ext
  fin_cases t
  · simp [ix2]
  · simp [ix2]
theorem pay29_at (a : IVec S16x128 32) (y : S1x1x64x64.Idx) : k0_pay29 a y = bytes a (ix2 (y 2) ⟨(y 3).val, by have := (y 3).isLt; change (y 3).val < 64 at this; omega⟩) := pay28_at a y

end Cert.KernelIdeal.Hand
-- ==== Proof.IExtr.lean ====
/- The two extraction loops: each collects, from the slot's tiles, the columns that the row's words name. -/
module

public import proofs.«01_k».proof.Proof.IWait
public import proofs.«01_k».proof.Proof.IVals

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (Vk Vv : S2x8x64x131072.Idx → Elt F .i8) (I : S16x192.Idx → Elt F .i32)

/-- The first `m` columns of a collected block are those that the words from position `lo` on name. -/
def Col (V : S2x8x64x131072.Idx → Elt F .i8) (r lo m : ℕ) (a : IVec S16x128 32) : Prop :=
  ∀ (d : Fin 64) (x : Fin 128), x.val < m → bytes a (ValueIdx.ix2 d x) = pick I V r (lo + x.val) d.val

/-- One update collects one more column. -/
theorem col_step (V : S2x8x64x131072.Idx → Elt F .i8) (r s lo m : ℕ) (hm : m < 128) (hp : lo + m < 192) (t : Vec F S1x1x64x128 .i8)
    (ht : ∀ (d : Fin 64) (x : Fin 128), t (ValueIdx.ix4 0 0 d x) = V (srcIx (r / 8) (r % 8) d.val (BitVec.toNat (I (wordIx r (lo + m))) / 128 * 128 + x.val)))
    (a : IVec S16x128 32) (h : Col I V r lo m a) :
    Col I V r lo (m + 1) (sel lanes (BitVec.ofNat 32 (lo + m)) (BitVec.ofNat 32 lo) (I (wordIx r (lo + m))) t a) := by
  intro d x hx
  rw [bytes_sel (lo + m) lo hp (by omega) (by omega)]
  by_cases e : x.val = lo + m - lo
  · rw [if_pos e, ht]
    have e' : x.val = m := by omega
    unfold pick
    rw [e']
    congr 2
    exact Nat.div_add_mod' _ _
  · rw [if_neg e]
    exact h d x (by omega)

/-- A row's words, its landed tiles, and the two collected blocks up to `m` columns. -/
def Row (r s lo m : ℕ) (a : IVec S16x128 32 × IVec S16x128 32) : sProp 𝕄 :=
  iprop(⌜Col I Vk r lo m a.1 ∧ Col I Vv r lo m a.2⌝ ∗ words c I ∗ slotK (F := F) c s (land Vk I r) ∗ slotV (F := F) c s (land Vv I r))

theorem tile_slot {m : Memref sig .tc .vmem S2x192x64x128 .i8} {oB : Fin 4 → ℕ} {iB : ∀ a, oB a + S1x1x64x128.size a ≤ S2x192x64x128.size a} {s j : ℕ} (h : oB = ![s, j, 0, 0]) :
    (Rect.unit (s := S2x192x64x128) oB S1x1x64x128.size iB).set ⊆ slotSet s := by
  rw [tile_set_eq h]; intro i hi
  exact mem_slotSet.mpr (mem_tileSet.mp hi).1

theorem tile_read {oB : Fin 4 → ℕ} {iB : ∀ a, oB a + S1x1x64x128.size a ≤ S2x192x64x128.size a} {s j : ℕ} (h : oB = ![s, j, 0, 0])
    (V : S2x8x64x131072.Idx → Elt F .i8) (r : ℕ) (d : Fin 64) (x : Fin 128) :
    land V I r ((Rect.unit (s := S2x192x64x128) oB S1x1x64x128.size iB).emb (ValueIdx.ix4 0 0 d x : S1x1x64x128.Idx)) = V (srcIx (r / 8) (r % 8) d.val (BitVec.toNat (I (wordIx r j)) / 128 * 128 + x.val)) := by
  obtain ⟨h1, h2, h3⟩ := dst_emb_val (iD := iB) h (ValueIdx.ix4 0 0 d x : S1x1x64x128.Idx)
  unfold land
  rw [h1, h2, h3]

/-- A load of a tile of a slot. -/
theorem wp_loadK {oB : Fin 4 → ℕ} {iB : ∀ a, oB a + S1x1x64x128.size a ≤ S2x192x64x128.size a} {s j : ℕ} (h : oB = ![s, j, 0, 0])
    {hl : bufK.view.LoadsAt (Rect.unit (s := S2x192x64x128) oB S1x1x64x128.size iB).toLoadRect} {α : Type}
    {k : Vec F S1x1x64x128 .i8 → Prog (TpuEff nD τ sig (Elt F) Λ₀ .tc) α} {Q : α → sProp 𝕄} (f : S2x192x64x128.Idx → Elt F .i8) :
    slotK (F := F) c s f ⊢ iprop((slotK (F := F) c s f -∗ wp frame (wpE (defs₀ (F := F)) Variants.none (c : Thread nD τ) none) Set.univ (k (fun y => f ((Rect.unit (s := S2x192x64x128) oB S1x1x64x128.size iB).emb y))) Q)
      -∗ wp frame (wpE (defs₀ (F := F)) Variants.none (c : Thread nD τ) none) Set.univ (.op (.load bufK (Rect.unit (s := S2x192x64x128) oB S1x1x64x128.size iB).toLoadRect hl) k) Q) := by
  have hS : (bufK.access (Rect.unit (s := S2x192x64x128) oB S1x1x64x128.size iB)).set ⊆ slotSet s := by
    have e : (bufK.access (Rect.unit (s := S2x192x64x128) oB S1x1x64x128.size iB)).set = (Rect.unit (s := S2x192x64x128) oB S1x1x64x128.size iB).set := View.set_slice_whole _ _
    rw [e]; exact tile_slot (m := bufK) h
  exact wp_load_rect Variants.none (c : Thread nD τ) none Set.univ (m := bufK) (r := Rect.unit (s := S2x192x64x128) oB S1x1x64x128.size iB) hS

/-- A load of a tile of a slot. -/
theorem wp_loadV {oB : Fin 4 → ℕ} {iB : ∀ a, oB a + S1x1x64x128.size a ≤ S2x192x64x128.size a} {s j : ℕ} (h : oB = ![s, j, 0, 0])
    {hl : bufV.view.LoadsAt (Rect.unit (s := S2x192x64x128) oB S1x1x64x128.size iB).toLoadRect} {α : Type}
    {k : Vec F S1x1x64x128 .i8 → Prog (TpuEff nD τ sig (Elt F) Λ₀ .tc) α} {Q : α → sProp 𝕄} (f : S2x192x64x128.Idx → Elt F .i8) :
    slotV (F := F) c s f ⊢ iprop((slotV (F := F) c s f -∗ wp frame (wpE (defs₀ (F := F)) Variants.none (c : Thread nD τ) none) Set.univ (k (fun y => f ((Rect.unit (s := S2x192x64x128) oB S1x1x64x128.size iB).emb y))) Q)
      -∗ wp frame (wpE (defs₀ (F := F)) Variants.none (c : Thread nD τ) none) Set.univ (.op (.load bufV (Rect.unit (s := S2x192x64x128) oB S1x1x64x128.size iB).toLoadRect hl) k) Q) := by
  have hS : (bufV.access (Rect.unit (s := S2x192x64x128) oB S1x1x64x128.size iB)).set ⊆ slotSet s := by
    have e : (bufV.access (Rect.unit (s := S2x192x64x128) oB S1x1x64x128.size iB)).set = (Rect.unit (s := S2x192x64x128) oB S1x1x64x128.size iB).set := View.set_slice_whole _ _
    rw [e]; exact tile_slot (m := bufV) h
  exact wp_load_rect Variants.none (c : Thread nD τ) none Set.univ (m := bufV) (r := Rect.unit (s := S2x192x64x128) oB S1x1x64x128.size iB) hS

/-- One position's step. -/
theorem wp_ext (r s lo m : ℕ) (hr : r < 16) (hm : m < 128) (hp : lo + m < 192) {p : BitVec 32} (hpe : p = BitVec.ofNat 32 (lo + m))
    {o0 : Fin 2 → ℕ} {i0 : ∀ a, o0 a + S1x1.size a ≤ S16x192.size a} (ho0 : o0 = ![r, lo + m])
    {oB : Fin 4 → ℕ} {iB : ∀ a, oB a + S1x1x64x128.size a ≤ S2x192x64x128.size a} (hoB : oB = ![s, lo + m, 0, 0])
    (a : IVec S16x128 32 × IVec S16x128 32) :
    Row (F := F) c Vk Vv I r s lo m a ⊢ wp frame (wpE (defs₀ (F := F)) Variants.none (c : Thread nD τ) none) Set.univ
      (ext (F := F) (Memref.whole cc0_stg0_0) bufK bufV lanes p (BitVec.ofNat 32 lo) o0 i0 oB iB a) (Row (F := F) c Vk Vv I r s lo (m + 1)) := by
  subst hpe
  unfold ext smemLoad Row words
  iintro ⟨%hc, HI, HK, HV⟩
  rw [wp_bind]
  iapply (wp_smemLoadElt Variants.none (c : Thread nD τ) none Set.univ (Finset.subset_univ _)) $$ [HI]
  · iexact HI
  iintro HI
  have hword : (((Memref.whole cc0_stg0_0 : Memref sig .tc .smem S16x192 .i32).access (Rect.unit (s := S16x192) o0 S1x1.size i0)).read (Elt F) I (Shape.Idx.first (numel1_S1x1.symm ▸ Nat.one_pos)) : Elt F .i32) = I (wordIx r (lo + m)) := by
    show I ((Rect.unit (s := S16x192) o0 S1x1.size i0).emb _) = _
    rw [word_emb ho0]
  rw [hword, wp_ret]
  imodintro
  rw [wp_bind]
  iapply (wp_loadK (F := F) c hoB) $$ [HK]
  · iexact HK
  iintro HK
  rw [wp_ret]
  imodintro
  rw [wp_bind]
  iapply (wp_loadV (F := F) c hoB) $$ [HV]
  · iexact HV
  iintro HV
  rw [wp_ret]
  imodintro
  iapply (le_wp_ret _ _ _ _ _)
  isplitl []
  · ipureintro
    exact ⟨col_step I Vk r s lo m hm hp _ (fun d x => tile_read I hoB Vk r d x) _ hc.1, col_step I Vv r s lo m hm hp _ (fun d x => tile_read I hoB Vv r d x) _ hc.2⟩
  isplitl [HI]; · iexact HI
  isplitl [HK]; · iexact HK
  iexact HV

variable (arg1 : Memref sig .tc .vmem S16x4x64 .bf16) (harg1 : arg1.IsWhole) (arg2 : Memref sig .tc .vmem S16x1x64 .bf16) (harg2 : arg2.IsWhole) (arg3 : Memref sig .tc .vmem S16x1x64 .bf16) (harg3 : arg3.IsWhole) (arg4 : Memref sig .tc .vmem S16x1x192 .f32) (harg4 : arg4.IsWhole) (arg5 : Memref sig .tc .vmem S16x1x192 .f32) (harg5 : arg5.IsWhole) (arg6 : Memref sig .tc .vmem S16x1x192 .f32) (harg6 : arg6.IsWhole) (arg9 : Memref sig .tc .vmem S16x4x64 .bf16) (harg9 : arg9.IsWhole) (arg10 : Memref sig .tc .vmem S2x8x64x192 .i8) (harg10 : arg10.IsWhole) (arg11 : Memref sig .tc .vmem S2x8x64x192 .i8) (harg11 : arg11.IsWhole) (arg12 : Memref sig .tc .vmem S16x1x192 .f32) (harg12 : arg12.IsWhole)

/-- One trip of the extraction loop over positions 0..127 collects four more columns. -/
theorem wp_t4_body (r : Fin k0_t2_loop.trips) (x1 x2 x3 x4 : BitVec 32) (x5 : BitVec 32) (k : Fin k0_t4_loop.trips) (a : IVec S16x128 32 × IVec S16x128 32) :
    Row (F := F) c Vk Vv I r.val (r.val % 2) 0 (4 * k.val) a ⊢ wp frame (wpE (defs₀ (F := F)) Variants.none (c : Thread nD τ) none) Set.univ
      (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 k a) (Row (F := F) c Vk Vv I r.val (r.val % 2) 0 (4 * (k.val + 1))) := by
  have hk : k.val < 32 := lt_of_lt_of_eq k.isLt trips4
  have hr : r.val < 16 := lt_of_lt_of_eq r.isLt trips2
  have hp : ∀ u : Fin 4, Scalar.addi (Scalar.muli (Scf.iv 0#32 1#32 k) 4#32) (BitVec.ofNat 32 u.val) = BitVec.ofNat 32 (0 + (4 * k.val + u.val)) := by
    revert k; intro k _; revert k; decide +kernel
  have ho0 : ∀ u : Fin 4, k0_off59 r k (BitVec.ofNat 32 u.val) = ![r.val, 0 + (4 * k.val + u.val)] := fun u => by
    rw [k0_off59_eq r k u]; congr 2; omega
  have hoB : ∀ u : Fin 4, k0_off60 r k (BitVec.ofNat 32 u.val) = ![r.val % 2, 0 + (4 * k.val + u.val), 0, 0] := fun u => by
    rw [off60_eq r k u]; congr 2; omega
  rw [t4_body_eq]
  rw [wp_bind]
  refine (wp_ext (F := F) c Vk Vv I r.val (r.val % 2) 0 (4 * k.val + 0) hr (by omega) (by omega) (hp 0) (ho0 0) (hoB 0) a).trans (wp_mono _ _ _ fun a1 => ?_)
  rw [wp_bind]
  refine (wp_ext (F := F) c Vk Vv I r.val (r.val % 2) 0 (4 * k.val + 1) hr (by omega) (by omega) (hp 1) (ho0 1) (hoB 1) a1).trans (wp_mono _ _ _ fun a2 => ?_)
  rw [wp_bind]
  refine (wp_ext (F := F) c Vk Vv I r.val (r.val % 2) 0 (4 * k.val + 2) hr (by omega) (by omega) (hp 2) (ho0 2) (hoB 2) a2).trans (wp_mono _ _ _ fun a3 => ?_)
  exact wp_ext (F := F) c Vk Vv I r.val (r.val % 2) 0 (4 * k.val + 3) hr (by omega) (by omega) (hp 3) (ho0 3) (hoB 3) a3

/-- The extraction loop collects positions 0..127. -/
theorem wp_t4 (r : Fin k0_t2_loop.trips) (x1 x2 x3 x4 : BitVec 32) (x5 : BitVec 32) (a : IVec S16x128 32 × IVec S16x128 32) {Q : IVec S16x128 32 × IVec S16x128 32 → sProp 𝕄} :
    iprop(Row (F := F) c Vk Vv I r.val (r.val % 2) 0 0 a ∗ (∀ b, Row (F := F) c Vk Vv I r.val (r.val % 2) 0 128 b -∗ Q b)) ⊢ wp frame (wpE (defs₀ (F := F)) Variants.none (c : Thread nD τ) none) Set.univ
      (Scf.Loop.for k0_t4_loop k0_t4_ok a (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5)) Q := by
  have h := Scf.wp_for frame (wpE (defs₀ (F := F)) Variants.none (c : Thread nD τ) none) Set.univ k0_t4_loop.lb k0_t4_loop.ub k0_t4_loop.st k0_t4_ok a (k0_t4_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5)
    (fun k b => Row (F := F) c Vk Vv I r.val (r.val % 2) 0 (4 * k) b) (fun k b => wp_t4_body c Vk Vv I arg1 harg1 arg2 harg2 arg3 harg3 arg4 harg4 arg5 harg5 arg6 harg6 arg9 harg9 arg10 harg10 arg11 harg11 arg12 harg12 r x1 x2 x3 x4 x5 k b) (Q := Q)
  rw [show Scf.trips k0_t4_loop.lb k0_t4_loop.ub k0_t4_loop.st = 32 from trips4] at h
  exact h

/-- One trip of the extraction loop over positions 128..191 collects four more columns. -/
theorem wp_t5_body (r : Fin k0_t2_loop.trips) (x1 x2 x3 x4 : BitVec 32) (x5 : IVec S16x128 32) (k : Fin k0_t5_loop.trips) (a : IVec S16x128 32 × IVec S16x128 32) :
    Row (F := F) c Vk Vv I r.val (r.val % 2) 128 (4 * k.val) a ⊢ wp frame (wpE (defs₀ (F := F)) Variants.none (c : Thread nD τ) none) Set.univ
      (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32 k a) (Row (F := F) c Vk Vv I r.val (r.val % 2) 128 (4 * (k.val + 1))) := by
  have hk : k.val < 16 := lt_of_lt_of_eq k.isLt trips5
  have hr : r.val < 16 := lt_of_lt_of_eq r.isLt trips2
  have hp : ∀ u : Fin 4, Scalar.addi (Scalar.muli (Scf.iv 32#32 1#32 k) 4#32) (BitVec.ofNat 32 u.val) = BitVec.ofNat 32 (128 + (4 * k.val + u.val)) := by
    revert k; intro k _; revert k; decide +kernel
  have ho0 : ∀ u : Fin 4, k0_off62 r k (BitVec.ofNat 32 u.val) = ![r.val, 128 + (4 * k.val + u.val)] := fun u => by
    rw [k0_off62_eq r k u]; congr 2; omega
  have hoB : ∀ u : Fin 4, k0_off63 r k (BitVec.ofNat 32 u.val) = ![r.val % 2, 128 + (4 * k.val + u.val), 0, 0] := fun u => by
    rw [off63_eq r k u]; congr 2; omega
  rw [t5_body_eq]
  rw [wp_bind]
  refine (wp_ext (F := F) c Vk Vv I r.val (r.val % 2) 128 (4 * k.val + 0) hr (by omega) (by omega) (hp 0) (ho0 0) (hoB 0) a).trans (wp_mono _ _ _ fun a1 => ?_)
  rw [wp_bind]
  refine (wp_ext (F := F) c Vk Vv I r.val (r.val % 2) 128 (4 * k.val + 1) hr (by omega) (by omega) (hp 1) (ho0 1) (hoB 1) a1).trans (wp_mono _ _ _ fun a2 => ?_)
  rw [wp_bind]
  refine (wp_ext (F := F) c Vk Vv I r.val (r.val % 2) 128 (4 * k.val + 2) hr (by omega) (by omega) (hp 2) (ho0 2) (hoB 2) a2).trans (wp_mono _ _ _ fun a3 => ?_)
  exact wp_ext (F := F) c Vk Vv I r.val (r.val % 2) 128 (4 * k.val + 3) hr (by omega) (by omega) (hp 3) (ho0 3) (hoB 3) a3

/-- The extraction loop collects positions 128..191. -/
theorem wp_t5 (r : Fin k0_t2_loop.trips) (x1 x2 x3 x4 : BitVec 32) (x5 : IVec S16x128 32) (a : IVec S16x128 32 × IVec S16x128 32) {Q : IVec S16x128 32 × IVec S16x128 32 → sProp 𝕄} :
    iprop(Row (F := F) c Vk Vv I r.val (r.val % 2) 128 0 a ∗ (∀ b, Row (F := F) c Vk Vv I r.val (r.val % 2) 128 64 b -∗ Q b)) ⊢ wp frame (wpE (defs₀ (F := F)) Variants.none (c : Thread nD τ) none) Set.univ
      (Scf.Loop.for k0_t5_loop k0_t5_ok a (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32)) Q := by
  have h := Scf.wp_for frame (wpE (defs₀ (F := F)) Variants.none (c : Thread nD τ) none) Set.univ k0_t5_loop.lb k0_t5_loop.ub k0_t5_loop.st k0_t5_ok a (k0_t5_body (F := F) (Memref.whole cc0_stg0_0) (Memref.isWhole_whole _) arg1 harg1 arg2 harg2 arg3 harg3 arg4 harg4 arg5 harg5 arg6 harg6 srcK (Memref.isWhole_whole _) srcV (Memref.isWhole_whole _) arg9 harg9 arg10 harg10 arg11 harg11 arg12 harg12 bufK (Memref.isWhole_whole _) bufV (Memref.isWhole_whole _) cc0_scratch2 lanes r x1 x2 x3 x4 x5 32#32)
    (fun k b => Row (F := F) c Vk Vv I r.val (r.val % 2) 128 (4 * k) b) (fun k b => wp_t5_body c Vk Vv I arg1 harg1 arg2 harg2 arg3 harg3 arg4 harg4 arg5 harg5 arg6 harg6 arg9 harg9 arg10 harg10 arg11 harg11 arg12 harg12 r x1 x2 x3 x4 x5 k b) (Q := Q)
  rw [show Scf.trips k0_t5_loop.lb k0_t5_loop.ub k0_t5_loop.st = 16 from trips5] at h
  exact h

end Cert.KernelIdeal.Hand
-- ==== Proof.IRow.lean ====
/- One row of the kernel: start the next row's copies, wait for this row's, collect its columns, attend. -/
module

public import proofs.«01_k».proof.Proof.IExtr

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The call's staging buffers. -/
abbrev inQ : Memref sig .tc .vmem S16x4x64 .bf16 := Memref.whole cc0_stg1_0
abbrev inKn : Memref sig .tc .vmem S16x1x64 .bf16 := Memref.whole cc0_stg2_0
abbrev inVn : Memref sig .tc .vmem S16x1x64 .bf16 := Memref.whole cc0_stg3_0
abbrev inKs : Memref sig .tc .vmem S16x1x192 .f32 := Memref.whole cc0_stg4_0
abbrev inVs : Memref sig .tc .vmem S16x1x192 .f32 := Memref.whole cc0_stg5_0
abbrev inRaw : Memref sig .tc .vmem S16x1x192 .f32 := Memref.whole cc0_stg6_0
abbrev outO : Memref sig .tc .vmem S16x4x64 .bf16 := Memref.whole cc0_stg7_0
abbrev outK : Memref sig .tc .vmem S2x8x64x192 .i8 := Memref.whole cc0_stg8_0
abbrev outV : Memref sig .tc .vmem S2x8x64x192 .i8 := Memref.whole cc0_stg9_0
abbrev outC : Memref sig .tc .vmem S16x1x192 .f32 := Memref.whole cc0_stg10_0

variable (c : Dev nD) (X : Ins F)

/-- A buffer owned whole. -/
abbrev pt {cs : CoreSpace} {s : Shape} {e : EltTy} (m : Memref sig .tc cs s e) (f : Buf (Elt F) (m.view.loc (c : Thread nD τ))) : sProp 𝕄 :=
  (m.view.loc (c : Thread nD τ) ↦[Finset.univ]{fullShare} f)

/-- A load of a rectangle of a buffer owned whole. -/
theorem wp_ld {cs : CoreSpace} {s : Shape} {e : EltTy} (m : Memref sig .tc cs s e) (r : Rect s) {hl : m.view.LoadsAt r.toLoadRect} {α : Type}
    {k : (r.shape.Idx → Elt F e) → Prog (TpuEff nD τ sig (Elt F) Λ₀ .tc) α} {Q : α → sProp 𝕄} {f : Buf (Elt F) (m.view.loc (c : Thread nD τ))}
    (v : r.shape.Idx → Elt F e) (hv : (m.access r).read (Elt F) f = v) :
    pt c m f ⊢ iprop((pt c m f -∗ wp frame (wpE (defs₀ (F := F)) Variants.none (c : Thread nD τ) none) Set.univ (k v) Q) -∗ wp frame (wpE (defs₀ (F := F)) Variants.none (c : Thread nD τ) none) Set.univ (.op (.load m r.toLoadRect hl) k) Q) := by
  subst hv
  exact wp_load_rect Variants.none (c : Thread nD τ) none Set.univ (m := m) (r := r) (Finset.subset_univ _)

/-- A store to a rectangle of a buffer owned whole. -/
theorem wp_st {cs : CoreSpace} {s : Shape} {e : EltTy} (m : Memref sig .tc cs s e) (r : Rect s) (w : r.shape.Idx → Elt F e)
    {hx : (m.access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄} {f : Buf (Elt F) (m.view.loc (c : Thread nD τ))} :
    pt c m f ⊢ iprop((pt c m ((m.access r).write (Elt F) f w Finset.univ) -∗ wp frame (wpE (defs₀ (F := F)) Variants.none (c : Thread nD τ) none) Set.univ (k ⟨⟩) Q) -∗ wp frame (wpE (defs₀ (F := F)) Variants.none (c : Thread nD τ) none) Set.univ (.op (.store m r w Finset.univ hx hm) k) Q) :=
  wp_store Variants.none (c : Thread nD τ) none Set.univ (m := m) (r := r) (Finset.subset_univ _)

/-- A buffer written whole at a rectangle holds the payload there. -/
theorem whole_write (b : Ref sig .tc) (r : Rect b.ty.shape) (f : b.ty.Contents (Elt F)) (w : r.shape.Idx → Elt F b.ty.elt) (y : r.shape.Idx) :
    ((View.whole b).slice r).write (Elt F) f w Finset.univ (r.emb y) = w y := View.write_emb_of_mem (v := (View.whole b).slice r) f w (Finset.mem_univ y)
/-- … and what it held elsewhere. -/
theorem whole_write_off (b : Ref sig .tc) (r : Rect b.ty.shape) (f : b.ty.Contents (Elt F)) (w : r.shape.Idx → Elt F b.ty.elt) (i : b.ty.shape.Idx) (h : i ∉ r.set) :
    ((View.whole b).slice r).write (Elt F) f w Finset.univ i = f i := by
  refine View.write_of_not_mem (v := (View.whole b).slice r) f w Finset.univ ?_
  intro hi
  apply h
  have := View.set_slice_whole b r
  rw [← this]
  exact hi

/-- The inputs that the attention reads. -/
def inp : sProp 𝕄 :=
  iprop(pt c inQ X.q ∗ pt c inKn X.kn ∗ pt c inVn X.vn ∗ pt c inKs X.ks ∗ pt c inVs X.vs ∗ pt c inRaw X.raw)
/-- The gathered results so far. -/
def outKV (r m : ℕ) : sProp 𝕄 :=
  iprop(∃ f g, ⌜DoneG X.I X.Vk r m f ∧ DoneG X.I X.Vv r m g⌝ ∗ pt c outK f ∗ pt c outV g)
/-- The attention's result so far. -/
def outA (r : ℕ) : sProp 𝕄 := iprop(∃ f, ⌜DoneR (rowO X) r f⌝ ∗ pt c outO f)
/-- The kept scores so far. -/
def outS (r : ℕ) : sProp 𝕄 := iprop(∃ f, ⌜DoneR (rowC X) r f⌝ ∗ pt c outC f)
/-- A row's words and its landed tiles. -/
def tiles (r : ℕ) : sProp 𝕄 := iprop(words c X.I ∗ slotK (F := F) c (r % 2) (land X.Vk X.I r) ∗ slotV (F := F) c (r % 2) (land X.Vv X.I r))
/-- The slot that row `k` uses: its copies started if there is such a row, else at rest. -/
def Ready (k : ℕ) : sProp 𝕄 :=
  if k < 16 then iprop(Fly c X.Vk X.Vv X.I (k % 2) k 192 ∗ Rest c X.Vk X.Vv (k % 2)) else Idle c X.Vk X.Vv (k % 2)

/-- Storing the collected columns 0..127 of a row gathers them. -/
theorem done128K (I : S16x192.Idx → Elt F .i32) (V : S2x8x64x131072.Idx → Elt F .i8) (r : Fin k0_t2_loop.trips) {f : S2x8x64x192.Idx → Elt F .i8} {a : IVec S16x128 32}
    (h : Col I V r.val 0 128 a) (hf : DoneG I V r.val 0 f) :
    DoneG I V r.val 128 ((outK.access (Rect.unit (s := S2x8x64x192) (k0_off61 r) S1x1x64x128.size (k0_off61_inb r))).write (Elt F) f (k0_pay22 a) Finset.univ) :=
  doneG_step (n := 128) (lo := 0) (inb := k0_off61_inb r) (off61_eq r)
    (fun y => (whole_write cc0_stg8_0 (Rect.unit (s := S2x8x64x192) (k0_off61 r) S1x1x64x128.size (k0_off61_inb r)) f (k0_pay22 a) y).trans ((pay22_at a y).trans (h _ _ (y 3).isLt)))
    (whole_write_off cc0_stg8_0 (Rect.unit (s := S2x8x64x192) (k0_off61 r) S1x1x64x128.size (k0_off61_inb r)) f (k0_pay22 a)) hf

/-- Storing the collected columns 0..127 of a row gathers them. -/
theorem done128V (I : S16x192.Idx → Elt F .i32) (V : S2x8x64x131072.Idx → Elt F .i8) (r : Fin k0_t2_loop.trips) {f : S2x8x64x192.Idx → Elt F .i8} {a : IVec S16x128 32}
    (h : Col I V r.val 0 128 a) (hf : DoneG I V r.val 0 f) :
    DoneG I V r.val 128 ((outV.access (Rect.unit (s := S2x8x64x192) (k0_off61 r) S1x1x64x128.size (k0_off61_inb r))).write (Elt F) f (k0_pay23 a) Finset.univ) :=
  doneG_step (n := 128) (lo := 0) (inb := k0_off61_inb r) (off61_eq r)
    (fun y => (whole_write cc0_stg9_0 (Rect.unit (s := S2x8x64x192) (k0_off61 r) S1x1x64x128.size (k0_off61_inb r)) f (k0_pay23 a) y).trans ((pay23_at a y).trans (h _ _ (y 3).isLt)))
    (whole_write_off cc0_stg9_0 (Rect.unit (s := S2x8x64x192) (k0_off61 r) S1x1x64x128.size (k0_off61_inb r)) f (k0_pay23 a)) hf

/-- Storing the collected columns 128..191 of a row gathers them. -/
theorem done64K (I : S16x192.Idx → Elt F .i32) (V : S2x8x64x131072.Idx → Elt F .i8) (r : Fin k0_t2_loop.trips) {f : S2x8x64x192.Idx → Elt F .i8} {a : IVec S16x128 32}
    (h : Col I V r.val 128 64 a) (hf : DoneG I V r.val 128 f) :
    DoneG I V r.val 192 ((outK.access (Rect.unit (s := S2x8x64x192) (k0_off64 r) S1x1x64x64.size (k0_off64_inb r))).write (Elt F) f (k0_pay28 a) Finset.univ) :=
  doneG_step (n := 64) (lo := 128) (inb := k0_off64_inb r) (off64_eq r)
    (fun y => (whole_write cc0_stg8_0 (Rect.unit (s := S2x8x64x192) (k0_off64 r) S1x1x64x64.size (k0_off64_inb r)) f (k0_pay28 a) y).trans ((pay28_at a y).trans (h _ _ (y 3).isLt)))
    (whole_write_off cc0_stg8_0 (Rect.unit (s := S2x8x64x192) (k0_off64 r) S1x1x64x64.size (k0_off64_inb r)) f (k0_pay28 a)) hf

/-- Storing the collected columns 128..191 of a row gathers them. -/
theorem done64V (I : S16x192.Idx → Elt F .i32) (V : S2x8x64x131072.Idx → Elt F .i8) (r : Fin k0_t2_loop.trips) {f : S2x8x64x192.Idx → Elt F .i8} {a : IVec S16x128 32}
    (h : Col I V r.val 128 64 a) (hf : DoneG I V r.val 128 f) :
    DoneG I V r.val 192 ((outV.access (Rect.unit (s := S2x8x64x192) (k0_off64 r) S1x1x64x64.size (k0_off64_inb r))).write (Elt F) f (k0_pay29 a) Finset.univ) :=
  doneG_step (n := 64) (lo := 128) (inb := k0_off64_inb r) (off64_eq r)
    (fun y => (whole_write cc0_stg9_0 (Rect.unit (s := S2x8x64x192) (k0_off64 r) S1x1x64x64.size (k0_off64_inb r)) f (k0_pay29 a) y).trans ((pay29_at a y).trans (h _ _ (y 3).isLt)))
    (whole_write_off cc0_stg9_0 (Rect.unit (s := S2x8x64x192) (k0_off64 r) S1x1x64x64.size (k0_off64_inb r)) f (k0_pay29 a)) hf

/-- The two waits of a row: this row's tiles have landed. -/
theorem wp_waits (r : Fin k0_t2_loop.trips) {α : Type} (x : α)
    {h1 : ((bufK.slice (Rect.unit (s := S2x192x64x128) (k0_off58 r) S1x192x64x128.size (k0_off58_inb r)) (fun _ => rfl)).squeeze S192x64x128 squeezes_S1x192x64x128_S192x64x128).view.WordExact}
    {h2 : ((bufK.slice (Rect.unit (s := S2x192x64x128) (k0_off58 r) S1x192x64x128.size (k0_off58_inb r)) (fun _ => rfl)).squeeze S192x64x128 squeezes_S1x192x64x128_S192x64x128).view.WordExact}
    {h3 : ((bufV.slice (Rect.unit (s := S2x192x64x128) (k0_off58 r) S1x192x64x128.size (k0_off58_inb r)) (fun _ => rfl)).squeeze S192x64x128 squeezes_S1x192x64x128_S192x64x128).view.WordExact}
    {h4 : ((bufV.slice (Rect.unit (s := S2x192x64x128) (k0_off58 r) S1x192x64x128.size (k0_off58_inb r)) (fun _ => rfl)).squeeze S192x64x128 squeezes_S1x192x64x128_S192x64x128).view.WordExact} :
    iprop(Ready c X r.val ∗ ∃ W, owes (c : Thread nD τ) 0 W) ⊢ wp frame (wpE (defs₀ (F := F)) Variants.none (c : Thread nD τ) none) Set.univ
      (do
        Prog.lift (TpuEff.waitDma2 ((cc0_scratch2.slice (Rect.unit (s := S2) (k0_off57 r) S1.size (k0_off57_inb r))).squeeze S_ squeezes_S1_S_).sem _ _ h1 h2)
        Prog.lift (TpuEff.waitDma2 ((cc0_scratch2.slice (Rect.unit (s := S2) (k0_off57 r) S1.size (k0_off57_inb r))).squeeze S_ squeezes_S1_S_).sem _ _ h3 h4)
        pure x : Prog (TpuEff nD τ sig (Elt F) Λ₀ .tc) α)
      (fun _ => iprop(Landed c X.Vk X.Vv X.I (r.val % 2) r.val ∗ ∃ W, owes (c : Thread nD τ) 0 W)) := by
  have hr : r.val < 16 := lt_of_lt_of_eq r.isLt trips2
  unfold Ready
  rw [if_pos hr]
  unfold Fly
  iintro ⟨⟨⟨HB, HE⟩, HT⟩, ⟨%W, HO⟩⟩
  rw [wp_bind]
  iapply (wp_wand _ _ _) $$ [HB HO]
  · iapply (wp_wait1 c X.Vk X.Vv X.I creditK (r.val % 2) r.val (sem_57 r))
    isplitl [HB]; · iexact HB
    iexact HO
  iintro %_ ⟨HB, ⟨%W2, HO⟩⟩
  rw [wp_bind]
  iapply (wp_wand _ _ _) $$ [HB HO]
  · iapply (wp_wait2 c X.Vk X.Vv X.I creditV (r.val % 2) r.val (sem_57 r))
    isplitl [HB]; · iexact HB
    iexact HO
  iintro %_ ⟨HB, HO⟩
  iapply (le_wp_ret _ _ _ _ _)
  isplitl [HB HT]
  · iapply (landed_of c X.Vk X.Vv X.I (r.val % 2) r.val)
    isplitl [HB]; · iexact HB
    iexact HT
  iexact HO

/-- The start of a row: the next row's copies are started, and this row's have landed. -/
theorem wp_part14 (hI : ∀ x, BitVec.toNat (X.I x) < 131072) (r : Fin k0_t2_loop.trips) :
    iprop(words c X.I ∗ Ready c X r.val ∗ Idle c X.Vk X.Vv (1 - r.val % 2) ∗ ∃ W, owes (c : Thread nD τ) 0 W) ⊢ wp frame (wpE (defs₀ (F := F)) Variants.none (c : Thread nD τ) none) Set.univ
      (k0_part14 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 0#32 1#32 r)
      (fun _ => iprop(words c X.I ∗ Landed c X.Vk X.Vv X.I (r.val % 2) r.val ∗ Ready c X (r.val + 1) ∗ ∃ W, owes (c : Thread nD τ) 0 W)) := by
  have hr : r.val < 16 := lt_of_lt_of_eq r.isLt trips2
  have hmod : (r.val + 1) % 2 = 1 - r.val % 2 := by omega
  rw [k0_part14_eq_skeleton]
  unfold k0_part14_skel
  dsimp only
  iintro ⟨HW, HR, HI, HO⟩
  by_cases h1 : k0_cond1 r = 1#1
  · rw [dif_pos h1]
    have hlt : r.val < 15 := (cond1_iff r).mp h1
    have hN : Ready c X (r.val + 1) = iprop(Fly c X.Vk X.Vv X.I (1 - r.val % 2) (r.val + 1) 192 ∗ Rest c X.Vk X.Vv (1 - r.val % 2)) := by
      unfold Ready; rw [if_pos (show r.val + 1 < 16 by omega), hmod]
    rw [hN]
    imod (idle_start c X.Vk X.Vv X.I (1 - r.val % 2) (r.val + 1)) $$ HI with ⟨HF, HT⟩
    rw [wp_bind]
    iapply (wp_t3 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) hI r h1 _)
    isplitl [HW HF]
    · isplitl [HW]; · iexact HW
      iexact HF
    iintro ⟨HW, HF⟩
    iapply (wp_wand _ _ _) $$ [HR HO]
    · iapply (wp_waits c X r _)
      isplitl [HR]; · iexact HR
      iexact HO
    iintro %_ ⟨HL, HO⟩
    isplitl [HW]; · iexact HW
    isplitl [HL]; · iexact HL
    isplitr [HO]
    · isplitl [HF]; · iexact HF
      iexact HT
    iexact HO
  · rw [dif_neg h1]
    have hlt : ¬ r.val < 15 := fun h => h1 ((cond1_iff r).mpr h)
    have hN : Ready c X (r.val + 1) = Idle c X.Vk X.Vv (1 - r.val % 2) := by
      unfold Ready; rw [if_neg (show ¬ r.val + 1 < 16 by omega), hmod]
    rw [hN]
    iapply (wp_wand _ _ _) $$ [HR HO]
    · iapply (wp_waits c X r _)
      isplitl [HR]; · iexact HR
      iexact HO
    iintro %_ ⟨HL, HO⟩
    isplitl [HW]; · iexact HW
    isplitl [HL]; · iexact HL
    isplitl [HI]; · iexact HI
    iexact HO

/-- The first 128 columns. -/
theorem wp_part15 (r : Fin k0_t2_loop.trips) (x1 x2 x3 x4 x5 : BitVec 32) :
    iprop(tiles c X r.val ∗ outKV c X r.val 0) ⊢ wp frame (wpE (defs₀ (F := F)) Variants.none (c : Thread nD τ) none) Set.univ
      (k0_part15 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r x1 x2 x3 x4 x5)
      (fun x => iprop(⌜x.2.2.2 = 32#32⌝ ∗ tiles c X r.val ∗ outKV c X r.val 128)) := by
  rw [k0_part15_eq_skeleton]
  unfold k0_part15_skel
  dsimp only
  unfold tiles outKV
  iintro ⟨⟨HW, HK, HV⟩, ⟨%f, %g, %hfg, Hf, Hg⟩⟩
  rw [wp_bind]
  iapply (wp_t4 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) r _ _ _ _ _ _)
  isplitl [HW HK HV]
  · unfold Row
    isplitl []; · ipureintro; exact ⟨fun _ _ h => absurd h (Nat.not_lt_zero _), fun _ _ h => absurd h (Nat.not_lt_zero _)⟩
    isplitl [HW]; · iexact HW
    isplitl [HK]; · iexact HK
    iexact HV
  unfold Row
  iintro %b ⟨%hb, HW, HK, HV⟩
  obtain ⟨b0, b1⟩ := b
  dsimp only
  rw [wp_bind]
  iapply (wp_ld (F := F) c outK (Rect.unit (s := S2x8x64x192) (k0_off61 r) S1x1x64x128.size (k0_off61_inb r)) _ (rfl)) $$ [Hf]
  · iexact Hf
  iintro Hf
  rw [wp_ret]
  imodintro
  rw [wp_bind]
  iapply (wp_st (F := F) c outK (Rect.unit (s := S2x8x64x192) (k0_off61 r) S1x1x64x128.size (k0_off61_inb r)) (k0_pay22 b0)) $$ [Hf]
  · iexact Hf
  iintro Hf
  rw [wp_ret]
  imodintro
  rw [wp_bind]
  iapply (wp_ld (F := F) c outV (Rect.unit (s := S2x8x64x192) (k0_off61 r) S1x1x64x128.size (k0_off61_inb r)) _ (rfl)) $$ [Hg]
  · iexact Hg
  iintro Hg
  rw [wp_ret]
  imodintro
  rw [wp_bind]
  iapply (wp_st (F := F) c outV (Rect.unit (s := S2x8x64x192) (k0_off61 r) S1x1x64x128.size (k0_off61_inb r)) (k0_pay23 b1)) $$ [Hg]
  · iexact Hg
  iintro Hg
  rw [wp_ret]
  imodintro
  iapply (le_wp_ret _ _ _ _ _)
  isplitl []; · ipureintro; rfl
  isplitl [HW HK HV]
  · isplitl [HW]; · iexact HW
    isplitl [HK]; · iexact HK
    iexact HV
  iexists _; iexists _
  isplitr [Hf Hg]
  · ipureintro
    exact ⟨done128K X.I X.Vk r hb.1 hfg.1, done128V X.I X.Vv r hb.2 hfg.2⟩
  isplitl [Hf]; · iexact Hf
  iexact Hg

set_option maxHeartbeats 2000000 in
/-- The last 64 columns, and the row's scores. -/
theorem wp_part16 (r : Fin k0_t2_loop.trips) (x1 x2 x3 x4 : BitVec 32) (x5 : IVec S16x128 32) :
    iprop(tiles c X r.val ∗ outKV c X r.val 128 ∗ inp c X) ⊢ wp frame (wpE (defs₀ (F := F)) Variants.none (c : Thread nD τ) none) Set.univ
      (k0_part16 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r x1 x2 x3 x4 x5 32#32)
      (fun x => iprop(⌜x = ⟨k0_pay30 (picked X.I X.Vv r.val), rowQ X r.val, rowS X r.val, row3 X.kn r.val⟩⌝ ∗ tiles c X r.val ∗ outKV c X (r.val + 1) 0 ∗ inp c X)) := by
  rw [k0_part16_eq_skeleton]
  unfold k0_part16_skel
  dsimp only
  unfold tiles outKV inp
  iintro ⟨⟨HW, HK, HV⟩, ⟨%f, %g, %hfg, Hf, Hg⟩, ⟨Hq, Hkn, Hvn, Hks, Hvs, Hraw⟩⟩
  rw [wp_bind]
  iapply (wp_t5 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) r _ _ _ _ _ _)
  isplitl [HW HK HV]
  · unfold Row
    isplitl []; · ipureintro; exact ⟨fun _ _ h => absurd h (Nat.not_lt_zero _), fun _ _ h => absurd h (Nat.not_lt_zero _)⟩
    isplitl [HW]; · iexact HW
    isplitl [HK]; · iexact HK
    iexact HV
  unfold Row
  iintro %b ⟨%hb, HW, HK, HV⟩
  obtain ⟨b0, b1⟩ := b
  dsimp only
  rw [wp_bind]
  iapply (wp_ld (F := F) c outK (Rect.unit (s := S2x8x64x192) (k0_off64 r) S1x1x64x64.size (k0_off64_inb r)) _ (rfl)) $$ [Hf]
  · iexact Hf
  iintro Hf
  rw [wp_ret]
  imodintro
  rw [wp_bind]
  iapply (wp_st (F := F) c outK (Rect.unit (s := S2x8x64x192) (k0_off64 r) S1x1x64x64.size (k0_off64_inb r)) (k0_pay28 b0)) $$ [Hf]
  · iexact Hf
  iintro Hf
  rw [wp_ret]
  imodintro
  rw [wp_bind]
  iapply (wp_ld (F := F) c outV (Rect.unit (s := S2x8x64x192) (k0_off64 r) S1x1x64x64.size (k0_off64_inb r)) _ (rfl)) $$ [Hg]
  · iexact Hg
  iintro Hg
  rw [wp_ret]
  imodintro
  rw [wp_bind]
  iapply (wp_st (F := F) c outV (Rect.unit (s := S2x8x64x192) (k0_off64 r) S1x1x64x64.size (k0_off64_inb r)) (k0_pay29 b1)) $$ [Hg]
  · iexact Hg
  iintro Hg
  rw [wp_ret]
  imodintro
  have hf' := done64K X.I X.Vk r hb.1 hfg.1
  have hg' := done64V X.I X.Vv r hb.2 hfg.2
  rw [wp_bind]
  iapply (wp_ld (F := F) c outK (Rect.unit (s := S2x8x64x192) (k0_off65 r) S1x1x64x192.size (k0_off65_inb r)) (picked X.I X.Vk r.val) (doneG_read (inb := k0_off65_inb r) (off65_eq r) hf')) $$ [Hf]
  · iexact Hf
  iintro Hf
  rw [wp_ret]
  imodintro
  rw [wp_bind]
  iapply (wp_ld (F := F) c outV (Rect.unit (s := S2x8x64x192) (k0_off65 r) S1x1x64x192.size (k0_off65_inb r)) (picked X.I X.Vv r.val) (doneG_read (inb := k0_off65_inb r) (off65_eq r) hg')) $$ [Hg]
  · iexact Hg
  iintro Hg
  rw [wp_ret]
  imodintro
  rw [wp_bind]
  iapply (wp_ld (F := F) c inQ (Rect.unit (s := S16x4x64) (k0_off66 r) S1x4x64.size (k0_off66_inb r)) (row3 X.q r.val) (funext fun y => congrArg _ (row_emb (inb := k0_off66_inb r) (k0_off66_eq r) y))) $$ [Hq]
  · iexact Hq
  iintro Hq
  rw [wp_ret]
  imodintro
  rw [wp_bind]
  iapply (wp_ld (F := F) c inKs (Rect.unit (s := S16x1x192) (k0_off67 r) S1x1x192.size (k0_off67_inb r)) (row3 X.ks r.val) (funext fun y => congrArg _ (row_emb (inb := k0_off67_inb r) (k0_off67_eq r) y))) $$ [Hks]
  · iexact Hks
  iintro Hks
  rw [wp_ret]
  imodintro
  rw [wp_bind]
  iapply (wp_ld (F := F) c inKn (Rect.unit (s := S16x1x64) (k0_off68 r) S1x1x64.size (k0_off68_inb r)) (row3 X.kn r.val) (funext fun y => congrArg _ (row_emb (inb := k0_off68_inb r) (k0_off68_eq r) y))) $$ [Hkn]
  · iexact Hkn
  iintro Hkn
  rw [wp_ret]
  imodintro
  iapply (le_wp_ret _ _ _ _ _)
  isplitl []; · ipureintro; rfl
  isplitl [HW HK HV]
  · isplitl [HW]; · iexact HW
    isplitl [HK]; · iexact HK
    iexact HV
  isplitl [Hf Hg]
  · iexists _; iexists _
    isplitr [Hf Hg]
    · ipureintro; exact ⟨doneG_next hf', doneG_next hg'⟩
    isplitl [Hf]; · iexact Hf
    iexact Hg
  isplitl [Hq]; · iexact Hq
  isplitl [Hkn]; · iexact Hkn
  isplitl [Hvn]; · iexact Hvn
  isplitl [Hks]; · iexact Hks
  isplitl [Hvs]; · iexact Hvs
  iexact Hraw

/-- The row's result. -/
theorem wp_part17 (r : Fin k0_t2_loop.trips) (x1 : BitVec 32) :
    iprop(inp c X ∗ outA c X r.val) ⊢ wp frame (wpE (defs₀ (F := F)) Variants.none (c : Thread nD τ) none) Set.univ
      (k0_part17 (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 r x1 (k0_pay30 (picked X.I X.Vv r.val)) (rowQ X r.val) (rowS X r.val) (row3 X.kn r.val))
      (fun x => iprop(⌜x = rowP X r.val⌝ ∗ inp c X ∗ outA c X (r.val + 1))) := by
  rw [k0_part17_eq_skeleton]
  unfold k0_part17_skel
  dsimp only
  unfold inp outA
  iintro ⟨⟨Hq, Hkn, Hvn, Hks, Hvs, Hraw⟩, ⟨%f, %hf, Hf⟩⟩
  rw [wp_bind]
  iapply (wp_ld (F := F) c inVs (Rect.unit (s := S16x1x192) (k0_off67 r) S1x1x192.size (k0_off67_inb r)) (row3 X.vs r.val) (funext fun y => congrArg _ (row_emb (inb := k0_off67_inb r) (k0_off67_eq r) y))) $$ [Hvs]
  · iexact Hvs
  iintro Hvs
  rw [wp_ret]
  imodintro
  rw [wp_bind]
  iapply (wp_ld (F := F) c inVn (Rect.unit (s := S16x1x64) (k0_off68 r) S1x1x64.size (k0_off68_inb r)) (row3 X.vn r.val) (funext fun y => congrArg _ (row_emb (inb := k0_off68_inb r) (k0_off68_eq r) y))) $$ [Hvn]
  · iexact Hvn
  iintro Hvn
  rw [wp_ret]
  imodintro
  rw [wp_bind]
  iapply (wp_ld (F := F) c outO (Rect.unit (s := S16x4x64) (k0_off66 r) S1x4x64.size (k0_off66_inb r)) _ (rfl)) $$ [Hf]
  · iexact Hf
  iintro Hf
  rw [wp_ret]
  imodintro
  rw [wp_bind]
  iapply (wp_st (F := F) c outO (Rect.unit (s := S16x4x64) (k0_off66 r) S1x4x64.size (k0_off66_inb r)) _) $$ [Hf]
  · iexact Hf
  iintro Hf
  rw [wp_ret]
  imodintro
  iapply (le_wp_ret _ _ _ _ _)
  isplitl []; · ipureintro; rfl
  isplitr [Hf]
  · isplitl [Hq]; · iexact Hq
    isplitl [Hkn]; · iexact Hkn
    isplitl [Hvn]; · iexact Hvn
    isplitl [Hks]; · iexact Hks
    isplitl [Hvs]; · iexact Hvs
    iexact Hraw
  iexists _
  isplitr [Hf]
  · ipureintro
    exact doneR_step (inb := k0_off66_inb r) (k0_off66_eq r) (whole_write cc0_stg7_0 (Rect.unit (s := S16x4x64) (k0_off66 r) S1x4x64.size (k0_off66_inb r)) f (rowO X r.val)) (whole_write_off cc0_stg7_0 (Rect.unit (s := S16x4x64) (k0_off66 r) S1x4x64.size (k0_off66_inb r)) f (rowO X r.val)) hf
  iexact Hf

/-- What the row loop keeps. -/
def Inv (k : ℕ) : sProp 𝕄 :=
  iprop(words c X.I ∗ Ready c X k ∗ Idle c X.Vk X.Vv (1 - k % 2) ∗ (∃ W, owes (c : Thread nD τ) 0 W) ∗ inp c X ∗ outKV c X k 0 ∗ outA c X k ∗ outS c X k)

/-- One row. -/
theorem wp_row (hI : ∀ x, BitVec.toNat (X.I x) < 131072) (r : Fin k0_t2_loop.trips) (u : Unit) :
    Inv c X r.val ⊢ wp frame (wpE (defs₀ (F := F)) Variants.none (c : Thread nD τ) none) Set.univ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes r u) (fun _ => Inv c X (r.val + 1)) := by
  have hr : r.val < 16 := lt_of_lt_of_eq r.isLt trips2
  have hmod : 1 - (r.val + 1) % 2 = r.val % 2 := by omega
  unfold k0_t2_body Inv
  dsimp only
  iintro ⟨HW, HR, HI, HO, Hin, HKV, HA, HS⟩
  rw [wp_bind]
  iapply (wp_wand _ _ _) $$ [HW HR HI HO]
  · iapply (wp_part14 c X hI r)
    isplitl [HW]; · iexact HW
    isplitl [HR]; · iexact HR
    isplitl [HI]; · iexact HI
    iexact HO
  iintro %x ⟨HW, HL, HR, HO⟩
  obtain ⟨x1, x2, x3, x4, x5⟩ := x
  dsimp only
  unfold Landed
  icases HL with ⟨Hsem, HK, HV, HcK, HcV⟩
  rw [wp_bind]
  iapply (wp_wand _ _ _) $$ [HW HK HV HKV]
  · iapply (wp_part15 c X r _ _ _ _ _)
    isplitr [HKV]
    · unfold tiles
      isplitl [HW]; · iexact HW
      isplitl [HK]; · iexact HK
      iexact HV
    iexact HKV
  iintro %y ⟨%hy, HT, HKV⟩
  obtain ⟨y1, y2, y3, y4⟩ := y
  dsimp only at hy
  subst hy
  dsimp only
  rw [wp_bind]
  iapply (wp_wand _ _ _) $$ [HT HKV Hin]
  · iapply (wp_part16 c X r _ _ _ _ _)
    isplitl [HT]; · iexact HT
    isplitl [HKV]; · iexact HKV
    iexact Hin
  iintro %z ⟨%hz, HT, HKV, Hin⟩
  subst hz
  dsimp only
  rw [wp_bind]
  iapply (wp_wand _ _ _) $$ [Hin HA]
  · iapply (wp_part17 c X r _)
    isplitl [Hin]; · iexact Hin
    iexact HA
  iintro %w ⟨%hw, Hin, HA⟩
  subst hw
  unfold inp outS tiles
  icases Hin with ⟨Hq, Hkn, Hvn, Hks, Hvs, Hraw⟩
  icases HS with ⟨%f, %hf, Hf⟩
  icases HT with ⟨HW, HK, HV⟩
  rw [wp_bind]
  iapply (wp_ld (F := F) c inRaw (Rect.unit (s := S16x1x192) (k0_off67 r) S1x1x192.size (k0_off67_inb r)) (row3 X.raw r.val) (funext fun y => congrArg _ (row_emb (inb := k0_off67_inb r) (k0_off67_eq r) y))) $$ [Hraw]
  · iexact Hraw
  iintro Hraw
  rw [wp_ret]
  imodintro
  rw [wp_bind]
  iapply (wp_ld (F := F) c outC (Rect.unit (s := S16x1x192) (k0_off67 r) S1x1x192.size (k0_off67_inb r)) _ (rfl)) $$ [Hf]
  · iexact Hf
  iintro Hf
  rw [wp_ret]
  imodintro
  rw [wp_bind]
  iapply (wp_st (F := F) c outC (Rect.unit (s := S16x1x192) (k0_off67 r) S1x1x192.size (k0_off67_inb r)) _) $$ [Hf]
  · iexact Hf
  iintro Hf
  rw [wp_ret]
  imodintro
  iapply (le_wp_ret _ _ _ _ _)
  isplitl [HW]; · iexact HW
  isplitl [HR]; · iexact HR
  isplitl [Hsem HK HV HcK HcV]
  · rw [hmod]
    iapply (landed_idle c X.Vk X.Vv X.I (r.val % 2) r.val)
    unfold Landed
    isplitl [Hsem]; · iexact Hsem
    isplitl [HK]; · iexact HK
    isplitl [HV]; · iexact HV
    isplitl [HcK]; · iexact HcK
    iexact HcV
  isplitl [HO]; · iexact HO
  isplitl [Hq Hkn Hvn Hks Hvs Hraw]
  · isplitl [Hq]; · iexact Hq
    isplitl [Hkn]; · iexact Hkn
    isplitl [Hvn]; · iexact Hvn
    isplitl [Hks]; · iexact Hks
    isplitl [Hvs]; · iexact Hvs
    iexact Hraw
  isplitl [HKV]; · iexact HKV
  isplitl [HA]; · iexact HA
  iexists _
  isplitr [Hf]
  · ipureintro
    exact doneR_step (inb := k0_off67_inb r) (k0_off67_eq r) (whole_write cc0_stg10_0 (Rect.unit (s := S16x1x192) (k0_off67 r) S1x1x192.size (k0_off67_inb r)) f (rowC X r.val)) (whole_write_off cc0_stg10_0 (Rect.unit (s := S16x1x192) (k0_off67 r) S1x1x192.size (k0_off67_inb r)) f (rowC X r.val)) hf
  iexact Hf

/-- All rows. -/
theorem wp_rows (hI : ∀ x, BitVec.toNat (X.I x) < 131072) {Q : PUnit → sProp 𝕄} :
    iprop(Inv c X 0 ∗ (Inv c X 16 -∗ Q ⟨⟩)) ⊢ wp frame (wpE (defs₀ (F := F)) Variants.none (c : Thread nD τ) none) Set.univ
      (Scf.Loop.for k0_t2_loop k0_t2_ok ⟨⟩ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes)) Q := by
  have h := Scf.wp_for frame (wpE (defs₀ (F := F)) Variants.none (c : Thread nD τ) none) Set.univ k0_t2_loop.lb k0_t2_loop.ub k0_t2_loop.st k0_t2_ok ⟨⟩ (k0_t2_body (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2 lanes)
    (fun k _ => Inv c X k) (fun k u => wp_row c X hI k u) (Q := Q)
  rw [show Scf.trips k0_t2_loop.lb k0_t2_loop.ub k0_t2_loop.st = 16 from trips2] at h
  iintro ⟨H1, H2⟩
  iapply h
  isplitl [H1]; · iexact H1
  iintro %_ H
  iapply H2
  iexact H

end Cert.KernelIdeal.Hand
-- ==== Proof.IBody.lean ====
/- The kernel's body: from its buffers at anything and its operands to its results. -/
module

public import proofs.«01_k».proof.Proof.IRow

@[expose] public section

set_option synthInstance.maxSize 4096

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (c : Dev nD) (X : Ins F)

/-- A buffer of two slots, split into its slots. -/
theorem bufK_split : iprop(∃ f, pt c bufK f) ⊢ iprop((∃ f, slotK (F := F) c 0 f) ∗ (∃ f, slotK (F := F) c 1 f)) := by
  iintro ⟨%f, H⟩
  ihave H := (show pt c bufK f ⊢ iprop(slotK (F := F) c 0 f ∗ slotK (F := F) c 1 f) from by
    unfold pt slotK; rw [slot_union]; exact (pointsTo_union slot_disjoint).1) $$ H
  icases H with ⟨H1, H2⟩
  isplitl [H1]; · iexists f; iexact H1
  iexists f; iexact H2
theorem bufV_split : iprop(∃ f, pt c bufV f) ⊢ iprop((∃ f, slotV (F := F) c 0 f) ∗ (∃ f, slotV (F := F) c 1 f)) := by
  iintro ⟨%f, H⟩
  ihave H := (show pt c bufV f ⊢ iprop(slotV (F := F) c 0 f ∗ slotV (F := F) c 1 f) from by
    unfold pt slotV; rw [slot_union]; exact (pointsTo_union slot_disjoint).1) $$ H
  icases H with ⟨H1, H2⟩
  isplitl [H1]; · iexists f; iexact H1
  iexists f; iexact H2
/-- The two slots, joined. -/
theorem bufK_join : iprop((∃ f, slotK (F := F) c 0 f) ∗ (∃ f, slotK (F := F) c 1 f)) ⊢ iprop(∃ f, pt c bufK f) := by
  iintro ⟨⟨%f, H1⟩, ⟨%g, H2⟩⟩
  ihave H := (show iprop(slotK (F := F) c 0 f ∗ slotK (F := F) c 1 g) ⊢ iprop(∃ f, pt c bufK f) from by
    unfold pt slotK; rw [slot_union]
    iintro H; iexists _; iapply (pointsTo_join slot_disjoint); iexact H) $$ [H1 H2]
  · isplitl [H1]; · iexact H1
    iexact H2
  iexact H
theorem bufV_join : iprop((∃ f, slotV (F := F) c 0 f) ∗ (∃ f, slotV (F := F) c 1 f)) ⊢ iprop(∃ f, pt c bufV f) := by
  iintro ⟨⟨%f, H1⟩, ⟨%g, H2⟩⟩
  ihave H := (show iprop(slotV (F := F) c 0 f ∗ slotV (F := F) c 1 g) ⊢ iprop(∃ f, pt c bufV f) from by
    unfold pt slotV; rw [slot_union]
    iintro H; iexists _; iapply (pointsTo_join slot_disjoint); iexact H) $$ [H1 H2]
  · isplitl [H1]; · iexact H1
    iexact H2
  iexact H

/-- A cache, shared between the two slots. -/
theorem cacheK_split : (cacheK c X.Vk fullShare : sProp 𝕄) ⊣⊢ iprop(cacheK c X.Vk (slotShare 0) ∗ cacheK c X.Vk (slotShare 1)) := by
  have h : (cacheK c X.Vk fullShare : sProp 𝕄) ⊣⊢ _ := pointsTo_toks_range fullShare 1
  rw [Finset.range_one, bigSep_singleton] at h
  exact h
theorem cacheV_split : (cacheV c X.Vv fullShare : sProp 𝕄) ⊣⊢ iprop(cacheV c X.Vv (slotShare 0) ∗ cacheV c X.Vv (slotShare 1)) := by
  have h : (cacheV c X.Vv fullShare : sProp 𝕄) ⊣⊢ _ := pointsTo_toks_range fullShare 1
  rw [Finset.range_one, bigSep_singleton] at h
  exact h

/-- The body's scratch, at rest: its buffers at anything, its semaphores at zero, the caches. -/
def Still : sProp 𝕄 :=
  iprop((∃ f, pt c bufK f) ∗ (∃ f, pt c bufV f) ∗ semVal ((c : Thread nD τ), .dma (cell 0)) 0 ∗ semVal ((c : Thread nD τ), .dma (cell 1)) 0
    ∗ cacheK c X.Vk fullShare ∗ cacheV c X.Vv fullShare)

theorem scratch_idle : Still c X ⊢ iprop(Idle c X.Vk X.Vv 0 ∗ Idle c X.Vk X.Vv 1) := by
  unfold Still Idle
  iintro ⟨HK, HV, H0, H1, Hk, Hv⟩
  ihave HK := (bufK_split c) $$ HK
  icases HK with ⟨HK0, HK1⟩
  ihave HV := (bufV_split c) $$ HV
  icases HV with ⟨HV0, HV1⟩
  ihave Hk := (cacheK_split c X).1 $$ Hk
  icases Hk with ⟨Hk0, Hk1⟩
  ihave Hv := (cacheV_split c X).1 $$ Hv
  icases Hv with ⟨Hv0, Hv1⟩
  isplitl [HK0 HV0 Hk0 Hv0 H0]
  · isplitl [H0]; · iexact H0
    isplitl [HK0]; · iexact HK0
    isplitl [HV0]; · iexact HV0
    isplitl [Hk0]; · iexact Hk0
    iexact Hv0
  · isplitl [H1]; · iexact H1
    isplitl [HK1]; · iexact HK1
    isplitl [HV1]; · iexact HV1
    isplitl [Hk1]; · iexact Hk1
    iexact Hv1

theorem idle_scratch : iprop(Idle c X.Vk X.Vv 0 ∗ Idle c X.Vk X.Vv 1) ⊢ Still c X := by
  unfold Still Idle
  iintro ⟨⟨H0, HK0, HV0, Hk0, Hv0⟩, ⟨H1, HK1, HV1, Hk1, Hv1⟩⟩
  isplitl [HK0 HK1]
  · iapply (bufK_join c); isplitl [HK0]; · iexact HK0
    iexact HK1
  isplitl [HV0 HV1]
  · iapply (bufV_join c); isplitl [HV0]; · iexact HV0
    iexact HV1
  isplitl [H0]; · iexact H0
  isplitl [H1]; · iexact H1
  isplitl [Hk0 Hk1]
  · iapply (cacheK_split c X).2; isplitl [Hk0]; · iexact Hk0
    iexact Hk1
  · iapply (cacheV_split c X).2; isplitl [Hv0]; · iexact Hv0
    iexact Hv1

/-- The results, all written. -/
def outs : sProp 𝕄 :=
  iprop(pt c outO (outR (rowO X)) ∗ pt c outK (outG X.I X.Vk) ∗ pt c outV (outG X.I X.Vv) ∗ pt c outC (outR (rowC X)))
/-- The results' buffers at anything. -/
def outs0 : sProp 𝕄 := iprop((∃ f, pt (F := F) c outO f) ∗ (∃ f, pt (F := F) c outK f) ∗ (∃ f, pt (F := F) c outV f) ∗ (∃ f, pt (F := F) c outC f))

theorem inv_start : iprop(words c X.I ∗ Fly c X.Vk X.Vv X.I 0 0 192 ∗ Rest c X.Vk X.Vv 0 ∗ Idle c X.Vk X.Vv 1 ∗ (∃ W, owes (c : Thread nD τ) 0 W) ∗ inp c X ∗ outs0 (F := F) c) ⊢ Inv c X 0 := by
  unfold Inv outs0 outKV outA outS
  rw [show Ready c X 0 = iprop(Fly c X.Vk X.Vv X.I (0 % 2) 0 192 ∗ Rest c X.Vk X.Vv (0 % 2)) from if_pos (by decide)]
  iintro ⟨H1, H2, H3, H4, H5, H6, ⟨%f7, H7⟩, ⟨%f8, H8⟩, ⟨%f9, H9⟩, ⟨%f10, H10⟩⟩
  isplitl [H1]; · iexact H1
  isplitl [H2 H3]
  · isplitl [H2]; · iexact H2
    iexact H3
  isplitl [H4]; · iexact H4
  isplitl [H5]; · iexact H5
  isplitl [H6]; · iexact H6
  isplitl [H8 H9]
  · iexists f8, f9
    isplitr
    · ipureintro
      exact ⟨fun i hi => absurd hi (by omega), fun i hi => absurd hi (by omega)⟩
    isplitl [H8]; · iexact H8
    iexact H9
  isplitl [H7]
  · iexists f7
    isplitr
    · ipureintro; exact fun i hi => absurd hi (Nat.not_lt_zero _)
    iexact H7
  iexists f10
  isplitr
  · ipureintro; exact fun i hi => absurd hi (Nat.not_lt_zero _)
  iexact H10

theorem inv_end : Inv c X 16 ⊢ iprop(words c X.I ∗ Still c X ∗ (∃ W, owes (c : Thread nD τ) 0 W) ∗ inp c X ∗ outs c X) := by
  unfold Inv outs outKV outA outS
  rw [show Ready c X 16 = Idle c X.Vk X.Vv (16 % 2) from if_neg (by decide)]
  iintro ⟨H1, H2, H4, H5, H6, ⟨%f8, %f9, %h89, H8, H9⟩, ⟨%f7, %h7, H7⟩, ⟨%f10, %h10, H10⟩⟩
  obtain ⟨h8, h9⟩ := h89
  rw [← doneG_all h8, ← doneG_all h9, ← doneR_all h7, ← doneR_all h10]
  isplitl [H1]; · iexact H1
  isplitl [H2 H4]
  · iapply (idle_scratch c X)
    isplitl [H2]; · iexact H2
    iexact H4
  isplitl [H5]; · iexact H5
  isplitl [H6]; · iexact H6
  isplitl [H7]; · iexact H7
  isplitl [H8]; · iexact H8
  isplitl [H9]; · iexact H9
  iexact H10

/-- The body, run on its operands and buffers, leaves the results written and everything else as it was. -/
theorem wp_body (hI : ∀ x, BitVec.toNat (X.I x) < 131072) :
    iprop(words c X.I ∗ Still c X ∗ (∃ W, owes (c : Thread nD τ) 0 W) ∗ inp c X ∗ outs0 (F := F) c) ⊢ wp frame (wpE (defs₀ (F := F)) Variants.none (c : Thread nD τ) none) Set.univ
      (cc0_gather_attend (F := F) (Memref.whole cc0_stg0_0) (Memref.isWhole_whole _) inQ (Memref.isWhole_whole _) inKn (Memref.isWhole_whole _) inVn (Memref.isWhole_whole _) inKs (Memref.isWhole_whole _) inVs (Memref.isWhole_whole _) inRaw (Memref.isWhole_whole _) srcK (Memref.isWhole_whole _) srcV (Memref.isWhole_whole _) outO (Memref.isWhole_whole _) outK (Memref.isWhole_whole _) outV (Memref.isWhole_whole _) outC (Memref.isWhole_whole _) bufK (Memref.isWhole_whole _) bufV (Memref.isWhole_whole _) cc0_scratch2) (fun _ => iprop(words c X.I ∗ Still c X ∗ (∃ W, owes (c : Thread nD τ) 0 W) ∗ inp c X ∗ outs c X)) := by
  rw [cc0_gather_attend_eq_skeleton]
  unfold cc0_gather_attend_skel
  iintro ⟨HW, HS, HO, Hin, Hout⟩
  ihave HS := (scratch_idle c X) $$ HS
  icases HS with ⟨H0, H1⟩
  imod (idle_start c X.Vk X.Vv X.I 0 0) $$ H0 with H0
  icases H0 with ⟨HF, HR⟩
  rw [wp_bind]
  iapply (wp_t1 c X.Vk X.Vv X.I inQ (Memref.isWhole_whole _) inKn (Memref.isWhole_whole _) inVn (Memref.isWhole_whole _) inKs (Memref.isWhole_whole _) inVs (Memref.isWhole_whole _) inRaw (Memref.isWhole_whole _) outO (Memref.isWhole_whole _) outK (Memref.isWhole_whole _) outV (Memref.isWhole_whole _) outC (Memref.isWhole_whole _) hI)
  isplitl [HW HF]
  · isplitl [HW]; · iexact HW
    iexact HF
  iintro ⟨HW, HF⟩
  rw [wp_bind]
  iapply (wp_rows c X hI)
  isplitl [HW HF HR H1 HO Hin Hout]
  · iapply (inv_start c X)
    isplitl [HW]; · iexact HW
    isplitl [HF]; · iexact HF
    isplitl [HR]; · iexact HR
    isplitl [H1]; · iexact H1
    isplitl [HO]; · iexact HO
    isplitl [Hin]; · iexact Hin
    iexact Hout
  iintro HI
  iapply (le_wp_ret _ _ _ _ _)
  iapply (inv_end c X)
  iexact HI

end Cert.KernelIdeal.Hand
-- ==== Proof.IFrame.lean ====
/- The kernel's run: the host lines, the call, the host lines after it; and its frame. -/
module

public import proofs.«01_k».proof.Proof.IBody
public import proofs.«01_k».proof.Proof.Gen.KernelIdeal.Frame
public import Idealize.ShloMosaic.Lib.Pipeline.ValueKit

@[expose] public section

set_option synthInstance.maxSize 4096

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.Transfers
open Idealize.ShloMosaic.Pipeline (Dat Cfg Window BodyObligation cellOf)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the call -/

set_option maxHeartbeats 800000 in
/-- @main runs the host lines, then the call, then the host lines after it. -/
theorem hmain (𝒱₀ : Variants) : Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7] [hostOps1] (by simp only [List.Forall]; exact ⟨hostOps0_sub, hostOps0_1_sub, hostOps0_2_sub, hostOps0_3_sub, hostOps0_4_sub, hostOps0_5_sub, hostOps0_6_sub, hostOps0_7_sub⟩)
    (by simp only [List.Forall]; exact ⟨hostOps0_fresh, hostOps0_1_fresh, hostOps0_2_fresh, hostOps0_3_fresh, hostOps0_4_fresh, hostOps0_5_fresh, hostOps0_6_fresh, hostOps0_7_fresh⟩) main_chain

/-- The two caches, which the body's copies read. -/
def H0 : Finset (Ref sig .tc) := {main_v7, main_v8}
theorem H0_sub : H0 ⊆ Pipeline.restRefs sig spec0 := by decide
/-- The body's two semaphores. -/
abbrev osem0 : Fin 2 → SemLoc sig := fun j => (![SemLoc.dma 11, SemLoc.dma 12] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma (cell 0)) 0 ∗ semVal ((c : Thread nD τ), SemLoc.dma (cell 1)) 0) := by
  rw [Pipeline.ownSems0_eq_of_list c osem0 [0, 1] (by decide) (by decide)]; rfl
theorem hbmPts0_eq (c : Dev nD) :
    (bigSep H0 (fun b => ((c : Thread nD τ).loc b) ↦{fullShare} V m c b) : sProp 𝕄)
      = iprop(cacheK c (V m c main_v7) fullShare ∗ cacheV c (V m c main_v8) fullShare) := by
  rw [BI.bigSep_eq_bigSepL_of_eq [main_v7, main_v8] (by decide) (by decide)]; rfl

/-- The lines after the call touch neither cache. -/
theorem sfx_but : ∀ ops ∈ ([hostOps1] : List (List (HloOp τ sig (Elt F)))), ∀ op ∈ ops,
    op.bufs ⊆ Pipeline.tailRefsBut sig Pipeline.Prefetch.none spec0 H0 := by
  intro ops hops op hop
  simp only [List.mem_cons, List.mem_nil_iff, or_false] at hops
  rcases hops with rfl
  refine Pipeline.sub_tailRefsBut Pipeline.Prefetch.none spec0 H0 op ((List.forall_iff_forall_mem.mp hostOps1_sub) op hop) (fun j => j.elim0) ?_
  simp only [hostOps1, List.mem_cons, List.mem_nil_iff, or_false] at hop
  rcases hop with rfl | rfl | rfl | rfl | rfl | rfl
  all_goals intro b hb; simp only [H0, Finset.mem_insert, Finset.mem_singleton] at hb
  all_goals rcases hb with rfl | rfl <;>
    simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)

/-! ## The body's operands -/

/-- The operands as the call finds them. -/
def ins (c : Dev nD) : Ins F where
  I := V m c main_v9
  q := V m c main_v10
  kn := V m c main_v11
  vn := V m c main_v12
  ks := V m c main_v13
  vs := V m c main_v14
  raw := V m c main_v15
  Vk := V m c main_v7
  Vv := V m c main_v8

/-- Each window is its whole array, at index 0. -/
theorem idx0 : ∀ t : Fin cfg0.N, win0_0.index t = ![0, 0] ∧ win0_1.index t = ![0, 0, 0] ∧ win0_2.index t = ![0, 0, 0] ∧ win0_3.index t = ![0, 0, 0] ∧ win0_4.index t = ![0, 0, 0] ∧ win0_5.index t = ![0, 0, 0] ∧ win0_6.index t = ![0, 0, 0] ∧ win0_7.index t = ![0, 0, 0] ∧ win0_8.index t = ![0, 0, 0, 0] ∧ win0_9.index t = ![0, 0, 0, 0] ∧ win0_10.index t = ![0, 0, 0] :=
  (by decide +kernel : ∀ t : Fin grid0.N, _)

theorem blk0_0 (f : S16x192.Idx → Elt F .i32) : ((cfg0.win 0).blk t0_0).view.read (Elt F) f = f := by
  blk_ext! [idx0 t0_0]
theorem blk0_1 (f : S16x4x64.Idx → Elt F .bf16) : ((cfg0.win 1).blk t0_0).view.read (Elt F) f = f := by
  blk_ext! [idx0 t0_0]
theorem blk0_2 (f : S16x1x64.Idx → Elt F .bf16) : ((cfg0.win 2).blk t0_0).view.read (Elt F) f = f := by
  blk_ext! [idx0 t0_0]
theorem blk0_3 (f : S16x1x64.Idx → Elt F .bf16) : ((cfg0.win 3).blk t0_0).view.read (Elt F) f = f := by
  blk_ext! [idx0 t0_0]
theorem blk0_4 (f : S16x1x192.Idx → Elt F .f32) : ((cfg0.win 4).blk t0_0).view.read (Elt F) f = f := by
  blk_ext! [idx0 t0_0]
theorem blk0_5 (f : S16x1x192.Idx → Elt F .f32) : ((cfg0.win 5).blk t0_0).view.read (Elt F) f = f := by
  blk_ext! [idx0 t0_0]
theorem blk0_6 (f : S16x1x192.Idx → Elt F .f32) : ((cfg0.win 6).blk t0_0).view.read (Elt F) f = f := by
  blk_ext! [idx0 t0_0]

/-- The call's data: its operands as they are, its results as the body leaves them. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outR (rowO (ins m c))
    | ⟨8, _⟩ => outG (ins m c).I (ins m c).Vk
    | ⟨9, _⟩ => outG (ins m c).I (ins m c).Vv
    | ⟨10, _⟩ => outR (rowC (ins m c))
  Φ _ := Pipeline.ΦD osem0 spec0 H0 (V m) c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem iblk0_0 (c : Dev nD) : iblk m c 0 t0_0 = (ins m c).I := by
  unfold iblk ins; dsimp only; generalize V m c = f; exact blk0_0 (f main_v9)
theorem stg0_0 (c : Dev nD) (d) : (owns (c : Thread nD τ) (win0_0.stage (cfg0.slots t0_0 0)) fullShare ((dats m 0 c).before 0 t0_0 d) : sProp 𝕄)
    = (((Memref.whole cc0_stg0_0 : Memref sig .tc _ S16x192 .i32).view.loc (c : Thread nD τ)) ↦[Finset.univ]{fullShare} (ins m c).I) := by
  have h : (dats m 0 c).before 0 t0_0 d = iblk m c 0 t0_0 :=
    ((dats m 0 c).before_in_eq_fetched 0 rfl (fun _ => rfl) (fun _ _ _ => rfl) (fun t => by rw [after0_0]; unfold Dat.blockOf iblk; rw [A_eq]; try rfl) t0_0 d).trans
      (by unfold Dat.fetched Dat.blockOf iblk; rw [A_eq]; try rfl)
  rw [h]
  rw [iblk0_0]
  exact owns_whole (c : Thread nD τ) cc0_stg0_0 fullShare _
theorem end0_0 (c : Dev nD) : (owns (c : Thread nD τ) (win0_0.stage (cfg0.slots t0_0 0)) fullShare ((dats m 0 c).after 0 t0_0) : sProp 𝕄)
    = (((Memref.whole cc0_stg0_0 : Memref sig .tc _ S16x192 .i32).view.loc (c : Thread nD τ)) ↦[Finset.univ]{fullShare} (ins m c).I) := by
  rw [after0_0]
  rw [iblk0_0]
  exact owns_whole (c : Thread nD τ) cc0_stg0_0 fullShare _
theorem after0_1 (c : Dev nD) (t : Fin cfg0.N) : (dats m 0 c).after 1 t = iblk m c 1 t := by dsimp only [dats]
theorem iblk0_1 (c : Dev nD) : iblk m c 1 t0_0 = (ins m c).q := by
  unfold iblk ins; dsimp only; generalize V m c = f; exact blk0_1 (f main_v10)
theorem stg0_1 (c : Dev nD) (d) : (owns (c : Thread nD τ) (win0_1.stage (cfg0.slots t0_0 1)) fullShare ((dats m 0 c).before 1 t0_0 d) : sProp 𝕄)
    = (((Memref.whole cc0_stg1_0 : Memref sig .tc _ S16x4x64 .bf16).view.loc (c : Thread nD τ)) ↦[Finset.univ]{fullShare} (ins m c).q) := by
  have h : (dats m 0 c).before 1 t0_0 d = iblk m c 1 t0_0 :=
    ((dats m 0 c).before_in_eq_fetched 1 rfl (fun _ => rfl) (fun _ _ _ => rfl) (fun t => by rw [after0_1]; unfold Dat.blockOf iblk; rw [A_eq]; try rfl) t0_0 d).trans
      (by unfold Dat.fetched Dat.blockOf iblk; rw [A_eq]; try rfl)
  rw [h]
  rw [iblk0_1]
  exact owns_whole (c : Thread nD τ) cc0_stg1_0 fullShare _
theorem end0_1 (c : Dev nD) : (owns (c : Thread nD τ) (win0_1.stage (cfg0.slots t0_0 1)) fullShare ((dats m 0 c).after 1 t0_0) : sProp 𝕄)
    = (((Memref.whole cc0_stg1_0 : Memref sig .tc _ S16x4x64 .bf16).view.loc (c : Thread nD τ)) ↦[Finset.univ]{fullShare} (ins m c).q) := by
  rw [after0_1]
  rw [iblk0_1]
  exact owns_whole (c : Thread nD τ) cc0_stg1_0 fullShare _
theorem after0_2 (c : Dev nD) (t : Fin cfg0.N) : (dats m 0 c).after 2 t = iblk m c 2 t := by dsimp only [dats]
theorem iblk0_2 (c : Dev nD) : iblk m c 2 t0_0 = (ins m c).kn := by
  unfold iblk ins; dsimp only; generalize V m c = f; exact blk0_2 (f main_v11)
theorem stg0_2 (c : Dev nD) (d) : (owns (c : Thread nD τ) (win0_2.stage (cfg0.slots t0_0 2)) fullShare ((dats m 0 c).before 2 t0_0 d) : sProp 𝕄)
    = (((Memref.whole cc0_stg2_0 : Memref sig .tc _ S16x1x64 .bf16).view.loc (c : Thread nD τ)) ↦[Finset.univ]{fullShare} (ins m c).kn) := by
  have h : (dats m 0 c).before 2 t0_0 d = iblk m c 2 t0_0 :=
    ((dats m 0 c).before_in_eq_fetched 2 rfl (fun _ => rfl) (fun _ _ _ => rfl) (fun t => by rw [after0_2]; unfold Dat.blockOf iblk; rw [A_eq]; try rfl) t0_0 d).trans
      (by unfold Dat.fetched Dat.blockOf iblk; rw [A_eq]; try rfl)
  rw [h]
  rw [iblk0_2]
  exact owns_whole (c : Thread nD τ) cc0_stg2_0 fullShare _
theorem end0_2 (c : Dev nD) : (owns (c : Thread nD τ) (win0_2.stage (cfg0.slots t0_0 2)) fullShare ((dats m 0 c).after 2 t0_0) : sProp 𝕄)
    = (((Memref.whole cc0_stg2_0 : Memref sig .tc _ S16x1x64 .bf16).view.loc (c : Thread nD τ)) ↦[Finset.univ]{fullShare} (ins m c).kn) := by
  rw [after0_2]
  rw [iblk0_2]
  exact owns_whole (c : Thread nD τ) cc0_stg2_0 fullShare _
theorem after0_3 (c : Dev nD) (t : Fin cfg0.N) : (dats m 0 c).after 3 t = iblk m c 3 t := by dsimp only [dats]
theorem iblk0_3 (c : Dev nD) : iblk m c 3 t0_0 = (ins m c).vn := by
  unfold iblk ins; dsimp only; generalize V m c = f; exact blk0_3 (f main_v12)
theorem stg0_3 (c : Dev nD) (d) : (owns (c : Thread nD τ) (win0_3.stage (cfg0.slots t0_0 3)) fullShare ((dats m 0 c).before 3 t0_0 d) : sProp 𝕄)
    = (((Memref.whole cc0_stg3_0 : Memref sig .tc _ S16x1x64 .bf16).view.loc (c : Thread nD τ)) ↦[Finset.univ]{fullShare} (ins m c).vn) := by
  have h : (dats m 0 c).before 3 t0_0 d = iblk m c 3 t0_0 :=
    ((dats m 0 c).before_in_eq_fetched 3 rfl (fun _ => rfl) (fun _ _ _ => rfl) (fun t => by rw [after0_3]; unfold Dat.blockOf iblk; rw [A_eq]; try rfl) t0_0 d).trans
      (by unfold Dat.fetched Dat.blockOf iblk; rw [A_eq]; try rfl)
  rw [h]
  rw [iblk0_3]
  exact owns_whole (c : Thread nD τ) cc0_stg3_0 fullShare _
theorem end0_3 (c : Dev nD) : (owns (c : Thread nD τ) (win0_3.stage (cfg0.slots t0_0 3)) fullShare ((dats m 0 c).after 3 t0_0) : sProp 𝕄)
    = (((Memref.whole cc0_stg3_0 : Memref sig .tc _ S16x1x64 .bf16).view.loc (c : Thread nD τ)) ↦[Finset.univ]{fullShare} (ins m c).vn) := by
  rw [after0_3]
  rw [iblk0_3]
  exact owns_whole (c : Thread nD τ) cc0_stg3_0 fullShare _
theorem after0_4 (c : Dev nD) (t : Fin cfg0.N) : (dats m 0 c).after 4 t = iblk m c 4 t := by dsimp only [dats]
theorem iblk0_4 (c : Dev nD) : iblk m c 4 t0_0 = (ins m c).ks := by
  unfold iblk ins; dsimp only; generalize V m c = f; exact blk0_4 (f main_v13)
theorem stg0_4 (c : Dev nD) (d) : (owns (c : Thread nD τ) (win0_4.stage (cfg0.slots t0_0 4)) fullShare ((dats m 0 c).before 4 t0_0 d) : sProp 𝕄)
    = (((Memref.whole cc0_stg4_0 : Memref sig .tc _ S16x1x192 .f32).view.loc (c : Thread nD τ)) ↦[Finset.univ]{fullShare} (ins m c).ks) := by
  have h : (dats m 0 c).before 4 t0_0 d = iblk m c 4 t0_0 :=
    ((dats m 0 c).before_in_eq_fetched 4 rfl (fun _ => rfl) (fun _ _ _ => rfl) (fun t => by rw [after0_4]; unfold Dat.blockOf iblk; rw [A_eq]; try rfl) t0_0 d).trans
      (by unfold Dat.fetched Dat.blockOf iblk; rw [A_eq]; try rfl)
  rw [h]
  rw [iblk0_4]
  exact owns_whole (c : Thread nD τ) cc0_stg4_0 fullShare _
theorem end0_4 (c : Dev nD) : (owns (c : Thread nD τ) (win0_4.stage (cfg0.slots t0_0 4)) fullShare ((dats m 0 c).after 4 t0_0) : sProp 𝕄)
    = (((Memref.whole cc0_stg4_0 : Memref sig .tc _ S16x1x192 .f32).view.loc (c : Thread nD τ)) ↦[Finset.univ]{fullShare} (ins m c).ks) := by
  rw [after0_4]
  rw [iblk0_4]
  exact owns_whole (c : Thread nD τ) cc0_stg4_0 fullShare _
theorem after0_5 (c : Dev nD) (t : Fin cfg0.N) : (dats m 0 c).after 5 t = iblk m c 5 t := by dsimp only [dats]
theorem iblk0_5 (c : Dev nD) : iblk m c 5 t0_0 = (ins m c).vs := by
  unfold iblk ins; dsimp only; generalize V m c = f; exact blk0_5 (f main_v14)
theorem stg0_5 (c : Dev nD) (d) : (owns (c : Thread nD τ) (win0_5.stage (cfg0.slots t0_0 5)) fullShare ((dats m 0 c).before 5 t0_0 d) : sProp 𝕄)
    = (((Memref.whole cc0_stg5_0 : Memref sig .tc _ S16x1x192 .f32).view.loc (c : Thread nD τ)) ↦[Finset.univ]{fullShare} (ins m c).vs) := by
  have h : (dats m 0 c).before 5 t0_0 d = iblk m c 5 t0_0 :=
    ((dats m 0 c).before_in_eq_fetched 5 rfl (fun _ => rfl) (fun _ _ _ => rfl) (fun t => by rw [after0_5]; unfold Dat.blockOf iblk; rw [A_eq]; try rfl) t0_0 d).trans
      (by unfold Dat.fetched Dat.blockOf iblk; rw [A_eq]; try rfl)
  rw [h]
  rw [iblk0_5]
  exact owns_whole (c : Thread nD τ) cc0_stg5_0 fullShare _
theorem end0_5 (c : Dev nD) : (owns (c : Thread nD τ) (win0_5.stage (cfg0.slots t0_0 5)) fullShare ((dats m 0 c).after 5 t0_0) : sProp 𝕄)
    = (((Memref.whole cc0_stg5_0 : Memref sig .tc _ S16x1x192 .f32).view.loc (c : Thread nD τ)) ↦[Finset.univ]{fullShare} (ins m c).vs) := by
  rw [after0_5]
  rw [iblk0_5]
  exact owns_whole (c : Thread nD τ) cc0_stg5_0 fullShare _
theorem after0_6 (c : Dev nD) (t : Fin cfg0.N) : (dats m 0 c).after 6 t = iblk m c 6 t := by dsimp only [dats]
theorem iblk0_6 (c : Dev nD) : iblk m c 6 t0_0 = (ins m c).raw := by
  unfold iblk ins; dsimp only; generalize V m c = f; exact blk0_6 (f main_v15)
theorem stg0_6 (c : Dev nD) (d) : (owns (c : Thread nD τ) (win0_6.stage (cfg0.slots t0_0 6)) fullShare ((dats m 0 c).before 6 t0_0 d) : sProp 𝕄)
    = (((Memref.whole cc0_stg6_0 : Memref sig .tc _ S16x1x192 .f32).view.loc (c : Thread nD τ)) ↦[Finset.univ]{fullShare} (ins m c).raw) := by
  have h : (dats m 0 c).before 6 t0_0 d = iblk m c 6 t0_0 :=
    ((dats m 0 c).before_in_eq_fetched 6 rfl (fun _ => rfl) (fun _ _ _ => rfl) (fun t => by rw [after0_6]; unfold Dat.blockOf iblk; rw [A_eq]; try rfl) t0_0 d).trans
      (by unfold Dat.fetched Dat.blockOf iblk; rw [A_eq]; try rfl)
  rw [h]
  rw [iblk0_6]
  exact owns_whole (c : Thread nD τ) cc0_stg6_0 fullShare _
theorem end0_6 (c : Dev nD) : (owns (c : Thread nD τ) (win0_6.stage (cfg0.slots t0_0 6)) fullShare ((dats m 0 c).after 6 t0_0) : sProp 𝕄)
    = (((Memref.whole cc0_stg6_0 : Memref sig .tc _ S16x1x192 .f32).view.loc (c : Thread nD τ)) ↦[Finset.univ]{fullShare} (ins m c).raw) := by
  rw [after0_6]
  rw [iblk0_6]
  exact owns_whole (c : Thread nD τ) cc0_stg6_0 fullShare _
theorem stg0_7 (c : Dev nD) (d) : (owns (c : Thread nD τ) (win0_7.stage (cfg0.slots t0_0 7)) fullShare d : sProp 𝕄) = pt c outO d :=
  owns_whole (c : Thread nD τ) cc0_stg7_0 fullShare _
theorem end0_7 (c : Dev nD) : (owns (c : Thread nD τ) (win0_7.stage (cfg0.slots t0_0 7)) fullShare ((dats m 0 c).after 7 t0_0) : sProp 𝕄) = pt c outO (outR (rowO (ins m c))) := by
  rw [show (dats m 0 c).after 7 t0_0 = outR (rowO (ins m c)) from by dsimp only [dats]]
  exact owns_whole (c : Thread nD τ) cc0_stg7_0 fullShare _
theorem stg0_8 (c : Dev nD) (d) : (owns (c : Thread nD τ) (win0_8.stage (cfg0.slots t0_0 8)) fullShare d : sProp 𝕄) = pt c outK d :=
  owns_whole (c : Thread nD τ) cc0_stg8_0 fullShare _
theorem end0_8 (c : Dev nD) : (owns (c : Thread nD τ) (win0_8.stage (cfg0.slots t0_0 8)) fullShare ((dats m 0 c).after 8 t0_0) : sProp 𝕄) = pt c outK (outG (ins m c).I (ins m c).Vk) := by
  rw [show (dats m 0 c).after 8 t0_0 = outG (ins m c).I (ins m c).Vk from by dsimp only [dats]]
  exact owns_whole (c : Thread nD τ) cc0_stg8_0 fullShare _
theorem stg0_9 (c : Dev nD) (d) : (owns (c : Thread nD τ) (win0_9.stage (cfg0.slots t0_0 9)) fullShare d : sProp 𝕄) = pt c outV d :=
  owns_whole (c : Thread nD τ) cc0_stg9_0 fullShare _
theorem end0_9 (c : Dev nD) : (owns (c : Thread nD τ) (win0_9.stage (cfg0.slots t0_0 9)) fullShare ((dats m 0 c).after 9 t0_0) : sProp 𝕄) = pt c outV (outG (ins m c).I (ins m c).Vv) := by
  rw [show (dats m 0 c).after 9 t0_0 = outG (ins m c).I (ins m c).Vv from by dsimp only [dats]]
  exact owns_whole (c : Thread nD τ) cc0_stg9_0 fullShare _
theorem stg0_10 (c : Dev nD) (d) : (owns (c : Thread nD τ) (win0_10.stage (cfg0.slots t0_0 10)) fullShare d : sProp 𝕄) = pt c outC d :=
  owns_whole (c : Thread nD τ) cc0_stg10_0 fullShare _
theorem end0_10 (c : Dev nD) : (owns (c : Thread nD τ) (win0_10.stage (cfg0.slots t0_0 10)) fullShare ((dats m 0 c).after 10 t0_0) : sProp 𝕄) = pt c outC (outR (rowC (ins m c))) := by
  rw [show (dats m 0 c).after 10 t0_0 = outR (rowC (ins m c)) from by dsimp only [dats]]
  exact owns_whole (c : Thread nD τ) cc0_stg10_0 fullShare _

theorem Phi_eq (c : Dev nD) (t) : (dats m 0 c).Φ t = iprop(iprop((∃ f, pt (F := F) c bufK f) ∗ (∃ f, pt (F := F) c bufV f)) ∗ (∃ r, prngReg c r)
    ∗ iprop(semVal ((c : Thread nD τ), SemLoc.dma (cell 0)) 0 ∗ semVal ((c : Thread nD τ), SemLoc.dma (cell 1)) 0)
    ∗ iprop(cacheK c (V m c main_v7) fullShare ∗ cacheV c (V m c main_v8) fullShare)) := by
  rw [show (dats m 0 c).Φ t = Pipeline.ΦD osem0 spec0 H0 (V m) c from rfl, Pipeline.ΦD_eq, scopedRest0_eq, ownSems00_eq, hbmPts0_eq]; try rfl

theorem eqEnt {P Q : sProp 𝕄} (h : P = Q) : P ⊢ Q := h ▸ .rfl

def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d)) ∗ (∃ d, owns (c : Thread nD τ) (win0_1.stage (cfg0.slots t 1)) fullShare ((dats m 0 c).before 1 t d)) ∗ (∃ d, owns (c : Thread nD τ) (win0_2.stage (cfg0.slots t 2)) fullShare ((dats m 0 c).before 2 t d)) ∗ (∃ d, owns (c : Thread nD τ) (win0_3.stage (cfg0.slots t 3)) fullShare ((dats m 0 c).before 3 t d)) ∗ (∃ d, owns (c : Thread nD τ) (win0_4.stage (cfg0.slots t 4)) fullShare ((dats m 0 c).before 4 t d)) ∗ (∃ d, owns (c : Thread nD τ) (win0_5.stage (cfg0.slots t 5)) fullShare ((dats m 0 c).before 5 t d)) ∗ (∃ d, owns (c : Thread nD τ) (win0_6.stage (cfg0.slots t 6)) fullShare ((dats m 0 c).before 6 t d)) ∗ (∃ d, owns (c : Thread nD τ) (win0_7.stage (cfg0.slots t 7)) fullShare ((dats m 0 c).before 7 t d)) ∗ (∃ d, owns (c : Thread nD τ) (win0_8.stage (cfg0.slots t 8)) fullShare ((dats m 0 c).before 8 t d)) ∗ (∃ d, owns (c : Thread nD τ) (win0_9.stage (cfg0.slots t 9)) fullShare ((dats m 0 c).before 9 t d)) ∗ (∃ d, owns (c : Thread nD τ) (win0_10.stage (cfg0.slots t 10)) fullShare ((dats m 0 c).before 10 t d)))
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t) ∗ owns (c : Thread nD τ) (win0_1.stage (cfg0.slots t 1)) fullShare ((dats m 0 c).after 1 t) ∗ owns (c : Thread nD τ) (win0_2.stage (cfg0.slots t 2)) fullShare ((dats m 0 c).after 2 t) ∗ owns (c : Thread nD τ) (win0_3.stage (cfg0.slots t 3)) fullShare ((dats m 0 c).after 3 t) ∗ owns (c : Thread nD τ) (win0_4.stage (cfg0.slots t 4)) fullShare ((dats m 0 c).after 4 t) ∗ owns (c : Thread nD τ) (win0_5.stage (cfg0.slots t 5)) fullShare ((dats m 0 c).after 5 t) ∗ owns (c : Thread nD τ) (win0_6.stage (cfg0.slots t 6)) fullShare ((dats m 0 c).after 6 t) ∗ owns (c : Thread nD τ) (win0_7.stage (cfg0.slots t 7)) fullShare ((dats m 0 c).after 7 t) ∗ owns (c : Thread nD τ) (win0_8.stage (cfg0.slots t 8)) fullShare ((dats m 0 c).after 8 t) ∗ owns (c : Thread nD τ) (win0_9.stage (cfg0.slots t 9)) fullShare ((dats m 0 c).after 9 t) ∗ owns (c : Thread nD τ) (win0_10.stage (cfg0.slots t 10)) fullShare ((dats m 0 c).after 10 t))

set_option maxHeartbeats 2000000 in
/-- The body keeps its promise. -/
theorem sound_body (hI : ∀ c x, BitVec.toNat ((ins m c).I x) < 131072) (c : Dev nD) (t : Fin cfg0.N) :
    bodyPre m c t ⊢ wp frame (wpE (defs₀ (F := F)) Variants.none c none) Set.univ (bodyAt0 t) (fun _ => bodyPost m c t) := by
  rw [fin_N0 t]
  unfold bodyPre bodyPost
  rw [Phi_eq, Phi_eq]
  unfold Dat.owesAt Pipeline.owesWithin
  rw [show (dats m 0 c).owed (Fin.castSucc t0_0) = 0 from rfl, show (dats m 0 c).owed (Fin.succ t0_0) = 0 from rfl]
  iintro ⟨⟨⟨HK, HV⟩, Hg, ⟨Hs0, Hs1⟩, ⟨Hk, Hv⟩⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  ihave H0 := (eqEnt (stg0_0 m c _)) $$ H0
  ihave H1 := (eqEnt (stg0_1 m c _)) $$ H1
  ihave H2 := (eqEnt (stg0_2 m c _)) $$ H2
  ihave H3 := (eqEnt (stg0_3 m c _)) $$ H3
  ihave H4 := (eqEnt (stg0_4 m c _)) $$ H4
  ihave H5 := (eqEnt (stg0_5 m c _)) $$ H5
  ihave H6 := (eqEnt (stg0_6 m c _)) $$ H6
  ihave H7 := (eqEnt (stg0_7 c _)) $$ H7
  ihave H8 := (eqEnt (stg0_8 c _)) $$ H8
  ihave H9 := (eqEnt (stg0_9 c _)) $$ H9
  ihave H10 := (eqEnt (stg0_10 c _)) $$ H10
  iapply (wp_wand _ _ _) $$ [HK HV Hs0 Hs1 Hk Hv HW H0 H1 H2 H3 H4 H5 H6 H7 H8 H9 H10]
  · iapply (wp_body c (ins m c) (hI c))
    unfold Still inp outs0
    isplitl [H0]; · iexact H0
    isplitl [HK HV Hs0 Hs1 Hk Hv]
    · isplitl [HK]; · iexact HK
      isplitl [HV]; · iexact HV
      isplitl [Hs0]; · iexact Hs0
      isplitl [Hs1]; · iexact Hs1
      isplitl [Hk]; · iexact Hk
      iexact Hv
    isplitl [HW]; · iexists W; iexact HW
    isplitl [H1 H2 H3 H4 H5 H6]
    · isplitl [H1]; · iexact H1
      isplitl [H2]; · iexact H2
      isplitl [H3]; · iexact H3
      isplitl [H4]; · iexact H4
      isplitl [H5]; · iexact H5
      iexact H6
    isplitl [H7]; · iexists _; iexact H7
    isplitl [H8]; · iexists _; iexact H8
    isplitl [H9]; · iexists _; iexact H9
    iexists _; iexact H10
  unfold Still inp outs
  iintro %_ ⟨H0, ⟨HK, HV, Hs0, Hs1, Hk, Hv⟩, ⟨%W', HW⟩, ⟨H1, H2, H3, H4, H5, H6⟩, ⟨H7, H8, H9, H10⟩⟩
  isplitl [HK HV Hg Hs0 Hs1 Hk Hv]
  · isplitl [HK HV]
    · isplitl [HK]; · iexact HK
      iexact HV
    isplitl [Hg]; · iexact Hg
    isplitl [Hs0 Hs1]
    · isplitl [Hs0]; · iexact Hs0
      iexact Hs1
    isplitl [Hk]; · iexact Hk
    iexact Hv
  isplitl [HW]
  · iexists W'; isplitr; · ipureintro; exact fun _ _ => Or.inl trivial
    iexact HW
  isplitl [H0]
  · iapply (eqEnt (end0_0 m c).symm); iexact H0
  isplitl [H1]
  · iapply (eqEnt (end0_1 m c).symm); iexact H1
  isplitl [H2]
  · iapply (eqEnt (end0_2 m c).symm); iexact H2
  isplitl [H3]
  · iapply (eqEnt (end0_3 m c).symm); iexact H3
  isplitl [H4]
  · iapply (eqEnt (end0_4 m c).symm); iexact H4
  isplitl [H5]
  · iapply (eqEnt (end0_5 m c).symm); iexact H5
  isplitl [H6]
  · iapply (eqEnt (end0_6 m c).symm); iexact H6
  isplitl [H7]
  · iapply (eqEnt (end0_7 m c).symm); iexact H7
  isplitl [H8]
  · iapply (eqEnt (end0_8 m c).symm); iexact H8
  isplitl [H9]
  · iapply (eqEnt (end0_9 m c).symm); iexact H9
  iapply (eqEnt (end0_10 m c).symm); iexact H10

theorem defs₀_row (t : Fin cfg0.N) :
    defs₀ (F := F) .tc cfg0.body (cfg0.bodyArgs t (cfg0.slots t)) = bodyAt0 t := by
  unfold defs₀; rw [Defs.onTc_tc]

theorem body_obligation (hI : ∀ c x, BitVec.toNat ((ins m c).I x) < 131072) (c : Dev nD) : BodyObligation (dats (F := F) m 0 c) (defs₀ (F := F)) Variants.none () Set.univ := fun t => by
  rw [bigSep_W0, bigSep_W0, defs₀_row]
  exact triple_restated (sound_body m hI c t) rfl .rfl fun _ => .rfl

/-! ## The run and the frame -/

set_option maxHeartbeats 4000000 in
set_option backward.isDefEq.respectTransparency.types false in
/-- The whole program runs: the call's arrays end as the data say, the other buffers as the host lines leave them, every semaphore at zero. -/
theorem run_main (hI : ∀ c x, BitVec.toNat ((ins m c).I x) < 131072) :
    θ_run defs (onTc (τ := τ) (main (F := F))) (s₀ m ρ) (fun r => Pipeline.FramePost cfgs (dats m) 0 (Pipeline.afterTail₀ cfgs (dats m) 0 (V0 m) [hostOps1]) r ∧ r.2.sem = fun _ => 0) :=
  Pipeline.θ_run_frame_dma_around (Q' := _) cfgs (dats m) (0 : Fin 1) launch0 osem0 defs₀ Variants.none ownSemFacts0 H0 H0_sub m ρ main
    (hbody := fun c => (body_obligation m hI c).loose) (hshare := fun c => (dats m 0 c).share_full fun _ => rfl)
    (howed := fun _ _ => rfl) (V₀ := V0 m) (opss := [hostOps1]) (hsub := sfx_but) (hfresh := sfx_fresh) (hkeep := sfx_keeps)
    (hmain := hmain m Variants.none) (hA := A_eq m) (hin := fun _ => .rfl) (hout := fun _ => .rfl)

/-- A buffer that is no array of the call and no result of a later line ends as the call found it. -/
theorem tail_keep (c : Dev nD) (b : Ref sig .tc) (h1 : ∀ w, Pipeline.arrRef spec0 w ≠ b)
    (h2 : b ≠ main_v17 ∧ b ≠ main_v18 ∧ b ≠ main_v19 ∧ b ≠ main_v20 ∧ b ≠ main_v21 ∧ b ≠ main_v22) :
    Pipeline.afterTail₀ cfgs (dats m) 0 (V0 m) [hostOps1] c b = V m c b := by
  obtain ⟨a1, a2, a3, a4, a5, a6⟩ := h2
  unfold Pipeline.afterTail₀
  rw [StableHlo.after_of_forall_not_mem (b := Proc.devRef .tc b) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      exact ⟨StableHlo.devRef_ne_of_ne a1, StableHlo.devRef_ne_of_ne a2, StableHlo.devRef_ne_of_ne a3, StableHlo.devRef_ne_of_ne a4, StableHlo.devRef_ne_of_ne a5, StableHlo.devRef_ne_of_ne a6⟩)),
    Pipeline.withArrays_of_ne _ c (V0 m c) _ b h1]

theorem frame_at {r : PUnit × MemSt nD τ sig (Elt F)} (h : Pipeline.FramePost cfgs (dats m) 0 (Pipeline.afterTail₀ cfgs (dats m) 0 (V0 m) [hostOps1]) r)
    (c : Dev nD) (b : Ref sig .tc) (hb : b ∈ Pipeline.restRefs sig spec0) (h1 : ∀ w, Pipeline.arrRef spec0 w ≠ b)
    (h2 : b ≠ main_v17 ∧ b ≠ main_v18 ∧ b ≠ main_v19 ∧ b ≠ main_v20 ∧ b ≠ main_v21 ∧ b ≠ main_v22) :
    r.2.mem ((c : Thread nD τ).loc b) = V m c b :=
  ((h c).2 b hb).trans (tail_keep m c b h1 h2)

/-- The arguments end as launched. -/
theorem args_keep {r : PUnit × MemSt nD τ sig (Elt F)} (h : Pipeline.FramePost cfgs (dats m) 0 (Pipeline.afterTail₀ cfgs (dats m) 0 (V0 m) [hostOps1]) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(frame_at m h c main_arg0 (Pipeline.mem_restRefs_of main_arg0 (by decide) (by decide)) (by decide) (by decide)).trans (V_main_arg0 m c),
    (frame_at m h c main_arg1 (Pipeline.mem_restRefs_of main_arg1 (by decide) (by decide)) (by decide) (by decide)).trans (V_main_arg1 m c),
    (frame_at m h c main_arg2 (Pipeline.mem_restRefs_of main_arg2 (by decide) (by decide)) (by decide) (by decide)).trans (V_main_arg2 m c),
    (frame_at m h c main_arg3 (Pipeline.mem_restRefs_of main_arg3 (by decide) (by decide)) (by decide) (by decide)).trans (V_main_arg3 m c),
    (frame_at m h c main_arg4 (Pipeline.mem_restRefs_of main_arg4 (by decide) (by decide)) (by decide) (by decide)).trans (V_main_arg4 m c),
    (frame_at m h c main_arg5 (Pipeline.mem_restRefs_of main_arg5 (by decide) (by decide)) (by decide) (by decide)).trans (V_main_arg5 m c),
    (frame_at m h c main_arg6 (Pipeline.mem_restRefs_of main_arg6 (by decide) (by decide)) (by decide) (by decide)).trans (V_main_arg6 m c),
    (frame_at m h c main_arg7 (Pipeline.mem_restRefs_of main_arg7 (by decide) (by decide)) (by decide) (by decide)).trans (V_main_arg7 m c)⟩

/-- The frame: the program runs, its arguments end as launched, every semaphore at zero. -/
theorem frame_of (hI : ∀ c x, BitVec.toNat ((ins m c).I x) < 131072) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c => args_keep m h.1 c, h.2⟩) (run_main m ρ hI)

end Cert.KernelIdeal.Hand
-- ==== Proof.IHost.lean ====
/- What the host lines before the call leave: the kept positions, in range. -/
module
public import proofs.«01_k».proof.Proof.IFrame
public import proofs.«01_k».proof.Proof.KSort
public import Idealize.ShloMosaic.Lib.StableHlo.RunRead

@[expose] public section

namespace Cert.KernelIdeal.Hand

open Cert.KernelIdeal Cert.KernelIdeal.Gen
open Idealize.ShloMosaic hiding ix2 ix3 ix4
open Idealize.ShloMosaic.ValueIdx
open Idealize.SL.Sem

set_option maxRecDepth 16384

noncomputable section

variable {F : FTy → Type} [FloatOps F]
variable (m : (ℓ : Loc nD τ sig) → Buf (Elt F) ℓ)

/-- The kept positions: the greatest of the pooled scores, in position order. -/
def kix (c : Dev nD) : IVec S2x8x192 32 :=
  Host.sort S2x8x192 2 comparator_i32_d2
    (Host.topK S2x8x192 2 (FloatOps.cmpfTotal CmpDirection.gt)
      (Host.reduceWindowAdd ![1, 1, 7] ![1, 1, 1] ![0, 0, 3] ![0, 0, 3] (m (c, Proc.tc.devRef main_arg7))
        (constant (F := F) S_ FTy.f32 0#32) reduceWindows_S2x8x131072_S2x8x131072_w1s1p0_0_w1s1p0_0_w7s1p3_3 h_S_)
      sliceFits_S2x8x131072_S2x8x192).2

/-- A kept position is a position of the cache. -/
theorem kix_lt (c : Dev nD) (j : S2x8x192.Idx) : (kix m c j).toNat < 131072 :=
  Cert.Hand.sort_mem _ _ (fun w : BitVec 32 => w.toNat < 131072)
    (fun i => Cert.Hand.topK_lt (s := S2x8x131072) (d := 2) (by decide) _ _ _ 131072 rfl i) j

/-- The call's first operand: the kept positions, one row for each batch and group. -/
theorem V_v9 (c : Dev nD) : V m c main_v9 = shapeCast S16x192 (kix m c) shapeCasts_S2x8x192_S16x192 := by
  show StableHlo.after _ (fun b => m (c, b)) (Proc.devRef .tc main_v9) = _
  simp only [List.flatten_cons, List.flatten_nil, List.append_nil]
  after_reads_simp
  rfl

/-- Every position that the kernel reads is a position of the cache. -/
theorem ins_lt (c : Dev nD) (x : S16x192.Idx) : BitVec.toNat ((ins m c).I x) < 131072 := by
  have h : (ins m c).I = V m c main_v9 := by unfold ins; dsimp only
  rw [h, V_v9 m c]
  exact kix_lt m c _

end

end Cert.KernelIdeal.Hand
-- ==== Proof.Take.lean ====
/- The rows that a batched gather takes: what the three gathers of the two programs read, in range. -/
module

public import Idealize.ShloMosaic.Lib.Pointwise
public import Idealize.ShloMosaic.Lib.ReduceAll
public import Idealize.ShloMosaic.Lib.Affine
public import Idealize.ShloMosaic.Lib.Tactic.WordOmega

@[expose] public section

set_option maxRecDepth 16384

noncomputable section

namespace Cert.Hand

open Idealize.ShloMosaic

variable {α : Type}

/-- A word in range, as the gathers read it: signed, and clamped to the last row. -/
theorem clamp_eq (w : BitVec 32) (h : w.toNat < 131072) : min w.toInt.toNat (131072 - 1) = w.toNat := by
  have e : w.toInt = (w.toNat : Int) := by
    rw [BitVec.toInt_eq_toNat_cond, if_pos (by omega)]
  rw [e]; omega

/-- A gather along the last axis of a `[2, 8, 131072]` array, by words for each of its rows. -/
abbrev lastDims (wf : GatherDims.WF ⟨3, ![2, 8, 131072]⟩ ⟨4, ![2, 8, 192, 1]⟩ ⟨3, ![2, 8, 192]⟩ [] [2] [0, 1] [2] [0, 1] 3 ![1, 1, 1]) :
    GatherDims ⟨3, ![2, 8, 131072]⟩ ⟨4, ![2, 8, 192, 1]⟩ ⟨3, ![2, 8, 192]⟩ where
  offsetDims := []
  collapsedSliceDims := [2]
  operandBatchingDims := [0, 1]
  startIndicesBatchingDims := [0, 1]
  startIndexMap := [2]
  indexVectorDim := 3
  sliceSizes := ![1, 1, 1]
  wf := wf

/-- That gather at an index: the operand at the word's row. -/
theorem gather_last (wf) (x : (⟨3, ![2, 8, 131072]⟩ : Shape).Idx → α) (W : IVec ⟨4, ![2, 8, 192, 1]⟩ 32)
    (hW : ∀ i, (W i).toNat < 131072) (a : Fin 2) (b : Fin 8) (c : Fin 192) :
    Host.gather (lastDims wf) x W (ix3 a b c) = x (ix3 a b ⟨(W (ix4 a b c 0)).toNat, hW _⟩) := by
  unfold Host.gather
  congr 1
  funext t
  refine Fin.ext ?_
  have h01 : t = 0 ∨ t = 1 ∨ t = 2 := by
    revert t; decide
  show (lastDims wf).start (ix3 a b c) W t + (lastDims wf).batchCoord (ix3 a b c) t + (lastDims wf).offCoord (ix3 a b c) t = _
  rcases h01 with rfl | rfl | rfl
  · rw [GatherDims.start_batching _ _ _ _ (show (0 : Fin 3) ∈ ([0, 1] : List (Fin 3)) by decide)]
    exact Nat.zero_add _
  · rw [GatherDims.start_batching _ _ _ _ (show (1 : Fin 3) ∈ ([0, 1] : List (Fin 3)) by decide)]
    exact Nat.zero_add _
  · refine Eq.trans (b := min (W (ix4 a b c 0)).toInt.toNat (131072 - 1)) ?_ (clamp_eq _ (hW _))
    rw [GatherDims.batchCoord_eq_zero _ _ _ (show (2 : Fin 3) ∉ ([0, 1] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (2 : Fin 3) ∈ (lastDims wf).startIndexMap from List.mem_singleton.mpr rfl)]
    have hsi : (lastDims wf).siIdx (ix3 a b c) ⟨List.idxOf (2 : Fin 3) (lastDims wf).startIndexMap,
        List.idxOf_lt_length_iff.2 (List.mem_singleton.mpr rfl)⟩ = (ix4 a b c 0) := by
      funext b; refine Fin.ext ?_
      match b with
      | ⟨0, _⟩ => rfl
      | ⟨1, _⟩ => rfl
      | ⟨2, _⟩ => rfl
      | ⟨3, _⟩ => rfl
    rw [hsi]
    rfl

/-- A gather along the middle axis of a `[2, 131072, 8]` array, by words for each of its columns. -/
abbrev midDims (wf : GatherDims.WF ⟨3, ![2, 131072, 8]⟩ ⟨4, ![2, 192, 8, 1]⟩ ⟨3, ![2, 192, 8]⟩ [] [1] [0, 2] [1] [0, 2] 3 ![1, 1, 1]) :
    GatherDims ⟨3, ![2, 131072, 8]⟩ ⟨4, ![2, 192, 8, 1]⟩ ⟨3, ![2, 192, 8]⟩ where
  offsetDims := []
  collapsedSliceDims := [1]
  operandBatchingDims := [0, 2]
  startIndicesBatchingDims := [0, 2]
  startIndexMap := [1]
  indexVectorDim := 3
  sliceSizes := ![1, 1, 1]
  wf := wf

/-- That gather at an index: the operand at the word's row. -/
theorem gather_mid (wf) (x : (⟨3, ![2, 131072, 8]⟩ : Shape).Idx → α) (W : IVec ⟨4, ![2, 192, 8, 1]⟩ 32)
    (hW : ∀ i, (W i).toNat < 131072) (a : Fin 2) (b : Fin 192) (c : Fin 8) :
    Host.gather (midDims wf) x W (ix3 a b c) = x (ix3 a ⟨(W (ix4 a b c 0)).toNat, hW _⟩ c) := by
  unfold Host.gather
  congr 1
  funext t
  refine Fin.ext ?_
  have h01 : t = 0 ∨ t = 1 ∨ t = 2 := by
    revert t; decide
  show (midDims wf).start (ix3 a b c) W t + (midDims wf).batchCoord (ix3 a b c) t + (midDims wf).offCoord (ix3 a b c) t = _
  rcases h01 with rfl | rfl | rfl
  · rw [GatherDims.start_batching _ _ _ _ (show (0 : Fin 3) ∈ ([0, 2] : List (Fin 3)) by decide)]
    exact Nat.zero_add _
  · refine Eq.trans (b := min (W (ix4 a b c 0)).toInt.toNat (131072 - 1)) ?_ (clamp_eq _ (hW _))
    rw [GatherDims.batchCoord_eq_zero _ _ _ (show (1 : Fin 3) ∉ ([0, 2] : List (Fin 3)) by decide),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (midDims wf).startIndexMap from List.mem_singleton.mpr rfl)]
    have hsi : (midDims wf).siIdx (ix3 a b c) ⟨List.idxOf (1 : Fin 3) (midDims wf).startIndexMap,
        List.idxOf_lt_length_iff.2 (List.mem_singleton.mpr rfl)⟩ = (ix4 a b c 0) := by
      funext b; refine Fin.ext ?_
      match b with
      | ⟨0, _⟩ => rfl
      | ⟨1, _⟩ => rfl
      | ⟨2, _⟩ => rfl
      | ⟨3, _⟩ => rfl
    rw [hsi]
    rfl
  · rw [GatherDims.start_batching _ _ _ _ (show (2 : Fin 3) ∈ ([0, 2] : List (Fin 3)) by decide)]
    exact Nat.zero_add _

/-- A gather along the second axis of a `[2, 131072, 8, 64]` array: whole rows of 64. -/
abbrev mid4Dims (wf : GatherDims.WF ⟨4, ![2, 131072, 8, 64]⟩ ⟨4, ![2, 192, 8, 1]⟩ ⟨4, ![2, 192, 8, 64]⟩ [3] [1] [0, 2] [1] [0, 2] 3 ![1, 1, 1, 64]) :
    GatherDims ⟨4, ![2, 131072, 8, 64]⟩ ⟨4, ![2, 192, 8, 1]⟩ ⟨4, ![2, 192, 8, 64]⟩ where
  offsetDims := [3]
  collapsedSliceDims := [1]
  operandBatchingDims := [0, 2]
  startIndicesBatchingDims := [0, 2]
  startIndexMap := [1]
  indexVectorDim := 3
  sliceSizes := ![1, 1, 1, 64]
  wf := wf

/-- That gather at an index: the operand at the word's row. -/
theorem gather_mid4 (wf) (x : (⟨4, ![2, 131072, 8, 64]⟩ : Shape).Idx → α) (W : IVec ⟨4, ![2, 192, 8, 1]⟩ 32)
    (hW : ∀ i, (W i).toNat < 131072) (a : Fin 2) (b : Fin 192) (c : Fin 8) (d : Fin 64) :
    Host.gather (mid4Dims wf) x W (ix4 a b c d) = x (ix4 a ⟨(W (ix4 a b c 0)).toNat, hW _⟩ c d) := by
  unfold Host.gather
  congr 1
  funext t
  refine Fin.ext ?_
  have h01 : t = 0 ∨ t = 1 ∨ t = 2 ∨ t = 3 := by
    revert t; decide
  show (mid4Dims wf).start (ix4 a b c d) W t + (mid4Dims wf).batchCoord (ix4 a b c d) t + (mid4Dims wf).offCoord (ix4 a b c d) t = _
  rcases h01 with rfl | rfl | rfl | rfl
  · rw [GatherDims.start_batching _ _ _ _ (show (0 : Fin 4) ∈ ([0, 2] : List (Fin 4)) by decide)]
    exact Nat.zero_add _
  · refine Eq.trans (b := min (W (ix4 a b c 0)).toInt.toNat (131072 - 1)) ?_ (clamp_eq _ (hW _))
    rw [GatherDims.batchCoord_eq_zero _ _ _ (show (1 : Fin 4) ∉ ([0, 2] : List (Fin 4)) by decide),
      GatherDims.offCoord_eq_zero _ _ _ (fun h => ((GatherDims.mem_sKept _ _).mp h).1 (List.mem_singleton.mpr rfl))]
    simp only [Nat.add_zero]
    unfold GatherDims.start
    rw [dif_pos (show (1 : Fin 4) ∈ (mid4Dims wf).startIndexMap from List.mem_singleton.mpr rfl)]
    have hsi : (mid4Dims wf).siIdx (ix4 a b c d) ⟨List.idxOf (1 : Fin 4) (mid4Dims wf).startIndexMap,
        List.idxOf_lt_length_iff.2 (List.mem_singleton.mpr rfl)⟩ = (ix4 a b c 0) := by
      funext b; refine Fin.ext ?_
      match b with
      | ⟨0, _⟩ => rfl
      | ⟨1, _⟩ => rfl
      | ⟨2, _⟩ => rfl
      | ⟨3, _⟩ => rfl
    rw [hsi]
    rfl
  · rw [GatherDims.start_batching _ _ _ _ (show (2 : Fin 4) ∈ ([0, 2] : List (Fin 4)) by decide)]
    exact Nat.zero_add _
  · rw [GatherDims.batchCoord_eq_zero _ _ _ (show (3 : Fin 4) ∉ ([0, 2] : List (Fin 4)) by decide)]
    unfold GatherDims.start
    rw [dif_neg (show (3 : Fin 4) ∉ (mid4Dims wf).startIndexMap from (show (3 : Fin 4) ∉ ([1] : List (Fin 4)) by decide))]
    exact Nat.zero_add _

/-- Of a mask of words in range, every element is set. -/
theorem mask_one {si u v : Shape} {dims : List (Fin si.rank)} (W lo hi : IVec si 32) (init : IVec v 1) (h : si.ReducesTo dims u) (hu)
    (hlo : ∀ i, lo i = 0#32) (hhi : ∀ i, hi i = 131071#32) (hW : ∀ i, (W i).toNat < 131072)
    (hinit : init (Shape.Idx.first hu) = 1#1) (j : u.Idx) :
    Host.reduce IntOp.andi (andi (cmpi .sge W lo) (cmpi .sle W hi)) init h hu j = 1#1 := by
  refine Host.reduce_andi_one _ _ _ _ _ hinit fun i => ?_
  have hi' := hW i
  pointwise
  rw [hlo, hhi]
  revert hi'
  generalize W i = w
  intro hw
  word_omega

/-- A word in range is not wrapped. -/
theorem wrap_eq (w : BitVec 32) (h : w.toNat < 131072) :
    Scalar.select (IntOp.cmpi .slt w 0#32) (IntOp.addi w 131072#32) w = w := by
  word_omega

end Cert.Hand

end
-- ==== Proof.RVal.lean ====
/- What the reference's lines give, position by position: its gathers, at the kept positions. -/
module

public import proofs.«01_k».proof.Proof.Gen.ReferenceIdeal.Run
public import proofs.«01_k».proof.Proof.Take
public import proofs.«01_k».proof.Proof.KSort
public import Idealize.ShloMosaic.Lib.Tactic.CleanTypes

@[expose] public section

set_option maxRecDepth 16384

noncomputable section

namespace Cert.ReferenceIdeal.Hand

open Cert.ReferenceIdeal Cert.ReferenceIdeal.Gen Cert.ReferenceIdeal.Value
open Idealize.ShloMosaic

variable {F : FTy → Type} [FloatOps F]

/-- The mask of a fill-mode gather along the second axis. -/
def msk (W : IVec S2x192x8x1 32) : IVec S2x192x8 1 :=
  Host.reduce IntOp.andi (andi (cmpi .sge W (broadcastInDim S2x192x8x1 ![] bcast_S_S2x192x8x1 (constantI S_ 32 0#32))) (cmpi .sle W (broadcastInDim S2x192x8x1 ![0, 1, 2, 3] bcast_S1x1x1x1_S2x192x8x1_0_1_2_3 (broadcastInDim S1x1x1x1 ![3] bcast_S1_S1x1x1x1_3 (constantI S1 32 131071#32))))) (constantI S_ 1 1#1) reducesTo_S2x192x8x1_S2x192x8_d3 h_S_

/-- The kept rows of an int8 cache. -/
def take4 (x : IVec S2x131072x8x64 8) (W : IVec S2x192x8x1 32) : IVec S2x192x8x64 8 :=
  select (broadcastInDim S2x192x8x64 ![0, 1, 2] bcast_S2x192x8_S2x192x8x64_0_1_2 (msk W)) (Host.gather gather_S2x131072x8x64_S2x192x8x1_S2x192x8x64_3_1_02_02_1_3_11164 x W) (broadcastInDim S2x192x8x64 ![] bcast_S_S2x192x8x64 (constantI S_ 8 128#8))

/-- The kept scales of a cache. -/
def take3 (x : FVec F S2x131072x8 .f32) (W : IVec S2x192x8x1 32) : FVec F S2x192x8 .f32 :=
  select (msk W) (Host.gather gather_S2x131072x8_S2x192x8x1_S2x192x8_n_1_02_02_1_3_111 x W) (broadcastInDim S2x192x8 ![] bcast_S_S2x192x8 (constant S_ .f32 0x7FC00000#32))

/-- The kept scores. -/
def takeL (x : FVec F S2x8x131072 .f32) (W : IVec S2x8x192x1 32) : FVec F S2x8x192 .f32 :=
  select (Host.reduce IntOp.andi (andi (cmpi .sge W (broadcastInDim S2x8x192x1 ![] bcast_S_S2x8x192x1 (constantI S_ 32 0#32))) (cmpi .sle W (broadcastInDim S2x8x192x1 ![0, 1, 2, 3] bcast_S1x1x1x1_S2x8x192x1_0_1_2_3 (broadcastInDim S1x1x1x1 ![3] bcast_S1_S1x1x1x1_3 (constantI S1 32 131071#32))))) (constantI S_ 1 1#1) reducesTo_S2x8x192x1_S2x8x192_d3 h_S_) (Host.gather gather_S2x8x131072_S2x8x192x1_S2x8x192_n_2_01_01_2_3_111 x W) (broadcastInDim S2x8x192 ![] bcast_S_S2x8x192 (constant S_ .f32 0x7FC00000#32))

theorem msk_one (W : IVec S2x192x8x1 32) (hW : ∀ i, (W i).toNat < 131072) (j : S2x192x8.Idx) : msk W j = 1#1 :=
  Cert.Hand.mask_one W _ _ _ _ _ (fun _ => rfl) (fun _ => rfl) hW rfl j

theorem take4_at (x : IVec S2x131072x8x64 8) (W : IVec S2x192x8x1 32) (hW : ∀ i, (W i).toNat < 131072)
    (a : Fin 2) (j : Fin 192) (n : Fin 8) (d : Fin 64) :
    take4 x W (ix4 a j n d) = x (ix4 a ⟨(W (ix4 a j n 0)).toNat, hW _⟩ n d) := by
  have h : msk W (ix3 a j n) = 1#1 := msk_one W hW _
  unfold take4
  generalize msk W = mk at h
  pointwise
  rw [h]
  exact Cert.Hand.gather_mid4 _ x W hW a j n d

theorem take3_at (x : FVec F S2x131072x8 .f32) (W : IVec S2x192x8x1 32) (hW : ∀ i, (W i).toNat < 131072)
    (a : Fin 2) (j : Fin 192) (n : Fin 8) :
    take3 x W (ix3 a j n) = x (ix3 a ⟨(W (ix4 a j n 0)).toNat, hW _⟩ n) := by
  have h : msk W (ix3 a j n) = 1#1 := msk_one W hW _
  unfold take3
  generalize msk W = mk at h
  pointwise
  rw [h]
  exact Cert.Hand.gather_mid _ x W hW a j n

theorem takeL_at (x : FVec F S2x8x131072 .f32) (W : IVec S2x8x192x1 32) (hW : ∀ i, (W i).toNat < 131072)
    (a : Fin 2) (n : Fin 8) (j : Fin 192) :
    takeL x W (ix3 a n j) = x (ix3 a n ⟨(W (ix4 a n j 0)).toNat, hW _⟩) := by
  have h := Cert.Hand.mask_one W (broadcastInDim S2x8x192x1 ![] bcast_S_S2x8x192x1 (constantI S_ 32 0#32)) (broadcastInDim S2x8x192x1 ![0, 1, 2, 3] bcast_S1x1x1x1_S2x8x192x1_0_1_2_3 (broadcastInDim S1x1x1x1 ![3] bcast_S1_S1x1x1x1_3 (constantI S1 32 131071#32))) (constantI S_ 1 1#1) reducesTo_S2x8x192x1_S2x8x192_d3 h_S_ (fun _ => rfl) (fun _ => rfl) hW rfl (ix3 a n j)
  unfold takeL
  revert h
  generalize Host.reduce IntOp.andi _ _ _ _ = mk
  intro h
  pointwise
  rw [h]
  exact Cert.Hand.gather_last _ x W hW a n j

variable (V0 : Valuation τ sig (Elt F))

/-- A kept position is a position of the cache. -/
theorem kix_lt (j : S2x8x192.Idx) : (res_main_v1 V0 j).toNat < 131072 :=
  Cert.Hand.sort_mem _ _ (fun w : BitVec 32 => w.toNat < 131072)
    (fun i => Cert.Hand.topK_lt (s := S2x8x131072) (d := 2) (by decide) _ _ _ 131072 rfl i) j

/-- The kept position, as a row of the cache. -/
def pos (a : Fin 2) (n : Fin 8) (j : Fin 192) : Fin 131072 := ⟨(res_main_v1 V0 (ix3 a n j)).toNat, kix_lt V0 _⟩

theorem w1 (a : Fin 2) (j : Fin 192) (n : Fin 8) (z : Fin 1) : res_main_call1_v4 V0 (ix4 a j n z) = res_main_v1 V0 (ix3 a n j) := by
  have h := kix_lt V0 (ix3 a n j)
  unfold res_main_call1_v4 res_main_v3 res_main_v2
  generalize res_main_v1 V0 = w at h ⊢
  clean_types
  pointwise
  exact Cert.Hand.wrap_eq _ h

theorem w2 (a : Fin 2) (j : Fin 192) (n : Fin 8) (z : Fin 1) : res_main_call2_v4 V0 (ix4 a j n z) = res_main_v1 V0 (ix3 a n j) := by
  have h := kix_lt V0 (ix3 a n j)
  unfold res_main_call2_v4 res_main_v5 res_main_v2
  generalize res_main_v1 V0 = w at h ⊢
  clean_types
  pointwise
  exact Cert.Hand.wrap_eq _ h

theorem w3 (a : Fin 2) (j : Fin 192) (n : Fin 8) (z : Fin 1) : res_main_call3_v5 V0 (ix4 a j n z) = res_main_v1 V0 (ix3 a n j) := by
  have h := kix_lt V0 (ix3 a n j)
  unfold res_main_call3_v5 res_main_v2
  generalize res_main_v1 V0 = w at h ⊢
  clean_types
  pointwise
  exact Cert.Hand.wrap_eq _ h

theorem w4 (a : Fin 2) (j : Fin 192) (n : Fin 8) (z : Fin 1) : res_main_call4_v5 V0 (ix4 a j n z) = res_main_v1 V0 (ix3 a n j) := by
  have h := kix_lt V0 (ix3 a n j)
  unfold res_main_call4_v5 res_main_v2
  generalize res_main_v1 V0 = w at h ⊢
  clean_types
  pointwise
  exact Cert.Hand.wrap_eq _ h

theorem w5 (a : Fin 2) (n : Fin 8) (j : Fin 192) (z : Fin 1) : res_main_call5_v5 V0 (ix4 a n j z) = res_main_v1 V0 (ix3 a n j) := by
  have h := kix_lt V0 (ix3 a n j)
  unfold res_main_call5_v5
  generalize res_main_v1 V0 = w at h ⊢
  clean_types
  pointwise
  exact Cert.Hand.wrap_eq _ h

end Cert.ReferenceIdeal.Hand

end
-- ==== Proof.Spec.lean ====
/- The attention over the kept positions and the new token, over the extended reals: what both programs compute. -/
module

public import Idealize.ShloMosaic.Lib.Pointwise

@[expose] public section

set_option maxRecDepth 16384

noncomputable section

namespace Cert.Hand

open Idealize.ShloMosaic

/-- The scale of the scores. -/
abbrev c8 : EReal := Ideal.ofBits .f32 0x3E000000#32

/-- The value that a maximum starts from. -/
abbrev ninf : EReal := Ideal.ofBits .f32 0xFF800000#32

/-- The greatest of the kept scores and the new one. -/
def top (s : Fin 192 → EReal) (t : EReal) : EReal := max (Finset.univ.fold max ninf s) t

/-- The sum of the exponentials. -/
def den (s : Fin 192 → EReal) (t : EReal) : EReal := ∑ x, Ideal.exp (s x - top s t) + Ideal.exp (t - top s t)

/-- The weight of a kept position. -/
def wK (s : Fin 192 → EReal) (t : EReal) (j : Fin 192) : EReal := Ideal.div (Ideal.exp (s j - top s t)) (den s t)

/-- The weight of the new token. -/
def wN (s : Fin 192 → EReal) (t : EReal) : EReal := Ideal.div (Ideal.exp (t - top s t)) (den s t)

/-- The maximum over the row of 193 scores is that of its first 192 and its last. -/
theorem top_row (f : Fin 193 → EReal) :
    max ninf (Finset.univ.fold max ninf f) = top (fun x => f (Fin.castSucc x)) (f (Fin.last 192)) := by
  rw [max_eq_right (Finset.le_fold_max _ |>.mpr (Or.inl le_rfl)), Fin.univ_castSuccEmb, Finset.fold_cons, Finset.fold_map, max_comm]
  rfl

/-- The row of the queries of a group's head. -/
abbrev qrow (n : Fin 8) (g : Fin 4) : Fin 32 := ⟨n.1 * 4 + g.1, by omega⟩

/-- An int8 word's value. -/
abbrev val8 (w : BitVec 8) : EReal := ((w.toInt : ℝ) : EReal)

variable (A0 : (⟨4, ![2, 1, 32, 64]⟩ : Shape).Idx → EReal) (A1 A2 : (⟨4, ![2, 1, 8, 64]⟩ : Shape).Idx → EReal)
variable (A3 A5 : (⟨4, ![2, 131072, 8, 64]⟩ : Shape).Idx → BitVec 8) (A4 A6 : (⟨3, ![2, 131072, 8]⟩ : Shape).Idx → EReal)
variable (A7 : (⟨3, ![2, 8, 131072]⟩ : Shape).Idx → EReal) (P : Fin 2 → Fin 8 → Fin 192 → Fin 131072)

/-- The score of a kept position. -/
def sKept (a : Fin 2) (n : Fin 8) (g : Fin 4) (j : Fin 192) : EReal :=
  (∑ x, A0 (ix4 a 0 (qrow n g) x) * val8 (A3 (ix4 a (P a n j) n x))) * (A4 (ix3 a (P a n j) n) * c8)

/-- The score of the new token. -/
def sNew (a : Fin 2) (n : Fin 8) (g : Fin 4) : EReal := (∑ x, A0 (ix4 a 0 (qrow n g) x) * A1 (ix4 a 0 n x)) * c8

/-- A kept position's weight. -/
def pKept (a : Fin 2) (n : Fin 8) (g : Fin 4) (j : Fin 192) : EReal := wK (sKept A0 A3 A4 P a n g) (sNew A0 A1 a n g) j

/-- The new token's weight. -/
def pNew (a : Fin 2) (n : Fin 8) (g : Fin 4) : EReal := wN (sKept A0 A3 A4 P a n g) (sNew A0 A1 a n g)

/-- The attention's output. -/
def out (a : Fin 2) (n : Fin 8) (g : Fin 4) (d : Fin 64) : EReal :=
  ∑ x, pKept A0 A1 A3 A4 P a n g x * A6 (ix3 a (P a n x) n) * val8 (A5 (ix4 a (P a n x) n d)) +
    pNew A0 A1 A3 A4 P a n g * A2 (ix4 a 0 n d)

/-- The scores kept, with the weights of this step added. -/
def sco (a : Fin 2) (n : Fin 8) (j : Fin 192) : EReal :=
  A7 (ix3 a n (P a n j)) + ∑ g, pKept A0 A1 A3 A4 P a n g j

/-- The first result: the outputs of all heads in one row. -/
def res1 : (⟨3, ![2, 1, 2048]⟩ : Shape).Idx → EReal := fun i =>
  out A0 A1 A2 A3 A5 A4 A6 P (i 0) ⟨(i 2).1 / 256, by have : (i 2).1 < 2048 := (i 2).2; omega⟩
    ⟨(i 2).1 / 64 % 4, by omega⟩ ⟨(i 2).1 % 64, by omega⟩

/-- The kept rows of a cache. -/
def res2 : (⟨4, ![2, 192, 8, 64]⟩ : Shape).Idx → BitVec 8 := fun i => A3 (ix4 (i 0) (P (i 0) (i 2) (i 1)) (i 2) (i 3))

/-- The kept scales of a cache. -/
def res3 : (⟨3, ![2, 192, 8]⟩ : Shape).Idx → EReal := fun i => A4 (ix3 (i 0) (P (i 0) (i 2) (i 1)) (i 2))

/-- The last result: the scores. -/
def res6 : (⟨3, ![2, 8, 192]⟩ : Shape).Idx → EReal := fun i => sco A0 A1 A3 A4 A7 P (i 0) (i 1) (i 2)

end Cert.Hand

end
-- ==== Proof.RScore.lean ====
/- The reference's scores, weights and results, position by position. -/
module

public import proofs.«01_k».proof.Proof.RVal
public import proofs.«01_k».proof.Proof.Spec

@[expose] public section

set_option maxRecDepth 16384

noncomputable section

namespace Cert.ReferenceIdeal.Hand

open Cert.ReferenceIdeal Cert.ReferenceIdeal.Gen Cert.ReferenceIdeal.Value
open Idealize.ShloMosaic Idealize.SL.Sem Idealize.ShloMosaic.StableHlo Idealize.ShloMosaic.TcCoe

variable (V0 : Valuation τ sig (Elt Ideal))

/-- The scores, of the kept rows and scales. -/
def scores (kk : IVec S2x192x8x64 8) (kn : FVec Ideal S2x1x8x64 .bf16) (q : FVec Ideal S2x1x8x4x64 .bf16) (ks : FVec Ideal S2x192x8 .f32) : FVec Ideal S2x8x4x1x193 .f32 :=
  concatenate S2x8x4x1x193 4 [⟨S2x8x4x1x192, (mulf (transpose S2x8x4x1x192 [0, 1, 4, 3, 2] (Host.dotGeneral dot_S2x192x8x64_S2x1x8x4x64_S2x8x192x1x4_3_4_1_13_02_02 none (sitofp .bf16 (extsi 32 kk natLt_8_32)) q) transposes_S2x8x192x1x4_S2x8x4x1x192_0_1_4_3_2) (broadcastInDim S2x8x4x1x192 ![0, 1, 2, 3, 4] bcast_S2x8x1x1x192_S2x8x4x1x192_0_1_2_3_4 (mulf (broadcastInDim S2x8x1x1x192 ![0, 1, 4] bcast_S2x8x192_S2x8x1x1x192_0_1_4 (transpose S2x8x192 [0, 2, 1] ks transposes_S2x192x8_S2x8x192_0_2_1)) (broadcastInDim S2x8x1x1x192 ![] bcast_S_S2x8x1x1x192 (constant S_ .f32 0x3E000000#32)))))⟩, ⟨S2x8x4x1x1, (select (broadcastInDim S2x8x4x1x1 ![3, 4] bcast_S1x1_S2x8x4x1x1_3_4 (cmpi .sle (broadcastInDim S1x1 ![1] bcast_S1_S1x1_1 (iotaInDim S1 32 0)) (broadcastInDim S1x1 ![0] bcast_S1_S1x1_0 (iotaInDim S1 32 0)))) (mulf (transpose S2x8x4x1x1 [0, 1, 4, 3, 2] (Host.dotGeneral dot_S2x1x8x64_S2x1x8x4x64_S2x8x1x1x4_3_4_1_13_02_02 none kn q) transposes_S2x8x1x1x4_S2x8x4x1x1_0_1_4_3_2) (broadcastInDim S2x8x4x1x1 ![] bcast_S_S2x8x4x1x1 (constant S_ .f32 0x3E000000#32))) (broadcastInDim S2x8x4x1x1 ![] bcast_S_S2x8x4x1x1 (id (constant S_ .f32 0xFF800000#32))))⟩] concatenates_S2x8x4x1x192_S2x8x4x1x1_S2x8x4x1x193_d4

theorem v33_eq : res_main_v33 V0 = scores (take4 (V0 (Proc.devRef .tc main_arg3)) (res_main_call1_v4 V0)) (V0 (Proc.devRef .tc main_arg1)) (res_main_v10 V0) (take3 (V0 (Proc.devRef .tc main_arg4)) (res_main_call3_v5 V0)) := rfl

/-- The numeric value of a word, and of the word read wider. -/
theorem val8_ext (w : BitVec 8) : (FloatOps.sitofp .bf16 (BitVec.signExtend 32 w) : Ideal .bf16) = Cert.Hand.val8 w := by
  show (((BitVec.signExtend 32 w).toInt : ℝ) : EReal) = _
  rw [BitVec.toInt_signExtend_of_le (by decide)]

theorem scores_kept (kk kn q ks) (a : Fin 2) (n : Fin 8) (g : Fin 4) (j : Fin 192) :
    scores kk kn q ks (ix5 a n g 0 (Fin.castSucc j)) =
      (∑ x, q (ix5 a 0 n g x) * Cert.Hand.val8 (kk (ix4 a j n x))) * (ks (ix3 a j n) * Cert.Hand.c8) := by
  have hj : (Fin.castSucc j).1 < 192 := j.2
  have hv : (⟨(Fin.castSucc j).1, hj⟩ : Fin 192) = j := rfl
  revert hj hv
  generalize Fin.castSucc j = i
  intro hj hv
  pointwise [scores]
  rw [dif_pos hj, hv]
  refine congrArg (· * _) (Finset.sum_congr rfl fun x _ => ?_)
  rw [val8_ext, mul_comm]

theorem scores_new (kk kn q ks) (a : Fin 2) (n : Fin 8) (g : Fin 4) :
    scores kk kn q ks (ix5 a n g 0 (Fin.last 192)) =
      (∑ x, q (ix5 a 0 n g x) * kn (ix4 a 0 n x)) * Cert.Hand.c8 := by
  have hj : ¬(Fin.last 192).1 < 192 := by simp
  generalize Fin.last 192 = i at hj
  pointwise [scores]
  rw [dif_neg hj]
  have h : IntOp.cmpi CmpIPredicate.sle 0#32 0#32 = 1#1 := by decide
  rw [h]
  refine congrArg (· * _) (Finset.sum_congr rfl fun x _ => ?_)
  rw [mul_comm]
  have hz : (⟨i.1 - 192, by omega⟩ : Fin 1) = 0 := Subsingleton.elim _ _
  rw [hz]

/-- The exponentials of the scores. -/
def exps (s : FVec Ideal S2x8x4x1x193 .f32) : FVec Ideal S2x8x4x1x193 .f32 :=
  Host.exp (subf s (broadcastInDim S2x8x4x1x193 ![0, 1, 2, 3, 4] bcast_S2x8x4x1x1_S2x8x4x1x193_0_1_2_3_4 (broadcastInDim S2x8x4x1x1 ![0, 1, 2, 3] bcast_S2x8x4x1_S2x8x4x1x1_0_1_2_3 (maximumf (broadcastInDim S2x8x4x1 ![] bcast_S_S2x8x4x1 (constant S_ .f32 0xFF800000#32)) (Host.reduce FloatOps.maximumf s (constant S_ .f32 0xFF800000#32) reducesTo_S2x8x4x1x193_S2x8x4x1_d4 h_S_)))))

theorem v40_eq : res_main_v40 V0 = exps (res_main_v33 V0) := rfl

theorem exps_at (s) (a : Fin 2) (n : Fin 8) (g : Fin 4) (j : Fin 193) :
    exps s (ix5 a n g 0 j) = Ideal.exp (s (ix5 a n g 0 j) -
      Cert.Hand.top (fun x => s (ix5 a n g 0 (Fin.castSucc x))) (s (ix5 a n g 0 (Fin.last 192)))) := by
  rw [← Cert.Hand.top_row fun x => s (ix5 a n g 0 x)]
  pointwise [exps]

/-- The weights. -/
def soft (e : FVec Ideal S2x8x4x1x193 .f32) : FVec Ideal S2x8x4x1x193 .f32 :=
  Host.divf e (broadcastInDim S2x8x4x1x193 ![0, 1, 2, 3, 4] bcast_S2x8x4x1x1_S2x8x4x1x193_0_1_2_3_4 (broadcastInDim S2x8x4x1x1 ![0, 1, 2, 3] bcast_S2x8x4x1_S2x8x4x1x1_0_1_2_3 (Host.reduceAdd e (constant S_ .f32 0x00000000#32) reducesTo_S2x8x4x1x193_S2x8x4x1_d4 h_S_)))

theorem v44_eq : res_main_v44 V0 = soft (res_main_v40 V0) := rfl

theorem soft_at (e) (a : Fin 2) (n : Fin 8) (g : Fin 4) (j : Fin 193) :
    soft e (ix5 a n g 0 j) = Ideal.div (e (ix5 a n g 0 j))
      (∑ x : Fin 192, e (ix5 a n g 0 (Fin.castSucc x)) + e (ix5 a n g 0 (Fin.last 192))) := by
  rw [← Fin.sum_univ_castSucc fun x => e (ix5 a n g 0 x)]
  pointwise [soft]

/-- The output row, of the weights. -/
def outs (p : FVec Ideal S2x8x4x1x193 .f32) (vv : IVec S2x192x8x64 8) (vs : FVec Ideal S2x192x8 .f32) (vn : FVec Ideal S2x1x8x64 .bf16) : FVec Ideal S2x1x2048 .bf16 :=
  truncf .bf16 (shapeCast S2x1x2048 (addf (transpose S2x1x8x4x64 [0, 4, 1, 3, 2] (Host.dotGeneral dot_S2x192x8x64_S2x8x4x1x192_S2x8x64x4x1_1_4_3_23_02_01 none (sitofp .bf16 (extsi 32 vv natLt_8_32)) (truncf .bf16 (mulf (extractStridedSlice S2x8x4x1x192 ![0, 0, 0, 0, 0] p slices_S2x8x4x1x193_S2x8x4x1x192_0_0_0_0_0) (broadcastInDim S2x8x4x1x192 ![0, 1, 2, 3, 4] bcast_S2x8x1x1x192_S2x8x4x1x192_0_1_2_3_4 (broadcastInDim S2x8x1x1x192 ![0, 1, 4] bcast_S2x8x192_S2x8x1x1x192_0_1_4 (transpose S2x8x192 [0, 2, 1] vs transposes_S2x192x8_S2x8x192_0_2_1)))) bitsLt_bf16_f32)) transposes_S2x8x64x4x1_S2x1x8x4x64_0_4_1_3_2) (transpose S2x1x8x4x64 [0, 4, 1, 3, 2] (Host.dotGeneral dot_S2x1x8x64_S2x8x4x1x1_S2x8x64x4x1_1_4_3_23_02_01 none vn (truncf .bf16 (extractStridedSlice S2x8x4x1x1 ![0, 0, 0, 0, 192] p slices_S2x8x4x1x193_S2x8x4x1x1_0_0_0_0_192) bitsLt_bf16_f32)) transposes_S2x8x64x4x1_S2x1x8x4x64_0_4_1_3_2)) shapeCasts_S2x1x8x4x64_S2x1x2048) bitsLt_bf16_f32

theorem outs_at (p vv vs vn) (a : Fin 2) (x : Fin 2048) (hn : x.1 / 256 < 8) (hg : x.1 / 64 % 4 < 4) (hd : x.1 % 64 < 64) :
    outs p vv vs vn (ix3 a 0 x) =
      ∑ j : Fin 192, p (ix5 a ⟨x.1 / 256, hn⟩ ⟨x.1 / 64 % 4, hg⟩ 0 (Fin.castSucc j)) * vs (ix3 a j ⟨x.1 / 256, hn⟩) * Cert.Hand.val8 (vv (ix4 a j ⟨x.1 / 256, hn⟩ ⟨x.1 % 64, hd⟩)) +
        p (ix5 a ⟨x.1 / 256, hn⟩ ⟨x.1 / 64 % 4, hg⟩ 0 (Fin.last 192)) * vn (ix4 a 0 ⟨x.1 / 256, hn⟩ ⟨x.1 % 64, hd⟩) := by
  pointwise [outs]
  refine congrArg₂ (· + ·) (Finset.sum_congr rfl fun j _ => ?_) ?_
  · exact (congrArg (· * _) (val8_ext _)).trans (mul_comm _ _)
  · exact (Fin.sum_univ_one _).trans (mul_comm _ _)

/-- The kept weights, added over the heads. -/
theorem sums_at (p : FVec Ideal S2x8x4x1x193 .f32) (r : FVec Ideal S2x8x192 .f32) (a : Fin 2) (n : Fin 8) (j : Fin 192) :
    addf r (Host.reduceAdd (extractStridedSlice S2x8x4x1x192 ![0, 0, 0, 0, 0] p slices_S2x8x4x1x193_S2x8x4x1x192_0_0_0_0_0) (constant S_ .f32 0x00000000#32) reducesTo_S2x8x4x1x192_S2x8x192_d2_3 h_S_) (ix3 a n j) =
      r (ix3 a n j) + ∑ g : Fin 4, p (ix5 a n g 0 (Fin.castSucc j)) := by
  pointwise
  exact congrArg (_ + ·) (Finset.sum_congr rfl fun g _ => Fin.sum_univ_one _)

/-! The results, of the arguments. -/

theorem v10_at (a : Fin 2) (n : Fin 8) (g : Fin 4) (x : Fin 64) :
    res_main_v10 V0 (ix5 a 0 n g x) = V0 (Proc.devRef .tc main_arg0) (ix4 a 0 (Cert.Hand.qrow n g) x) := by
  unfold res_main_v10
  generalize V0 (Proc.devRef .tc main_arg0) = q
  clean_types
  pointwise

theorem lt_of_w4 (W : IVec S2x192x8x1 32) (h : ∀ a j n z, W (ix4 a j n z) = res_main_v1 V0 (ix3 a n j)) (i) : (W i).toNat < 131072 := by
  obtain ⟨a, j, n, z, rfl⟩ : ∃ (a : Fin 2) (j : Fin 192) (n : Fin 8) (z : Fin 1), i = ix4 a j n z := ⟨_, _, _, _, eq_ix4 i⟩
  rw [h]
  exact kix_lt V0 _

/-- The kept rows that the reference gathers. -/
theorem take4_pos (x : IVec S2x131072x8x64 8) (W : IVec S2x192x8x1 32)
    (h : ∀ a j n z, W (ix4 a j n z) = res_main_v1 V0 (ix3 a n j)) (a : Fin 2) (j : Fin 192) (n : Fin 8) (d : Fin 64) :
    take4 x W (ix4 a j n d) = x (ix4 a (pos V0 a n j) n d) := by
  rw [take4_at x W (lt_of_w4 V0 W h) a j n d]
  exact congrArg (fun p => x (ix4 a p n d)) (Fin.ext (show BitVec.toNat (W _) = BitVec.toNat (res_main_v1 V0 _) by rw [h a j n 0]))

/-- The kept scales that the reference gathers. -/
theorem take3_pos (x : FVec Ideal S2x131072x8 .f32) (W : IVec S2x192x8x1 32)
    (h : ∀ a j n z, W (ix4 a j n z) = res_main_v1 V0 (ix3 a n j)) (a : Fin 2) (j : Fin 192) (n : Fin 8) :
    take3 x W (ix3 a j n) = x (ix3 a (pos V0 a n j) n) := by
  rw [take3_at x W (lt_of_w4 V0 W h) a j n]
  exact congrArg (fun p => x (ix3 a p n)) (Fin.ext (show BitVec.toNat (W _) = BitVec.toNat (res_main_v1 V0 _) by rw [h a j n 0]))

/-- The kept scores that the reference gathers. -/
theorem takeL_pos (x : FVec Ideal S2x8x131072 .f32) (W : IVec S2x8x192x1 32)
    (h : ∀ a n j z, W (ix4 a n j z) = res_main_v1 V0 (ix3 a n j)) (a : Fin 2) (n : Fin 8) (j : Fin 192) :
    takeL x W (ix3 a n j) = x (ix3 a n (pos V0 a n j)) := by
  have hW : ∀ i, (W i).toNat < 131072 := fun i => by
    obtain ⟨a, n, j, z, rfl⟩ : ∃ (a : Fin 2) (n : Fin 8) (j : Fin 192) (z : Fin 1), i = ix4 a n j z := ⟨_, _, _, _, eq_ix4 i⟩
    rw [h]
    exact kix_lt V0 _
  rw [takeL_at x W hW a n j]
  exact congrArg (fun p => x (ix3 a n p)) (Fin.ext (show BitVec.toNat (W _) = BitVec.toNat (res_main_v1 V0 _) by rw [h a n j 0]))

/-- The weights of a row of the reference, of its scores. -/
theorem weights (s : FVec Ideal S2x8x4x1x193 .f32) (a : Fin 2) (n : Fin 8) (g : Fin 4) (S : Fin 192 → EReal) (T : EReal)
    (hS : ∀ j, s (ix5 a n g 0 (Fin.castSucc j)) = S j) (hT : s (ix5 a n g 0 (Fin.last 192)) = T) :
    (∀ j, soft (exps s) (ix5 a n g 0 (Fin.castSucc j)) = Cert.Hand.wK S T j) ∧
      soft (exps s) (ix5 a n g 0 (Fin.last 192)) = Cert.Hand.wN S T := by
  have hs : (fun x => s (ix5 a n g 0 (Fin.castSucc x))) = S := funext hS
  constructor
  · intro j
    rw [soft_at]
    simp only [exps_at, hs, hT, hS]
    rfl
  · rw [soft_at]
    simp only [exps_at, hs, hT, hS]
    rfl

section Results

variable (q0 : FVec Ideal S2x1x32x64 .bf16) (q1 q2 : FVec Ideal S2x1x8x64 .bf16) (q3 q5 : IVec S2x131072x8x64 8)
variable (q4 q6 : FVec Ideal S2x131072x8 .f32) (q7 : FVec Ideal S2x8x131072 .f32)
variable (h0 : V0 (Proc.devRef .tc main_arg0) = q0) (h1 : V0 (Proc.devRef .tc main_arg1) = q1) (h2 : V0 (Proc.devRef .tc main_arg2) = q2)
variable (h3 : V0 (Proc.devRef .tc main_arg3) = q3) (h4 : V0 (Proc.devRef .tc main_arg4) = q4) (h5 : V0 (Proc.devRef .tc main_arg5) = q5)
variable (h6 : V0 (Proc.devRef .tc main_arg6) = q6) (h7 : V0 (Proc.devRef .tc main_arg7) = q7)

include h0 h1 h3 h4 in
/-- The reference's weights, of the arguments. -/
theorem v44_at (a : Fin 2) (n : Fin 8) (g : Fin 4) :
    (∀ j, res_main_v44 V0 (ix5 a n g 0 (Fin.castSucc j)) = Cert.Hand.pKept q0 q1 q3 q4 (pos V0) a n g j) ∧
      res_main_v44 V0 (ix5 a n g 0 (Fin.last 192)) = Cert.Hand.pNew q0 q1 q3 q4 (pos V0) a n g := by
  rw [v44_eq, v40_eq, v33_eq, h1, h3, h4]
  refine weights _ a n g (Cert.Hand.sKept q0 q3 q4 (pos V0) a n g) (Cert.Hand.sNew q0 q1 a n g) (fun j => ?_) ?_
  · rw [scores_kept, take3_pos V0 _ _ (w3 V0)]
    refine congrArg (· * _) (Finset.sum_congr rfl fun x _ => ?_)
    rw [v10_at, h0, take4_pos V0 _ _ (w1 V0)]
  · rw [scores_new]
    refine congrArg (· * _) (Finset.sum_congr rfl fun x _ => ?_)
    rw [v10_at, h0]

include h0 h1 h2 h3 h4 h5 h6 in
theorem ref1 : outs (res_main_v44 V0) (take4 (V0 (Proc.devRef .tc main_arg5)) (res_main_call2_v4 V0))
      (take3 (V0 (Proc.devRef .tc main_arg6)) (res_main_call4_v5 V0)) (V0 (Proc.devRef .tc main_arg2)) =
    Cert.Hand.res1 q0 q1 q2 q3 q5 q4 q6 (pos V0) := by
  funext i
  obtain ⟨a, z, x, rfl⟩ : ∃ (a : Fin 2) (z : Fin 1) (x : Fin 2048), i = ix3 a z x := ⟨_, _, _, eq_ix3 i⟩
  obtain rfl : z = 0 := Subsingleton.elim _ _
  have hx := x.2
  rw [outs_at _ _ _ _ a x (by omega) (by omega) (by omega), h2, h5, h6]
  unfold Cert.Hand.res1 Cert.Hand.out
  have hv := fun g => v44_at V0 q0 q1 q3 q4 h0 h1 h3 h4 a ⟨x.1 / 256, by omega⟩ g
  refine congrArg₂ (· + ·) (Finset.sum_congr rfl fun j _ => ?_) ?_
  · rw [take3_pos V0 _ _ (w4 V0), take4_pos V0 _ _ (w2 V0), (hv _).1]
    rfl
  · rw [(hv _).2]
    rfl

theorem ref2 (q3 : IVec S2x131072x8x64 8) (W : IVec S2x192x8x1 32)
    (h : ∀ a j n z, W (ix4 a j n z) = res_main_v1 V0 (ix3 a n j)) : take4 q3 W = Cert.Hand.res2 q3 (pos V0) := by
  funext i
  obtain ⟨a, j, n, d, rfl⟩ : ∃ (a : Fin 2) (j : Fin 192) (n : Fin 8) (d : Fin 64), i = ix4 a j n d := ⟨_, _, _, _, eq_ix4 i⟩
  exact take4_pos V0 q3 W h a j n d

theorem ref3 (q4 : FVec Ideal S2x131072x8 .f32) (W : IVec S2x192x8x1 32)
    (h : ∀ a j n z, W (ix4 a j n z) = res_main_v1 V0 (ix3 a n j)) : take3 q4 W = Cert.Hand.res3 q4 (pos V0) := by
  funext i
  obtain ⟨a, j, n, rfl⟩ : ∃ (a : Fin 2) (j : Fin 192) (n : Fin 8), i = ix3 a j n := ⟨_, _, _, eq_ix3 i⟩
  exact take3_pos V0 q4 W h a j n

include h0 h1 h3 h4 h7 in
theorem ref6 : addf (takeL (V0 (Proc.devRef .tc main_arg7)) (res_main_call5_v5 V0))
      (Host.reduceAdd (extractStridedSlice S2x8x4x1x192 ![0, 0, 0, 0, 0] (res_main_v44 V0) slices_S2x8x4x1x193_S2x8x4x1x192_0_0_0_0_0) (constant S_ .f32 0x00000000#32) reducesTo_S2x8x4x1x192_S2x8x192_d2_3 h_S_) =
    Cert.Hand.res6 q0 q1 q3 q4 q7 (pos V0) := by
  funext i
  obtain ⟨a, n, j, rfl⟩ : ∃ (a : Fin 2) (n : Fin 8) (j : Fin 192), i = ix3 a n j := ⟨_, _, _, eq_ix3 i⟩
  rw [sums_at, h7, takeL_pos V0 _ _ (w5 V0)]
  exact congrArg (_ + ·) (Finset.sum_congr rfl fun g _ => (v44_at V0 q0 q1 q3 q4 h0 h1 h3 h4 a n g).1 j)

end Results

/-- What a run of the reference leaves: the six results, of the arguments, and the arguments. -/
theorem run_res (m : (ℓ : Loc nD τ sig) → Buf (Elt Ideal) ℓ) (ρ : Dev nD → PrngReg) :
    θ_run defs (onTc (τ := τ) (main (F := Ideal))) ⟨m, fun _ => 0, ρ⟩ fun r => ∀ c : Dev nD,
      let A := fun b : Ref sig .tc => m ((c.tc : Thread nD τ).loc b)
      let P := pos (launchContents m c)
      r.2.mem ((c.tc : Thread nD τ).loc main_v59) = Cert.Hand.res1 (A main_arg0) (A main_arg1) (A main_arg2) (A main_arg3) (A main_arg5) (A main_arg4) (A main_arg6) P
      ∧ r.2.mem ((c.tc : Thread nD τ).loc main_v4) = Cert.Hand.res2 (A main_arg3) P
      ∧ r.2.mem ((c.tc : Thread nD τ).loc main_v7) = Cert.Hand.res3 (A main_arg4) P
      ∧ r.2.mem ((c.tc : Thread nD τ).loc main_v6) = Cert.Hand.res2 (A main_arg5) P
      ∧ r.2.mem ((c.tc : Thread nD τ).loc main_v8) = Cert.Hand.res3 (A main_arg6) P
      ∧ r.2.mem ((c.tc : Thread nD τ).loc main_v61) = Cert.Hand.res6 (A main_arg0) (A main_arg1) (A main_arg3) (A main_arg4) (A main_arg7) P
      ∧ (r.2.mem ((c.tc : Thread nD τ).loc main_arg0) = A main_arg0
      ∧ r.2.mem ((c.tc : Thread nD τ).loc main_arg1) = A main_arg1
      ∧ r.2.mem ((c.tc : Thread nD τ).loc main_arg2) = A main_arg2
      ∧ r.2.mem ((c.tc : Thread nD τ).loc main_arg3) = A main_arg3
      ∧ r.2.mem ((c.tc : Thread nD τ).loc main_arg4) = A main_arg4
      ∧ r.2.mem ((c.tc : Thread nD τ).loc main_arg5) = A main_arg5
      ∧ r.2.mem ((c.tc : Thread nD τ).loc main_arg6) = A main_arg6
      ∧ r.2.mem ((c.tc : Thread nD τ).loc main_arg7) = A main_arg7) := by
  refine (θ_run defs _ _).mono (fun r h c => ?_) (Value.run (F := Ideal) m ρ)
  obtain ⟨e1, e2, e3, e4, e5, e6, e7⟩ := h c
  refine ⟨e1.trans (ref1 (launchContents m c) _ _ _ _ _ _ _ rfl rfl rfl rfl rfl rfl rfl),
    e2.trans (ref2 (launchContents m c) _ _ (w1 _)), e3.trans (ref3 (launchContents m c) _ _ (w3 _)),
    e4.trans (ref2 (launchContents m c) _ _ (w2 _)), e5.trans (ref3 (launchContents m c) _ _ (w4 _)),
    e6.trans (ref6 (launchContents m c) _ _ _ _ _ rfl rfl rfl rfl rfl), e7⟩

end Cert.ReferenceIdeal.Hand

end
-- ==== Proof.IHostVal.lean ====
/- What the host lines leave in the call's operands, position by position. -/
module

public import proofs.«01_k».proof.Proof.IHost
public import proofs.«01_k».proof.Proof.Take
public import proofs.«01_k».proof.Proof.Spec
public import Idealize.ShloMosaic.Lib.Tactic.CleanTypes

@[expose] public section

set_option maxRecDepth 16384

noncomputable section

namespace Cert.KernelIdeal.Hand

open Cert.KernelIdeal Cert.KernelIdeal.Gen
open Idealize.ShloMosaic Idealize.SL.Sem

variable {F : FTy → Type} [FloatOps F]

/-- The words that a fill-mode gather reads: the negative ones wrapped. -/
def wrapped (k : IVec S2x8x192 32) : IVec S2x8x192x1 32 :=
  shapeCast S2x8x192x1 (select (cmpi .slt k (broadcastInDim S2x8x192 ![] bcast_S_S2x8x192 (constantI S_ 32 0#32))) (addi k (broadcastInDim S2x8x192 ![] bcast_S_S2x8x192 (constantI S_ 32 131072#32))) k) shapeCasts_S2x8x192_S2x8x192x1

/-- A gather along the last axis, in fill mode. -/
def takeL (x : FVec F S2x8x131072 .f32) (W : IVec S2x8x192x1 32) : FVec F S2x8x192 .f32 :=
  select (Host.reduce IntOp.andi (andi (cmpi .sge W (broadcastInDim S2x8x192x1 ![] bcast_S_S2x8x192x1 (constantI S_ 32 0#32))) (cmpi .sle W (broadcastInDim S2x8x192x1 ![0, 1, 2, 3] bcast_S1x1x1x1_S2x8x192x1_0_1_2_3 (broadcastInDim S1x1x1x1 ![3] bcast_S1_S1x1x1x1_3 (constantI S1 32 131071#32))))) (constantI S_ 1 1#1) reducesTo_S2x8x192x1_S2x8x192_d3 h_S_) (Host.gather gather_S2x8x131072_S2x8x192x1_S2x8x192_n_2_01_01_2_3_111 x W) (broadcastInDim S2x8x192 ![] bcast_S_S2x8x192 (constant S_ .f32 0x7FC00000#32))

theorem takeL_at (x : FVec F S2x8x131072 .f32) (W : IVec S2x8x192x1 32) (hW : ∀ i, (W i).toNat < 131072)
    (a : Fin 2) (n : Fin 8) (j : Fin 192) :
    takeL x W (ix3 a n j) = x (ix3 a n ⟨(W (ix4 a n j 0)).toNat, hW _⟩) := by
  have h := Cert.Hand.mask_one W (broadcastInDim S2x8x192x1 ![] bcast_S_S2x8x192x1 (constantI S_ 32 0#32)) (broadcastInDim S2x8x192x1 ![0, 1, 2, 3] bcast_S1x1x1x1_S2x8x192x1_0_1_2_3 (broadcastInDim S1x1x1x1 ![3] bcast_S1_S1x1x1x1_3 (constantI S1 32 131071#32))) (constantI S_ 1 1#1) reducesTo_S2x8x192x1_S2x8x192_d3 h_S_ (fun _ => rfl) (fun _ => rfl) hW rfl (ix3 a n j)
  unfold takeL
  revert h
  generalize Host.reduce IntOp.andi _ _ _ _ = mk
  intro h
  pointwise
  rw [h]
  exact Cert.Hand.gather_last _ x W hW a n j

theorem wrapped_at (k : IVec S2x8x192 32) (hk : ∀ i, (k i).toNat < 131072) (a : Fin 2) (n : Fin 8) (j : Fin 192) (z : Fin 1) :
    wrapped k (ix4 a n j z) = k (ix3 a n j) := by
  have h := hk (ix3 a n j)
  pointwise [wrapped]
  exact Cert.Hand.wrap_eq _ h

theorem takeL_pos (x : FVec F S2x8x131072 .f32) (k : IVec S2x8x192 32) (hk : ∀ i, (k i).toNat < 131072)
    (a : Fin 2) (n : Fin 8) (j : Fin 192) :
    takeL x (wrapped k) (ix3 a n j) = x (ix3 a n ⟨(k (ix3 a n j)).toNat, hk _⟩) := by
  have hW : ∀ i, (wrapped k i).toNat < 131072 := fun i => by
    obtain ⟨a, n, j, z, rfl⟩ : ∃ (a : Fin 2) (n : Fin 8) (j : Fin 192) (z : Fin 1), i = ix4 a n j z := ⟨_, _, _, _, eq_ix4 i⟩
    rw [wrapped_at k hk]
    exact hk _
  rw [takeL_at x _ hW a n j]
  exact congrArg (fun p => x (ix3 a n p)) (Fin.ext (show BitVec.toNat (wrapped k _) = BitVec.toNat (k _) by rw [wrapped_at k hk a n j 0]))

section Strip

open StableHlo (TRef)

/-! A host line writes and reads its buffer through the buffer's own type: the contents themselves. -/

theorem ind_of (h1 h2 h3 v) : (TRef.of (T := ⟨S2x8x192, .i32⟩) main_indices h1 h2 h3 : TRef sig ⟨S2x8x192, .i32⟩).ofBuf (Val := Elt F) v = v := rfl
theorem v2_of (h1 h2 h3 v) : (TRef.of (T := ⟨S2x8x131072, .f32⟩) main_v2 h1 h2 h3 : TRef sig ⟨S2x8x131072, .f32⟩).ofBuf (Val := Elt F) v = v := rfl
theorem v4_of (h1 h2 h3 v) : (TRef.of (T := ⟨S2x8x131072, .f32⟩) main_v4 h1 h2 h3 : TRef sig ⟨S2x8x131072, .f32⟩).ofBuf (Val := Elt F) v = v := rfl
theorem a7_of (h1 h2 h3 v) : (TRef.of (T := ⟨S2x8x131072, .f32⟩) main_arg7 h1 h2 h3 : TRef sig ⟨S2x8x131072, .f32⟩).ofBuf (Val := Elt F) v = v := rfl
theorem v3_to (h1 h2 h3 v) : (TRef.of (T := ⟨S2x8x192, .f32⟩) main_v3 h1 h2 h3 : TRef sig ⟨S2x8x192, .f32⟩).toBuf (Val := Elt F) v = v := rfl
theorem v5_to (h1 h2 h3 v) : (TRef.of (T := ⟨S2x8x192, .f32⟩) main_v5 h1 h2 h3 : TRef sig ⟨S2x8x192, .f32⟩).toBuf (Val := Elt F) v = v := rfl
theorem v6_to (h1 h2 h3 v) : (TRef.of (T := ⟨S2x8x192, .f32⟩) main_v6 h1 h2 h3 : TRef sig ⟨S2x8x192, .f32⟩).toBuf (Val := Elt F) v = v := rfl
theorem w1_to (h1 h2 h3 v) : (TRef.of (T := ⟨S2x8x192, .i32⟩) main_call1_v4 h1 h2 h3 : TRef sig ⟨S2x8x192, .i32⟩).toBuf (Val := Elt F) v = v := rfl
theorem w1_of (h1 h2 h3 v) : (TRef.of (T := ⟨S2x8x192x1, .i32⟩) main_call1_v5 h1 h2 h3 : TRef sig ⟨S2x8x192x1, .i32⟩).ofBuf (Val := Elt F) v = v := rfl
theorem w2_to (h1 h2 h3 v) : (TRef.of (T := ⟨S2x8x192, .i32⟩) main_call2_v4 h1 h2 h3 : TRef sig ⟨S2x8x192, .i32⟩).toBuf (Val := Elt F) v = v := rfl
theorem w2_of (h1 h2 h3 v) : (TRef.of (T := ⟨S2x8x192x1, .i32⟩) main_call2_v5 h1 h2 h3 : TRef sig ⟨S2x8x192x1, .i32⟩).ofBuf (Val := Elt F) v = v := rfl
theorem w3_to (h1 h2 h3 v) : (TRef.of (T := ⟨S2x8x192, .i32⟩) main_call3_v4 h1 h2 h3 : TRef sig ⟨S2x8x192, .i32⟩).toBuf (Val := Elt F) v = v := rfl
theorem w3_of (h1 h2 h3 v) : (TRef.of (T := ⟨S2x8x192x1, .i32⟩) main_call3_v5 h1 h2 h3 : TRef sig ⟨S2x8x192x1, .i32⟩).ofBuf (Val := Elt F) v = v := rfl

end Strip

variable (m : (ℓ : Loc nD τ sig) → Buf (Elt F) ℓ) (c : Dev nD)

set_option maxHeartbeats 1000000 in
theorem V_v3 : V m c main_v3 = takeL (transpose S2x8x131072 [0, 2, 1] (m (c, Proc.tc.devRef main_arg4)) transposes_S2x131072x8_S2x8x131072_0_2_1) (wrapped (kix m c)) := by
  show StableHlo.after _ (fun b => m (c, b)) (Proc.devRef .tc main_v3) = _
  simp only [List.flatten_cons, List.flatten_nil, List.append_nil]
  after_reads_simp
  simp only [StableHlo.TRef.ofBuf_toBuf, ind_of, v2_of, v4_of, a7_of, v3_to, v5_to, v6_to, w1_to, w1_of]
  rfl

set_option maxHeartbeats 1000000 in
theorem V_v5 : V m c main_v5 = takeL (transpose S2x8x131072 [0, 2, 1] (m (c, Proc.tc.devRef main_arg6)) transposes_S2x131072x8_S2x8x131072_0_2_1) (wrapped (kix m c)) := by
  show StableHlo.after _ (fun b => m (c, b)) (Proc.devRef .tc main_v5) = _
  simp only [List.flatten_cons, List.flatten_nil, List.append_nil]
  after_reads_simp
  simp only [StableHlo.TRef.ofBuf_toBuf, ind_of, v2_of, v4_of, a7_of, v3_to, v5_to, v6_to, w2_to, w2_of]
  rfl

set_option maxHeartbeats 1000000 in
theorem V_v6 : V m c main_v6 = takeL (m (c, Proc.tc.devRef main_arg7)) (wrapped (kix m c)) := by
  show StableHlo.after _ (fun b => m (c, b)) (Proc.devRef .tc main_v6) = _
  simp only [List.flatten_cons, List.flatten_nil, List.append_nil]
  after_reads_simp
  simp only [StableHlo.TRef.ofBuf_toBuf, ind_of, v2_of, v4_of, a7_of, v3_to, v5_to, v6_to, w3_to, w3_of]
  rfl

end Cert.KernelIdeal.Hand

end
-- ==== Proof.IEntry.lean ====
/- The call's operands, position by position, of the arguments. -/
module

public import proofs.«01_k».proof.Proof.IHostVal

@[expose] public section

set_option maxRecDepth 16384

noncomputable section

namespace Cert.KernelIdeal.Hand

open Cert.KernelIdeal Cert.KernelIdeal.Gen
open Idealize.ShloMosaic Idealize.SL.Sem

variable {F : FTy → Type} [FloatOps F]
variable (m : (ℓ : Loc nD τ sig) → Buf (Elt F) ℓ) (c : Dev nD)

theorem V_v7 : V m c main_v7 = transpose S2x8x64x131072 [0, 2, 3, 1] (m (c, Proc.tc.devRef main_arg3)) transposes_S2x131072x8x64_S2x8x64x131072_0_2_3_1 := by
  show StableHlo.after _ (fun b => m (c, b)) (Proc.devRef .tc main_v7) = _
  simp only [List.flatten_cons, List.flatten_nil, List.append_nil]
  after_reads_simp

theorem V_v8 : V m c main_v8 = transpose S2x8x64x131072 [0, 2, 3, 1] (m (c, Proc.tc.devRef main_arg5)) transposes_S2x131072x8x64_S2x8x64x131072_0_2_3_1 := by
  show StableHlo.after _ (fun b => m (c, b)) (Proc.devRef .tc main_v8) = _
  simp only [List.flatten_cons, List.flatten_nil, List.append_nil]
  after_reads_simp

theorem V_v10 : V m c main_v10 = shapeCast S16x4x64 (m (c, Proc.tc.devRef main_arg0)) shapeCasts_S2x1x32x64_S16x4x64 := by
  show StableHlo.after _ (fun b => m (c, b)) (Proc.devRef .tc main_v10) = _
  simp only [List.flatten_cons, List.flatten_nil, List.append_nil]
  after_reads_simp
  rfl

theorem V_v11 : V m c main_v11 = shapeCast S16x1x64 (m (c, Proc.tc.devRef main_arg1)) shapeCasts_S2x1x8x64_S16x1x64 := by
  show StableHlo.after _ (fun b => m (c, b)) (Proc.devRef .tc main_v11) = _
  simp only [List.flatten_cons, List.flatten_nil, List.append_nil]
  after_reads_simp
  rfl

theorem V_v12 : V m c main_v12 = shapeCast S16x1x64 (m (c, Proc.tc.devRef main_arg2)) shapeCasts_S2x1x8x64_S16x1x64 := by
  show StableHlo.after _ (fun b => m (c, b)) (Proc.devRef .tc main_v12) = _
  simp only [List.flatten_cons, List.flatten_nil, List.append_nil]
  after_reads_simp
  rfl

theorem V_v13 : V m c main_v13 = shapeCast S16x1x192 (V m c main_v3) shapeCasts_S2x8x192_S16x1x192 := by
  rw [V_v3]
  show StableHlo.after _ (fun b => m (c, b)) (Proc.devRef .tc main_v13) = _
  simp only [List.flatten_cons, List.flatten_nil, List.append_nil]
  after_reads_simp
  simp only [StableHlo.TRef.ofBuf_toBuf, ind_of, v2_of, v4_of, a7_of, v3_to, v5_to, v6_to, w1_to, w1_of, w2_to, w2_of, w3_to, w3_of]
  rfl

theorem V_v14 : V m c main_v14 = shapeCast S16x1x192 (V m c main_v5) shapeCasts_S2x8x192_S16x1x192 := by
  rw [V_v5]
  show StableHlo.after _ (fun b => m (c, b)) (Proc.devRef .tc main_v14) = _
  simp only [List.flatten_cons, List.flatten_nil, List.append_nil]
  after_reads_simp
  simp only [StableHlo.TRef.ofBuf_toBuf, ind_of, v2_of, v4_of, a7_of, v3_to, v5_to, v6_to, w1_to, w1_of, w2_to, w2_of, w3_to, w3_of]
  rfl

theorem V_v15 : V m c main_v15 = shapeCast S16x1x192 (V m c main_v6) shapeCasts_S2x8x192_S16x1x192 := by
  rw [V_v6]
  show StableHlo.after _ (fun b => m (c, b)) (Proc.devRef .tc main_v15) = _
  simp only [List.flatten_cons, List.flatten_nil, List.append_nil]
  after_reads_simp
  simp only [StableHlo.TRef.ofBuf_toBuf, ind_of, v2_of, v4_of, a7_of, v3_to, v5_to, v6_to, w1_to, w1_of, w2_to, w2_of, w3_to, w3_of]
  rfl

/-! An array of sixteen rows, read at batch `a` and group `n`. -/

variable {α : Type} (r : Fin 16) (a : Fin 2) (n : Fin 8) (ha : r.1 / 8 = a.1) (hn : r.1 % 8 = n.1)
include ha hn

theorem cast_q (f : S2x1x32x64.Idx → α) (g : Fin 4) (x : Fin 64) :
    shapeCast S16x4x64 f shapeCasts_S2x1x32x64_S16x4x64 (ix3 r g x) = f (ix4 a 0 (Cert.Hand.qrow n g) x) := by
  pointwise
  exact congrArg₂ (fun p q => f (ix4 p 0 q x)) (Fin.ext ha) (Fin.ext (show r.1 % 8 * 4 + g.1 = n.1 * 4 + g.1 by rw [hn]))

theorem cast_n (f : S2x1x8x64.Idx → α) (x : Fin 64) :
    shapeCast S16x1x64 f shapeCasts_S2x1x8x64_S16x1x64 (ix3 r 0 x) = f (ix4 a 0 n x) := by
  pointwise
  exact congrArg₂ (fun p q => f (ix4 p 0 q x)) (Fin.ext ha) (Fin.ext hn)

theorem cast_s (f : S2x8x192.Idx → α) (x : Fin 192) :
    shapeCast S16x1x192 f shapeCasts_S2x8x192_S16x1x192 (ix3 r 0 x) = f (ix3 a n x) := by
  pointwise
  exact congrArg₂ (fun p q => f (ix3 p q x)) (Fin.ext ha) (Fin.ext hn)

theorem cast_i (f : S2x8x192.Idx → α) (x : Fin 192) :
    shapeCast S16x192 f shapeCasts_S2x8x192_S16x192 (ix2 r x) = f (ix3 a n x) := by
  pointwise
  exact congrArg₂ (fun p q => f (ix3 p q x)) (Fin.ext ha) (Fin.ext hn)

/-- What a row gathers: the words name the positions. -/
theorem pick_at (k : IVec S2x8x192 32) (hk : ∀ i, (k i).toNat < 131072) (f : S2x131072x8x64.Idx → BitVec 8) (j : Fin 192) (d : Fin 64) :
    pick (F := F) (shapeCast S16x192 k shapeCasts_S2x8x192_S16x192) (transpose S2x8x64x131072 [0, 2, 3, 1] f transposes_S2x131072x8x64_S2x8x64x131072_0_2_3_1) r.1 j.1 d.1
      = f (ix4 a ⟨(k (ix3 a n j)).toNat, hk _⟩ n d) := by
  have hw : wordIx r.1 j.1 = (ix2 r j : S16x192.Idx) := by
    funext t
    refine Fin.ext ?_
    fin_cases t
    · exact Nat.mod_eq_of_lt r.2
    · exact Nat.mod_eq_of_lt j.2
  have hp := hk (ix3 a n j)
  have hs : srcIx (r.1 / 8) (r.1 % 8) d.1 (k (ix3 a n j)).toNat = (ix4 a n d ⟨(k (ix3 a n j)).toNat, hp⟩ : S2x8x64x131072.Idx) := by
    funext t
    refine Fin.ext ?_
    have h0 := a.2
    have h1 := n.2
    fin_cases t
    · show r.1 / 8 % 2 = a.1
      omega
    · show r.1 % 8 % 8 = n.1
      omega
    · exact Nat.mod_eq_of_lt d.2
    · exact Nat.mod_eq_of_lt hp
  unfold pick
  rw [hw, cast_i r a n ha hn, hs]
  pointwise

end Cert.KernelIdeal.Hand

end
-- ==== Proof.IRes.lean ====
/- What a row of the kernel computes over the extended reals: the attention of the kept positions and the new token. -/
module

public import proofs.«01_k».proof.Proof.IEntry

@[expose] public section

set_option maxRecDepth 16384

noncomputable section

namespace Cert.KernelIdeal.Hand

open Cert.KernelIdeal Cert.KernelIdeal.Gen
open Idealize.ShloMosaic Idealize.SL.Sem

theorem pay32_at (kk q ks) (g : Fin 4) (j : Fin 192) : k0_pay32 (F := Ideal) kk q ks (ix2 g j) =
    (∑ x, q (ix3 0 g x) * Cert.Hand.val8 (kk (ix4 0 0 x j))) * (ks (ix3 0 0 j) * Cert.Hand.c8) := by
  pointwise [k0_pay32, k0_pay31]
  rfl

theorem pay33_at (q kn) (g : Fin 4) : k0_pay33 (F := Ideal) q kn (ix2 g 0) =
    (∑ x : Fin 64, q (ix2 g x) * kn (ix3 0 0 x)) * Cert.Hand.c8 := by
  pointwise [k0_pay33]

theorem pay38_at (q s kn) (g : Fin 4) (j : Fin 192) : k0_pay38 (F := Ideal) q s kn (ix2 g j) =
    Cert.Hand.wK (fun x => s (ix2 g x)) ((∑ x : Fin 64, q (ix2 g x) * kn (ix3 0 0 x)) * Cert.Hand.c8) j := by
  pointwise [k0_pay38, k0_pay37, k0_pay36, k0_pay35, k0_pay34, k0_pay33]
  rfl

theorem pay39_new (q s kn) (g : Fin 4) :
    Ideal.div (k0_pay36 (F := Ideal) q s kn (ix2 g 0)) (k0_pay37 (F := Ideal) q s kn (ix2 g 0)) =
    Cert.Hand.wN (fun x => s (ix2 g x)) ((∑ x : Fin 64, q (ix2 g x) * kn (ix3 0 0 x)) * Cert.Hand.c8) := by
  pointwise [k0_pay37, k0_pay36, k0_pay35, k0_pay34, k0_pay33]
  rfl

theorem pay39_at (vv q s kn vs vn) (g : Fin 4) (d : Fin 64) : k0_pay39 (F := Ideal) vv q s kn vs vn (ix3 0 g d) =
    ∑ x, k0_pay38 (F := Ideal) q s kn (ix2 g x) * vs (ix3 0 0 x) * vv (ix2 d x) +
      Ideal.div (k0_pay36 (F := Ideal) q s kn (ix2 g 0)) (k0_pay37 (F := Ideal) q s kn (ix2 g 0)) * vn (ix3 0 0 d) := by
  pointwise [k0_pay39]

theorem pay30_at (vv) (d : Fin 64) (j : Fin 192) : k0_pay30 (F := Ideal) vv (ix2 d j) = Cert.Hand.val8 (vv (ix4 0 0 d j)) := by
  pointwise [k0_pay30]
  rfl

theorem pay31_at (q) (g : Fin 4) (x : Fin 64) : k0_pay31 (F := Ideal) q (ix2 g x) = q (ix3 0 g x) := by
  pointwise [k0_pay31]

theorem pay1_at (p raw) (j : Fin 192) : k0_pay1 (F := Ideal) p raw (ix3 0 0 j) = raw (ix3 0 0 j) + ∑ g, p (ix2 g j) := by
  pointwise [k0_pay1]

theorem row3_at {α : Type} {u w : ℕ} (f : (⟨3, ![16, u, w]⟩ : Shape).Idx → α) (r : Fin 16) (y : Fin u) (z : Fin w) :
    row3 f r.1 (ix3 0 y z) = f (ix3 r y z) := by
  have h : (⟨r.1 % 16, Nat.mod_lt _ (by decide)⟩ : Fin 16) = r := Fin.ext (Nat.mod_eq_of_lt r.2)
  exact congrArg (fun p => f (ix3 p y z)) h

variable (m : (ℓ : Loc nD τ sig) → Buf (Elt Ideal) ℓ) (c : Dev nD)

/-- The kept position, as a row of the cache. -/
def kpos (a : Fin 2) (n : Fin 8) (j : Fin 192) : Fin 131072 := ⟨(kix m c (ix3 a n j)).toNat, kix_lt m c _⟩

variable (A0 : S2x1x32x64.Idx → EReal) (A1 A2 : S2x1x8x64.Idx → EReal)
variable (A3 A5 : S2x131072x8x64.Idx → BitVec 8) (A4 A6 : S2x131072x8.Idx → EReal) (A7 : S2x8x131072.Idx → EReal)
variable (k : IVec S2x8x192 32) (hk : ∀ i, (k i).toNat < 131072)

/-- The call's operands, of the arguments. -/
def insOf : Ins Ideal where
  I := shapeCast S16x192 k shapeCasts_S2x8x192_S16x192
  q := shapeCast S16x4x64 A0 shapeCasts_S2x1x32x64_S16x4x64
  kn := shapeCast S16x1x64 A1 shapeCasts_S2x1x8x64_S16x1x64
  vn := shapeCast S16x1x64 A2 shapeCasts_S2x1x8x64_S16x1x64
  ks := shapeCast S16x1x192 (takeL (F := Ideal) (transpose S2x8x131072 [0, 2, 1] A4 transposes_S2x131072x8_S2x8x131072_0_2_1) (wrapped k)) shapeCasts_S2x8x192_S16x1x192
  vs := shapeCast S16x1x192 (takeL (F := Ideal) (transpose S2x8x131072 [0, 2, 1] A6 transposes_S2x131072x8_S2x8x131072_0_2_1) (wrapped k)) shapeCasts_S2x8x192_S16x1x192
  raw := shapeCast S16x1x192 (takeL (F := Ideal) A7 (wrapped k)) shapeCasts_S2x8x192_S16x1x192
  Vk := transpose S2x8x64x131072 [0, 2, 3, 1] A3 transposes_S2x131072x8x64_S2x8x64x131072_0_2_3_1
  Vv := transpose S2x8x64x131072 [0, 2, 3, 1] A5 transposes_S2x131072x8x64_S2x8x64x131072_0_2_3_1

/-- The positions that the words name. -/
def posOf (a : Fin 2) (n : Fin 8) (j : Fin 192) : Fin 131072 := ⟨(k (ix3 a n j)).toNat, hk _⟩

theorem trans_s (f : S2x131072x8.Idx → EReal) (a : Fin 2) (n : Fin 8) (t : Fin 131072) :
    transpose S2x8x131072 [0, 2, 1] f transposes_S2x131072x8_S2x8x131072_0_2_1 (ix3 a n t) = f (ix3 a t n) := by
  pointwise

variable (r : Fin 16) (a : Fin 2) (n : Fin 8) (ha : r.1 / 8 = a.1) (hn : r.1 % 8 = n.1)
include ha hn

theorem q_at (g : Fin 4) (x : Fin 64) : row3 (insOf A0 A1 A2 A3 A5 A4 A6 A7 k).q r.1 (ix3 0 g x) = A0 (ix4 a 0 (Cert.Hand.qrow n g) x) :=
  (row3_at _ r g x).trans (cast_q r a n ha hn A0 g x)

theorem kn_at (x : Fin 64) : row3 (insOf A0 A1 A2 A3 A5 A4 A6 A7 k).kn r.1 (ix3 0 0 x) = A1 (ix4 a 0 n x) :=
  (row3_at _ r 0 x).trans (cast_n r a n ha hn A1 x)

theorem vn_at (x : Fin 64) : row3 (insOf A0 A1 A2 A3 A5 A4 A6 A7 k).vn r.1 (ix3 0 0 x) = A2 (ix4 a 0 n x) :=
  (row3_at _ r 0 x).trans (cast_n r a n ha hn A2 x)

theorem ks_at (j : Fin 192) : row3 (insOf A0 A1 A2 A3 A5 A4 A6 A7 k).ks r.1 (ix3 0 0 j) = A4 (ix3 a ((posOf k hk) a n j) n) :=
  (row3_at _ r 0 j).trans ((cast_s r a n ha hn _ j).trans ((takeL_pos _ k hk a n j).trans (trans_s A4 a n _)))

theorem vs_at (j : Fin 192) : row3 (insOf A0 A1 A2 A3 A5 A4 A6 A7 k).vs r.1 (ix3 0 0 j) = A6 (ix3 a ((posOf k hk) a n j) n) :=
  (row3_at _ r 0 j).trans ((cast_s r a n ha hn _ j).trans ((takeL_pos _ k hk a n j).trans (trans_s A6 a n _)))

theorem raw_at (j : Fin 192) : row3 (insOf A0 A1 A2 A3 A5 A4 A6 A7 k).raw r.1 (ix3 0 0 j) = A7 (ix3 a n ((posOf k hk) a n j)) :=
  (row3_at _ r 0 j).trans ((cast_s r a n ha hn _ j).trans (takeL_pos _ k hk a n j))

theorem kk_at (x : Fin 64) (j : Fin 192) : picked (F := Ideal) (insOf A0 A1 A2 A3 A5 A4 A6 A7 k).I (insOf A0 A1 A2 A3 A5 A4 A6 A7 k).Vk r.1 (ix4 0 0 x j) = A3 (ix4 a ((posOf k hk) a n j) n x) :=
  pick_at (F := Ideal) r a n ha hn k hk A3 j x

theorem vv_at (x : Fin 64) (j : Fin 192) : picked (F := Ideal) (insOf A0 A1 A2 A3 A5 A4 A6 A7 k).I (insOf A0 A1 A2 A3 A5 A4 A6 A7 k).Vv r.1 (ix4 0 0 x j) = A5 (ix4 a ((posOf k hk) a n j) n x) :=
  pick_at (F := Ideal) r a n ha hn k hk A5 j x

theorem rowS_at (g : Fin 4) (j : Fin 192) : rowS (insOf A0 A1 A2 A3 A5 A4 A6 A7 k) r.1 (ix2 g j) = Cert.Hand.sKept A0 A3 A4 (posOf k hk) a n g j := by
  unfold rowS Cert.Hand.sKept
  rw [pay32_at, ks_at A0 A1 A2 A3 A5 A4 A6 A7 k hk r a n ha hn]
  refine congrArg (· * _) (Finset.sum_congr rfl fun x _ => ?_)
  rw [q_at A0 A1 A2 A3 A5 A4 A6 A7 k r a n ha hn, kk_at A0 A1 A2 A3 A5 A4 A6 A7 k hk r a n ha hn]

theorem new_at (g : Fin 4) :
    (∑ x : Fin 64, rowQ (insOf A0 A1 A2 A3 A5 A4 A6 A7 k) r.1 (ix2 g x) * row3 (insOf A0 A1 A2 A3 A5 A4 A6 A7 k).kn r.1 (ix3 0 0 x)) * Cert.Hand.c8 = Cert.Hand.sNew A0 A1 a n g := by
  unfold rowQ Cert.Hand.sNew
  refine congrArg (· * _) (Finset.sum_congr rfl fun x _ => ?_)
  rw [pay31_at, q_at A0 A1 A2 A3 A5 A4 A6 A7 k r a n ha hn, kn_at A0 A1 A2 A3 A5 A4 A6 A7 k r a n ha hn]

theorem rowP_at (g : Fin 4) (j : Fin 192) : rowP (insOf A0 A1 A2 A3 A5 A4 A6 A7 k) r.1 (ix2 g j) = Cert.Hand.pKept A0 A1 A3 A4 (posOf k hk) a n g j := by
  unfold rowP Cert.Hand.pKept
  rw [pay38_at, new_at A0 A1 A2 A3 A5 A4 A6 A7 k r a n ha hn,
    funext fun x => rowS_at A0 A1 A2 A3 A5 A4 A6 A7 k hk r a n ha hn g x]

theorem rowO_at (g : Fin 4) (d : Fin 64) : rowO (insOf A0 A1 A2 A3 A5 A4 A6 A7 k) r.1 (ix3 0 g d) = Cert.Hand.out A0 A1 A2 A3 A5 A4 A6 (posOf k hk) a n g d := by
  have hP := rowP_at A0 A1 A2 A3 A5 A4 A6 A7 k hk r a n ha hn g
  unfold rowP at hP
  unfold rowO Cert.Hand.out
  rw [pay39_at, pay39_new, new_at A0 A1 A2 A3 A5 A4 A6 A7 k r a n ha hn,
    funext fun x => rowS_at A0 A1 A2 A3 A5 A4 A6 A7 k hk r a n ha hn g x, vn_at A0 A1 A2 A3 A5 A4 A6 A7 k r a n ha hn]
  refine congrArg (· + _) (Finset.sum_congr rfl fun x _ => ?_)
  rw [hP, pay30_at, vs_at A0 A1 A2 A3 A5 A4 A6 A7 k hk r a n ha hn, vv_at A0 A1 A2 A3 A5 A4 A6 A7 k hk r a n ha hn]

theorem rowC_at (j : Fin 192) : rowC (insOf A0 A1 A2 A3 A5 A4 A6 A7 k) r.1 (ix3 0 0 j) = Cert.Hand.sco A0 A1 A3 A4 A7 (posOf k hk) a n j := by
  unfold rowC Cert.Hand.sco
  rw [pay1_at, raw_at A0 A1 A2 A3 A5 A4 A6 A7 k hk r a n ha hn]
  exact congrArg (_ + ·) (Finset.sum_congr rfl fun g _ => rowP_at A0 A1 A2 A3 A5 A4 A6 A7 k hk r a n ha hn g j)

end Cert.KernelIdeal.Hand

end
-- ==== Proof.IRun.lean ====
/- What a run of the kernel over the extended reals leaves: the six results, of the arguments. -/
module

public import proofs.«01_k».proof.Proof.IRes
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.SL.Sem Idealize.ShloMosaic.TcCoe Idealize.ShloMosaic.Pipeline

variable (m : (ℓ : Loc nD τ sig) → Buf (Elt Ideal) ℓ) (c : Dev nD)

/-- The call's operands are those of the arguments. -/
theorem ins_eq : ins m c = insOf (m (c, Proc.tc.devRef main_arg0)) (m (c, Proc.tc.devRef main_arg1)) (m (c, Proc.tc.devRef main_arg2))
    (m (c, Proc.tc.devRef main_arg3)) (m (c, Proc.tc.devRef main_arg5)) (m (c, Proc.tc.devRef main_arg4)) (m (c, Proc.tc.devRef main_arg6))
    (m (c, Proc.tc.devRef main_arg7)) (kix m c) := by
  unfold ins insOf
  rw [V_v9, V_v10, V_v11, V_v12, V_v13, V_v14, V_v15, V_v7, V_v8, V_v3, V_v5, V_v6]

theorem final7 : (dats m 0 c).arrAt 7 cfg0.N = outR (rowO (ins m c)) := by
  have h : (dats m 0 c).after 7 t0_0 = outR (rowO (ins m c)) := by dsimp only [dats]
  refine (dats m 0 c).arrAt_eq_of_after_last 7 t0_0 (by decide +kernel) _ fun j => ?_
  rw [h]
  generalize outR (rowO (ins m c)) = G
  rfl

theorem final8 : (dats m 0 c).arrAt 8 cfg0.N = outG (ins m c).I (ins m c).Vk := by
  have h : (dats m 0 c).after 8 t0_0 = outG (ins m c).I (ins m c).Vk := by dsimp only [dats]
  refine (dats m 0 c).arrAt_eq_of_after_last 8 t0_0 (by decide +kernel) _ fun j => ?_
  rw [h]
  generalize outG (ins m c).I (ins m c).Vk = G
  rfl

theorem final9 : (dats m 0 c).arrAt 9 cfg0.N = outG (ins m c).I (ins m c).Vv := by
  have h : (dats m 0 c).after 9 t0_0 = outG (ins m c).I (ins m c).Vv := by dsimp only [dats]
  refine (dats m 0 c).arrAt_eq_of_after_last 9 t0_0 (by decide +kernel) _ fun j => ?_
  rw [h]
  generalize outG (ins m c).I (ins m c).Vv = G
  rfl

theorem final10 : (dats m 0 c).arrAt 10 cfg0.N = outR (rowC (ins m c)) := by
  have h : (dats m 0 c).after 10 t0_0 = outR (rowC (ins m c)) := by dsimp only [dats]
  refine (dats m 0 c).arrAt_eq_of_after_last 10 t0_0 (by decide +kernel) _ fun j => ?_
  rw [h]
  generalize outR (rowC (ins m c)) = G
  rfl

/-! The lines after the call, of the buffers that they read. -/

section Tail

variable (W : Valuation τ sig (Elt Ideal))

theorem tail_v17 : StableHlo.after (List.flatten [hostOps1]) W (Proc.devRef .tc main_v17) = shapeCast S2x1x2048 (W (Proc.devRef .tc main_v16_0)) shapeCasts_S16x4x64_S2x1x2048 := by
  simp only [List.flatten_cons, List.flatten_nil, List.append_nil]
  after_reads_simp
  rfl

theorem tail_v18 : StableHlo.after (List.flatten [hostOps1]) W (Proc.devRef .tc main_v18) = transpose S2x192x8x64 [0, 3, 1, 2] (W (Proc.devRef .tc main_v16_1)) transposes_S2x8x64x192_S2x192x8x64_0_3_1_2 := by
  simp only [List.flatten_cons, List.flatten_nil, List.append_nil]
  after_reads_simp

theorem tail_v19 : StableHlo.after (List.flatten [hostOps1]) W (Proc.devRef .tc main_v19) = transpose S2x192x8 [0, 2, 1] (W (Proc.devRef .tc main_v3)) transposes_S2x8x192_S2x192x8_0_2_1 := by
  simp only [List.flatten_cons, List.flatten_nil, List.append_nil]
  after_reads_simp

theorem tail_v20 : StableHlo.after (List.flatten [hostOps1]) W (Proc.devRef .tc main_v20) = transpose S2x192x8x64 [0, 3, 1, 2] (W (Proc.devRef .tc main_v16_2)) transposes_S2x8x64x192_S2x192x8x64_0_3_1_2 := by
  simp only [List.flatten_cons, List.flatten_nil, List.append_nil]
  after_reads_simp

theorem tail_v21 : StableHlo.after (List.flatten [hostOps1]) W (Proc.devRef .tc main_v21) = transpose S2x192x8 [0, 2, 1] (W (Proc.devRef .tc main_v5)) transposes_S2x8x192_S2x192x8_0_2_1 := by
  simp only [List.flatten_cons, List.flatten_nil, List.append_nil]
  after_reads_simp

theorem tail_v22 : StableHlo.after (List.flatten [hostOps1]) W (Proc.devRef .tc main_v22) = shapeCast S2x8x192 (W (Proc.devRef .tc main_v16_3)) shapeCasts_S16x1x192_S2x8x192 := by
  simp only [List.flatten_cons, List.flatten_nil, List.append_nil]
  after_reads_simp
  rfl

end Tail

theorem arr_inj : Function.Injective (arrRef spec0) := by decide

theorem arr_at (w : Fin cfg0.W) : withArrays (cfgs 0).spec c (V0 m c) (fun w => (dats m 0 c).arrAt w (cfgs 0).N) (Proc.devRef .tc (arrRef spec0 w)) =
    (dats m 0 c).arrAt w cfg0.N := withArrays_arr spec0 arr_inj c (V0 m c) (fun w => (dats m 0 c).arrAt w cfg0.N) w

/-- The buffers' last contents, of the run's final state. -/
abbrev last (b : Ref sig .tc) : Buf (Elt Ideal) ((c.tc : Thread nD τ).loc b) := afterTail₀ cfgs (dats m) 0 (V0 m) [hostOps1] c b

theorem last_v17 : last m c main_v17 = shapeCast S2x1x2048 (outR (rowO (ins m c))) shapeCasts_S16x4x64_S2x1x2048 := by
  unfold last afterTail₀
  rw [tail_v17]
  exact congrArg (fun f => shapeCast S2x1x2048 f shapeCasts_S16x4x64_S2x1x2048) ((arr_at m c 7).trans (final7 m c))

theorem last_v18 : last m c main_v18 = transpose S2x192x8x64 [0, 3, 1, 2] (outG (ins m c).I (ins m c).Vk) transposes_S2x8x64x192_S2x192x8x64_0_3_1_2 := by
  unfold last afterTail₀
  rw [tail_v18]
  exact congrArg (fun f => transpose S2x192x8x64 [0, 3, 1, 2] f transposes_S2x8x64x192_S2x192x8x64_0_3_1_2) ((arr_at m c 8).trans (final8 m c))

theorem last_v20 : last m c main_v20 = transpose S2x192x8x64 [0, 3, 1, 2] (outG (ins m c).I (ins m c).Vv) transposes_S2x8x64x192_S2x192x8x64_0_3_1_2 := by
  unfold last afterTail₀
  rw [tail_v20]
  exact congrArg (fun f => transpose S2x192x8x64 [0, 3, 1, 2] f transposes_S2x8x64x192_S2x192x8x64_0_3_1_2) ((arr_at m c 9).trans (final9 m c))

theorem last_v22 : last m c main_v22 = shapeCast S2x8x192 (outR (rowC (ins m c))) shapeCasts_S16x1x192_S2x8x192 := by
  unfold last afterTail₀
  rw [tail_v22]
  exact congrArg (fun f => shapeCast S2x8x192 f shapeCasts_S16x1x192_S2x8x192) ((arr_at m c 10).trans (final10 m c))

theorem last_v19 : last m c main_v19 = transpose S2x192x8 [0, 2, 1] (V m c main_v3) transposes_S2x8x192_S2x192x8_0_2_1 := by
  unfold last afterTail₀
  rw [tail_v19]
  exact congrArg (fun f => transpose S2x192x8 [0, 2, 1] f transposes_S2x8x192_S2x192x8_0_2_1) (withArrays_of_ne _ c (V0 m c) _ main_v3 (by decide))

theorem last_v21 : last m c main_v21 = transpose S2x192x8 [0, 2, 1] (V m c main_v5) transposes_S2x8x192_S2x192x8_0_2_1 := by
  unfold last afterTail₀
  rw [tail_v21]
  exact congrArg (fun f => transpose S2x192x8 [0, 2, 1] f transposes_S2x8x192_S2x192x8_0_2_1) (withArrays_of_ne _ c (V0 m c) _ main_v5 (by decide))

end Cert.KernelIdeal.Hand

end
-- ==== Proof.IOut.lean ====
/- The kernel's six results over the extended reals, of the arguments and of the kept positions. -/
module

public import proofs.«01_k».proof.Proof.IRun

@[expose] public section

set_option maxRecDepth 16384

noncomputable section

namespace Cert.KernelIdeal.Hand

open Cert.KernelIdeal Cert.KernelIdeal.Gen
open Idealize.ShloMosaic Idealize.SL.Sem Idealize.ShloMosaic.TcCoe Idealize.ShloMosaic.Pipeline

section Results

variable (A0 : S2x1x32x64.Idx → EReal) (A1 A2 : S2x1x8x64.Idx → EReal)
variable (A3 A5 : S2x131072x8x64.Idx → BitVec 8) (A4 A6 : S2x131072x8.Idx → EReal) (A7 : S2x8x131072.Idx → EReal)
variable (k : IVec S2x8x192 32) (hk : ∀ i, (k i).toNat < 131072)

/-- A row of an array from its rows. -/
theorem outR_at {α : Type} {u w : ℕ} (v : ℕ → (⟨3, ![1, u, w]⟩ : Shape).Idx → α) (r : Fin 16) (y : Fin u) (z : Fin w) :
    outR v (ix3 r y z) = v r.1 (ix3 0 y z) := rfl

theorem out1 : shapeCast S2x1x2048 (outR (rowO (insOf A0 A1 A2 A3 A5 A4 A6 A7 k))) shapeCasts_S16x4x64_S2x1x2048 = Cert.Hand.res1 A0 A1 A2 A3 A5 A4 A6 (posOf k hk) := by
  funext i
  obtain ⟨a, z, x, rfl⟩ : ∃ (a : Fin 2) (z : Fin 1) (x : Fin 2048), i = ix3 a z x := ⟨_, _, _, eq_ix3 i⟩
  obtain rfl : z = 0 := Subsingleton.elim _ _
  have hx := x.2
  have h := rowO_at A0 A1 A2 A3 A5 A4 A6 A7 k hk ⟨a.1 * 8 + x.1 / 256, by omega⟩ a ⟨x.1 / 256, by omega⟩ (by dsimp only; omega) (by dsimp only; omega)
    ⟨x.1 / 64 % 4, by omega⟩ ⟨x.1 % 64, by omega⟩
  rw [← outR_at (rowO (insOf A0 A1 A2 A3 A5 A4 A6 A7 k))] at h
  refine Eq.trans ?_ h
  generalize outR (rowO (insOf A0 A1 A2 A3 A5 A4 A6 A7 k)) = f
  pointwise

theorem out2 (V : S2x131072x8x64.Idx → BitVec 8) :
    transpose S2x192x8x64 [0, 3, 1, 2] (outG (F := Ideal) (shapeCast S16x192 k shapeCasts_S2x8x192_S16x192)
      (transpose S2x8x64x131072 [0, 2, 3, 1] V transposes_S2x131072x8x64_S2x8x64x131072_0_2_3_1)) transposes_S2x8x64x192_S2x192x8x64_0_3_1_2
      = Cert.Hand.res2 V (posOf k hk) := by
  funext i
  obtain ⟨a, j, n, d, rfl⟩ : ∃ (a : Fin 2) (j : Fin 192) (n : Fin 8) (d : Fin 64), i = ix4 a j n d := ⟨_, _, _, _, eq_ix4 i⟩
  have h := pick_at (F := Ideal) ⟨8 * a.1 + n.1, by omega⟩ a n (by dsimp only; omega) (by dsimp only; omega) k hk V j d
  refine Eq.trans ?_ h
  have e : outG (F := Ideal) (shapeCast S16x192 k shapeCasts_S2x8x192_S16x192)
      (transpose S2x8x64x131072 [0, 2, 3, 1] V transposes_S2x131072x8x64_S2x8x64x131072_0_2_3_1) (ix4 a n d j) = _ := rfl
  refine Eq.trans ?_ e
  generalize outG _ _ = f
  pointwise

theorem out3 (f : S2x131072x8.Idx → EReal) :
    transpose S2x192x8 [0, 2, 1] (takeL (F := Ideal) (transpose S2x8x131072 [0, 2, 1] f transposes_S2x131072x8_S2x8x131072_0_2_1) (wrapped k)) transposes_S2x8x192_S2x192x8_0_2_1
      = Cert.Hand.res3 f (posOf k hk) := by
  funext i
  obtain ⟨a, j, n, rfl⟩ : ∃ (a : Fin 2) (j : Fin 192) (n : Fin 8), i = ix3 a j n := ⟨_, _, _, eq_ix3 i⟩
  refine Eq.trans ?_ ((takeL_pos (F := Ideal) _ k hk a n j).trans (trans_s f a n _))
  generalize takeL (F := Ideal) _ _ = g
  pointwise

theorem out6 : shapeCast S2x8x192 (outR (rowC (insOf A0 A1 A2 A3 A5 A4 A6 A7 k))) shapeCasts_S16x1x192_S2x8x192 = Cert.Hand.res6 A0 A1 A3 A4 A7 (posOf k hk) := by
  funext i
  obtain ⟨a, n, j, rfl⟩ : ∃ (a : Fin 2) (n : Fin 8) (j : Fin 192), i = ix3 a n j := ⟨_, _, _, eq_ix3 i⟩
  have h := rowC_at A0 A1 A2 A3 A5 A4 A6 A7 k hk ⟨a.1 * 8 + n.1, by omega⟩ a n (by dsimp only; omega) (by dsimp only; omega) j
  rw [← outR_at (rowC (insOf A0 A1 A2 A3 A5 A4 A6 A7 k))] at h
  refine Eq.trans ?_ h
  generalize outR (rowC (insOf A0 A1 A2 A3 A5 A4 A6 A7 k)) = f
  pointwise

end Results

variable (m : (ℓ : Loc nD τ sig) → Buf (Elt Ideal) ℓ) (ρ : Dev nD → PrngReg)

/-- What a run of the kernel leaves: the six results, of the arguments, and the arguments. -/
theorem run_res : θ_run defs (onTc (τ := τ) (main (F := Ideal))) ⟨m, fun _ => 0, ρ⟩ fun r => ∀ c : Dev nD,
      let A := fun b : Ref sig .tc => m ((c.tc : Thread nD τ).loc b)
      let P := posOf (kix m c) (kix_lt m c)
      r.2.mem ((c.tc : Thread nD τ).loc main_v17) = Cert.Hand.res1 (A main_arg0) (A main_arg1) (A main_arg2) (A main_arg3) (A main_arg5) (A main_arg4) (A main_arg6) P
      ∧ r.2.mem ((c.tc : Thread nD τ).loc main_v18) = Cert.Hand.res2 (A main_arg3) P
      ∧ r.2.mem ((c.tc : Thread nD τ).loc main_v19) = Cert.Hand.res3 (A main_arg4) P
      ∧ r.2.mem ((c.tc : Thread nD τ).loc main_v20) = Cert.Hand.res2 (A main_arg5) P
      ∧ r.2.mem ((c.tc : Thread nD τ).loc main_v21) = Cert.Hand.res3 (A main_arg6) P
      ∧ r.2.mem ((c.tc : Thread nD τ).loc main_v22) = Cert.Hand.res6 (A main_arg0) (A main_arg1) (A main_arg3) (A main_arg4) (A main_arg7) P
      ∧ (r.2.mem ((c.tc : Thread nD τ).loc main_arg0) = A main_arg0
      ∧ r.2.mem ((c.tc : Thread nD τ).loc main_arg1) = A main_arg1
      ∧ r.2.mem ((c.tc : Thread nD τ).loc main_arg2) = A main_arg2
      ∧ r.2.mem ((c.tc : Thread nD τ).loc main_arg3) = A main_arg3
      ∧ r.2.mem ((c.tc : Thread nD τ).loc main_arg4) = A main_arg4
      ∧ r.2.mem ((c.tc : Thread nD τ).loc main_arg5) = A main_arg5
      ∧ r.2.mem ((c.tc : Thread nD τ).loc main_arg6) = A main_arg6
      ∧ r.2.mem ((c.tc : Thread nD τ).loc main_arg7) = A main_arg7) := by
  refine (θ_run defs _ _).mono (fun r h c => ?_) (run_main (F := Ideal) m ρ (ins_lt m))
  have e : ∀ b, b ∈ Pipeline.restRefs sig spec0 → r.2.mem ((c.tc : Thread nD τ).loc b) = last m c b := (h.1 c).2
  refine ⟨(e main_v17 (Pipeline.mem_restRefs_of main_v17 (by decide) (by decide))).trans ?_,
    (e main_v18 (Pipeline.mem_restRefs_of main_v18 (by decide) (by decide))).trans ?_,
    (e main_v19 (Pipeline.mem_restRefs_of main_v19 (by decide) (by decide))).trans ?_,
    (e main_v20 (Pipeline.mem_restRefs_of main_v20 (by decide) (by decide))).trans ?_,
    (e main_v21 (Pipeline.mem_restRefs_of main_v21 (by decide) (by decide))).trans ?_,
    (e main_v22 (Pipeline.mem_restRefs_of main_v22 (by decide) (by decide))).trans ?_, args_keep m h.1 c⟩
  · rw [last_v17, ins_eq]
    exact out1 _ _ _ _ _ _ _ _ (kix m c) (kix_lt m c)
  · rw [last_v18, ins_eq]
    exact out2 (kix m c) (kix_lt m c) _
  · rw [last_v19, V_v3]
    exact out3 (kix m c) (kix_lt m c) _
  · rw [last_v20, ins_eq]
    exact out2 (kix m c) (kix_lt m c) _
  · rw [last_v21, V_v5]
    exact out3 (kix m c) (kix_lt m c) _
  · rw [last_v22, ins_eq]
    exact out6 _ _ _ _ _ _ _ _ (kix m c) (kix_lt m c)

end Cert.KernelIdeal.Hand

end
-- ==== Proof.Pair.lean ====
/- The kernel and the reference, over the extended reals, keep the same positions and give the same results. -/
module

public import proofs.«01_k».proof.Proof.RScore
public import proofs.«01_k».proof.Proof.IOut

@[expose] public section

set_option maxRecDepth 16384

noncomputable section

namespace Cert.Proof

open Idealize.ShloMosaic Idealize.SL.Sem Idealize.ShloMosaic.TcCoe

/-- The two programs sort and select alike, of the same scores. -/
theorem kept_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h : V0 (Proc.devRef .tc Cert.ReferenceIdeal.main_arg7) = m (c, Proc.tc.devRef Cert.KernelIdeal.main_arg7)) :
    Cert.KernelIdeal.Hand.kix m c = Cert.ReferenceIdeal.Value.res_main_v1 V0 := by
  unfold Cert.KernelIdeal.Hand.kix Cert.ReferenceIdeal.Value.res_main_v1 Cert.ReferenceIdeal.Value.res_main_v0
  rw [h]
  rfl

/-- The kept positions of the two programs. -/
theorem pos_eq (m : (ℓ : Loc Cert.KernelIdeal.nD Cert.KernelIdeal.τ Cert.KernelIdeal.sig) → Buf (Elt Ideal) ℓ)
    (V0 : Valuation Cert.ReferenceIdeal.τ Cert.ReferenceIdeal.sig (Elt Ideal)) (c : Dev Cert.KernelIdeal.nD)
    (h : V0 (Proc.devRef .tc Cert.ReferenceIdeal.main_arg7) = m (c, Proc.tc.devRef Cert.KernelIdeal.main_arg7)) :
    Cert.ReferenceIdeal.Hand.pos V0
      = Cert.KernelIdeal.Hand.posOf (Cert.KernelIdeal.Hand.kix m c) (Cert.KernelIdeal.Hand.kix_lt m c) := by
  funext a n j
  exact Fin.ext (show BitVec.toNat (Cert.ReferenceIdeal.Value.res_main_v1 V0 (ix3 a n j))
    = BitVec.toNat (Cert.KernelIdeal.Hand.kix m c (ix3 a n j)) by rw [kept_eq m V0 c h])

end Cert.Proof

end

end
-- ==== Proof.lean ====
/- The certificate: the frames of the kernel, at words and at extended reals, and of the reference, and the kernel's results equal to the reference's. -/
module

public import proofs.«01_k».proof.Defs
public import proofs.«01_k».proof.Proof.Gen.ReferenceIdeal
public import proofs.«01_k».proof.Proof.Gen.ReferenceIdeal.Run
public import proofs.«01_k».proof.Proof.Gen.Kernel.Frame
public import proofs.«01_k».proof.Proof.Gen.Kernel.Skeleton
public import proofs.«01_k».proof.Proof.Gen.Kernel.Loops
public import proofs.«01_k».proof.Proof.Gen.KernelIdeal.Frame
public import proofs.«01_k».proof.Proof.Gen.KernelIdeal.Skeleton
public import proofs.«01_k».proof.Proof.Gen.KernelIdeal.Loops
public import proofs.«01_k».proof.Proof.KHost
public import proofs.«01_k».proof.Proof.IHost
public import proofs.«01_k».proof.Proof.Pair

@[expose] public section

namespace Cert.Proof

open Idealize.ShloMosaic Idealize.SL.Sem

/-- The kernel at words runs, keeps its arguments and ends with every semaphore at zero. -/
theorem frame_k : Cert.quiescent_Kernel (hKernel := Cert.Kernel.Gen.facts) := fun m ρ _ =>
  Cert.Kernel.Hand.frame_of (F := Bits) m ρ (Cert.Kernel.Hand.ins_lt m)

/-- The kernel over the extended reals runs, keeps its arguments and ends with every semaphore at zero. -/
theorem frame_i : Cert.quiescent_KernelIdeal (hKernelIdeal := Cert.KernelIdeal.Gen.facts) := fun m ρ _ =>
  Cert.KernelIdeal.Hand.frame_of (F := Ideal) m ρ (Cert.KernelIdeal.Hand.ins_lt m)

/-- The reference runs and keeps its arguments; it has no semaphore. -/
theorem frame_r : Cert.quiescent_ReferenceIdeal (hReferenceIdeal := Cert.ReferenceIdeal.Gen.facts) := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run (F := Ideal) m ρ)

/-- Over the extended reals the kernel's six results are the reference's, and both keep their arguments. -/
theorem algebraic : Cert.algebraic_KernelIdeal_ReferenceIdeal
    (hKernelIdeal := Cert.KernelIdeal.Gen.facts) (hReferenceIdeal := Cert.ReferenceIdeal.Gen.facts) := by
  intro m g m' g' _ hA
  refine ⟨fun c => Cert.Hand.res1 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg5)) (m ((c.tc : Thread Cert.KernelIdeal.nD Cert.KernelIdeal.τ).loc Cert.KernelIdeal.main_arg4)) (m ((c.tc : Thread Cert.KernelIdeal.nD Cert.KernelIdeal.τ).loc Cert.KernelIdeal.main_arg6)) (Cert.KernelIdeal.Hand.posOf (Cert.KernelIdeal.Hand.kix m c) (Cert.KernelIdeal.Hand.kix_lt m c)),
    fun c => Cert.Hand.res2 (m ((c.tc : Thread Cert.KernelIdeal.nD Cert.KernelIdeal.τ).loc Cert.KernelIdeal.main_arg3)) (Cert.KernelIdeal.Hand.posOf (Cert.KernelIdeal.Hand.kix m c) (Cert.KernelIdeal.Hand.kix_lt m c)),
    fun c => Cert.Hand.res3 (m ((c.tc : Thread Cert.KernelIdeal.nD Cert.KernelIdeal.τ).loc Cert.KernelIdeal.main_arg4)) (Cert.KernelIdeal.Hand.posOf (Cert.KernelIdeal.Hand.kix m c) (Cert.KernelIdeal.Hand.kix_lt m c)),
    fun c => Cert.Hand.res2 (m ((c.tc : Thread Cert.KernelIdeal.nD Cert.KernelIdeal.τ).loc Cert.KernelIdeal.main_arg5)) (Cert.KernelIdeal.Hand.posOf (Cert.KernelIdeal.Hand.kix m c) (Cert.KernelIdeal.Hand.kix_lt m c)),
    fun c => Cert.Hand.res3 (m ((c.tc : Thread Cert.KernelIdeal.nD Cert.KernelIdeal.τ).loc Cert.KernelIdeal.main_arg6)) (Cert.KernelIdeal.Hand.posOf (Cert.KernelIdeal.Hand.kix m c) (Cert.KernelIdeal.Hand.kix_lt m c)),
    fun c => Cert.Hand.res6 (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg7)) (Cert.KernelIdeal.Hand.posOf (Cert.KernelIdeal.Hand.kix m c) (Cert.KernelIdeal.Hand.kix_lt m c)),
    Cert.KernelIdeal.Hand.run_res m g,
    (θ_run Cert.ReferenceIdeal.defs _ _).mono (fun r h c => ?_) (Cert.ReferenceIdeal.Hand.run_res m' g')⟩
  obtain ⟨a0, a1, a2, a3, a4, a5, a6, a7⟩ := hA c
  obtain ⟨e1, e2, e3, e4, e5, e6, k⟩ := h c
  have p := pos_eq m (StableHlo.launchContents m' c) c a7
  rw [p] at e1 e2 e3 e4 e5 e6
  refine ⟨e1.trans ?_, e2.trans ?_, e3.trans ?_, e4.trans ?_, e5.trans ?_, e6.trans ?_, k⟩
  · beta_reduce; rw [a0, a1, a2, a3, a4, a5, a6]
  · beta_reduce; rw [a3]
  · beta_reduce; rw [a4]
  · beta_reduce; rw [a5]
  · beta_reduce; rw [a6]
  · beta_reduce; rw [a0, a1, a3, a4, a7]

theorem claim : Cert.Claim :=
  ⟨Cert.Kernel.Gen.facts, Cert.KernelIdeal.Gen.facts, Cert.ReferenceIdeal.Gen.facts, frame_k, frame_i, frame_r, trivial, algebraic⟩

end Cert.Proof

end
